-- ==== Defs.lean ====
def Pre_Gu (m : (ℓ : Loc Cert.Gu.nD Cert.Gu.τ Cert.Gu.sig) → Buf (Elt Bits) ℓ) : Prop :=
  True

def Pre_GuIdeal (m : (ℓ : Loc Cert.GuIdeal.nD Cert.GuIdeal.τ Cert.GuIdeal.sig) → Buf (Elt Ideal) ℓ) : Prop :=
  True

def Pre_GuRefIdeal (m : (ℓ : Loc Cert.GuRefIdeal.nD Cert.GuRefIdeal.τ Cert.GuRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Gu [hGu : Cert.Gu.Facts] : Prop :=
  ∀ (m : (ℓ : Loc Cert.Gu.nD Cert.Gu.τ Cert.Gu.sig) → Buf (Elt Bits) ℓ) (g : Dev Cert.Gu.nD → PrngReg), Pre_Gu m →
    θ_run (Cert.Gu.defs (F := Bits)) (onTc (τ := Cert.Gu.τ) (Cert.Gu.main (F := Bits))) ⟨m, fun _ => 0, g⟩ (fun r => (∀ c : Dev Cert.Gu.nD,
      r.2.mem ((c.tc : Thread Cert.Gu.nD Cert.Gu.τ).loc Cert.Gu.main_arg0) = m ((c.tc : Thread Cert.Gu.nD Cert.Gu.τ).loc Cert.Gu.main_arg0)
      ∧ r.2.mem ((c.tc : Thread Cert.Gu.nD Cert.Gu.τ).loc Cert.Gu.main_arg1) = m ((c.tc : Thread Cert.Gu.nD Cert.Gu.τ).loc Cert.Gu.main_arg1)
      ∧ r.2.mem ((c.tc : Thread Cert.Gu.nD Cert.Gu.τ).loc Cert.Gu.main_arg2) = m ((c.tc : Thread Cert.Gu.nD Cert.Gu.τ).loc Cert.Gu.main_arg2)
      ∧ r.2.mem ((c.tc : Thread Cert.Gu.nD Cert.Gu.τ).loc Cert.Gu.main_arg3) = m ((c.tc : Thread Cert.Gu.nD Cert.Gu.τ).loc Cert.Gu.main_arg3)
      ∧ r.2.mem ((c.tc : Thread Cert.Gu.nD Cert.Gu.τ).loc Cert.Gu.main_arg4) = m ((c.tc : Thread Cert.Gu.nD Cert.Gu.τ).loc Cert.Gu.main_arg4))
      ∧ r.2.sem = fun _ => 0)

def quiescent_GuIdeal [hGuIdeal : Cert.GuIdeal.Facts] : Prop :=
  ∀ (m : (ℓ : Loc Cert.GuIdeal.nD Cert.GuIdeal.τ Cert.GuIdeal.sig) → Buf (Elt Ideal) ℓ) (g : Dev Cert.GuIdeal.nD → PrngReg), Pre_GuIdeal m →
    θ_run (Cert.GuIdeal.defs (F := Ideal)) (onTc (τ := Cert.GuIdeal.τ) (Cert.GuIdeal.main (F := Ideal))) ⟨m, fun _ => 0, g⟩ (fun r => (∀ c : Dev Cert.GuIdeal.nD,
      r.2.mem ((c.tc : Thread Cert.GuIdeal.nD Cert.GuIdeal.τ).loc Cert.GuIdeal.main_arg0) = m ((c.tc : Thread Cert.GuIdeal.nD Cert.GuIdeal.τ).loc Cert.GuIdeal.main_arg0)
      ∧ r.2.mem ((c.tc : Thread Cert.GuIdeal.nD Cert.GuIdeal.τ).loc Cert.GuIdeal.main_arg1) = m ((c.tc : Thread Cert.GuIdeal.nD Cert.GuIdeal.τ).loc Cert.GuIdeal.main_arg1)
      ∧ r.2.mem ((c.tc : Thread Cert.GuIdeal.nD Cert.GuIdeal.τ).loc Cert.GuIdeal.main_arg2) = m ((c.tc : Thread Cert.GuIdeal.nD Cert.GuIdeal.τ).loc Cert.GuIdeal.main_arg2)
      ∧ r.2.mem ((c.tc : Thread Cert.GuIdeal.nD Cert.GuIdeal.τ).loc Cert.GuIdeal.main_arg3) = m ((c.tc : Thread Cert.GuIdeal.nD Cert.GuIdeal.τ).loc Cert.GuIdeal.main_arg3)
      ∧ r.2.mem ((c.tc : Thread Cert.GuIdeal.nD Cert.GuIdeal.τ).loc Cert.GuIdeal.main_arg4) = m ((c.tc : Thread Cert.GuIdeal.nD Cert.GuIdeal.τ).loc Cert.GuIdeal.main_arg4))
      ∧ r.2.sem = fun _ => 0)

def quiescent_GuRefIdeal [hGuRefIdeal : Cert.GuRefIdeal.Facts] : Prop :=
  ∀ (m : (ℓ : Loc Cert.GuRefIdeal.nD Cert.GuRefIdeal.τ Cert.GuRefIdeal.sig) → Buf (Elt Ideal) ℓ) (g : Dev Cert.GuRefIdeal.nD → PrngReg), Pre_GuRefIdeal m →
    θ_run (Cert.GuRefIdeal.defs (F := Ideal)) (onTc (τ := Cert.GuRefIdeal.τ) (Cert.GuRefIdeal.main (F := Ideal))) ⟨m, fun _ => 0, g⟩ (fun r => (∀ c : Dev Cert.GuRefIdeal.nD,
      r.2.mem ((c.tc : Thread Cert.GuRefIdeal.nD Cert.GuRefIdeal.τ).loc Cert.GuRefIdeal.main_arg0) = m ((c.tc : Thread Cert.GuRefIdeal.nD Cert.GuRefIdeal.τ).loc Cert.GuRefIdeal.main_arg0)
      ∧ r.2.mem ((c.tc : Thread Cert.GuRefIdeal.nD Cert.GuRefIdeal.τ).loc Cert.GuRefIdeal.main_arg1) = m ((c.tc : Thread Cert.GuRefIdeal.nD Cert.GuRefIdeal.τ).loc Cert.GuRefIdeal.main_arg1)
      ∧ r.2.mem ((c.tc : Thread Cert.GuRefIdeal.nD Cert.GuRefIdeal.τ).loc Cert.GuRefIdeal.main_arg2) = m ((c.tc : Thread Cert.GuRefIdeal.nD Cert.GuRefIdeal.τ).loc Cert.GuRefIdeal.main_arg2)
      ∧ r.2.mem ((c.tc : Thread Cert.GuRefIdeal.nD Cert.GuRefIdeal.τ).loc Cert.GuRefIdeal.main_arg3) = m ((c.tc : Thread Cert.GuRefIdeal.nD Cert.GuRefIdeal.τ).loc Cert.GuRefIdeal.main_arg3)
      ∧ r.2.mem ((c.tc : Thread Cert.GuRefIdeal.nD Cert.GuRefIdeal.τ).loc Cert.GuRefIdeal.main_arg4) = m ((c.tc : Thread Cert.GuRefIdeal.nD Cert.GuRefIdeal.τ).loc Cert.GuRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5)
      ∧ r.2.mem ((c.tc : Thread Cert.Oproj.nD Cert.Oproj.τ).loc Cert.Oproj.main_arg6) = m ((c.tc : Thread Cert.Oproj.nD Cert.Oproj.τ).loc Cert.Oproj.main_arg6))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
      ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5)
      ∧ r.2.mem ((c.tc : Thread Cert.OprojRefIdeal.nD Cert.OprojRefIdeal.τ).loc Cert.OprojRefIdeal.main_arg6) = m ((c.tc : Thread Cert.OprojRefIdeal.nD Cert.OprojRefIdeal.τ).loc Cert.OprojRefIdeal.main_arg6))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9)
      ∧ r.2.mem ((c.tc : Thread Cert.Qkv.nD Cert.Qkv.τ).loc Cert.Qkv.main_arg10) = m ((c.tc : Thread Cert.Qkv.nD Cert.Qkv.τ).loc Cert.Qkv.main_arg10)
      ∧ r.2.mem ((c.tc : Thread Cert.Qkv.nD Cert.Qkv.τ).loc Cert.Qkv.main_arg11) = m ((c.tc : Thread Cert.Qkv.nD Cert.Qkv.τ).loc Cert.Qkv.main_arg11))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
      ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
      ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9)
      ∧ r.2.mem ((c.tc : Thread Cert.QkvRefIdeal.nD Cert.QkvRefIdeal.τ).loc Cert.QkvRefIdeal.main_arg10) = m ((c.tc : Thread Cert.QkvRefIdeal.nD Cert.QkvRefIdeal.τ).loc Cert.QkvRefIdeal.main_arg10)
      ∧ r.2.mem ((c.tc : Thread Cert.QkvRefIdeal.nD Cert.QkvRefIdeal.τ).loc Cert.QkvRefIdeal.main_arg11) = m ((c.tc : Thread Cert.QkvRefIdeal.nD Cert.QkvRefIdeal.τ).loc Cert.QkvRefIdeal.main_arg11))
      ∧ r.2.sem = fun _ => 0)

def preserves_Gu_GuIdeal : Prop :=
  True

def algebraic_GuIdeal_GuRefIdeal [hGuIdeal : Cert.GuIdeal.Facts] [hGuRefIdeal : Cert.GuRefIdeal.Facts] : Prop :=
  ∀ (m : (ℓ : Loc Cert.GuIdeal.nD Cert.GuIdeal.τ Cert.GuIdeal.sig) → Buf (Elt Ideal) ℓ) (g : Dev Cert.GuIdeal.nD → PrngReg)
    (m' : (ℓ : Loc Cert.GuRefIdeal.nD Cert.GuRefIdeal.τ Cert.GuRefIdeal.sig) → Buf (Elt Ideal) ℓ) (g' : Dev Cert.GuRefIdeal.nD → PrngReg), Pre_GuIdeal m →
    (∀ c : Dev Cert.GuIdeal.nD,
      m' ((c.tc : Thread Cert.GuRefIdeal.nD Cert.GuRefIdeal.τ).loc Cert.GuRefIdeal.main_arg0) = m ((c.tc : Thread Cert.GuIdeal.nD Cert.GuIdeal.τ).loc Cert.GuIdeal.main_arg0)
      ∧ m' ((c.tc : Thread Cert.GuRefIdeal.nD Cert.GuRefIdeal.τ).loc Cert.GuRefIdeal.main_arg1) = m ((c.tc : Thread Cert.GuIdeal.nD Cert.GuIdeal.τ).loc Cert.GuIdeal.main_arg1)
      ∧ m' ((c.tc : Thread Cert.GuRefIdeal.nD Cert.GuRefIdeal.τ).loc Cert.GuRefIdeal.main_arg2) = m ((c.tc : Thread Cert.GuIdeal.nD Cert.GuIdeal.τ).loc Cert.GuIdeal.main_arg2)
      ∧ m' ((c.tc : Thread Cert.GuRefIdeal.nD Cert.GuRefIdeal.τ).loc Cert.GuRefIdeal.main_arg3) = m ((c.tc : Thread Cert.GuIdeal.nD Cert.GuIdeal.τ).loc Cert.GuIdeal.main_arg3)
      ∧ m' ((c.tc : Thread Cert.GuRefIdeal.nD Cert.GuRefIdeal.τ).loc Cert.GuRefIdeal.main_arg4) = m ((c.tc : Thread Cert.GuIdeal.nD Cert.GuIdeal.τ).loc Cert.GuIdeal.main_arg4)) →
    ∃ (v0 : (c : Dev Cert.GuIdeal.nD) → Buf (Elt Ideal) ((c.tc : Thread Cert.GuIdeal.nD Cert.GuIdeal.τ).loc Cert.GuIdeal.main_v0_0)) (v1 : (c : Dev Cert.GuIdeal.nD) → Buf (Elt Ideal) ((c.tc : Thread Cert.GuIdeal.nD Cert.GuIdeal.τ).loc Cert.GuIdeal.main_v0_1)),
      θ_run (Cert.GuIdeal.defs (F := Ideal)) (onTc (τ := Cert.GuIdeal.τ) (Cert.GuIdeal.main (F := Ideal))) ⟨m, fun _ => 0, g⟩ (fun r => ∀ c : Dev Cert.GuIdeal.nD,
          r.2.mem ((c.tc : Thread Cert.GuIdeal.nD Cert.GuIdeal.τ).loc Cert.GuIdeal.main_v0_0) = v0 c
          ∧ r.2.mem ((c.tc : Thread Cert.GuIdeal.nD Cert.GuIdeal.τ).loc Cert.GuIdeal.main_v0_1) = v1 c
          ∧ r.2.mem ((c.tc : Thread Cert.GuIdeal.nD Cert.GuIdeal.τ).loc Cert.GuIdeal.main_arg0) = m ((c.tc : Thread Cert.GuIdeal.nD Cert.GuIdeal.τ).loc Cert.GuIdeal.main_arg0)
          ∧ r.2.mem ((c.tc : Thread Cert.GuIdeal.nD Cert.GuIdeal.τ).loc Cert.GuIdeal.main_arg1) = m ((c.tc : Thread Cert.GuIdeal.nD Cert.GuIdeal.τ).loc Cert.GuIdeal.main_arg1)
          ∧ r.2.mem ((c.tc : Thread Cert.GuIdeal.nD Cert.GuIdeal.τ).loc Cert.GuIdeal.main_arg2) = m ((c.tc : Thread Cert.GuIdeal.nD Cert.GuIdeal.τ).loc Cert.GuIdeal.main_arg2)
          ∧ r.2.mem ((c.tc : Thread Cert.GuIdeal.nD Cert.GuIdeal.τ).loc Cert.GuIdeal.main_arg3) = m ((c.tc : Thread Cert.GuIdeal.nD Cert.GuIdeal.τ).loc Cert.GuIdeal.main_arg3)
          ∧ r.2.mem ((c.tc : Thread Cert.GuIdeal.nD Cert.GuIdeal.τ).loc Cert.GuIdeal.main_arg4) = m ((c.tc : Thread Cert.GuIdeal.nD Cert.GuIdeal.τ).loc Cert.GuIdeal.main_arg4))
      ∧ θ_run (Cert.GuRefIdeal.defs (F := Ideal)) (onTc (τ := Cert.GuRefIdeal.τ) (Cert.GuRefIdeal.main (F := Ideal))) ⟨m', fun _ => 0, g'⟩ (fun r => ∀ c : Dev Cert.GuRefIdeal.nD,
          r.2.mem ((c.tc : Thread Cert.GuRefIdeal.nD Cert.GuRefIdeal.τ).loc Cert.GuRefIdeal.main_v0_0) = v0 c
          ∧ r.2.mem ((c.tc : Thread Cert.GuRefIdeal.nD Cert.GuRefIdeal.τ).loc Cert.GuRefIdeal.main_v0_1) = v1 c
          ∧ r.2.mem ((c.tc : Thread Cert.GuRefIdeal.nD Cert.GuRefIdeal.τ).loc Cert.GuRefIdeal.main_arg0) = m' ((c.tc : Thread Cert.GuRefIdeal.nD Cert.GuRefIdeal.τ).loc Cert.GuRefIdeal.main_arg0)
          ∧ r.2.mem ((c.tc : Thread Cert.GuRefIdeal.nD Cert.GuRefIdeal.τ).loc Cert.GuRefIdeal.main_arg1) = m' ((c.tc : Thread Cert.GuRefIdeal.nD Cert.GuRefIdeal.τ).loc Cert.GuRefIdeal.main_arg1)
          ∧ r.2.mem ((c.tc : Thread Cert.GuRefIdeal.nD Cert.GuRefIdeal.τ).loc Cert.GuRefIdeal.main_arg2) = m' ((c.tc : Thread Cert.GuRefIdeal.nD Cert.GuRefIdeal.τ).loc Cert.GuRefIdeal.main_arg2)
          ∧ r.2.mem ((c.tc : Thread Cert.GuRefIdeal.nD Cert.GuRefIdeal.τ).loc Cert.GuRefIdeal.main_arg3) = m' ((c.tc : Thread Cert.GuRefIdeal.nD Cert.GuRefIdeal.τ).loc Cert.GuRefIdeal.main_arg3)
          ∧ r.2.mem ((c.tc : Thread Cert.GuRefIdeal.nD Cert.GuRefIdeal.τ).loc Cert.GuRefIdeal.main_arg4) = m' ((c.tc : Thread Cert.GuRefIdeal.nD Cert.GuRefIdeal.τ).loc Cert.GuRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)
      ∧ m' ((c.tc : Thread Cert.OprojRefIdeal.nD Cert.OprojRefIdeal.τ).loc Cert.OprojRefIdeal.main_arg5) = m ((c.tc : Thread Cert.OprojIdeal.nD Cert.OprojIdeal.τ).loc Cert.OprojIdeal.main_arg5)
      ∧ m' ((c.tc : Thread Cert.OprojRefIdeal.nD Cert.OprojRefIdeal.τ).loc Cert.OprojRefIdeal.main_arg6) = m ((c.tc : Thread Cert.OprojIdeal.nD Cert.OprojIdeal.τ).loc Cert.OprojIdeal.main_arg6)) →
    ∃ (v0 : (c : Dev Cert.OprojIdeal.nD) → Buf (Elt Ideal) ((c.tc : Thread Cert.OprojIdeal.nD Cert.OprojIdeal.τ).loc Cert.OprojIdeal.main_v1_0)) (v1 : (c : Dev Cert.OprojIdeal.nD) → Buf (Elt Ideal) ((c.tc : Thread Cert.OprojIdeal.nD Cert.OprojIdeal.τ).loc Cert.OprojIdeal.main_v1_1)) (v2 : (c : Dev Cert.OprojIdeal.nD) → Buf (Elt Ideal) ((c.tc : Thread Cert.OprojIdeal.nD Cert.OprojIdeal.τ).loc Cert.OprojIdeal.main_v1_2)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v1_0) = v0 c
          ∧ r.2.mem ((c.tc : Thread Cert.OprojIdeal.nD Cert.OprojIdeal.τ).loc Cert.OprojIdeal.main_v1_1) = v1 c
          ∧ r.2.mem ((c.tc : Thread Cert.OprojIdeal.nD Cert.OprojIdeal.τ).loc Cert.OprojIdeal.main_v1_2) = v2 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
          ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v1_0) = v0 c
          ∧ r.2.mem ((c.tc : Thread Cert.OprojRefIdeal.nD Cert.OprojRefIdeal.τ).loc Cert.OprojRefIdeal.main_v1_1) = v1 c
          ∧ r.2.mem ((c.tc : Thread Cert.OprojRefIdeal.nD Cert.OprojRefIdeal.τ).loc Cert.OprojRefIdeal.main_v1_2) = v2 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4)
          ∧ r.2.mem ((c.tc : Thread Cert.OprojRefIdeal.nD Cert.OprojRefIdeal.τ).loc Cert.OprojRefIdeal.main_arg5) = m' ((c.tc : Thread Cert.OprojRefIdeal.nD Cert.OprojRefIdeal.τ).loc Cert.OprojRefIdeal.main_arg5)
          ∧ r.2.mem ((c.tc : Thread Cert.OprojRefIdeal.nD Cert.OprojRefIdeal.τ).loc Cert.OprojRefIdeal.main_arg6) = m' ((c.tc : Thread Cert.OprojRefIdeal.nD Cert.OprojRefIdeal.τ).loc Cert.OprojRefIdeal.main_arg6))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)
      ∧ m' ((c.tc : Thread Cert.QkvRefIdeal.nD Cert.QkvRefIdeal.τ).loc Cert.QkvRefIdeal.main_arg9) = m ((c.tc : Thread Cert.QkvIdeal.nD Cert.QkvIdeal.τ).loc Cert.QkvIdeal.main_arg9)
      ∧ m' ((c.tc : Thread Cert.QkvRefIdeal.nD Cert.QkvRefIdeal.τ).loc Cert.QkvRefIdeal.main_arg10) = m ((c.tc : Thread Cert.QkvIdeal.nD Cert.QkvIdeal.τ).loc Cert.QkvIdeal.main_arg10)
      ∧ m' ((c.tc : Thread Cert.QkvRefIdeal.nD Cert.QkvRefIdeal.τ).loc Cert.QkvRefIdeal.main_arg11) = m ((c.tc : Thread Cert.QkvIdeal.nD Cert.QkvIdeal.τ).loc Cert.QkvIdeal.main_arg11)) →
    ∃ (v0 : (c : Dev Cert.QkvIdeal.nD) → Buf (Elt Ideal) ((c.tc : Thread Cert.QkvIdeal.nD Cert.QkvIdeal.τ).loc Cert.QkvIdeal.main_v5_0)) (v1 : (c : Dev Cert.QkvIdeal.nD) → Buf (Elt Ideal) ((c.tc : Thread Cert.QkvIdeal.nD Cert.QkvIdeal.τ).loc Cert.QkvIdeal.main_v5_1)) (v2 : (c : Dev Cert.QkvIdeal.nD) → Buf (Elt Ideal) ((c.tc : Thread Cert.QkvIdeal.nD Cert.QkvIdeal.τ).loc Cert.QkvIdeal.main_v5_2)) (v3 : (c : Dev Cert.QkvIdeal.nD) → Buf (Elt Ideal) ((c.tc : Thread Cert.QkvIdeal.nD Cert.QkvIdeal.τ).loc Cert.QkvIdeal.main_v5_3)) (v4 : (c : Dev Cert.QkvIdeal.nD) → Buf (Elt Ideal) ((c.tc : Thread Cert.QkvIdeal.nD Cert.QkvIdeal.τ).loc Cert.QkvIdeal.main_v5_4)) (v5 : (c : Dev Cert.QkvIdeal.nD) → Buf (Elt Ideal) ((c.tc : Thread Cert.QkvIdeal.nD Cert.QkvIdeal.τ).loc Cert.QkvIdeal.main_v5_5)) (v6 : (c : Dev Cert.QkvIdeal.nD) → Buf (Elt Ideal) ((c.tc : Thread Cert.QkvIdeal.nD Cert.QkvIdeal.τ).loc Cert.QkvIdeal.main_v5_6)) (v7 : (c : Dev Cert.QkvIdeal.nD) → Buf (Elt Ideal) ((c.tc : Thread Cert.QkvIdeal.nD Cert.QkvIdeal.τ).loc Cert.QkvIdeal.main_v5_7)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v5_0) = v0 c
          ∧ r.2.mem ((c.tc : Thread Cert.QkvIdeal.nD Cert.QkvIdeal.τ).loc Cert.QkvIdeal.main_v5_1) = v1 c
          ∧ r.2.mem ((c.tc : Thread Cert.QkvIdeal.nD Cert.QkvIdeal.τ).loc Cert.QkvIdeal.main_v5_2) = v2 c
          ∧ r.2.mem ((c.tc : Thread Cert.QkvIdeal.nD Cert.QkvIdeal.τ).loc Cert.QkvIdeal.main_v5_3) = v3 c
          ∧ r.2.mem ((c.tc : Thread Cert.QkvIdeal.nD Cert.QkvIdeal.τ).loc Cert.QkvIdeal.main_v5_4) = v4 c
          ∧ r.2.mem ((c.tc : Thread Cert.QkvIdeal.nD Cert.QkvIdeal.τ).loc Cert.QkvIdeal.main_v5_5) = v5 c
          ∧ r.2.mem ((c.tc : Thread Cert.QkvIdeal.nD Cert.QkvIdeal.τ).loc Cert.QkvIdeal.main_v5_6) = v6 c
          ∧ r.2.mem ((c.tc : Thread Cert.QkvIdeal.nD Cert.QkvIdeal.τ).loc Cert.QkvIdeal.main_v5_7) = v7 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
          ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
          ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v3_0) = v0 c
          ∧ r.2.mem ((c.tc : Thread Cert.QkvRefIdeal.nD Cert.QkvRefIdeal.τ).loc Cert.QkvRefIdeal.main_v3_1) = v1 c
          ∧ r.2.mem ((c.tc : Thread Cert.QkvRefIdeal.nD Cert.QkvRefIdeal.τ).loc Cert.QkvRefIdeal.main_v3_2) = v2 c
          ∧ r.2.mem ((c.tc : Thread Cert.QkvRefIdeal.nD Cert.QkvRefIdeal.τ).loc Cert.QkvRefIdeal.main_v3_3) = v3 c
          ∧ r.2.mem ((c.tc : Thread Cert.QkvRefIdeal.nD Cert.QkvRefIdeal.τ).loc Cert.QkvRefIdeal.main_v3_4) = v4 c
          ∧ r.2.mem ((c.tc : Thread Cert.QkvRefIdeal.nD Cert.QkvRefIdeal.τ).loc Cert.QkvRefIdeal.main_v3_5) = v5 c
          ∧ r.2.mem ((c.tc : Thread Cert.QkvRefIdeal.nD Cert.QkvRefIdeal.τ).loc Cert.QkvRefIdeal.main_v3_6) = v6 c
          ∧ r.2.mem ((c.tc : Thread Cert.QkvRefIdeal.nD Cert.QkvRefIdeal.τ).loc Cert.QkvRefIdeal.main_v3_7) = v7 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8)
          ∧ r.2.mem ((c.tc : Thread Cert.QkvRefIdeal.nD Cert.QkvRefIdeal.τ).loc Cert.QkvRefIdeal.main_arg9) = m' ((c.tc : Thread Cert.QkvRefIdeal.nD Cert.QkvRefIdeal.τ).loc Cert.QkvRefIdeal.main_arg9)
          ∧ r.2.mem ((c.tc : Thread Cert.QkvRefIdeal.nD Cert.QkvRefIdeal.τ).loc Cert.QkvRefIdeal.main_arg10) = m' ((c.tc : Thread Cert.QkvRefIdeal.nD Cert.QkvRefIdeal.τ).loc Cert.QkvRefIdeal.main_arg10)
          ∧ r.2.mem ((c.tc : Thread Cert.QkvRefIdeal.nD Cert.QkvRefIdeal.τ).loc Cert.QkvRefIdeal.main_arg11) = m' ((c.tc : Thread Cert.QkvRefIdeal.nD Cert.QkvRefIdeal.τ).loc Cert.QkvRefIdeal.main_arg11))

def Claim : Prop :=
  ∃ (hGu : Cert.Gu.Facts) (hGuIdeal : Cert.GuIdeal.Facts) (hGuRefIdeal : Cert.GuRefIdeal.Facts) (hDown : Cert.Down.Facts) (hDownIdeal : Cert.DownIdeal.Facts) (hDownRefIdeal : Cert.DownRefIdeal.Facts) (hOproj : Cert.Oproj.Facts) (hOprojIdeal : Cert.OprojIdeal.Facts) (hOprojRefIdeal : Cert.OprojRefIdeal.Facts) (hQkv : Cert.Qkv.Facts) (hQkvIdeal : Cert.QkvIdeal.Facts) (hQkvRefIdeal : Cert.QkvRefIdeal.Facts),
    quiescent_Gu (hGu := hGu)
    ∧ quiescent_GuIdeal (hGuIdeal := hGuIdeal)
    ∧ quiescent_GuRefIdeal (hGuRefIdeal := hGuRefIdeal)
    ∧ quiescent_Down (hDown := hDown)
    ∧ quiescent_DownIdeal (hDownIdeal := hDownIdeal)
    ∧ quiescent_DownRefIdeal (hDownRefIdeal := hDownRefIdeal)
    ∧ quiescent_Oproj (hOproj := hOproj)
    ∧ quiescent_OprojIdeal (hOprojIdeal := hOprojIdeal)
    ∧ quiescent_OprojRefIdeal (hOprojRefIdeal := hOprojRefIdeal)
    ∧ quiescent_Qkv (hQkv := hQkv)
    ∧ quiescent_QkvIdeal (hQkvIdeal := hQkvIdeal)
    ∧ quiescent_QkvRefIdeal (hQkvRefIdeal := hQkvRefIdeal)
    ∧ preserves_Gu_GuIdeal
    ∧ algebraic_GuIdeal_GuRefIdeal (hGuIdeal := hGuIdeal) (hGuRefIdeal := hGuRefIdeal)
    ∧ preserves_Down_DownIdeal
    ∧ algebraic_DownIdeal_DownRefIdeal (hDownIdeal := hDownIdeal) (hDownRefIdeal := hDownRefIdeal)
    ∧ preserves_Oproj_OprojIdeal
    ∧ algebraic_OprojIdeal_OprojRefIdeal (hOprojIdeal := hOprojIdeal) (hOprojRefIdeal := hOprojRefIdeal)
    ∧ preserves_Qkv_QkvIdeal
    ∧ algebraic_QkvIdeal_QkvRefIdeal (hQkvIdeal := hQkvIdeal) (hQkvRefIdeal := hQkvRefIdeal)
-- ==== Gu.lean ====
abbrev S15360x3584 : Shape := ⟨2, ![15360, 3584]⟩
abbrev S1 : Shape := ⟨1, ![1]⟩
abbrev S3584x18944 : Shape := ⟨2, ![3584, 18944]⟩
abbrev S15360x9472 : Shape := ⟨2, ![15360, 9472]⟩
abbrev S5120x3584 : Shape := ⟨2, ![5120, 3584]⟩
abbrev S3584x256 : Shape := ⟨2, ![3584, 256]⟩
abbrev S5120x256 : Shape := ⟨2, ![5120, 256]⟩
abbrev S8x128 : Shape := ⟨2, ![8, 128]⟩
abbrev S512x3584 : Shape := ⟨2, ![512, 3584]⟩
abbrev S512x256 : Shape := ⟨2, ![512, 256]⟩
abbrev S64x8x256 : Shape := ⟨3, ![64, 8, 256]⟩
abbrev S8x256 : Shape := ⟨2, ![8, 256]⟩
abbrev S1x8x128 : Shape := ⟨3, ![1, 8, 128]⟩
abbrev S1x1x1 : Shape := ⟨3, ![1, 1, 1]⟩

abbrev nBuf : Space → Nat
  | .hbm => 7
  | .vmem => 9
  | .smem => 4
  | _ => 0

abbrev bufTy : (tb : Table) → Fin (tcTables nBuf tb) → BufTy
  | .hbm, ⟨0, _⟩ => ⟨S15360x3584, .fp8e4m3⟩
  | .hbm, ⟨1, _⟩ => ⟨S1, .f32⟩
  | .hbm, ⟨2, _⟩ => ⟨S1, .f32⟩
  | .hbm, ⟨3, _⟩ => ⟨S1, .f32⟩
  | .hbm, ⟨4, _⟩ => ⟨S3584x18944, .fp8e4m3⟩
  | .hbm, ⟨5, _⟩ => ⟨S15360x9472, .fp8e4m3⟩
  | .hbm, ⟨6, _⟩ => ⟨S1, .f32⟩
  | .local _ .vmem, ⟨0, _⟩ => ⟨S5120x3584, .fp8e4m3⟩
  | .local _ .vmem, ⟨1, _⟩ => ⟨S5120x3584, .fp8e4m3⟩
  | .local _ .vmem, ⟨2, _⟩ => ⟨S3584x256, .fp8e4m3⟩
  | .local _ .vmem, ⟨3, _⟩ => ⟨S3584x256, .fp8e4m3⟩
  | .local _ .vmem, ⟨4, _⟩ => ⟨S3584x256, .fp8e4m3⟩
  | .local _ .vmem, ⟨5, _⟩ => ⟨S3584x256, .fp8e4m3⟩
  | .local _ .vmem, ⟨6, _⟩ => ⟨S5120x256, .fp8e4m3⟩
  | .local _ .vmem, ⟨7, _⟩ => ⟨S5120x256, .fp8e4m3⟩
  | .local _ .vmem, ⟨8, _⟩ => ⟨S8x128, .f32⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S15360x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg7_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨2, ![3, 37], ![false, false]⟩

def k0_cond2 (i : grid0.Coords) : BitVec 1 :=
  let arg0 : BitVec 32 := BitVec.ofNat 32 (i 0).val
  let c37_i32 : BitVec 32 := 37#32
  let v0 : BitVec 32 := Scalar.muli arg0 c37_i32
  let arg1 : BitVec 32 := BitVec.ofNat 32 (i 1).val
  let v1 : BitVec 32 := Scalar.addi v0 arg1
  let c110_i32 : BitVec 32 := 110#32
  let v328 : BitVec 1 := Scalar.cmpi .eq v1 c110_i32
  let v329 : BitVec 32 := Scalar.extui v328
  let c0_i32_172 : BitVec 32 := 0#32
  let v330 : BitVec 1 := Scalar.cmpi .ne v329 c0_i32_172
  v330

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c37_i32 : BitVec 32 := 37#32
  let v0 : BitVec 32 := Scalar.addi c37_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S5120x3584 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3584x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3584x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S5120x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== GuRefIdeal.lean ====
abbrev S15360x3584 : Shape := ⟨2, ![15360, 3584]⟩
abbrev S1 : Shape := ⟨1, ![1]⟩
abbrev S3584x18944 : Shape := ⟨2, ![3584, 18944]⟩
abbrev S15360x9472 : Shape := ⟨2, ![15360, 9472]⟩
abbrev S15360x18944 : Shape := ⟨2, ![15360, 18944]⟩
abbrev S1x15360x9472 : Shape := ⟨3, ![1, 15360, 9472]⟩
abbrev S1x1x1 : Shape := ⟨3, ![1, 1, 1]⟩

abbrev nBuf : Space → Nat
  | .hbm => 7
  | .vmem => 3
  | .smem => 4
  | _ => 0

abbrev bufTy : (tb : Table) → Fin (tcTables nBuf tb) → BufTy
  | .hbm, ⟨0, _⟩ => ⟨S15360x3584, .fp8e4m3⟩
  | .hbm, ⟨1, _⟩ => ⟨S1, .f32⟩
  | .hbm, ⟨2, _⟩ => ⟨S1, .f32⟩
  | .hbm, ⟨3, _⟩ => ⟨S1, .f32⟩
  | .hbm, ⟨4, _⟩ => ⟨S3584x18944, .fp8e4m3⟩
  | .hbm, ⟨5, _⟩ => ⟨S15360x9472, .fp8e4m3⟩
  | .hbm, ⟨6, _⟩ => ⟨S1, .f32⟩
  | .local _ .vmem, ⟨0, _⟩ => ⟨S15360x3584, .fp8e4m3⟩
  | .local _ .vmem, ⟨1, _⟩ => ⟨S3584x18944, .fp8e4m3⟩
  | .local _ .vmem, ⟨2, _⟩ => ⟨S15360x9472, .fp8e4m3⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S15360x3584, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg6_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S15360x3584 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584x18944 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S15360x9472 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Down.lean ====
abbrev S15360x9472 : Shape := ⟨2, ![15360, 9472]⟩
abbrev S15360x3584 : Shape := ⟨2, ![15360, 3584]⟩
abbrev S1 : Shape := ⟨1, ![1]⟩
abbrev S9472x3584 : Shape := ⟨2, ![9472, 3584]⟩
abbrev S256x9472 : Shape := ⟨2, ![256, 9472]⟩
abbrev S256x3584 : Shape := ⟨2, ![256, 3584]⟩
abbrev S256x512 : Shape := ⟨2, ![256, 512]⟩
abbrev S9472x512 : Shape := ⟨2, ![9472, 512]⟩

abbrev nBuf : Space → Nat
  | .hbm => 6
  | .vmem => 7
  | .smem => 2
  | _ => 0

abbrev bufTy : (tb : Table) → Fin (tcTables nBuf tb) → BufTy
  | .hbm, ⟨0, _⟩ => ⟨S15360x9472, .fp8e4m3⟩
  | .hbm, ⟨1, _⟩ => ⟨S15360x3584, .f32⟩
  | .hbm, ⟨2, _⟩ => ⟨S1, .f32⟩
  | .hbm, ⟨3, _⟩ => ⟨S1, .f32⟩
  | .hbm, ⟨4, _⟩ => ⟨S9472x3584, .fp8e4m3⟩
  | .hbm, ⟨5, _⟩ => ⟨S15360x3584, .bf16⟩
  | .local _ .vmem, ⟨0, _⟩ => ⟨S256x9472, .fp8e4m3⟩
  | .local _ .vmem, ⟨1, _⟩ => ⟨S256x9472, .fp8e4m3⟩
  | .local _ .vmem, ⟨2, _⟩ => ⟨S256x3584, .f32⟩
  | .local _ .vmem, ⟨3, _⟩ => ⟨S256x3584, .f32⟩
  | .local _ .vmem, ⟨4, _⟩ => ⟨S9472x3584, .fp8e4m3⟩
  | .local _ .vmem, ⟨5, _⟩ => ⟨S256x3584, .bf16⟩
  | .local _ .vmem, ⟨6, _⟩ => ⟨S256x3584, .bf16⟩
  | .local _ .smem, ⟨0, _⟩ => ⟨S1, .f32⟩
  | .local _ .smem, ⟨1, _⟩ => ⟨S1, .f32⟩
  | _, _ => ⟨S15360x9472, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![60], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x9472 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S9472x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3584 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownRefIdeal.lean ====
abbrev S15360x9472 : Shape := ⟨2, ![15360, 9472]⟩
abbrev S15360x3584 : Shape := ⟨2, ![15360, 3584]⟩
abbrev S1 : Shape := ⟨1, ![1]⟩
abbrev S9472x3584 : Shape := ⟨2, ![9472, 3584]⟩

abbrev nBuf : Space → Nat
  | .hbm => 6
  | .vmem => 4
  | .smem => 2
  | _ => 0

abbrev bufTy : (tb : Table) → Fin (tcTables nBuf tb) → BufTy
  | .hbm, ⟨0, _⟩ => ⟨S15360x9472, .fp8e4m3⟩
  | .hbm, ⟨1, _⟩ => ⟨S15360x3584, .f32⟩
  | .hbm, ⟨2, _⟩ => ⟨S1, .f32⟩
  | .hbm, ⟨3, _⟩ => ⟨S1, .f32⟩
  | .hbm, ⟨4, _⟩ => ⟨S9472x3584, .fp8e4m3⟩
  | .hbm, ⟨5, _⟩ => ⟨S15360x3584, .bf16⟩
  | .local _ .vmem, ⟨0, _⟩ => ⟨S15360x9472, .fp8e4m3⟩
  | .local _ .vmem, ⟨1, _⟩ => ⟨S15360x3584, .f32⟩
  | .local _ .vmem, ⟨2, _⟩ => ⟨S9472x3584, .fp8e4m3⟩
  | .local _ .vmem, ⟨3, _⟩ => ⟨S15360x3584, .bf16⟩
  | .local _ .smem, ⟨0, _⟩ => ⟨S1, .f32⟩
  | .local _ .smem, ⟨1, _⟩ => ⟨S1, .f32⟩
  | _, _ => ⟨S15360x9472, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S15360x9472 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S15360x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9472x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S15360x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Oproj.lean ====
abbrev S15360x1792 : Shape := ⟨2, ![15360, 1792]⟩
abbrev S15360x3584 : Shape := ⟨2, ![15360, 3584]⟩
abbrev S3584 : Shape := ⟨1, ![3584]⟩
abbrev S1 : Shape := ⟨1, ![1]⟩
abbrev S1792x3584 : Shape := ⟨2, ![1792, 3584]⟩
abbrev S1x3584 : Shape := ⟨2, ![1, 3584]⟩
abbrev S256x1792 : Shape := ⟨2, ![256, 1792]⟩
abbrev S256x3584 : Shape := ⟨2, ![256, 3584]⟩
abbrev S8x128 : Shape := ⟨2, ![8, 128]⟩
abbrev S256x512 : Shape := ⟨2, ![256, 512]⟩
abbrev S1792x512 : Shape := ⟨2, ![1792, 512]⟩
abbrev S32x3584 : Shape := ⟨2, ![32, 3584]⟩
abbrev S32 : Shape := ⟨1, ![32]⟩
abbrev S32x1 : Shape := ⟨2, ![32, 1]⟩
abbrev S4x8x3584 : Shape := ⟨3, ![4, 8, 3584]⟩
abbrev S8x3584 : Shape := ⟨2, ![8, 3584]⟩
abbrev S1x8x128 : Shape := ⟨3, ![1, 8, 128]⟩
abbrev S1x1x1 : Shape := ⟨3, ![1, 1, 1]⟩

abbrev nBuf : Space → Nat
  | .hbm => 11
  | .vmem => 11
  | .smem => 4
  | _ => 0

abbrev bufTy : (tb : Table) → Fin (tcTables nBuf tb) → BufTy
  | .hbm, ⟨0, _⟩ => ⟨S15360x1792, .fp8e4m3⟩
  | .hbm, ⟨1, _⟩ => ⟨S15360x3584, .bf16⟩
  | .hbm, ⟨2, _⟩ => ⟨S3584, .f32⟩
  | .hbm, ⟨3, _⟩ => ⟨S1, .f32⟩
  | .hbm, ⟨4, _⟩ => ⟨S1, .f32⟩
  | .hbm, ⟨5, _⟩ => ⟨S1, .f32⟩
  | .hbm, ⟨6, _⟩ => ⟨S1792x3584, .fp8e4m3⟩
  | .hbm, ⟨7, _⟩ => ⟨S1x3584, .f32⟩
  | .hbm, ⟨8, _⟩ => ⟨S15360x3584, .f32⟩
  | .hbm, ⟨9, _⟩ => ⟨S15360x3584, .fp8e4m3⟩
  | .hbm, ⟨10, _⟩ => ⟨S1, .f32⟩
  | .local _ .vmem, ⟨0, _⟩ => ⟨S256x1792, .fp8e4m3⟩
  | .local _ .vmem, ⟨1, _⟩ => ⟨S256x1792, .fp8e4m3⟩
  | .local _ .vmem, ⟨2, _⟩ => ⟨S256x3584, .bf16⟩
  | .local _ .vmem, ⟨3, _⟩ => ⟨S256x3584, .bf16⟩
  | .local _ .vmem, ⟨4, _⟩ => ⟨S1x3584, .f32⟩
  | .local _ .vmem, ⟨5, _⟩ => ⟨S1792x3584, .fp8e4m3⟩
  | .local _ .vmem, ⟨6, _⟩ => ⟨S256x3584, .f32⟩
  | .local _ .vmem, ⟨7, _⟩ => ⟨S256x3584, .f32⟩
  | .local _ .vmem, ⟨8, _⟩ => ⟨S256x3584, .fp8e4m3⟩
  | .local _ .vmem, ⟨9, _⟩ => ⟨S256x3584, .fp8e4m3⟩
  | .local _ .vmem, ⟨10, _⟩ => ⟨S8x128, .f32⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S15360x1792, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_scratch0 : Ref sig .tc := ⟨.vmem, 10, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg9_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13

abbrev nD : Nat := 1
abbrev τ : Topo := Topo.v7x

variable {F : FTy → Type} [FloatOps F]

abbrev grid0 : Pipeline.Grid := ⟨1, ![60], ![false]⟩

def k0_cond2 (i : grid0.Coords) : BitVec 1 :=
  let arg0 : BitVec 32 := BitVec.ofNat 32 (i 0).val
  let c59_i32 : BitVec 32 := 59#32
  let v724 : BitVec 1 := Scalar.cmpi .eq arg0 c59_i32
  let v725 : BitVec 32 := Scalar.extui v724
  let c0_i32_138 : BitVec 32 := 0#32
  let v726 : BitVec 1 := Scalar.cmpi .ne v725 c0_i32_138
  v726

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1792 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1792x3584 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x3584 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x3584 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .smem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== OprojRefIdeal.lean ====
abbrev S15360x1792 : Shape := ⟨2, ![15360, 1792]⟩
abbrev S15360x3584 : Shape := ⟨2, ![15360, 3584]⟩
abbrev S3584 : Shape := ⟨1, ![3584]⟩
abbrev S1 : Shape := ⟨1, ![1]⟩
abbrev S1792x3584 : Shape := ⟨2, ![1792, 3584]⟩
abbrev S1x3584 : Shape := ⟨2, ![1, 3584]⟩
abbrev S15360 : Shape := ⟨1, ![15360]⟩
abbrev S15360x1 : Shape := ⟨2, ![15360, 1]⟩
abbrev S1x15360x3584 : Shape := ⟨3, ![1, 15360, 3584]⟩
abbrev S1x1x1 : Shape := ⟨3, ![1, 1, 1]⟩

abbrev nBuf : Space → Nat
  | .hbm => 11
  | .vmem => 6
  | .smem => 4
  | _ => 0

abbrev bufTy : (tb : Table) → Fin (tcTables nBuf tb) → BufTy
  | .hbm, ⟨0, _⟩ => ⟨S15360x1792, .fp8e4m3⟩
  | .hbm, ⟨1, _⟩ => ⟨S15360x3584, .bf16⟩
  | .hbm, ⟨2, _⟩ => ⟨S3584, .f32⟩
  | .hbm, ⟨3, _⟩ => ⟨S1, .f32⟩
  | .hbm, ⟨4, _⟩ => ⟨S1, .f32⟩
  | .hbm, ⟨5, _⟩ => ⟨S1, .f32⟩
  | .hbm, ⟨6, _⟩ => ⟨S1792x3584, .fp8e4m3⟩
  | .hbm, ⟨7, _⟩ => ⟨S1x3584, .f32⟩
  | .hbm, ⟨8, _⟩ => ⟨S15360x3584, .f32⟩
  | .hbm, ⟨9, _⟩ => ⟨S15360x3584, .fp8e4m3⟩
  | .hbm, ⟨10, _⟩ => ⟨S1, .f32⟩
  | .local _ .vmem, ⟨0, _⟩ => ⟨S15360x1792, .fp8e4m3⟩
  | .local _ .vmem, ⟨1, _⟩ => ⟨S15360x3584, .bf16⟩
  | .local _ .vmem, ⟨2, _⟩ => ⟨S1x3584, .f32⟩
  | .local _ .vmem, ⟨3, _⟩ => ⟨S1792x3584, .fp8e4m3⟩
  | .local _ .vmem, ⟨4, _⟩ => ⟨S15360x3584, .f32⟩
  | .local _ .vmem, ⟨5, _⟩ => ⟨S15360x3584, .fp8e4m3⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S15360x1792, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg9_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S15360x1792 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S15360x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1792x3584 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S15360x3584 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S15360x3584 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .smem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Qkv.lean ====
abbrev S3x5120x3584 : Shape := ⟨3, ![3, 5120, 3584]⟩
abbrev S3584 : Shape := ⟨1, ![3584]⟩
abbrev S128 : Shape := ⟨1, ![128]⟩
abbrev S1 : Shape := ⟨1, ![1]⟩
abbrev S14 : Shape := ⟨1, ![14]⟩
abbrev S2 : Shape := ⟨1, ![2]⟩
abbrev S3x2560x64 : Shape := ⟨3, ![3, 2560, 64]⟩
abbrev S3584x2304 : Shape := ⟨2, ![3584, 2304]⟩
abbrev S3x64x2560 : Shape := ⟨3, ![3, 64, 2560]⟩
abbrev S1x3584 : Shape := ⟨2, ![1, 3584]⟩
abbrev S1x128 : Shape := ⟨2, ![1, 128]⟩
abbrev S3x14x5120x128 : Shape := ⟨4, ![3, 14, 5120, 128]⟩
abbrev S3x2x5120x128 : Shape := ⟨4, ![3, 2, 5120, 128]⟩
abbrev S1x512x3584 : Shape := ⟨3, ![1, 512, 3584]⟩
abbrev S1x64x512 : Shape := ⟨3, ![1, 64, 512]⟩
abbrev S1x14x512x128 : Shape := ⟨4, ![1, 14, 512, 128]⟩
abbrev S1x2x512x128 : Shape := ⟨4, ![1, 2, 512, 128]⟩
abbrev S8x128 : Shape := ⟨2, ![8, 128]⟩
abbrev S18x8x128 : Shape := ⟨3, ![18, 8, 128]⟩
abbrev S1x32x3584 : Shape := ⟨3, ![1, 32, 3584]⟩
abbrev S32x3584 : Shape := ⟨2, ![32, 3584]⟩
abbrev S32 : Shape := ⟨1, ![32]⟩
abbrev S32x1 : Shape := ⟨2, ![32, 1]⟩
abbrev S4x8x3584 : Shape := ⟨3, ![4, 8, 3584]⟩
abbrev S8x3584 : Shape := ⟨2, ![8, 3584]⟩
abbrev S1x256x3584 : Shape := ⟨3, ![1, 256, 3584]⟩
abbrev S256x3584 : Shape := ⟨2, ![256, 3584]⟩
abbrev S1x64x256 : Shape := ⟨3, ![1, 64, 256]⟩
abbrev S64x256 : Shape := ⟨2, ![64, 256]⟩
abbrev S128x256 : Shape := ⟨2, ![128, 256]⟩
abbrev S256x128 : Shape := ⟨2, ![256, 128]⟩
abbrev S3584x512 : Shape := ⟨2, ![3584, 512]⟩
abbrev S256x512 : Shape := ⟨2, ![256, 512]⟩
abbrev S256 : Shape := ⟨1, ![256]⟩
abbrev S256x1 : Shape := ⟨2, ![256, 1]⟩
abbrev S1x8x128 : Shape := ⟨3, ![1, 8, 128]⟩
abbrev S32x8x128 : Shape := ⟨3, ![32, 8, 128]⟩
abbrev S1x1x256x128 : Shape := ⟨4, ![1, 1, 256, 128]⟩
abbrev S3584x256 : Shape := ⟨2, ![3584, 256]⟩
abbrev S256x256 : Shape := ⟨2, ![256, 256]⟩
abbrev S1x1x1 : Shape := ⟨3, ![1, 1, 1]⟩

abbrev nBuf : Space → Nat
  | .hbm => 25
  | .vmem => 20
  | .smem => 9
  | _ => 0

abbrev bufTy : (tb : Table) → Fin (tcTables nBuf tb) → BufTy
  | .hbm, ⟨0, _⟩ => ⟨S3x5120x3584, .bf16⟩
  | .hbm, ⟨1, _⟩ => ⟨S3584, .f32⟩
  | .hbm, ⟨2, _⟩ => ⟨S128, .f32⟩
  | .hbm, ⟨3, _⟩ => ⟨S128, .f32⟩
  | .hbm, ⟨4, _⟩ => ⟨S1, .f32⟩
  | .hbm, ⟨5, _⟩ => ⟨S1, .f32⟩
  | .hbm, ⟨6, _⟩ => ⟨S14, .f32⟩
  | .hbm, ⟨7, _⟩ => ⟨S2, .f32⟩
  | .hbm, ⟨8, _⟩ => ⟨S2, .f32⟩
  | .hbm, ⟨9, _⟩ => ⟨S3x2560x64, .f32⟩
  | .hbm, ⟨10, _⟩ => ⟨S3x2560x64, .f32⟩
  | .hbm, ⟨11, _⟩ => ⟨S3584x2304, .fp8e4m3⟩
  | .hbm, ⟨12, _⟩ => ⟨S3x64x2560, .f32⟩
  | .hbm, ⟨13, _⟩ => ⟨S3x64x2560, .f32⟩
  | .hbm, ⟨14, _⟩ => ⟨S1x3584, .f32⟩
  | .hbm, ⟨15, _⟩ => ⟨S1x128, .f32⟩
  | .hbm, ⟨16, _⟩ => ⟨S1x128, .f32⟩
  | .hbm, ⟨17, _⟩ => ⟨S3x5120x3584, .fp8e4m3⟩
  | .hbm, ⟨18, _⟩ => ⟨S3x14x5120x128, .fp8e4m3⟩
  | .hbm, ⟨19, _⟩ => ⟨S3x2x5120x128, .fp8e4m3⟩
  | .hbm, ⟨20, _⟩ => ⟨S3x2x5120x128, .fp8e4m3⟩
  | .hbm, ⟨21, _⟩ => ⟨S1, .f32⟩
  | .hbm, ⟨22, _⟩ => ⟨S14, .f32⟩
  | .hbm, ⟨23, _⟩ => ⟨S2, .f32⟩
  | .hbm, ⟨24, _⟩ => ⟨S2, .f32⟩
  | .local _ .vmem, ⟨0, _⟩ => ⟨S1x512x3584, .bf16⟩
  | .local _ .vmem, ⟨1, _⟩ => ⟨S1x512x3584, .bf16⟩
  | .local _ .vmem, ⟨2, _⟩ => ⟨S1x3584, .f32⟩
  | .local _ .vmem, ⟨3, _⟩ => ⟨S1x128, .f32⟩
  | .local _ .vmem, ⟨4, _⟩ => ⟨S1x128, .f32⟩
  | .local _ .vmem, ⟨5, _⟩ => ⟨S1x64x512, .f32⟩
  | .local _ .vmem, ⟨6, _⟩ => ⟨S1x64x512, .f32⟩
  | .local _ .vmem, ⟨7, _⟩ => ⟨S1x64x512, .f32⟩
  | .local _ .vmem, ⟨8, _⟩ => ⟨S1x64x512, .f32⟩
  | .local _ .vmem, ⟨9, _⟩ => ⟨S3584x2304, .fp8e4m3⟩
  | .local _ .vmem, ⟨10, _⟩ => ⟨S1x512x3584, .fp8e4m3⟩
  | .local _ .vmem, ⟨11, _⟩ => ⟨S1x512x3584, .fp8e4m3⟩
  | .local _ .vmem, ⟨12, _⟩ => ⟨S1x14x512x128, .fp8e4m3⟩
  | .local _ .vmem, ⟨13, _⟩ => ⟨S1x14x512x128, .fp8e4m3⟩
  | .local _ .vmem, ⟨14, _⟩ => ⟨S1x2x512x128, .fp8e4m3⟩
  | .local _ .vmem, ⟨15, _⟩ => ⟨S1x2x512x128, .fp8e4m3⟩
  | .local _ .vmem, ⟨16, _⟩ => ⟨S1x2x512x128, .fp8e4m3⟩
  | .local _ .vmem, ⟨17, _⟩ => ⟨S1x2x512x128, .fp8e4m3⟩
  | .local _ .vmem, ⟨18, _⟩ => ⟨S8x128, .f32⟩
  | .local _ .vmem, ⟨19, _⟩ => ⟨S18x8x128, .f32⟩
  | .local _ .smem, ⟨0, _⟩ => ⟨S1, .f32⟩
  | .local _ .smem, ⟨1, _⟩ => ⟨S1, .f32⟩
  | .local _ .smem, ⟨2, _⟩ => ⟨S14, .f32⟩
  | .local _ .smem, ⟨3, _⟩ => ⟨S2, .f32⟩
  | .local _ .smem, ⟨4, _⟩ => ⟨S2, .f32⟩
  | .local _ .smem, ⟨5, _⟩ => ⟨S1, .f32⟩
  | .local _ .smem, ⟨6, _⟩ => ⟨S14, .f32⟩
  | .local _ .smem, ⟨7, _⟩ => ⟨S2, .f32⟩
  | .local _ .smem, ⟨8, _⟩ => ⟨S2, .f32⟩
  | _, _ => ⟨S3x5120x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev main_v5_4 : Ref sig .tc := ⟨.hbm, 21, rfl⟩
abbrev main_v5_5 : Ref sig .tc := ⟨.hbm, 22, rfl⟩
abbrev main_v5_6 : Ref sig .tc := ⟨.hbm, 23, rfl⟩
abbrev main_v5_7 : Ref sig .tc := ⟨.hbm, 24, rfl⟩
abbrev cc0_stg5_0 : Ref sig .tc := ⟨.vmem, 0, rfl⟩
abbrev cc0_stg5_1 : Ref sig .tc := ⟨.vmem, 1, rfl⟩
abbrev cc0_stg6_0 : Ref sig .tc := ⟨.vmem, 2, rfl⟩
abbrev cc0_stg7_0 : Ref sig .tc := ⟨.vmem, 3, rfl⟩
abbrev cc0_stg8_0 : Ref sig .tc := ⟨.vmem, 4, rfl⟩
abbrev cc0_stg9_0 : Ref sig .tc := ⟨.vmem, 5, rfl⟩
abbrev cc0_stg9_1 : Ref sig .tc := ⟨.vmem, 6, rfl⟩
abbrev cc0_stg10_0 : Ref sig .tc := ⟨.vmem, 7, rfl⟩
abbrev cc0_stg10_1 : Ref sig .tc := ⟨.vmem, 8, rfl⟩
abbrev cc0_stg11_0 : Ref sig .tc := ⟨.vmem, 9, rfl⟩
abbrev cc0_stg12_0 : Ref sig .tc := ⟨.vmem, 10, rfl⟩
abbrev cc0_stg12_1 : Ref sig .tc := ⟨.vmem, 11, rfl⟩
abbrev cc0_stg13_0 : Ref sig .tc := ⟨.vmem, 12, rfl⟩
abbrev cc0_stg13_1 : Ref sig .tc := ⟨.vmem, 13, rfl⟩
abbrev cc0_stg14_0 : Ref sig .tc := ⟨.vmem, 14, rfl⟩
abbrev cc0_stg14_1 : Ref sig .tc := ⟨.vmem, 15, rfl⟩
abbrev cc0_stg15_0 : Ref sig .tc := ⟨.vmem, 16, rfl⟩
abbrev cc0_stg15_1 : Ref sig .tc := ⟨.vmem, 17, rfl⟩
abbrev cc0_scratch0 : Ref sig .tc := ⟨.vmem, 18, rfl⟩
abbrev cc0_scratch1 : Ref sig .tc := ⟨.vmem, 19, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_stg16_0 : Ref sig .tc := ⟨.smem, 5, rfl⟩
abbrev cc0_stg17_0 : Ref sig .tc := ⟨.smem, 6, rfl⟩
abbrev cc0_stg18_0 : Ref sig .tc := ⟨.smem, 7, rfl⟩
abbrev cc0_stg19_0 : Ref sig .tc := ⟨.smem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem17_0 : DmaSem sig := 24
abbrev cc0_sem18_0 : DmaSem sig := 25
abbrev cc0_sem19_0 : DmaSem sig := 26

abbrev nD : Nat := 1
abbrev τ : Topo := Topo.v7x

variable {F : FTy → Type} [FloatOps F]

abbrev grid0 : Pipeline.Grid := ⟨2, ![3, 10], ![false, false]⟩

def k0_cond2 (i : grid0.Coords) : BitVec 1 :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c29_i32 : BitVec 32 := 29#32
  let v2812 : BitVec 1 := Scalar.cmpi .eq v1 c29_i32
  let v2813 : BitVec 32 := Scalar.extui v2812
  let c0_i32_914 : BitVec 32 := 0#32
  let v2814 : BitVec 1 := Scalar.cmpi .ne v2813 c0_i32_914
  v2814

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let v0 : BitVec 1 := Scalar.cmpi .eq c5_i32 c0_i32
  let c1_i32 : BitVec 32 := 1#32
  let v1 : BitVec 32 := Scalar.select v0 c1_i32 c5_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![arg0.toNat, c0_i32_3.toNat, v9.toNat]

def cc0_transform_10 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let v0 : BitVec 1 := Scalar.cmpi .eq c5_i32 c0_i32
  let c1_i32 : BitVec 32 := 1#32
  let v1 : BitVec 32 := Scalar.select v0 c1_i32 c5_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![arg0.toNat, c0_i32_3.toNat, v9.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_18 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_19 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S14 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x3584 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x3584 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S3584x2304 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x3584 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x14x512x128 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2x512x128 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2x512x128 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .smem S1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .smem S14 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .smem S2 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .smem S2 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]
-- ==== QkvRefIdeal.lean ====
abbrev S3x5120x3584 : Shape := ⟨3, ![3, 5120, 3584]⟩
abbrev S3584 : Shape := ⟨1, ![3584]⟩
abbrev S128 : Shape := ⟨1, ![128]⟩
abbrev S1 : Shape := ⟨1, ![1]⟩
abbrev S14 : Shape := ⟨1, ![14]⟩
abbrev S2 : Shape := ⟨1, ![2]⟩
abbrev S3x2560x64 : Shape := ⟨3, ![3, 2560, 64]⟩
abbrev S3584x2304 : Shape := ⟨2, ![3584, 2304]⟩
abbrev S1x3584 : Shape := ⟨2, ![1, 3584]⟩
abbrev S1x128 : Shape := ⟨2, ![1, 128]⟩
abbrev S3x14x5120x128 : Shape := ⟨4, ![3, 14, 5120, 128]⟩
abbrev S3x2x5120x128 : Shape := ⟨4, ![3, 2, 5120, 128]⟩
abbrev S3x5120x64 : Shape := ⟨3, ![3, 5120, 64]⟩
abbrev S3x5120x1x64 : Shape := ⟨4, ![3, 5120, 1, 64]⟩
abbrev S3x5120 : Shape := ⟨2, ![3, 5120]⟩
abbrev S3x5120x1 : Shape := ⟨3, ![3, 5120, 1]⟩
abbrev S1x1x3584 : Shape := ⟨3, ![1, 1, 3584]⟩
abbrev S1x3x5120x3584 : Shape := ⟨4, ![1, 3, 5120, 3584]⟩
abbrev S1x1x1x1 : Shape := ⟨4, ![1, 1, 1, 1]⟩
abbrev S15360x3584 : Shape := ⟨2, ![15360, 3584]⟩
abbrev S15360x2304 : Shape := ⟨2, ![15360, 2304]⟩
abbrev S15360x1792 : Shape := ⟨2, ![15360, 1792]⟩
abbrev S3x5120x14x128 : Shape := ⟨4, ![3, 5120, 14, 128]⟩
abbrev S15360x256 : Shape := ⟨2, ![15360, 256]⟩
abbrev S3x5120x2x128 : Shape := ⟨4, ![3, 5120, 2, 128]⟩
abbrev S1x1x1x128 : Shape := ⟨4, ![1, 1, 1, 128]⟩
abbrev S3x5120x14 : Shape := ⟨3, ![3, 5120, 14]⟩
abbrev S3x5120x14x1 : Shape := ⟨4, ![3, 5120, 14, 1]⟩
abbrev S3x5120x14x64 : Shape := ⟨4, ![3, 5120, 14, 64]⟩
abbrev S3x5120x2 : Shape := ⟨3, ![3, 5120, 2]⟩
abbrev S3x5120x2x1 : Shape := ⟨4, ![3, 5120, 2, 1]⟩
abbrev S3x5120x2x64 : Shape := ⟨4, ![3, 5120, 2, 64]⟩
abbrev S3x5120x1x128 : Shape := ⟨4, ![3, 5120, 1, 128]⟩
abbrev S3x5120x128 : Shape := ⟨3, ![3, 5120, 128]⟩
abbrev S3x1x5120x128 : Shape := ⟨4, ![3, 1, 5120, 128]⟩
abbrev S1x3x5120x128 : Shape := ⟨4, ![1, 3, 5120, 128]⟩

abbrev nBuf : Space → Nat
  | .hbm => 23
  | .vmem => 11
  | .smem => 9
  | _ => 0

abbrev bufTy : (tb : Table) → Fin (tcTables nBuf tb) → BufTy
  | .hbm, ⟨0, _⟩ => ⟨S3x5120x3584, .bf16⟩
  | .hbm, ⟨1, _⟩ => ⟨S3584, .f32⟩
  | .hbm, ⟨2, _⟩ => ⟨S128, .f32⟩
  | .hbm, ⟨3, _⟩ => ⟨S128, .f32⟩
  | .hbm, ⟨4, _⟩ => ⟨S1, .f32⟩
  | .hbm, ⟨5, _⟩ => ⟨S1, .f32⟩
  | .hbm, ⟨6, _⟩ => ⟨S14, .f32⟩
  | .hbm, ⟨7, _⟩ => ⟨S2, .f32⟩
  | .hbm, ⟨8, _⟩ => ⟨S2, .f32⟩
  | .hbm, ⟨9, _⟩ => ⟨S3x2560x64, .f32⟩
  | .hbm, ⟨10, _⟩ => ⟨S3x2560x64, .f32⟩
  | .hbm, ⟨11, _⟩ => ⟨S3584x2304, .fp8e4m3⟩
  | .hbm, ⟨12, _⟩ => ⟨S1x3584, .f32⟩
  | .hbm, ⟨13, _⟩ => ⟨S1x128, .f32⟩
  | .hbm, ⟨14, _⟩ => ⟨S1x128, .f32⟩
  | .hbm, ⟨15, _⟩ => ⟨S3x5120x3584, .fp8e4m3⟩
  | .hbm, ⟨16, _⟩ => ⟨S3x14x5120x128, .fp8e4m3⟩
  | .hbm, ⟨17, _⟩ => ⟨S3x2x5120x128, .fp8e4m3⟩
  | .hbm, ⟨18, _⟩ => ⟨S3x2x5120x128, .fp8e4m3⟩
  | .hbm, ⟨19, _⟩ => ⟨S1, .f32⟩
  | .hbm, ⟨20, _⟩ => ⟨S14, .f32⟩
  | .hbm, ⟨21, _⟩ => ⟨S2, .f32⟩
  | .hbm, ⟨22, _⟩ => ⟨S2, .f32⟩
  | .local _ .vmem, ⟨0, _⟩ => ⟨S3x5120x3584, .bf16⟩
  | .local _ .vmem, ⟨1, _⟩ => ⟨S1x3584, .f32⟩
  | .local _ .vmem, ⟨2, _⟩ => ⟨S1x128, .f32⟩
  | .local _ .vmem, ⟨3, _⟩ => ⟨S1x128, .f32⟩
  | .local _ .vmem, ⟨4, _⟩ => ⟨S3x2560x64, .f32⟩
  | .local _ .vmem, ⟨5, _⟩ => ⟨S3x2560x64, .f32⟩
  | .local _ .vmem, ⟨6, _⟩ => ⟨S3584x2304, .fp8e4m3⟩
  | .local _ .vmem, ⟨7, _⟩ => ⟨S3x5120x3584, .fp8e4m3⟩
  | .local _ .vmem, ⟨8, _⟩ => ⟨S3x14x5120x128, .fp8e4m3⟩
  | .local _ .vmem, ⟨9, _⟩ => ⟨S3x2x5120x128, .fp8e4m3⟩
  | .local _ .vmem, ⟨10, _⟩ => ⟨S3x2x5120x128, .fp8e4m3⟩
  | .local _ .smem, ⟨0, _⟩ => ⟨S1, .f32⟩
  | .local _ .smem, ⟨1, _⟩ => ⟨S1, .f32⟩
  | .local _ .smem, ⟨2, _⟩ => ⟨S14, .f32⟩
  | .local _ .smem, ⟨3, _⟩ => ⟨S2, .f32⟩
  | .local _ .smem, ⟨4, _⟩ => ⟨S2, .f32⟩
  | .local _ .smem, ⟨5, _⟩ => ⟨S1, .f32⟩
  | .local _ .smem, ⟨6, _⟩ => ⟨S14, .f32⟩
  | .local _ .smem, ⟨7, _⟩ => ⟨S2, .f32⟩
  | .local _ .smem, ⟨8, _⟩ => ⟨S2, .f32⟩
  | _, _ => ⟨S3x5120x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v3_3 : Ref sig .tc := ⟨.hbm, 18, rfl⟩
abbrev main_v3_4 : Ref sig .tc := ⟨.hbm, 19, rfl⟩
abbrev main_v3_5 : Ref sig .tc := ⟨.hbm, 20, rfl⟩
abbrev main_v3_6 : Ref sig .tc := ⟨.hbm, 21, rfl⟩
abbrev main_v3_7 : Ref sig .tc := ⟨.hbm, 22, rfl⟩
abbrev cc0_stg5_0 : Ref sig .tc := ⟨.vmem, 0, rfl⟩
abbrev cc0_stg6_0 : Ref sig .tc := ⟨.vmem, 1, rfl⟩
abbrev cc0_stg7_0 : Ref sig .tc := ⟨.vmem, 2, rfl⟩
abbrev cc0_stg8_0 : Ref sig .tc := ⟨.vmem, 3, rfl⟩
abbrev cc0_stg9_0 : Ref sig .tc := ⟨.vmem, 4, rfl⟩
abbrev cc0_stg10_0 : Ref sig .tc := ⟨.vmem, 5, rfl⟩
abbrev cc0_stg11_0 : Ref sig .tc := ⟨.vmem, 6, rfl⟩
abbrev cc0_stg12_0 : Ref sig .tc := ⟨.vmem, 7, rfl⟩
abbrev cc0_stg13_0 : Ref sig .tc := ⟨.vmem, 8, rfl⟩
abbrev cc0_stg14_0 : Ref sig .tc := ⟨.vmem, 9, rfl⟩
abbrev cc0_stg15_0 : Ref sig .tc := ⟨.vmem, 10, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_stg16_0 : Ref sig .tc := ⟨.smem, 5, rfl⟩
abbrev cc0_stg17_0 : Ref sig .tc := ⟨.smem, 6, rfl⟩
abbrev cc0_stg18_0 : Ref sig .tc := ⟨.smem, 7, rfl⟩
abbrev cc0_stg19_0 : Ref sig .tc := ⟨.smem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S14 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x5120x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x3584 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x2560x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x2560x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3584x2304 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x5120x3584 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x14x5120x128 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3x2x5120x128 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S3x2x5120x128 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .smem S1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .smem S14 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .smem S2 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .smem S2 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== Proof.Spec.lean ====
/-
  The mathematics of the calls, index by index, over the extended reals: what every result array holds as a function of
  the argument arrays. The kernel and the reference are each shown to end at these functions.
-/
module

public import Idealize.ShloMosaic.Lib.Pipeline.ValueKit
public import Idealize.ShloMosaic.Lib.Pointwise

@[expose] public section

set_option maxRecDepth 16384

noncomputable section

open Idealize.ShloMosaic

namespace Cert.Spec

/-- A vector of one scale factor. -/
abbrev Scale : Type := FVec Ideal ⟨1, ![1]⟩ .f32

/-- A row against a column, scaled: `(Σ a b) s`. -/
def lin {n : ℕ} (a b : Fin n → EReal) (s : EReal) : EReal := (∑ k : Fin n, a k * b k) * s

/-- The gated unit's activation: `g · σ(g) · u`. -/
def act (g u : EReal) : EReal := g * Ideal.logistic g * u

/-- The code of a value at a scale, before its rounding: `v / s` clipped to `[-448, 448]`. -/
def code (v s : EReal) : EReal :=
  min (Ideal.ofBits .f32 0x43E00000#32) (max (Ideal.ofBits .f32 0xC3E00000#32) (Ideal.div v s))

/-- The magnitude of a value. -/
def mag (v : EReal) : EReal := max v (-v)

/-- The hidden value of the gated unit at row `i`, column `j`: the gate's column of the weights is `j`, the other
    factor's column is `9472 + j`. -/
def hidden (X : FVec Ideal ⟨2, ![15360, 3584]⟩ .fp8e4m3) (xs ws : Scale) (W : FVec Ideal ⟨2, ![3584, 18944]⟩ .fp8e4m3)
    (i : Fin 15360) (j : Fin 9472) : EReal :=
  act (lin (fun k : Fin 3584 => X (ix2 i k)) (fun k : Fin 3584 => W (ix2 k ⟨j.val, by omega⟩)) (xs (ix1 0) * ws (ix1 0)))
    (lin (fun k : Fin 3584 => X (ix2 i k)) (fun k : Fin 3584 => W (ix2 k ⟨9472 + j.val, by omega⟩)) (xs (ix1 0) * ws (ix1 0)))

/-- The codes of the hidden values. -/
def guCodes (X : FVec Ideal ⟨2, ![15360, 3584]⟩ .fp8e4m3) (xs ws hs : Scale)
    (W : FVec Ideal ⟨2, ![3584, 18944]⟩ .fp8e4m3) : FVec Ideal ⟨2, ![15360, 9472]⟩ .fp8e4m3 := fun j =>
  code (hidden X xs ws W (j 0) (j 1)) (hs (ix1 0))

/-- The largest magnitude of the hidden values. -/
def guAmax (X : FVec Ideal ⟨2, ![15360, 3584]⟩ .fp8e4m3) (xs ws : Scale)
    (W : FVec Ideal ⟨2, ![3584, 18944]⟩ .fp8e4m3) : FVec Ideal ⟨1, ![1]⟩ .f32 := fun _ =>
  ⨆ (i : Fin 15360) (j : Fin 9472), mag (hidden X xs ws W i j)

/-- The second projection of the gated unit with its residual: the hidden states `X` plus the product of the codes `H`
    with the weights `W`, times the product of the two scales. -/
def down (H : FVec Ideal ⟨2, ![15360, 9472]⟩ .fp8e4m3) (X : FVec Ideal ⟨2, ![15360, 3584]⟩ .f32) (hs ws : Scale)
    (W : FVec Ideal ⟨2, ![9472, 3584]⟩ .fp8e4m3) : FVec Ideal ⟨2, ![15360, 3584]⟩ .bf16 := fun j =>
  X (ix2 (j 0) (j 1)) + (∑ k : Fin 9472, H (ix2 (j 0) k) * W (ix2 k (j 1))) * (hs (ix1 0) * ws (ix1 0))

/-- One entry of a root-mean-square norm: `x` over the root of the mean of the row's squares plus `ε`, times the gain. `w` is
    the row's width. -/
def rms {n : ℕ} (w : EReal) (row : Fin n → EReal) (x g : EReal) : EReal :=
  Ideal.div x (Ideal.sqrt (Ideal.div (∑ k : Fin n, row k * row k) w + Ideal.ofBits .f32 0x358637BD#32)) * g

/-- The hidden states after the output projection: the residual `X` plus the codes' row against the weights' column, scaled. -/
def opHid (O : FVec Ideal ⟨2, ![15360, 1792]⟩ .fp8e4m3) (X : FVec Ideal ⟨2, ![15360, 3584]⟩ .bf16) (os ws : Scale)
    (W : FVec Ideal ⟨2, ![1792, 3584]⟩ .fp8e4m3) : FVec Ideal ⟨2, ![15360, 3584]⟩ .f32 := fun j =>
  X (ix2 (j 0) (j 1)) + lin (fun k : Fin 1792 => O (ix2 (j 0) k)) (fun k : Fin 1792 => W (ix2 k (j 1))) (os (ix1 0) * ws (ix1 0))

/-- Their norm, with the gain `g`. -/
def opNorm (H : FVec Ideal ⟨2, ![15360, 3584]⟩ .f32) (g : FVec Ideal ⟨1, ![3584]⟩ .f32) (i : Fin 15360) (j : Fin 3584) : EReal :=
  rms (Ideal.ofBits .f32 0x45600000#32) (fun k : Fin 3584 => H (ix2 i k)) (H (ix2 i j)) (g (ix1 j))

/-- The codes of the norm. -/
def opCodes (H : FVec Ideal ⟨2, ![15360, 3584]⟩ .f32) (g : FVec Ideal ⟨1, ![3584]⟩ .f32) (xs : Scale) :
    FVec Ideal ⟨2, ![15360, 3584]⟩ .fp8e4m3 := fun j => code (opNorm H g (j 0) (j 1)) (xs (ix1 0))

/-- The largest magnitude of the norm. -/
def opAmax (H : FVec Ideal ⟨2, ![15360, 3584]⟩ .f32) (g : FVec Ideal ⟨1, ![3584]⟩ .f32) : FVec Ideal ⟨1, ![1]⟩ .f32 := fun _ =>
  ⨆ (i : Fin 15360) (j : Fin 3584), mag (opNorm H g i j)

/-- The word of `-∞` is the least extended real. -/
theorem negInf : Ideal.ofBits .f32 0xFF800000#32 = (⊥ : EReal) := by simp [Ideal.ofBits, Ideal.ieee]

/-- A maximum over a finite type, taken from `-∞`, is at most `B` when every value is. -/
theorem fold_max_le {ι : Type} [Fintype ι] (f : ι → EReal) (B : EReal) :
    Finset.univ.fold max (Ideal.ofBits .f32 0xFF800000#32) f ≤ B ↔ ∀ i, f i ≤ B := by
  rw [Finset.fold_max_le, negInf]; simp

/-- A magnitude is not negative. -/
theorem mag_nonneg (v : EReal) : 0 ≤ mag v := by
  rcases le_total 0 v with h | h
  · exact le_max_of_le_left h
  · exact le_max_of_le_right (EReal.neg_nonneg.2 h)

end Cert.Spec

end
-- ==== Proof.GuCodes.lean ====
/-
  The gated unit, kernel side: the codes array after the run is `Spec.guCodes` of the arguments.
-/
module

public import proofs.«01_k».proof.Proof.Spec
public import proofs.«01_k».proof.Proof.Gen.GuIdeal.Value

@[expose] public section

set_option maxRecDepth 16384

noncomputable section

open Idealize.ShloMosaic Idealize.ShloMosaic.TcCoe Idealize.SL.Sem
open Idealize.ShloMosaic.Pipeline (Dat)

namespace Cert.GuIdeal.Sem

open Cert.GuIdeal Cert.GuIdeal.Gen

variable (m : (ℓ : Loc nD τ sig) → Buf (Elt Ideal) ℓ)

/-- The block index of every window at every grid point. -/
theorem idx : ∀ t : Fin cfg0.N, win0_0.index t = ![0] ∧ win0_1.index t = ![0] ∧ win0_2.index t = ![0]
    ∧ win0_3.index t = ![t.val / 37, 0] ∧ win0_4.index t = ![0, t.val % 37] ∧ win0_5.index t = ![0, 37 + t.val % 37]
    ∧ win0_6.index t = ![t.val / 37, t.val % 37] ∧ win0_7.index t = ![0] :=
  (by decide +kernel : ∀ t : Fin grid0.N, _)

/-- What a point leaves in the codes' buffer, at a block index: the code at the array index it sits at. The three cases
    of the body (first point, last point, the points between) store the same. -/
theorem point (c : Dev nD) (t : Fin cfg0.N) (y : S5120x256.Idx) :
    (outsAt0 m c t.val t.isLt).1 y = Spec.guCodes (m ((c : Thread nD τ).loc main_arg0)) (m ((c : Thread nD τ).loc main_arg1))
        (m ((c : Thread nD τ).loc main_arg2)) (m ((c : Thread nD τ).loc main_arg3)) (m ((c : Thread nD τ).loc main_arg4))
        (((cfg0.win 6).blk t).view.emb y) := by
  have key : ∃ v : Vec Ideal S5120x256 .fp8e4m3,
      ((t.val % 111 = 0 → ¬t.val % 111 = 110 → (outsAt0 m c t.val t.isLt).1 y = v y)
      ∧ (¬t.val % 111 = 0 → ¬t.val % 111 = 110 → (outsAt0 m c t.val t.isLt).1 y = v y)
      ∧ (¬t.val % 111 = 0 → t.val % 111 = 110 → (outsAt0 m c t.val t.isLt).1 y = v y))
      ∧ v y = Spec.guCodes (m ((c : Thread nD τ).loc main_arg0)) (m ((c : Thread nD τ).loc main_arg1))
        (m ((c : Thread nD τ).loc main_arg2)) (m ((c : Thread nD τ).loc main_arg3)) (m ((c : Thread nD τ).loc main_arg4))
        (((cfg0.win 6).blk t).view.emb y) := by
    refine ⟨?v, ⟨fun h0 h1 => ?a, fun h0 h1 => ?b, fun h0 h1 => ?c⟩, ?d⟩
    case a => rw [outsAt0_A m c t h0 h1]; frame_out; exact rfl
    case b => rw [outsAt0_B m c t h0 h1]; frame_out
    case c => rw [outsAt0_C m c t h0 h1]; frame_out
    case d =>
      canon_tiles x h
      all_goals
        open_payloads
        pointwise [Spec.guCodes, Spec.hidden, Spec.code, Spec.lin, Spec.act]
        blk_point [iblk, V, idx t]
  obtain ⟨v, ⟨hA, hB, hC⟩, hv⟩ := key
  refine Eq.trans ?_ hv
  by_cases h0 : t.val % 111 = 0
  · exact hA h0 (by omega)
  · by_cases h1 : t.val % 111 = 110
    · exact hC h0 h1
    · exact hB h0 h1

/-- The codes array after the run. -/
theorem codes (c : Dev nD) : (dats m 0 c).arrAt 6 (cfgs 0).N
    = Spec.guCodes (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  exact point m c t y

end Cert.GuIdeal.Sem

end
-- ==== Proof.GuAmax.lean ====
/-
  The gated unit, kernel side: the amax after the run is `Spec.guAmax` of the arguments.
-/
module

public import proofs.«01_k».proof.Proof.GuCodes
public import proofs.«01_k».proof.Proof.Gen.GuIdeal.Value

@[expose] public section

set_option maxRecDepth 16384

noncomputable section

open Idealize.ShloMosaic Idealize.ShloMosaic.TcCoe Idealize.SL.Sem
open Idealize.ShloMosaic.Pipeline (Dat)

namespace Cert.GuIdeal.Sem

open Cert.GuIdeal Cert.GuIdeal.Gen

variable (m : (ℓ : Loc nD τ sig) → Buf (Elt Ideal) ℓ)

/-- The hidden value of one point, over its blocks: rows of `x`, columns of `g` and `u`. -/
def hid {n : ℕ} (s : EReal) (x : FVec Ideal ⟨2, ![n, 3584]⟩ .fp8e4m3) (g u : FVec Ideal ⟨2, ![3584, 256]⟩ .fp8e4m3)
    (i : Fin n) (j : Fin 256) : EReal :=
  Spec.act (Spec.lin (fun k : Fin 3584 => x (ix2 i k)) (fun k : Fin 3584 => g (ix2 k j)) s)
    (Spec.lin (fun k : Fin 3584 => x (ix2 i k)) (fun k : Fin 3584 => u (ix2 k j)) s)

/-- The payload of a chunk of 512 rows is the hidden value. -/
theorem pay9 (s : EReal) (x : Vec Ideal S512x3584 .fp8e4m3) (g u : Vec Ideal S3584x256 .fp8e4m3) (i : Fin 512) (j : Fin 256) :
    k0_pay9 (F := Ideal) s x g u (ix2 i j) = hid s x g u i j := by
  pointwise [k0_pay9, hid, Spec.lin, Spec.act]

/-- One chunk's update of the running maxima: bounded by `B` when the maxima before are and every magnitude of the chunk
    that falls on this row (modulo 8) and lane (modulo 128) is. -/
theorem pay10_le (s : EReal) (x : Vec Ideal S512x3584 .fp8e4m3) (g u : Vec Ideal S3584x256 .fp8e4m3)
    (acc : Vec Ideal S8x128 .f32) (r : Fin 8) (l : Fin 128) (B : EReal) :
    k0_pay10 (F := Ideal) s x g u acc (ix2 r l) ≤ B ↔ acc (ix2 r l) ≤ B ∧ ∀ (i : Fin 512) (j : Fin 256),
      i.val % 8 = r.val → j.val % 128 = l.val → Spec.mag (hid s x g u i j) ≤ B := by
  have e : ∀ (i : Fin 512) (j : Fin 256), FloatOps.absf (k0_pay9 (F := Ideal) s x g u (ix2 i j)) = Spec.mag (hid s x g u i j) :=
    fun i j => congrArg Spec.mag (pay9 s x g u i j)
  pointwise [k0_pay10]
  rw [max_le_iff, max_le_iff, Spec.fold_max_le, Spec.fold_max_le]
  simp only [e]
  refine and_congr_right fun _ => ⟨fun ⟨hl, hr⟩ i j hi hj => ?_, fun h => ⟨fun k => h _ _ ?_ ?_, fun k => h _ _ ?_ ?_⟩⟩
  · have hi' := i.isLt
    have hj' := j.isLt
    by_cases hc : j.val < 128
    · have := hl ⟨i.val / 8, by omega⟩
      rwa [show (⟨i.val / 8 * 8 + r.val, by omega⟩ : Fin 512) = i from Fin.ext (by simp only []; omega),
        show (⟨l.val, by omega⟩ : Fin 256) = j from Fin.ext (by simp only []; omega)] at this
    · have := hr ⟨i.val / 8, by omega⟩
      rwa [show (⟨i.val / 8 * 8 + r.val, by omega⟩ : Fin 512) = i from Fin.ext (by simp only []; omega),
        show (⟨128 + l.val, by omega⟩ : Fin 256) = j from Fin.ext (by simp only []; omega)] at this
  all_goals (have := k.isLt; have := r.isLt; have := l.isLt; simp only []; omega)

/-- The magnitudes of row `i` of a point's block that fall on row `r` (modulo 8) and lane `l` (modulo 128) are at most `B`. -/
def RowLe (s : EReal) (X : FVec Ideal ⟨2, ![5120, 3584]⟩ .fp8e4m3) (g u : FVec Ideal ⟨2, ![3584, 256]⟩ .fp8e4m3)
    (r : Fin 8) (l : Fin 128) (B : EReal) (i : Fin 5120) : Prop :=
  ∀ j : Fin 256, i.val % 8 = r.val → j.val % 128 = l.val → Spec.mag (hid s X g u i j) ≤ B

/-- The same for the chunk of 512 rows from row `o` of the point's block. -/
theorem chunk_le (s : EReal) (X : Vec Ideal S5120x3584 .fp8e4m3) (g u : Vec Ideal S3584x256 .fp8e4m3)
    (o : ℕ) (ho : o % 8 = 0) (inb : ∀ a, (![o, 0] : Fin 2 → ℕ) a + (![512, 3584] : Fin 2 → ℕ) a ≤ S5120x3584.size a)
    (acc : Vec Ideal S8x128 .f32) (r : Fin 8) (l : Fin 128) (B : EReal) :
    k0_pay10 (F := Ideal) s (View.ld X (Rect.unit (s := S5120x3584) ![o, 0] ![512, 3584] inb)) g u acc (ix2 r l) ≤ B
      ↔ acc (ix2 r l) ≤ B ∧ ∀ i : Fin 5120, o ≤ i.val → i.val < o + 512 → RowLe s X g u r l B i := by
  have ho' : o + 512 ≤ 5120 := inb 0
  rw [pay10_le]
  have e : ∀ (i : Fin 512) (j : Fin 256), hid s (View.ld X (Rect.unit (s := S5120x3584) ![o, 0] ![512, 3584] inb)) g u i j
      = hid s X g u ⟨o + i.val, by omega⟩ j := by
    intro i j
    unfold hid
    pointwise
  refine and_congr_right fun _ => ⟨fun h i h1 h2 j hi hj => ?_, fun h i j hi hj => ?_⟩
  · have := h ⟨i.val - o, by omega⟩ j (by simp only []; omega) hj
    rw [e] at this
    rwa [show (⟨o + (i.val - o), by omega⟩ : Fin 5120) = i from Fin.ext (by simp only []; omega)] at this
  · rw [e]
    exact h ⟨o + i.val, by omega⟩ (by simp) (by simp) j (by simp only []; omega) hj

/-- The running maximum over the 8 by 128 cells. -/
theorem pay1_le (v : Vec Ideal S8x128 .f32) (B : EReal) :
    k0_pay1 (F := Ideal) v ≤ B ↔ ∀ (r : Fin 8) (l : Fin 128), v (ix2 r l) ≤ B := by
  pointwise [k0_pay1]
  rw [Spec.fold_max_le]
  exact ⟨fun h r l => h (r, l), fun h p => h p.1 p.2⟩

/-- Value 13 of the body's text, in the form its siblings have. -/
theorem pay13 : k0_pay13 (F := Ideal) = k0_pay10 := rfl
/-- Value 34 of the body's text, in the form its siblings have. -/
theorem pay34 : k0_pay34 (F := Ideal) = k0_pay10 := rfl
/-- Value 38 of the body's text, in the form its siblings have. -/
theorem pay38 : k0_pay38 (F := Ideal) = k0_pay10 := rfl
/-- Value 41 of the body's text, in the form its siblings have. -/
theorem pay41 : k0_pay41 (F := Ideal) = k0_pay10 := rfl
/-- Value 5 of the body's text, in the form its siblings have. -/
theorem pay5 (a b : EReal) (x : Vec Ideal S512x3584 .fp8e4m3) (g u : Vec Ideal S3584x256 .fp8e4m3) (acc : Vec Ideal S8x128 .f32) :
    k0_pay5 (F := Ideal) a b x g u acc = k0_pay10 (k0_pay3 (F := Ideal) a b) x g u acc := rfl
/-- Value 17 of the body's text, in the form its siblings have. -/
theorem pay17 (s : EReal) (x : Vec Ideal S512x3584 .fp8e4m3) (g u : Vec Ideal S3584x256 .fp8e4m3) (acc : Vec Ideal S8x128 .f32) :
    k0_pay17 (F := Ideal) s x (k0_pay15 (F := Ideal) x g) u acc = k0_pay10 s x g u acc := rfl
/-- Value 23 of the body's text, in the form its siblings have. -/
theorem pay23 (s : EReal) (x : Vec Ideal S512x3584 .fp8e4m3) (g u : Vec Ideal S3584x256 .fp8e4m3) (acc : Vec Ideal S8x128 .f32) :
    k0_pay23 (F := Ideal) (k0_pay19 (F := Ideal) s x g) (k0_pay20 (F := Ideal) x u) (k0_pay21 (F := Ideal) s) acc = k0_pay10 s x g u acc := rfl
/-- Value 27 of the body's text, in the form its siblings have. -/
theorem pay27 (s : EReal) (x : Vec Ideal S512x3584 .fp8e4m3) (g u : Vec Ideal S3584x256 .fp8e4m3) (acc : Vec Ideal S8x128 .f32) :
    k0_pay27 (F := Ideal) acc (k0_pay26 (F := Ideal) s x g u) = k0_pay10 s x g u acc := rfl
/-- Value 31 of the body's text, in the form its siblings have. -/
theorem pay31 (s : EReal) (x : Vec Ideal S512x3584 .fp8e4m3) (g u : Vec Ideal S3584x256 .fp8e4m3) (acc : Vec Ideal S8x128 .f32) :
    k0_pay31 (F := Ideal) (k0_pay30 (F := Ideal) s x g u acc) = k0_pay10 s x g u acc := rfl

/-- Ten chunks are all rows. -/
theorem rows (P : Fin 5120 → Prop) (A : Prop) :
    ((((((((((A ∧ ∀ i : Fin 5120, 0 ≤ i.val → i.val < 0 + 512 → P i) ∧ ∀ i : Fin 5120, 512 ≤ i.val → i.val < 512 + 512 → P i)
      ∧ ∀ i : Fin 5120, 1024 ≤ i.val → i.val < 1024 + 512 → P i) ∧ ∀ i : Fin 5120, 1536 ≤ i.val → i.val < 1536 + 512 → P i)
      ∧ ∀ i : Fin 5120, 2048 ≤ i.val → i.val < 2048 + 512 → P i) ∧ ∀ i : Fin 5120, 2560 ≤ i.val → i.val < 2560 + 512 → P i)
      ∧ ∀ i : Fin 5120, 3072 ≤ i.val → i.val < 3072 + 512 → P i) ∧ ∀ i : Fin 5120, 3584 ≤ i.val → i.val < 3584 + 512 → P i)
      ∧ ∀ i : Fin 5120, 4096 ≤ i.val → i.val < 4096 + 512 → P i) ∧ ∀ i : Fin 5120, 4608 ≤ i.val → i.val < 4608 + 512 → P i)
    ↔ A ∧ ∀ i, P i := by
  constructor
  · rintro ⟨⟨⟨⟨⟨⟨⟨⟨⟨⟨ha, h0⟩, h1⟩, h2⟩, h3⟩, h4⟩, h5⟩, h6⟩, h7⟩, h8⟩, h9⟩
    refine ⟨ha, fun i => ?_⟩
    have hi := i.isLt
    rcases Nat.lt_or_ge i.val 512 with h | h; · exact h0 i (by omega) (by omega)
    rcases Nat.lt_or_ge i.val 1024 with h | h; · exact h1 i (by omega) (by omega)
    rcases Nat.lt_or_ge i.val 1536 with h | h; · exact h2 i (by omega) (by omega)
    rcases Nat.lt_or_ge i.val 2048 with h | h; · exact h3 i (by omega) (by omega)
    rcases Nat.lt_or_ge i.val 2560 with h | h; · exact h4 i (by omega) (by omega)
    rcases Nat.lt_or_ge i.val 3072 with h | h; · exact h5 i (by omega) (by omega)
    rcases Nat.lt_or_ge i.val 3584 with h | h; · exact h6 i (by omega) (by omega)
    rcases Nat.lt_or_ge i.val 4096 with h | h; · exact h7 i (by omega) (by omega)
    rcases Nat.lt_or_ge i.val 4608 with h | h; · exact h8 i (by omega) (by omega)
    exact h9 i (by omega) (by omega)
  · rintro ⟨ha, h⟩
    exact ⟨⟨⟨⟨⟨⟨⟨⟨⟨⟨ha, fun i _ _ => h i⟩, fun i _ _ => h i⟩, fun i _ _ => h i⟩, fun i _ _ => h i⟩, fun i _ _ => h i⟩,
      fun i _ _ => h i⟩, fun i _ _ => h i⟩, fun i _ _ => h i⟩, fun i _ _ => h i⟩, fun i _ _ => h i⟩

/-- The product of the two scales, as a point reads them. -/
def scale (c : Dev nD) (t : Fin cfg0.N) : EReal :=
  k0_pay3 (F := Ideal) (iblk m c 0 t (ix1 0)) (iblk m c 1 t (ix1 0))

/-- A scalar load reads its word. -/
theorem ld1 (v : Vec Ideal S1 .f32) (inb : ∀ a, (![0] : Fin 1 → ℕ) a + (![1] : Fin 1 → ℕ) a ≤ S1.size a) (h) :
    View.ld v (Rect.unit (s := S1) ![0] ![1] inb) (Shape.Idx.first h) = v (ix1 0) := by
  pointwise

/-- The running maxima start at zero. -/
theorem zero (r : Fin 8) (l : Fin 128) : k0_pay2 (F := Ideal) (ix2 r l) = 0 := by
  pointwise [k0_pay2]

/-- The running maxima after a point of case A: the point starts from zero. -/
theorem stepA (c : Dev nD) (t : Fin cfg0.N) (h0 : t.val % 111 = 0) (h1 : ¬t.val % 111 = 110) (r : Fin 8) (l : Fin 128) (B : EReal) :
    (outsAt0 m c t.val t.isLt).2.2 (ix2 r l) ≤ B ↔ (0 : EReal) ≤ B
      ∧ ∀ i, RowLe (scale m c t) (iblk m c 3 t) (iblk m c 4 t) (iblk m c 5 t) r l B i := by
  rw [outsAt0_A m c t h0 h1]
  frame_out
  simp only [pay5, pay13, pay17, pay23, pay27, pay31, pay34, pay38, pay41]
  rw [chunk_le _ _ _ _ 4608 (by decide), chunk_le _ _ _ _ 4096 (by decide), chunk_le _ _ _ _ 3584 (by decide),
    chunk_le _ _ _ _ 3072 (by decide), chunk_le _ _ _ _ 2560 (by decide), chunk_le _ _ _ _ 2048 (by decide),
    chunk_le _ _ _ _ 1536 (by decide), chunk_le _ _ _ _ 1024 (by decide), chunk_le _ _ _ _ 512 (by decide),
    chunk_le _ _ _ _ 0 (by decide), rows]
  rw [show k0_pay2 (F := Ideal) (ix2 r l) = 0 from zero r l]
  rw [ld1, ld1]
  exact Iff.rfl

/-- The running maxima after a point of case B: the point continues from the point before. -/
theorem stepB (c : Dev nD) (t : Fin cfg0.N) (h0 : ¬t.val % 111 = 0) (h1 : ¬t.val % 111 = 110) (r : Fin 8) (l : Fin 128) (B : EReal) :
    (outsAt0 m c t.val t.isLt).2.2 (ix2 r l) ≤ B ↔ (outsAt0 m c (t.val - 1) (Nat.lt_of_le_of_lt (Nat.sub_le _ _) t.isLt)).2.2 (ix2 r l) ≤ B
      ∧ ∀ i, RowLe (scale m c t) (iblk m c 3 t) (iblk m c 4 t) (iblk m c 5 t) r l B i := by
  rw [outsAt0_B m c t h0 h1]
  frame_out
  simp only [pay5, pay13, pay17, pay23, pay27, pay31, pay34, pay38, pay41]
  rw [chunk_le _ _ _ _ 4608 (by decide), chunk_le _ _ _ _ 4096 (by decide), chunk_le _ _ _ _ 3584 (by decide),
    chunk_le _ _ _ _ 3072 (by decide), chunk_le _ _ _ _ 2560 (by decide), chunk_le _ _ _ _ 2048 (by decide),
    chunk_le _ _ _ _ 1536 (by decide), chunk_le _ _ _ _ 1024 (by decide), chunk_le _ _ _ _ 512 (by decide),
    chunk_le _ _ _ _ 0 (by decide), rows]
  rw [(Memref.isWhole_whole _).read_unread]
  rw [ld1, ld1]
  exact Iff.rfl

/-- The running maxima after a point of case C: the point continues from the point before. -/
theorem stepC (c : Dev nD) (t : Fin cfg0.N) (h0 : ¬t.val % 111 = 0) (h1 : t.val % 111 = 110) (r : Fin 8) (l : Fin 128) (B : EReal) :
    (outsAt0 m c t.val t.isLt).2.2 (ix2 r l) ≤ B ↔ (outsAt0 m c (t.val - 1) (Nat.lt_of_le_of_lt (Nat.sub_le _ _) t.isLt)).2.2 (ix2 r l) ≤ B
      ∧ ∀ i, RowLe (scale m c t) (iblk m c 3 t) (iblk m c 4 t) (iblk m c 5 t) r l B i := by
  rw [outsAt0_C m c t h0 h1]
  frame_out
  simp only [pay5, pay13, pay17, pay23, pay27, pay31, pay34, pay38, pay41]
  rw [chunk_le _ _ _ _ 4608 (by decide), chunk_le _ _ _ _ 4096 (by decide), chunk_le _ _ _ _ 3584 (by decide),
    chunk_le _ _ _ _ 3072 (by decide), chunk_le _ _ _ _ 2560 (by decide), chunk_le _ _ _ _ 2048 (by decide),
    chunk_le _ _ _ _ 1536 (by decide), chunk_le _ _ _ _ 1024 (by decide), chunk_le _ _ _ _ 512 (by decide),
    chunk_le _ _ _ _ 0 (by decide), rows]
  rw [(Memref.isWhole_whole _).read_unread]
  rw [ld1, ld1]
  exact Iff.rfl

/-- The magnitude of the hidden value at an index is at most `B`, if the index lies on row `r` (modulo 8), lane `l` (modulo 128). -/
def CellLe (c : Dev nD) (r : Fin 8) (l : Fin 128) (B : EReal) (i : Fin 15360) (j : Fin 9472) : Prop :=
  i.val % 8 = r.val → j.val % 128 = l.val → Spec.mag (Spec.hidden (m ((c : Thread nD τ).loc main_arg0))
    (m ((c : Thread nD τ).loc main_arg1)) (m ((c : Thread nD τ).loc main_arg2)) (m ((c : Thread nD τ).loc main_arg4)) i j) ≤ B

/-- A point's hidden values are those of the whole arrays at the point's rows and columns. -/
theorem hid_blk (c : Dev nD) (t : Fin cfg0.N) (i : Fin 5120) (j : Fin 256) (I : Fin 15360) (J : Fin 9472)
    (hI : I.val = t.val / 37 * 5120 + i.val) (hJ : J.val = t.val % 37 * 256 + j.val) :
    hid (scale m c t) (iblk m c 3 t) (iblk m c 4 t) (iblk m c 5 t) i j
      = Spec.hidden (m ((c : Thread nD τ).loc main_arg0)) (m ((c : Thread nD τ).loc main_arg1))
        (m ((c : Thread nD τ).loc main_arg2)) (m ((c : Thread nD τ).loc main_arg4)) I J := by
  have hx : ∀ k : Fin 3584, iblk m c 3 t (ix2 i k) = m ((c : Thread nD τ).loc main_arg0) (ix2 I k) := by
    intro k
    blk_point [iblk, V, idx t]
  have hg : ∀ k : Fin 3584, iblk m c 4 t (ix2 k j) = m ((c : Thread nD τ).loc main_arg4) (ix2 k ⟨J.val, by omega⟩) := by
    intro k
    blk_point [iblk, V, idx t]
  have hu : ∀ k : Fin 3584, iblk m c 5 t (ix2 k j) = m ((c : Thread nD τ).loc main_arg4) (ix2 k ⟨9472 + J.val, by omega⟩) := by
    intro k
    blk_point [iblk, V, idx t]
  have h0 : iblk m c 0 t (ix1 0) = m ((c : Thread nD τ).loc main_arg1) (ix1 0) := by blk_point [iblk, V, idx t]
  have h1 : iblk m c 1 t (ix1 0) = m ((c : Thread nD τ).loc main_arg2) (ix1 0) := by blk_point [iblk, V, idx t]
  unfold hid scale Spec.hidden
  rw [h0, h1]
  simp only [hx, hg, hu]
  rfl

/-- A point's part of the bound, over the whole arrays' indices. -/
theorem part (c : Dev nD) (t : Fin cfg0.N) (r : Fin 8) (l : Fin 128) (B : EReal) :
    (∀ i, RowLe (scale m c t) (iblk m c 3 t) (iblk m c 4 t) (iblk m c 5 t) r l B i)
      ↔ ∀ (I : Fin 15360) (J : Fin 9472), I.val / 5120 * 37 + J.val / 256 = t.val → CellLe m c r l B I J := by
  have ht : t.val < 111 := t.isLt
  constructor
  · intro h I J hIJ hI hJ
    have hI' := I.isLt
    have hJ' := J.isLt
    have := h ⟨I.val % 5120, by omega⟩ ⟨J.val % 256, by omega⟩ (by simp only []; omega) (by simp only []; omega)
    rwa [hid_blk m c t _ _ I J (by simp only []; omega) (by simp only []; omega)] at this
  · intro h i j hi hj
    have hi' := i.isLt
    have hj' := j.isLt
    have := h ⟨t.val / 37 * 5120 + i.val, by omega⟩ ⟨t.val % 37 * 256 + j.val, by omega⟩ (by simp only []; omega)
      (by simp only []; omega) (by simp only []; omega)
    rwa [← hid_blk m c t i j _ _ rfl rfl] at this

/-- The running maxima after point `n`: the largest magnitudes of the columns and rows the points up to `n` hold. -/
theorem upto (c : Dev nD) (r : Fin 8) (l : Fin 128) (B : EReal) : ∀ (n : ℕ) (hn : n < cfg0.N),
    (outsAt0 m c n hn).2.2 (ix2 r l) ≤ B ↔ 0 ≤ B
      ∧ ∀ (I : Fin 15360) (J : Fin 9472), I.val / 5120 * 37 + J.val / 256 ≤ n → CellLe m c r l B I J
  | 0, hn => by
    rw [stepA m c ⟨0, hn⟩ rfl (by show ¬0 % 111 = 110; decide) r l B, part]
    exact and_congr_right fun _ => forall₂_congr fun I J => by rw [Nat.le_zero]
  | n + 1, hn => by
    have hn' : n + 1 < 111 := hn
    have key : (outsAt0 m c (n + 1) hn).2.2 (ix2 r l) ≤ B ↔ (outsAt0 m c n (Nat.lt_of_succ_lt hn)).2.2 (ix2 r l) ≤ B
        ∧ ∀ i, RowLe (scale m c ⟨n + 1, hn⟩) (iblk m c 3 ⟨n + 1, hn⟩) (iblk m c 4 ⟨n + 1, hn⟩) (iblk m c 5 ⟨n + 1, hn⟩) r l B i := by
      by_cases h : (n + 1) % 111 = 110
      · exact stepC m c ⟨n + 1, hn⟩ (by simp only []; omega) h r l B
      · exact stepB m c ⟨n + 1, hn⟩ (by simp only []; omega) h r l B
    rw [key, upto c r l B n, part, and_assoc]
    refine and_congr_right fun _ => ⟨fun ⟨h1, h2⟩ I J hIJ => ?_, fun h => ⟨fun I J hIJ => h I J (by omega), fun I J hIJ => h I J hIJ.le⟩⟩
    rcases Nat.lt_or_ge n (I.val / 5120 * 37 + J.val / 256) with h | h
    · exact h2 I J (by simp only []; omega)
    · exact h1 I J h

/-- The last point stores the largest of the running maxima. -/
theorem last (c : Dev nD) (t : Fin cfg0.N) (h0 : ¬t.val % 111 = 0) (h1 : t.val % 111 = 110) (y : S1.Idx) :
    (outsAt0 m c t.val t.isLt).2.1 y = k0_pay1 (F := Ideal) (outsAt0 m c t.val t.isLt).2.2 := by
  rw [outsAt0_C m c t h0 h1]
  frame_out

/-- The amax after the run. -/
theorem amax (c : Dev nD) : (dats m 0 c).arrAt 7 (cfgs 0).N
    = Spec.guAmax (m ((c : Thread nD τ).loc main_arg0)) (m ((c : Thread nD τ).loc main_arg1))
        (m ((c : Thread nD τ).loc main_arg2)) (m ((c : Thread nD τ).loc main_arg4)) := by
  refine (dats m 0 c).arrAt_eq_of_covers 7 _ (by decide +kernel) fun t hf y => ?_
  blk_simp
  have h1 : t.val % 111 = 110 := (flush0_7 t).1 hf
  have ht : t.val < 111 := t.isLt
  rw [after0_7]
  refine (last m c t (by omega) h1 y).trans ?_
  unfold Spec.guAmax
  refine eq_of_forall_ge_iff fun B => ?_
  rw [pay1_le]
  simp only [iSup_le_iff]
  constructor
  · intro h I J
    exact ((upto m c ⟨I.val % 8, by omega⟩ ⟨J.val % 128, by omega⟩ B _ _).1 (h _ _)).2 I J (by have := I.isLt; have := J.isLt; omega) rfl rfl
  · intro h r l
    exact (upto m c r l B _ _).2 ⟨(Spec.mag_nonneg _).trans (h 0 0), fun I J _ _ _ => h I J⟩

end Cert.GuIdeal.Sem

end
-- ==== Proof.GuRef.lean ====
/-
  The gated unit, reference side: the result arrays after the run are `Spec.guCodes` and `Spec.guAmax` of the arguments.
-/
module

public import proofs.«01_k».proof.Proof.Spec
public import proofs.«01_k».proof.Proof.Gen.GuRefIdeal.Value

@[expose] public section

set_option maxRecDepth 16384

noncomputable section

open Idealize.ShloMosaic Idealize.ShloMosaic.TcCoe Idealize.SL.Sem
open Idealize.ShloMosaic.Pipeline (Dat)

namespace Cert.GuRefIdeal.Sem

open Cert.GuRefIdeal Cert.GuRefIdeal.Gen

variable (m : (ℓ : Loc nD τ sig) → Buf (Elt Ideal) ℓ)

/-- The block index of every window at the one grid point. -/
theorem idx : ∀ t : Fin cfg0.N, win0_0.index t = ![0] ∧ win0_1.index t = ![0] ∧ win0_2.index t = ![0]
    ∧ win0_3.index t = ![0, 0] ∧ win0_4.index t = ![0, 0] ∧ win0_5.index t = ![0, 0] ∧ win0_6.index t = ![0] :=
  (by decide +kernel : ∀ t : Fin grid0.N, _)

/-- The first payload is the hidden value. -/
theorem hid (x : Vec Ideal S15360x3584 .fp8e4m3) (w : Vec Ideal S3584x18944 .fp8e4m3) (xs ws : Vec Ideal S1 .f32)
    (i : Fin 15360) (j : Fin 9472) :
    k0_pay1 (F := Ideal) x w (xs (ix1 0)) (ws (ix1 0)) (ix2 i j) = Spec.hidden x xs ws w i j := by
  pointwise [k0_pay1, Spec.hidden, Spec.lin, Spec.act]
  all_goals blk_point []

/-- The amax payload is the largest magnitude. -/
theorem pay3 (x : Vec Ideal S15360x3584 .fp8e4m3) (w : Vec Ideal S3584x18944 .fp8e4m3) (xs ws : Vec Ideal S1 .f32) :
    k0_pay3 (F := Ideal) x w (xs (ix1 0)) (ws (ix1 0)) = Spec.guAmax x xs ws w (ix1 0) := by
  pointwise [k0_pay3, Spec.guAmax]
  refine eq_of_forall_ge_iff fun B => ?_
  rw [Spec.fold_max_le]
  simp only [iSup_le_iff]
  exact ⟨fun h i j => hid x w xs ws i j ▸ h (i, j), fun h p => (hid x w xs ws p.1 p.2).symm ▸ h p.1 p.2⟩

/-- What the body leaves in the outputs' buffers, over the input blocks: the codes. -/
theorem out_A5 (c : Dev nD) (a0 : Memref sig .tc .smem S1 .f32) (h0 : a0.IsWhole) (a1 : Memref sig .tc .smem S1 .f32) (h1 : a1.IsWhole)
    (a2 : Memref sig .tc .smem S1 .f32) (h2 : a2.IsWhole) (a3 : Memref sig .tc .vmem S15360x3584 .fp8e4m3) (h3 : a3.IsWhole)
    (a4 : Memref sig .tc .vmem S3584x18944 .fp8e4m3) (h4 : a4.IsWhole) (a5 : Memref sig .tc .vmem S15360x9472 .fp8e4m3) (h5 : a5.IsWhole)
    (a6 : Memref sig .tc .smem S1 .f32) (h6 : a6.IsWhole)
    (x0 x1 x2 : Vec Ideal S1 .f32) (x3 : Vec Ideal S15360x3584 .fp8e4m3) (x4 : Vec Ideal S3584x18944 .fp8e4m3) :
    out0_A_5 c a0 h0 a1 h1 a2 h2 a3 h3 a4 h4 a5 h5 a6 h6 x0 x1 x2 x3 x4 = Spec.guCodes x3 x0 x1 x2 x4 := by
  frame_out
  funext y
  pointwise [k0_pay2, k0_pay1, Spec.guCodes, Spec.code, Spec.hidden, Spec.lin, Spec.act]
  all_goals (try blk_point [])

/-- … and the amax. -/
theorem out_A6 (c : Dev nD) (a0 : Memref sig .tc .smem S1 .f32) (h0 : a0.IsWhole) (a1 : Memref sig .tc .smem S1 .f32) (h1 : a1.IsWhole)
    (a2 : Memref sig .tc .smem S1 .f32) (h2 : a2.IsWhole) (a3 : Memref sig .tc .vmem S15360x3584 .fp8e4m3) (h3 : a3.IsWhole)
    (a4 : Memref sig .tc .vmem S3584x18944 .fp8e4m3) (h4 : a4.IsWhole) (a5 : Memref sig .tc .vmem S15360x9472 .fp8e4m3) (h5 : a5.IsWhole)
    (a6 : Memref sig .tc .smem S1 .f32) (h6 : a6.IsWhole)
    (x0 x1 x2 : Vec Ideal S1 .f32) (x3 : Vec Ideal S15360x3584 .fp8e4m3) (x4 : Vec Ideal S3584x18944 .fp8e4m3) :
    out0_A_6 c a0 h0 a1 h1 a2 h2 a3 h3 a4 h4 a5 h5 a6 h6 x0 x1 x2 x3 x4 = Spec.guAmax x3 x0 x1 x4 := by
  frame_out
  funext y
  pointwise
  exact pay3 x3 x4 x0 x1

/-- Every input block is its array. -/
theorem blk0 (c : Dev nD) (t : Fin cfg0.N) : iblk m c 0 t = m ((c : Thread nD τ).loc main_arg1) := by blk_ext! [iblk, V, idx t]
/-- The block of window 1 at a grid point, read off the argument it is cut from. -/
theorem blk1 (c : Dev nD) (t : Fin cfg0.N) : iblk m c 1 t = m ((c : Thread nD τ).loc main_arg2) := by blk_ext! [iblk, V, idx t]
/-- The block of window 2 at a grid point, read off the argument it is cut from. -/
theorem blk2 (c : Dev nD) (t : Fin cfg0.N) : iblk m c 2 t = m ((c : Thread nD τ).loc main_arg3) := by blk_ext! [iblk, V, idx t]
/-- The block of window 3 at a grid point, read off the argument it is cut from. -/
theorem blk3 (c : Dev nD) (t : Fin cfg0.N) : iblk m c 3 t = m ((c : Thread nD τ).loc main_arg0) := by blk_ext! [iblk, V, idx t]
/-- The block of window 4 at a grid point, read off the argument it is cut from. -/
theorem blk4 (c : Dev nD) (t : Fin cfg0.N) : iblk m c 4 t = m ((c : Thread nD τ).loc main_arg4) := by blk_ext! [iblk, V, idx t]

/-- The codes array after the run. -/
theorem codes (c : Dev nD) : (dats m 0 c).arrAt 5 (cfgs 0).N
    = Spec.guCodes (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; unfold outsAt0
  dsimp only
  rw [out_A5, blk0, blk1, blk2, blk3, blk4]
  blk_ext [idx t]

/-- The amax after the run. -/
theorem amax (c : Dev nD) : (dats m 0 c).arrAt 6 (cfgs 0).N
    = Spec.guAmax (m ((c : Thread nD τ).loc main_arg0)) (m ((c : Thread nD τ).loc main_arg1))
        (m ((c : Thread nD τ).loc main_arg2)) (m ((c : Thread nD τ).loc main_arg4)) := by
  refine (dats m 0 c).arrAt_eq_of_covers 6 _ (by decide +kernel) fun t _ y => ?_
  blk_simp
  rw [after0_6]; unfold outsAt0
  dsimp only
  rw [out_A6, blk0, blk1, blk3, blk4]
  rfl

end Cert.GuRefIdeal.Sem

end
-- ==== Proof.DownKernel.lean ====
/-
  The second projection, kernel side: the result array after the run is `Spec.down` of the arguments.
-/
module

public import proofs.«01_k».proof.Proof.Spec
public import proofs.«01_k».proof.Proof.Gen.DownIdeal.Value

@[expose] public section

set_option maxRecDepth 16384

noncomputable section

open Idealize.ShloMosaic Idealize.ShloMosaic.TcCoe Idealize.SL.Sem
open Idealize.ShloMosaic.Pipeline (Dat)

namespace Cert.DownIdeal.Sem

open Cert.DownIdeal Cert.DownIdeal.Gen

variable (m : (ℓ : Loc nD τ sig) → Buf (Elt Ideal) ℓ)

/-- The block index of every window at every grid point. -/
theorem idx : ∀ t : Fin cfg0.N, win0_0.index t = ![0] ∧ win0_1.index t = ![0] ∧ win0_2.index t = ![t.val, 0]
    ∧ win0_3.index t = ![t.val, 0] ∧ win0_4.index t = ![0, 0] ∧ win0_5.index t = ![t.val, 0] :=
  (by decide +kernel : ∀ t : Fin grid0.N, _)

/-- The result array after the run. -/
theorem final (c : Dev nD) : (dats m 0 c).arrAt 5 (cfgs 0).N
    = Spec.down (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; unfold outsAt0; frame_out
  canon_tiles x h
  all_goals (open_payloads; pointwise [Spec.down]; blk_point [iblk, V, idx t])

end Cert.DownIdeal.Sem

end
-- ==== Proof.DownRef.lean ====
/-
  The second projection, reference side: the result array after the run is `Spec.down` of the arguments.
-/
module

public import proofs.«01_k».proof.Proof.Spec
public import proofs.«01_k».proof.Proof.Gen.DownRefIdeal.Value

@[expose] public section

set_option maxRecDepth 16384

noncomputable section

open Idealize.ShloMosaic Idealize.ShloMosaic.TcCoe Idealize.SL.Sem
open Idealize.ShloMosaic.Pipeline (Dat)

namespace Cert.DownRefIdeal.Sem

open Cert.DownRefIdeal Cert.DownRefIdeal.Gen

variable (m : (ℓ : Loc nD τ sig) → Buf (Elt Ideal) ℓ)

/-- The block index of every window at the one grid point. -/
theorem idx : ∀ t : Fin cfg0.N, win0_0.index t = ![0] ∧ win0_1.index t = ![0] ∧ win0_2.index t = ![0, 0]
    ∧ win0_3.index t = ![0, 0] ∧ win0_4.index t = ![0, 0] ∧ win0_5.index t = ![0, 0] :=
  (by decide +kernel : ∀ t : Fin grid0.N, _)

/-- What the body leaves in the output's buffer, over the input blocks. -/
theorem out_A (c : Dev nD) (a0 : Memref sig .tc .smem S1 .f32) (h0 : a0.IsWhole) (a1 : Memref sig .tc .smem S1 .f32) (h1 : a1.IsWhole)
    (a2 : Memref sig .tc .vmem S15360x9472 .fp8e4m3) (h2 : a2.IsWhole) (a3 : Memref sig .tc .vmem S15360x3584 .f32) (h3 : a3.IsWhole)
    (a4 : Memref sig .tc .vmem S9472x3584 .fp8e4m3) (h4 : a4.IsWhole) (a5 : Memref sig .tc .vmem S15360x3584 .bf16) (h5 : a5.IsWhole)
    (x0 x1 : Vec Ideal S1 .f32) (x2 : Vec Ideal S15360x9472 .fp8e4m3) (x3 : Vec Ideal S15360x3584 .f32) (x4 : Vec Ideal S9472x3584 .fp8e4m3) :
    out0_A_5 c a0 h0 a1 h1 a2 h2 a3 h3 a4 h4 a5 h5 x0 x1 x2 x3 x4 = Spec.down x2 x3 x0 x1 x4 := by
  frame_out
  funext y
  pointwise [k0_pay1, Spec.down]
  all_goals (try blk_point [])

/-- The result array after the run. -/
theorem final (c : Dev nD) : (dats m 0 c).arrAt 5 (cfgs 0).N
    = Spec.down (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; unfold outsAt0
  rw [out_A]
  unfold Spec.down
  blk_point [iblk, V, idx t]

end Cert.DownRefIdeal.Sem

end
-- ==== Proof.OprojHid.lean ====
/-
  The output projection, kernel side: the hidden states after the run are `Spec.opHid` of the arguments.
-/
module

public import proofs.«01_k».proof.Proof.Spec
public import proofs.«01_k».proof.Proof.Gen.OprojIdeal.Value

@[expose] public section

set_option maxRecDepth 16384

noncomputable section

open Idealize.ShloMosaic Idealize.ShloMosaic.TcCoe Idealize.SL.Sem
open Idealize.ShloMosaic.Pipeline (Dat)

namespace Cert.OprojIdeal.Sem

open Cert.OprojIdeal Cert.OprojIdeal.Gen

variable (m : (ℓ : Loc nD τ sig) → Buf (Elt Ideal) ℓ)

/-- The block index of every window at every grid point. -/
theorem idx : ∀ t : Fin cfg0.N, win0_0.index t = ![0] ∧ win0_1.index t = ![0] ∧ win0_2.index t = ![0]
    ∧ win0_3.index t = ![t.val, 0] ∧ win0_4.index t = ![t.val, 0] ∧ win0_5.index t = ![0, 0] ∧ win0_6.index t = ![0, 0]
    ∧ win0_7.index t = ![t.val, 0] ∧ win0_8.index t = ![t.val, 0] ∧ win0_9.index t = ![0] :=
  (by decide +kernel : ∀ t : Fin grid0.N, _)

/-- The hidden states of the arguments. -/
def H1 (c : Dev nD) : FVec Ideal ⟨2, ![15360, 3584]⟩ .f32 :=
  Spec.opHid (m ((c : Thread nD τ).loc main_arg0)) (m ((c : Thread nD τ).loc main_arg1))
    (m ((c : Thread nD τ).loc main_arg3)) (m ((c : Thread nD τ).loc main_arg4)) (m ((c : Thread nD τ).loc main_arg6))

/-- What a point leaves in the hidden states' buffer, at a block index: the hidden state at the array index it sits at. The
    three cases of the body (first point, last point, the points between) store the same. -/
theorem point (c : Dev nD) (t : Fin cfg0.N) (y : S256x3584.Idx) :
    (outsAt0 m c t.val t.isLt).1 y = H1 m c (((cfg0.win 7).blk t).view.emb y) := by
  have key : ∃ v : Vec Ideal S256x3584 .f32,
      ((t.val % 60 = 0 → ¬t.val % 60 = 59 → (outsAt0 m c t.val t.isLt).1 y = v y)
      ∧ (¬t.val % 60 = 0 → ¬t.val % 60 = 59 → (outsAt0 m c t.val t.isLt).1 y = v y)
      ∧ (¬t.val % 60 = 0 → t.val % 60 = 59 → (outsAt0 m c t.val t.isLt).1 y = v y))
      ∧ v y = H1 m c (((cfg0.win 7).blk t).view.emb y) := by
    refine ⟨?v, ⟨fun h0 h1 => ?a, fun h0 h1 => ?b, fun h0 h1 => ?c⟩, ?d⟩
    case a => rw [outsAt0_A m c t h0 h1]; frame_out; exact rfl
    case b => rw [outsAt0_B m c t h0 h1]; frame_out
    case c => rw [outsAt0_C m c t h0 h1]; frame_out
    case d =>
      canon_tiles x h
      all_goals
        open_payloads
        pointwise [H1, Spec.opHid, Spec.lin]
        blk_point [iblk, V, idx t]
  obtain ⟨v, ⟨hA, hB, hC⟩, hv⟩ := key
  refine Eq.trans ?_ hv
  by_cases h0 : t.val % 60 = 0
  · exact hA h0 (by omega)
  · by_cases h1 : t.val % 60 = 59
    · exact hC h0 h1
    · exact hB h0 h1

/-- The hidden states after the run. -/
theorem hid (c : Dev nD) : (dats m 0 c).arrAt 7 (cfgs 0).N = H1 m c := by
  refine (dats m 0 c).arrAt_eq_of_covers 7 _ (by decide +kernel) fun t _ y => ?_
  blk_simp
  rw [after0_7]
  exact point m c t y

end Cert.OprojIdeal.Sem

end
-- ==== Proof.OprojRows.lean ====
/-
  The output projection, kernel side: what one group of 32 rows stores, its norm and its update of the running maxima. The
  groups' texts differ, and each comes to the same.
-/
module

public import proofs.«01_k».proof.Proof.Spec
public import proofs.«01_k».proof.Proof.Gen.OprojIdeal.Value

@[expose] public section

set_option maxRecDepth 16384

noncomputable section

open Idealize.ShloMosaic Idealize.ShloMosaic.TcCoe Idealize.SL.Sem
open Idealize.ShloMosaic.Pipeline (Dat)

namespace Cert.OprojIdeal.Sem

open Cert.OprojIdeal Cert.OprojIdeal.Gen

variable (m : (ℓ : Loc nD τ sig) → Buf (Elt Ideal) ℓ)

/-- A group of 32 rows, normed: the payload every group's text comes to. -/
def norm32 (g : Vec Ideal S1x3584 .f32) (v : Vec Ideal S32x3584 .f32) : FVec Ideal S32x3584 .f32 := k0_pay54 (F := Ideal) (k0_pay15 (F := Ideal) g) v

/-- A group's update of the running maxima: the payload every group's text comes to. -/
def group (g : Vec Ideal S1x3584 .f32) (v : Vec Ideal S32x3584 .f32) (acc : Vec Ideal S8x128 .f32) : FVec Ideal S8x128 .f32 :=
  k0_pay56 (F := Ideal) acc (k0_pay55 (F := Ideal) (k0_pay15 (F := Ideal) g) v)

/-- Value 16 of the body's text, in the form its siblings have. -/
theorem pay16 (g : Vec Ideal S1x3584 .f32) (v : Vec Ideal S32x3584 .f32) :
    k0_pay16 (F := Ideal) g v = norm32 g v := rfl
/-- Value 25 of the body's text, in the form its siblings have. -/
theorem pay25 (g : Vec Ideal S1x3584 .f32) (v : Vec Ideal S32x3584 .f32) :
    k0_pay25 (F := Ideal) (k0_pay15 (F := Ideal) g) v = norm32 g v := rfl
/-- Value 54 of the body's text, in the form its siblings have. -/
theorem pay54 (g : Vec Ideal S1x3584 .f32) (v : Vec Ideal S32x3584 .f32) :
    k0_pay54 (F := Ideal) (k0_pay15 (F := Ideal) g) v = norm32 g v := rfl
/-- Value 59 of the body's text, in the form its siblings have. -/
theorem pay59 (g : Vec Ideal S1x3584 .f32) (v : Vec Ideal S32x3584 .f32) :
    k0_pay59 (F := Ideal) (k0_pay15 (F := Ideal) g) v = norm32 g v := rfl
/-- Value 92 of the body's text, in the form its siblings have. -/
theorem pay92 (g : Vec Ideal S1x3584 .f32) (v : Vec Ideal S32x3584 .f32) :
    k0_pay92 (F := Ideal) (k0_pay90 (F := Ideal) v) (k0_pay91 (F := Ideal) (k0_pay15 (F := Ideal) g)) = norm32 g v := rfl
/-- Value 96 of the body's text, in the form its siblings have. -/
theorem pay96 (g : Vec Ideal S1x3584 .f32) (v : Vec Ideal S32x3584 .f32) :
    k0_pay96 (F := Ideal) (k0_pay15 (F := Ideal) g) v = norm32 g v := rfl
/-- Value 125 of the body's text, in the form its siblings have. -/
theorem pay125 (g : Vec Ideal S1x3584 .f32) (v : Vec Ideal S32x3584 .f32) :
    k0_pay125 (F := Ideal) (k0_pay15 (F := Ideal) g) (k0_pay123 (F := Ideal) v) (k0_pay124 (F := Ideal) v) = norm32 g v := rfl
/-- Value 134 of the body's text, in the form its siblings have. -/
theorem pay134 (g : Vec Ideal S1x3584 .f32) (v : Vec Ideal S32x3584 .f32) :
    k0_pay134 (F := Ideal) (k0_pay15 (F := Ideal) g) v = norm32 g v := rfl
/-- Value 21 of the body's text, in the form its siblings have. -/
theorem pay21 (g : Vec Ideal S1x3584 .f32) (v : Vec Ideal S32x3584 .f32) (acc : Vec Ideal S8x128 .f32) :
    k0_pay21 (F := Ideal) acc (k0_pay17 (F := Ideal) g v) (k0_pay18 (F := Ideal) g v) (k0_pay19 (F := Ideal) g
      v) (k0_pay20 (F := Ideal) g v)
      = group g v acc := rfl
/-- Value 52 of the body's text, in the form its siblings have. -/
theorem pay52 (g : Vec Ideal S1x3584 .f32) (v : Vec Ideal S32x3584 .f32) (acc : Vec Ideal S8x128 .f32) :
    k0_pay52 (F := Ideal) acc (k0_pay27 (F := Ideal) (k0_pay15 (F := Ideal) g) v) (k0_pay28 (F := Ideal)
      (k0_pay15 (F := Ideal) g) v) (k0_pay29 (F := Ideal) (k0_pay15 (F := Ideal) g) v) (k0_pay30 (F := Ideal)
      (k0_pay15 (F := Ideal) g) v) (k0_pay31 (F := Ideal) (k0_pay15 (F := Ideal) g) v) (k0_pay32 (F := Ideal)
      (k0_pay15 (F := Ideal) g) v) (k0_pay33 (F := Ideal) (k0_pay15 (F := Ideal) g) v) (k0_pay34 (F := Ideal)
      (k0_pay15 (F := Ideal) g) v) (k0_pay35 (F := Ideal) (k0_pay15 (F := Ideal) g) v) (k0_pay36 (F := Ideal)
      (k0_pay15 (F := Ideal) g) v) (k0_pay37 (F := Ideal) (k0_pay15 (F := Ideal) g) v) (k0_pay38 (F := Ideal)
      (k0_pay15 (F := Ideal) g) v) (k0_pay39 (F := Ideal) (k0_pay15 (F := Ideal) g) v) (k0_pay40 (F := Ideal)
      (k0_pay15 (F := Ideal) g) v) (k0_pay41 (F := Ideal) (k0_pay15 (F := Ideal) g) v) (k0_pay42 (F := Ideal)
      (k0_pay15 (F := Ideal) g) v) (k0_pay43 (F := Ideal) (k0_pay15 (F := Ideal) g) v) (k0_pay44 (F := Ideal)
      (k0_pay15 (F := Ideal) g) v) (k0_pay45 (F := Ideal) (k0_pay15 (F := Ideal) g) v) (k0_pay46 (F := Ideal)
      (k0_pay15 (F := Ideal) g) v) (k0_pay47 (F := Ideal) (k0_pay15 (F := Ideal) g) v) (k0_pay48 (F := Ideal)
      (k0_pay15 (F := Ideal) g) v) (k0_pay49 (F := Ideal) (k0_pay15 (F := Ideal) g) v) (k0_pay50 (F := Ideal)
      (k0_pay15 (F := Ideal) g) v) (k0_pay51 (F := Ideal) (k0_pay15 (F := Ideal) g) v)
      = group g v acc := rfl
/-- Value 56 of the body's text, in the form its siblings have. -/
theorem pay56 (g : Vec Ideal S1x3584 .f32) (v : Vec Ideal S32x3584 .f32) (acc : Vec Ideal S8x128 .f32) :
    k0_pay56 (F := Ideal) acc (k0_pay55 (F := Ideal) (k0_pay15 (F := Ideal) g) v)
      = group g v acc := rfl
/-- Value 88 of the body's text, in the form its siblings have. -/
theorem pay88 (g : Vec Ideal S1x3584 .f32) (v : Vec Ideal S32x3584 .f32) (acc : Vec Ideal S8x128 .f32) :
    k0_pay88 (F := Ideal) acc (k0_pay60 (F := Ideal) (k0_pay15 (F := Ideal) g) v) (k0_pay61 (F := Ideal)
      (k0_pay15 (F := Ideal) g) v) (k0_pay62 (F := Ideal) (k0_pay15 (F := Ideal) g) v) (k0_pay63 (F := Ideal)
      (k0_pay15 (F := Ideal) g) v) (k0_pay64 (F := Ideal) (k0_pay15 (F := Ideal) g) v) (k0_pay65 (F := Ideal)
      (k0_pay15 (F := Ideal) g) v) (k0_pay66 (F := Ideal) (k0_pay15 (F := Ideal) g) v) (k0_pay67 (F := Ideal)
      (k0_pay15 (F := Ideal) g) v) (k0_pay68 (F := Ideal) (k0_pay15 (F := Ideal) g) v) (k0_pay69 (F := Ideal)
      (k0_pay15 (F := Ideal) g) v) (k0_pay70 (F := Ideal) (k0_pay15 (F := Ideal) g) v) (k0_pay71 (F := Ideal)
      (k0_pay15 (F := Ideal) g) v) (k0_pay72 (F := Ideal) (k0_pay15 (F := Ideal) g) v) (k0_pay73 (F := Ideal)
      (k0_pay15 (F := Ideal) g) v) (k0_pay74 (F := Ideal) (k0_pay15 (F := Ideal) g) v) (k0_pay75 (F := Ideal)
      (k0_pay15 (F := Ideal) g) v) (k0_pay76 (F := Ideal) (k0_pay15 (F := Ideal) g) v) (k0_pay77 (F := Ideal)
      (k0_pay15 (F := Ideal) g) v) (k0_pay78 (F := Ideal) (k0_pay15 (F := Ideal) g) v) (k0_pay79 (F := Ideal)
      (k0_pay15 (F := Ideal) g) v) (k0_pay80 (F := Ideal) (k0_pay15 (F := Ideal) g) v) (k0_pay81 (F := Ideal)
      (k0_pay15 (F := Ideal) g) v) (k0_pay82 (F := Ideal) (k0_pay15 (F := Ideal) g) v) (k0_pay83 (F := Ideal)
      (k0_pay15 (F := Ideal) g) v) (k0_pay84 (F := Ideal) (k0_pay15 (F := Ideal) g) v) (k0_pay85 (F := Ideal)
      (k0_pay15 (F := Ideal) g) v) (k0_pay86 (F := Ideal) (k0_pay15 (F := Ideal) g) v) (k0_pay87 (F := Ideal)
      (k0_pay15 (F := Ideal) g) v)
      = group g v acc := rfl
/-- Value 94 of the body's text, in the form its siblings have. -/
theorem pay94 (g : Vec Ideal S1x3584 .f32) (v : Vec Ideal S32x3584 .f32) (acc : Vec Ideal S8x128 .f32) :
    k0_pay94 (F := Ideal) acc (k0_pay93 (F := Ideal) (k0_pay90 (F := Ideal) v) (k0_pay91 (F := Ideal)
      (k0_pay15 (F := Ideal) g)))
      = group g v acc := rfl
/-- Value 121 of the body's text, in the form its siblings have. -/
theorem pay121 (g : Vec Ideal S1x3584 .f32) (v : Vec Ideal S32x3584 .f32) (acc : Vec Ideal S8x128 .f32) :
    k0_pay121 (F := Ideal) acc (k0_pay97 (F := Ideal) (k0_pay15 (F := Ideal) g) v) (k0_pay98 (F := Ideal)
      (k0_pay15 (F := Ideal) g) v) (k0_pay99 (F := Ideal) (k0_pay15 (F := Ideal) g) v) (k0_pay100 (F := Ideal)
      (k0_pay15 (F := Ideal) g) v) (k0_pay101 (F := Ideal) (k0_pay15 (F := Ideal) g) v) (k0_pay102 (F :=
      Ideal) (k0_pay15 (F := Ideal) g) v) (k0_pay103 (F := Ideal) (k0_pay15 (F := Ideal) g) v) (k0_pay104 (F
      := Ideal) (k0_pay15 (F := Ideal) g) v) (k0_pay105 (F := Ideal) (k0_pay15 (F := Ideal) g) v) (k0_pay106
      (F := Ideal) (k0_pay15 (F := Ideal) g) v) (k0_pay107 (F := Ideal) (k0_pay15 (F := Ideal) g) v)
      (k0_pay108 (F := Ideal) (k0_pay15 (F := Ideal) g) v) (k0_pay109 (F := Ideal) (k0_pay15 (F := Ideal) g)
      v) (k0_pay110 (F := Ideal) (k0_pay15 (F := Ideal) g) v) (k0_pay111 (F := Ideal) (k0_pay15 (F := Ideal)
      g) v) (k0_pay112 (F := Ideal) (k0_pay15 (F := Ideal) g) v) (k0_pay113 (F := Ideal) (k0_pay15 (F :=
      Ideal) g) v) (k0_pay114 (F := Ideal) (k0_pay15 (F := Ideal) g) v) (k0_pay115 (F := Ideal) (k0_pay15 (F
      := Ideal) g) v) (k0_pay116 (F := Ideal) (k0_pay15 (F := Ideal) g) v) (k0_pay117 (F := Ideal) (k0_pay15
      (F := Ideal) g) v) (k0_pay118 (F := Ideal) (k0_pay15 (F := Ideal) g) v) (k0_pay119 (F := Ideal)
      (k0_pay15 (F := Ideal) g) v) (k0_pay120 (F := Ideal) (k0_pay15 (F := Ideal) g) v)
      = group g v acc := rfl
/-- Value 132 of the body's text, in the form its siblings have. -/
theorem pay132 (g : Vec Ideal S1x3584 .f32) (v : Vec Ideal S32x3584 .f32) (acc : Vec Ideal S8x128 .f32) :
    k0_pay132 (F := Ideal) acc (k0_pay127 (F := Ideal) (k0_pay15 (F := Ideal) g) (k0_pay123 (F := Ideal) v)
      (k0_pay124 (F := Ideal) v)) (k0_pay128 (F := Ideal) (k0_pay15 (F := Ideal) g) (k0_pay123 (F := Ideal) v)
      (k0_pay124 (F := Ideal) v)) (k0_pay129 (F := Ideal) (k0_pay15 (F := Ideal) g) (k0_pay123 (F := Ideal) v)
      (k0_pay124 (F := Ideal) v)) (k0_pay130 (F := Ideal) (k0_pay15 (F := Ideal) g) (k0_pay123 (F := Ideal) v)
      (k0_pay124 (F := Ideal) v)) (k0_pay131 (F := Ideal) (k0_pay15 (F := Ideal) g) (k0_pay123 (F := Ideal) v)
      (k0_pay124 (F := Ideal) v))
      = group g v acc := rfl
/-- Value 156 of the body's text, in the form its siblings have. -/
theorem pay156 (g : Vec Ideal S1x3584 .f32) (v : Vec Ideal S32x3584 .f32) (acc : Vec Ideal S8x128 .f32) :
    k0_pay156 (F := Ideal) acc (k0_pay135 (F := Ideal) (k0_pay15 (F := Ideal) g) v) (k0_pay136 (F := Ideal)
      (k0_pay15 (F := Ideal) g) v) (k0_pay137 (F := Ideal) (k0_pay15 (F := Ideal) g) v) (k0_pay138 (F :=
      Ideal) (k0_pay15 (F := Ideal) g) v) (k0_pay139 (F := Ideal) (k0_pay15 (F := Ideal) g) v) (k0_pay140 (F
      := Ideal) (k0_pay15 (F := Ideal) g) v) (k0_pay141 (F := Ideal) (k0_pay15 (F := Ideal) g) v) (k0_pay142
      (F := Ideal) (k0_pay15 (F := Ideal) g) v) (k0_pay143 (F := Ideal) (k0_pay15 (F := Ideal) g) v)
      (k0_pay144 (F := Ideal) (k0_pay15 (F := Ideal) g) v) (k0_pay145 (F := Ideal) (k0_pay15 (F := Ideal) g)
      v) (k0_pay146 (F := Ideal) (k0_pay15 (F := Ideal) g) v) (k0_pay147 (F := Ideal) (k0_pay15 (F := Ideal)
      g) v) (k0_pay148 (F := Ideal) (k0_pay15 (F := Ideal) g) v) (k0_pay149 (F := Ideal) (k0_pay15 (F :=
      Ideal) g) v) (k0_pay150 (F := Ideal) (k0_pay15 (F := Ideal) g) v) (k0_pay151 (F := Ideal) (k0_pay15 (F
      := Ideal) g) v) (k0_pay152 (F := Ideal) (k0_pay15 (F := Ideal) g) v) (k0_pay153 (F := Ideal) (k0_pay15
      (F := Ideal) g) v) (k0_pay154 (F := Ideal) (k0_pay15 (F := Ideal) g) v)
      = group g v acc := by
  funext y
  change shapeCast S8x128 (group g v acc) shapeCasts_S8x128_S8x128 y = _
  pointwise

/-- The norm at an index. -/
theorem norm32_at (g : Vec Ideal S1x3584 .f32) (v : Vec Ideal S32x3584 .f32) (i : Fin 32) (j : Fin 3584) :
    norm32 g v (ix2 i j) = Spec.rms (Ideal.ofBits .f32 0x45600000#32) (fun k : Fin 3584 => v (ix2 i k)) (v (ix2 i j)) (g (ix2 0 j)) := by
  unfold norm32 Spec.rms
  pointwise [k0_pay54, k0_pay15]

/-- A group's update of the running maxima: bounded by `B` when the maxima before are and every magnitude of the group that
    falls on this row (modulo 8) and lane (modulo 128) is. -/
theorem group_le (g : Vec Ideal S1x3584 .f32) (v : Vec Ideal S32x3584 .f32) (acc : Vec Ideal S8x128 .f32) (r : Fin 8) (l : Fin 128) (B : EReal) :
    group g v acc (ix2 r l) ≤ B ↔ acc (ix2 r l) ≤ B ∧ ∀ (i : Fin 32) (j : Fin 3584), i.val % 8 = r.val → j.val % 128 = l.val →
      Spec.mag (norm32 g v (ix2 i j)) ≤ B := by
  unfold group
  pointwise [k0_pay56, k0_pay55]
  simp only [max_le_iff, Spec.fold_max_le]
  have e : ∀ (i : Fin 32) (j : Fin 3584), FloatOps.absf (k0_pay54 (F := Ideal) (k0_pay15 (F := Ideal) g) v (ix2 i j)) = Spec.mag (norm32 g v (ix2 i j)) :=
    fun i j => rfl
  simp only [e]
  refine and_congr_right fun _ => ⟨fun hh => ?_, fun h => ?_⟩
  · have all : ∀ (q : Fin 28) (x : Fin 4), Spec.mag (norm32 g v (ix2 ⟨x.val * 8 + r.val, by omega⟩ ⟨128 * q.val + l.val, by omega⟩)) ≤ B := by
      obtain ⟨⟨⟨⟨⟨⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩, h25⟩, h26⟩, h27⟩ := hh
      intro q
      fin_cases q
      · exact fun x => by simpa using h0 x
      · exact h1
      · exact h2
      · exact h3
      · exact h4
      · exact h5
      · exact h6
      · exact h7
      · exact h8
      · exact h9
      · exact h10
      · exact h11
      · exact h12
      · exact h13
      · exact h14
      · exact h15
      · exact h16
      · exact h17
      · exact h18
      · exact h19
      · exact h20
      · exact h21
      · exact h22
      · exact h23
      · exact h24
      · exact h25
      · exact h26
      · exact h27
    intro i j hi hj
    have hi' := i.isLt
    have hj' := j.isLt
    have := all ⟨j.val / 128, by omega⟩ ⟨i.val / 8, by omega⟩
    rwa [show (⟨i.val / 8 * 8 + r.val, by omega⟩ : Fin 32) = i from Fin.ext (by simp only []; omega),
      show (⟨128 * (j.val / 128) + l.val, by omega⟩ : Fin 3584) = j from Fin.ext (by simp only []; omega)] at this
  · have all : ∀ (q : Fin 28) (x : Fin 4), Spec.mag (norm32 g v (ix2 ⟨x.val * 8 + r.val, by omega⟩ ⟨128 * q.val + l.val, by omega⟩)) ≤ B :=
      fun q x => h _ _ (by simp only []; omega) (by simp only []; omega)
    refine ⟨⟨⟨⟨⟨⟨⟨⟨⟨⟨⟨⟨⟨⟨⟨⟨⟨⟨⟨⟨⟨⟨⟨⟨⟨⟨⟨fun x => by simpa using all 0 x, all 1⟩, all 2⟩, all 3⟩, all 4⟩, all 5⟩, all 6⟩, all 7⟩, all
      8⟩, all 9⟩, all 10⟩, all 11⟩, all 12⟩, all 13⟩, all 14⟩, all 15⟩, all 16⟩, all 17⟩, all 18⟩, all 19⟩, all 20⟩, all
      21⟩, all 22⟩, all 23⟩, all 24⟩, all 25⟩, all 26⟩, all 27⟩

/-- A group's codes: the payload every group's text comes to. -/
def code32 (xs : EReal) (n : FVec Ideal S32x3584 .f32) : FVec Ideal S32x3584 .fp8e4m3 := k0_pay155 (F := Ideal) xs n

theorem code24 (xs : EReal) (n : FVec Ideal S32x3584 .f32) : k0_pay24 (F := Ideal) (k0_pay22 (F := Ideal) xs n) (k0_pay23 (F := Ideal)) = code32 xs n := rfl
theorem code53 (xs : EReal) (n : FVec Ideal S32x3584 .f32) : k0_pay53 (F := Ideal) xs n = code32 xs n := rfl
theorem code58 (xs : EReal) (n : FVec Ideal S32x3584 .f32) : k0_pay58 (F := Ideal) (k0_pay57 (F := Ideal) xs n) (FloatOps.ofBits .f32 0xC3E00000#32) = code32 xs n := rfl
theorem code89 (xs : EReal) (n : FVec Ideal S32x3584 .f32) : k0_pay89 (F := Ideal) xs n = code32 xs n := rfl
theorem code95 (xs : EReal) (n : FVec Ideal S32x3584 .f32) : k0_pay95 (F := Ideal) xs n = code32 xs n := rfl
theorem code122 (xs : EReal) (n : FVec Ideal S32x3584 .f32) : k0_pay122 (F := Ideal) xs n = code32 xs n := rfl
theorem code133 (xs : EReal) (n : FVec Ideal S32x3584 .f32) : k0_pay133 (F := Ideal) xs n = code32 xs n := rfl
theorem code155 (xs : EReal) (n : FVec Ideal S32x3584 .f32) : k0_pay155 (F := Ideal) xs n = code32 xs n := rfl

/-- The code at an index. -/
theorem code32_at (xs : EReal) (n : FVec Ideal S32x3584 .f32) (y : S32x3584.Idx) : code32 xs n y = Spec.code (n y) xs := by
  unfold code32 Spec.code
  pointwise [k0_pay155]

end Cert.OprojIdeal.Sem

end
-- ==== Proof.OprojKernel.lean ====
/-
  The output projection, kernel side: the codes and the amax after the run are `Spec.opCodes`, `Spec.opAmax` of the arguments.
-/
module

public import proofs.«01_k».proof.Proof.OprojHid
public import proofs.«01_k».proof.Proof.OprojRows
public import proofs.«01_k».proof.Proof.Gen.OprojIdeal.Value

@[expose] public section

set_option maxRecDepth 16384

noncomputable section

open Idealize.ShloMosaic Idealize.ShloMosaic.TcCoe Idealize.SL.Sem
open Idealize.ShloMosaic.Pipeline (Dat)

namespace Cert.OprojIdeal.Sem

open Cert.OprojIdeal Cert.OprojIdeal.Gen

variable (m : (ℓ : Loc nD τ sig) → Buf (Elt Ideal) ℓ)

/-- A scalar load reads its word. -/
theorem ld1 (v : Vec Ideal S1 .f32) (inb : ∀ a, (![0] : Fin 1 → ℕ) a + (![1] : Fin 1 → ℕ) a ≤ S1.size a) (h) :
    View.ld v (Rect.unit (s := S1) ![0] ![1] inb) (Shape.Idx.first h) = v (ix1 0) := by
  pointwise

/-- The norm of a block of hidden states at row `i`, column `j`. -/
def nrm (H : Vec Ideal S256x3584 .f32) (g : Vec Ideal S1x3584 .f32) (i : Fin 256) (j : Fin 3584) : EReal :=
  Spec.rms (Ideal.ofBits .f32 0x45600000#32) (fun k : Fin 3584 => H (ix2 i k)) (H (ix2 i j)) (g (ix2 0 j))

/-- A group's rows within the block. -/
theorem row32 (o : ℕ) (inb : ∀ a, (![o, 0] : Fin 2 → ℕ) a + (![32, 3584] : Fin 2 → ℕ) a ≤ S256x3584.size a) (i : Fin 256) (x0 : Fin 32)
    (h : i.val = o + x0.val) (k : Fin 3584) : (Rect.unit (s := S256x3584) ![o, 0] ![32, 3584] inb).idx (ix2 x0 k) = ix2 i k := by
  funext a
  refine Fin.ext ?_
  match a with
  | ⟨0, _⟩ =>
    show o + 1 * x0.val = i.val
    omega
  | ⟨1, _⟩ =>
    show 0 + 1 * k.val = k.val
    omega

/-- A group's norm is the block's norm at the group's rows. -/
theorem norm_at (H : Vec Ideal S256x3584 .f32) (g : Vec Ideal S1x3584 .f32) (o : ℕ)
    (inb : ∀ a, (![o, 0] : Fin 2 → ℕ) a + (![32, 3584] : Fin 2 → ℕ) a ≤ S256x3584.size a) (i : Fin 256) (x0 : Fin 32)
    (h : i.val = o + x0.val) (j : Fin 3584) :
    norm32 g (fun q => H ((Rect.unit (s := S256x3584) ![o, 0] ![32, 3584] inb).idx q)) (ix2 x0 j) = nrm H g i j := by
  rw [norm32_at]
  simp only [row32 o inb i x0 h]
  rfl

/-- The codes a point of case A stores, from the hidden states it stores. -/
theorem codesA (c : Dev nD) (t : Fin cfg0.N) (h0 : t.val % 60 = 0) (h1 : ¬t.val % 60 = 59) (i : Fin 256) (j : Fin 3584) :
    (outsAt0 m c t.val t.isLt).2.1 (ix2 i j)
      = Spec.code (nrm (outsAt0 m c t.val t.isLt).1 (iblk m c 5 t) i j) (iblk m c 2 t (ix1 0)) := by
  obtain ⟨H, hH⟩ : ∃ H, H = (outsAt0 m c t.val t.isLt).1 := ⟨_, rfl⟩
  rw [← hH]
  rw [outsAt0_A m c t h0 h1] at hH ⊢
  frame_out at hH
  frame_out
  simp only [View.readCov_eq_canon', ← hH, pay16, pay25, pay54, pay59, pay92, pay96, pay125, pay134, code24, code53, code58, code89,
    code95, code122, code133, code155]
  clear hH
  obtain ⟨y, hy⟩ : ∃ y : S256x3584.Idx, y = ix2 i j := ⟨_, rfl⟩
  rw [← hy]
  have e0 : (y 0).val = i.val := by rw [hy]; rfl
  have e1 : (y 1).val = j.val := by rw [hy]; rfl
  clear hy
  canon_tiles x h
  all_goals
    rw [ld1, code32_at]
    idx_vars x
    obtain rfl : x1 = j := Fin.ext (by omega)
    exact congrArg (fun v => Spec.code v _) (norm_at H _ _ _ i x0 (by omega) x1)

/-- The codes a point of case B stores, from the hidden states it stores. -/
theorem codesB (c : Dev nD) (t : Fin cfg0.N) (h0 : ¬t.val % 60 = 0) (h1 : ¬t.val % 60 = 59) (i : Fin 256) (j : Fin 3584) :
    (outsAt0 m c t.val t.isLt).2.1 (ix2 i j)
      = Spec.code (nrm (outsAt0 m c t.val t.isLt).1 (iblk m c 5 t) i j) (iblk m c 2 t (ix1 0)) := by
  obtain ⟨H, hH⟩ : ∃ H, H = (outsAt0 m c t.val t.isLt).1 := ⟨_, rfl⟩
  rw [← hH]
  rw [outsAt0_B m c t h0 h1] at hH ⊢
  frame_out at hH
  frame_out
  simp only [View.readCov_eq_canon', ← hH, pay16, pay25, pay54, pay59, pay92, pay96, pay125, pay134, code24, code53, code58, code89,
    code95, code122, code133, code155]
  clear hH
  obtain ⟨y, hy⟩ : ∃ y : S256x3584.Idx, y = ix2 i j := ⟨_, rfl⟩
  rw [← hy]
  have e0 : (y 0).val = i.val := by rw [hy]; rfl
  have e1 : (y 1).val = j.val := by rw [hy]; rfl
  clear hy
  canon_tiles x h
  all_goals
    rw [ld1, code32_at]
    idx_vars x
    obtain rfl : x1 = j := Fin.ext (by omega)
    exact congrArg (fun v => Spec.code v _) (norm_at H _ _ _ i x0 (by omega) x1)

/-- The codes a point of case C stores, from the hidden states it stores. -/
theorem codesC (c : Dev nD) (t : Fin cfg0.N) (h0 : ¬t.val % 60 = 0) (h1 : t.val % 60 = 59) (i : Fin 256) (j : Fin 3584) :
    (outsAt0 m c t.val t.isLt).2.1 (ix2 i j)
      = Spec.code (nrm (outsAt0 m c t.val t.isLt).1 (iblk m c 5 t) i j) (iblk m c 2 t (ix1 0)) := by
  obtain ⟨H, hH⟩ : ∃ H, H = (outsAt0 m c t.val t.isLt).1 := ⟨_, rfl⟩
  rw [← hH]
  rw [outsAt0_C m c t h0 h1] at hH ⊢
  frame_out at hH
  frame_out
  simp only [View.readCov_eq_canon', ← hH, pay16, pay25, pay54, pay59, pay92, pay96, pay125, pay134, code24, code53, code58, code89,
    code95, code122, code133, code155]
  clear hH
  obtain ⟨y, hy⟩ : ∃ y : S256x3584.Idx, y = ix2 i j := ⟨_, rfl⟩
  rw [← hy]
  have e0 : (y 0).val = i.val := by rw [hy]; rfl
  have e1 : (y 1).val = j.val := by rw [hy]; rfl
  clear hy
  canon_tiles x h
  all_goals
    rw [ld1, code32_at]
    idx_vars x
    obtain rfl : x1 = j := Fin.ext (by omega)
    exact congrArg (fun v => Spec.code v _) (norm_at H _ _ _ i x0 (by omega) x1)

/-- The codes of a point. -/
theorem codesAt (c : Dev nD) (t : Fin cfg0.N) (i : Fin 256) (j : Fin 3584) :
    (outsAt0 m c t.val t.isLt).2.1 (ix2 i j)
      = Spec.code (nrm (outsAt0 m c t.val t.isLt).1 (iblk m c 5 t) i j) (iblk m c 2 t (ix1 0)) := by
  by_cases h0 : t.val % 60 = 0
  · exact codesA m c t h0 (by omega) i j
  · by_cases h1 : t.val % 60 = 59
    · exact codesC m c t h0 h1 i j
    · exact codesB m c t h0 h1 i j

/-- A block's norm is the whole array's norm at the block's rows. -/
theorem nrm_blk (c : Dev nD) (t : Fin cfg0.N) (i : Fin 256) (I : Fin 15360) (hI : I.val = t.val * 256 + i.val) (j : Fin 3584) :
    nrm (outsAt0 m c t.val t.isLt).1 (iblk m c 5 t) i j = Spec.opNorm (H1 m c) (m ((c : Thread nD τ).loc main_arg2)) I j := by
  have hg : iblk m c 5 t (ix2 0 j) = m ((c : Thread nD τ).loc main_arg2) (ix1 j) := by
    blk_simp [iblk]
    entry_read
    generalize hf : shapeCast _ (m _) _ = f
    refine Eq.trans (b := f (ix2 0 j)) (by blk_point [idx t]) ?_
    rw [← hf]
    pointwise
  have hh : ∀ k : Fin 3584, (outsAt0 m c t.val t.isLt).1 (ix2 i k) = H1 m c (ix2 I k) := by
    intro k
    rw [point]
    blk_point [idx t]
  unfold nrm Spec.opNorm
  simp only [hh, hg]

/-- The codes after the run. -/
theorem codes (c : Dev nD) : (dats m 0 c).arrAt 8 (cfgs 0).N
    = Spec.opCodes (H1 m c) (m ((c : Thread nD τ).loc main_arg2)) (m ((c : Thread nD τ).loc main_arg5)) := by
  refine (dats m 0 c).arrAt_eq_of_covers 8 _ (by decide +kernel) fun t _ y => ?_
  blk_simp
  rw [after0_8]
  have hs : iblk m c 2 t (ix1 0) = m ((c : Thread nD τ).loc main_arg5) (ix1 0) := by blk_point [iblk, V, idx t]
  have ht : t.val < 60 := t.isLt
  idx_vars y
  rw [codesAt, hs, nrm_blk m c t y0 ⟨t.val * 256 + y0.val, by omega⟩ rfl]
  generalize hf : Spec.opCodes _ _ _ = f
  refine Eq.trans (b := f (ix2 ⟨t.val * 256 + y0.val, by omega⟩ y1)) (by rw [← hf]; rfl) ?_
  blk_point [idx t]

/-- The magnitudes of a row's norm that fall on row `r` (modulo 8), lane `l` (modulo 128) are at most `B`. -/
def RowLe (H : Vec Ideal S256x3584 .f32) (g : Vec Ideal S1x3584 .f32) (r : Fin 8) (l : Fin 128) (B : EReal) (i : Fin 256) : Prop :=
  ∀ j : Fin 3584, i.val % 8 = r.val → j.val % 128 = l.val → Spec.mag (nrm H g i j) ≤ B

/-- A group's update of the running maxima, over the block's rows. -/
theorem chunk_le (g : Vec Ideal S1x3584 .f32) (H : Vec Ideal S256x3584 .f32) (o : ℕ) (ho : o % 8 = 0)
    (inb : ∀ a, (![o, 0] : Fin 2 → ℕ) a + (![32, 3584] : Fin 2 → ℕ) a ≤ S256x3584.size a)
    (acc : Vec Ideal S8x128 .f32) (r : Fin 8) (l : Fin 128) (B : EReal) :
    group g (fun q => H ((Rect.unit (s := S256x3584) ![o, 0] ![32, 3584] inb).idx q)) acc (ix2 r l) ≤ B
      ↔ acc (ix2 r l) ≤ B ∧ ∀ i : Fin 256, o ≤ i.val → i.val < o + 32 → RowLe H g r l B i := by
  have ho' : o + 32 ≤ 256 := inb 0
  rw [group_le]
  refine and_congr_right fun _ => ⟨fun h i h1 h2 j hi hj => ?_, fun h i j hi hj => ?_⟩
  · have := h ⟨i.val - o, by omega⟩ j (by simp only []; omega) hj
    rwa [norm_at H g o inb i _ (by simp only []; omega)] at this
  · rw [norm_at H g o inb ⟨o + i.val, by omega⟩ i rfl]
    exact h ⟨o + i.val, by omega⟩ (by simp) (by simp) j (by simp only []; omega) hj

/-- Eight groups are all rows. -/
theorem rows (P : Fin 256 → Prop) (A : Prop) :
    ((((((((A ∧ ∀ i : Fin 256, 0 ≤ i.val → i.val < 0 + 32 → P i) ∧ ∀ i : Fin 256, 32 ≤ i.val → i.val < 32 + 32 → P i) ∧ ∀ i : Fin 256, 64 ≤ i.val → i.val < 64 + 32 → P i) ∧ ∀ i : Fin 256, 96 ≤ i.val → i.val < 96 + 32 → P i) ∧ ∀ i : Fin 256, 128 ≤ i.val → i.val < 128 + 32 → P i) ∧ ∀ i : Fin 256, 160 ≤ i.val → i.val < 160 + 32 → P i) ∧ ∀ i : Fin 256, 192 ≤ i.val → i.val < 192 + 32 → P i) ∧ ∀ i : Fin 256, 224 ≤ i.val → i.val < 224 + 32 → P i) ↔ A ∧ ∀ i, P i := by
  constructor
  · rintro ⟨⟨⟨⟨⟨⟨⟨⟨ha, h0⟩, h1⟩, h2⟩, h3⟩, h4⟩, h5⟩, h6⟩, h7⟩
    refine ⟨ha, fun i => ?_⟩
    have hi := i.isLt
    rcases Nat.lt_or_ge i.val 32 with h | h; · exact h0 i (by omega) (by omega)
    rcases Nat.lt_or_ge i.val 64 with h | h; · exact h1 i (by omega) (by omega)
    rcases Nat.lt_or_ge i.val 96 with h | h; · exact h2 i (by omega) (by omega)
    rcases Nat.lt_or_ge i.val 128 with h | h; · exact h3 i (by omega) (by omega)
    rcases Nat.lt_or_ge i.val 160 with h | h; · exact h4 i (by omega) (by omega)
    rcases Nat.lt_or_ge i.val 192 with h | h; · exact h5 i (by omega) (by omega)
    rcases Nat.lt_or_ge i.val 224 with h | h; · exact h6 i (by omega) (by omega)
    exact h7 i (by omega) (by omega)
  · rintro ⟨ha, h⟩
    exact ⟨⟨⟨⟨⟨⟨⟨⟨ha, fun i _ _ => h i⟩, fun i _ _ => h i⟩, fun i _ _ => h i⟩, fun i _ _ => h i⟩, fun i _ _ => h i⟩, fun i _ _ => h i⟩, fun i _ _ => h i⟩, fun i _ _ => h i⟩

/-- The eight groups' updates one after the other, over all rows of the block. -/
theorem groups (g : Vec Ideal S1x3584 .f32) (H : Vec Ideal S256x3584 .f32) (acc : Vec Ideal S8x128 .f32) (r : Fin 8) (l : Fin 128)
    (B : EReal) :

      (group g (fun q => H ((Rect.unit (s := S256x3584) ![224, 0] ![32, 3584] inb_S256x3584_S32x3584_224_0).idx q))
      (group g (fun q => H ((Rect.unit (s := S256x3584) ![192, 0] ![32, 3584] inb_S256x3584_S32x3584_192_0).idx q))
      (group g (fun q => H ((Rect.unit (s := S256x3584) ![160, 0] ![32, 3584] inb_S256x3584_S32x3584_160_0).idx q))
      (group g (fun q => H ((Rect.unit (s := S256x3584) ![128, 0] ![32, 3584] inb_S256x3584_S32x3584_128_0).idx q))
      (group g (fun q => H ((Rect.unit (s := S256x3584) ![96, 0] ![32, 3584] inb_S256x3584_S32x3584_96_0).idx q))
      (group g (fun q => H ((Rect.unit (s := S256x3584) ![64, 0] ![32, 3584] inb_S256x3584_S32x3584_64_0).idx q))
      (group g (fun q => H ((Rect.unit (s := S256x3584) ![32, 0] ![32, 3584] inb_S256x3584_S32x3584_32_0).idx q))
      (group g (fun q => H ((Rect.unit (s := S256x3584) ![0, 0] ![32, 3584] inb_S256x3584_S32x3584_0_0).idx q)) acc)))))))) (ix2 r l) ≤ B
      ↔ acc (ix2 r l) ≤ B ∧ ∀ i, RowLe H g r l B i := by
  rw [chunk_le g H 224 (by decide), chunk_le g H 192 (by decide), chunk_le g H 160 (by decide), chunk_le g H 128 (by decide), chunk_le g H 96 (by decide), chunk_le g H 64 (by decide), chunk_le g H 32 (by decide), chunk_le g H 0 (by decide), rows]

/-- The running maxima start at zero. -/
theorem zero (r : Fin 8) (l : Fin 128) : k0_pay2 (F := Ideal) (ix2 r l) = 0 := by
  pointwise [k0_pay2]

/-- The running maxima after a point of case A. -/
theorem stepA (c : Dev nD) (t : Fin cfg0.N) (h0 : t.val % 60 = 0) (h1 : ¬t.val % 60 = 59) (r : Fin 8) (l : Fin 128) (B : EReal) :
    (outsAt0 m c t.val t.isLt).2.2.2 (ix2 r l) ≤ B ↔ (0 : EReal) ≤ B
      ∧ ∀ i, RowLe (outsAt0 m c t.val t.isLt).1 (iblk m c 5 t) r l B i := by
  obtain ⟨H, hH⟩ : ∃ H, H = (outsAt0 m c t.val t.isLt).1 := ⟨_, rfl⟩
  rw [← hH]
  rw [outsAt0_A m c t h0 h1] at hH ⊢
  frame_out at hH
  frame_out
  simp only [View.readCov_eq_canon', ← hH, pay21, pay52, pay56, pay88, pay94, pay121, pay132, pay156]
  clear hH
  refine (groups (iblk m c 5 t) H _ r l B).trans ?_
  rw [show k0_pay2 (F := Ideal) (ix2 r l) = 0 from zero r l]

/-- The running maxima after a point of case B. -/
theorem stepB (c : Dev nD) (t : Fin cfg0.N) (h0 : ¬t.val % 60 = 0) (h1 : ¬t.val % 60 = 59) (r : Fin 8) (l : Fin 128) (B : EReal) :
    (outsAt0 m c t.val t.isLt).2.2.2 (ix2 r l) ≤ B ↔ (outsAt0 m c (t.val - 1) (Nat.lt_of_le_of_lt (Nat.sub_le _ _) t.isLt)).2.2.2 (ix2 r l) ≤ B
      ∧ ∀ i, RowLe (outsAt0 m c t.val t.isLt).1 (iblk m c 5 t) r l B i := by
  obtain ⟨H, hH⟩ : ∃ H, H = (outsAt0 m c t.val t.isLt).1 := ⟨_, rfl⟩
  rw [← hH]
  rw [outsAt0_B m c t h0 h1] at hH ⊢
  frame_out at hH
  frame_out
  simp only [View.readCov_eq_canon', ← hH, pay21, pay52, pay56, pay88, pay94, pay121, pay132, pay156]
  clear hH
  refine (groups (iblk m c 5 t) H _ r l B).trans ?_
  rw [(Memref.isWhole_whole _).read_unread]

/-- The running maxima after a point of case C. -/
theorem stepC (c : Dev nD) (t : Fin cfg0.N) (h0 : ¬t.val % 60 = 0) (h1 : t.val % 60 = 59) (r : Fin 8) (l : Fin 128) (B : EReal) :
    (outsAt0 m c t.val t.isLt).2.2.2 (ix2 r l) ≤ B ↔ (outsAt0 m c (t.val - 1) (Nat.lt_of_le_of_lt (Nat.sub_le _ _) t.isLt)).2.2.2 (ix2 r l) ≤ B
      ∧ ∀ i, RowLe (outsAt0 m c t.val t.isLt).1 (iblk m c 5 t) r l B i := by
  obtain ⟨H, hH⟩ : ∃ H, H = (outsAt0 m c t.val t.isLt).1 := ⟨_, rfl⟩
  rw [← hH]
  rw [outsAt0_C m c t h0 h1] at hH ⊢
  frame_out at hH
  frame_out
  simp only [View.readCov_eq_canon', ← hH, pay21, pay52, pay56, pay88, pay94, pay121, pay132, pay156]
  clear hH
  refine (groups (iblk m c 5 t) H _ r l B).trans ?_
  rw [(Memref.isWhole_whole _).read_unread]

/-- The magnitude of the norm at an index is at most `B`, if the index lies on row `r` (modulo 8), lane `l` (modulo 128). -/
def CellLe (c : Dev nD) (r : Fin 8) (l : Fin 128) (B : EReal) (i : Fin 15360) (j : Fin 3584) : Prop :=
  i.val % 8 = r.val → j.val % 128 = l.val → Spec.mag (Spec.opNorm (H1 m c) (m ((c : Thread nD τ).loc main_arg2)) i j) ≤ B

/-- A point's part of the bound, over the whole arrays' indices. -/
theorem part (c : Dev nD) (t : Fin cfg0.N) (r : Fin 8) (l : Fin 128) (B : EReal) :
    (∀ i, RowLe (outsAt0 m c t.val t.isLt).1 (iblk m c 5 t) r l B i)
      ↔ ∀ (I : Fin 15360) (J : Fin 3584), I.val / 256 = t.val → CellLe m c r l B I J := by
  have ht : t.val < 60 := t.isLt
  constructor
  · intro h I J hIJ hI hJ
    have hI' := I.isLt
    have := h ⟨I.val % 256, by omega⟩ J (by simp only []; omega) hJ
    rwa [nrm_blk m c t _ I (by simp only []; omega)] at this
  · intro h i j hi hj
    have hi' := i.isLt
    have := h ⟨t.val * 256 + i.val, by omega⟩ j (by simp only []; omega) (by simp only []; omega) hj
    rwa [← nrm_blk m c t i _ rfl] at this

/-- The running maxima after point `n`: the largest magnitudes of the rows the points up to `n` hold. -/
theorem upto (c : Dev nD) (r : Fin 8) (l : Fin 128) (B : EReal) : ∀ (n : ℕ) (hn : n < cfg0.N),
    (outsAt0 m c n hn).2.2.2 (ix2 r l) ≤ B ↔ 0 ≤ B
      ∧ ∀ (I : Fin 15360) (J : Fin 3584), I.val / 256 ≤ n → CellLe m c r l B I J
  | 0, hn => by
    rw [stepA m c ⟨0, hn⟩ rfl (by show ¬0 % 60 = 59; decide) r l B, part]
    exact and_congr_right fun _ => forall₂_congr fun I J => by rw [Nat.le_zero]
  | n + 1, hn => by
    have hn' : n + 1 < 60 := hn
    have key : (outsAt0 m c (n + 1) hn).2.2.2 (ix2 r l) ≤ B ↔ (outsAt0 m c n (Nat.lt_of_succ_lt hn)).2.2.2 (ix2 r l) ≤ B
        ∧ ∀ i, RowLe (outsAt0 m c (n + 1) hn).1 (iblk m c 5 ⟨n + 1, hn⟩) r l B i := by
      by_cases h : (n + 1) % 60 = 59
      · exact stepC m c ⟨n + 1, hn⟩ (by simp only []; omega) h r l B
      · exact stepB m c ⟨n + 1, hn⟩ (by simp only []; omega) h r l B
    rw [key, upto c r l B n, part m c ⟨n + 1, hn⟩, and_assoc]
    refine and_congr_right fun _ => ⟨fun ⟨h1, h2⟩ I J hIJ => ?_, fun h => ⟨fun I J hIJ => h I J (by omega), fun I J hIJ => h I J hIJ.le⟩⟩
    rcases Nat.lt_or_ge n (I.val / 256) with h | h
    · exact h2 I J (by simp only []; omega)
    · exact h1 I J h

/-- The running maximum over the 8 by 128 cells. -/
theorem pay1_le (v : Vec Ideal S8x128 .f32) (B : EReal) :
    k0_pay1 (F := Ideal) v ≤ B ↔ ∀ (r : Fin 8) (l : Fin 128), v (ix2 r l) ≤ B := by
  pointwise [k0_pay1]
  rw [Spec.fold_max_le]
  exact ⟨fun h r l => h (r, l), fun h p => h p.1 p.2⟩

/-- The last point stores the largest of the running maxima. -/
theorem last (c : Dev nD) (t : Fin cfg0.N) (h0 : ¬t.val % 60 = 0) (h1 : t.val % 60 = 59) (y : S1.Idx) :
    (outsAt0 m c t.val t.isLt).2.2.1 y = k0_pay1 (F := Ideal) (outsAt0 m c t.val t.isLt).2.2.2 := by
  rw [outsAt0_C m c t h0 h1]
  frame_out

/-- The amax after the run. -/
theorem amax (c : Dev nD) : (dats m 0 c).arrAt 9 (cfgs 0).N
    = Spec.opAmax (H1 m c) (m ((c : Thread nD τ).loc main_arg2)) := by
  refine (dats m 0 c).arrAt_eq_of_covers 9 _ (by decide +kernel) fun t hf y => ?_
  blk_simp
  have h1 : t.val % 60 = 59 := (flush0_9 t).1 hf
  have ht : t.val < 60 := t.isLt
  rw [after0_9]
  refine (last m c t (by omega) h1 y).trans ?_
  unfold Spec.opAmax
  refine eq_of_forall_ge_iff fun B => ?_
  rw [pay1_le]
  simp only [iSup_le_iff]
  constructor
  · intro h I J
    exact ((upto m c ⟨I.val % 8, by omega⟩ ⟨J.val % 128, by omega⟩ B _ _).1 (h _ _)).2 I J (by have := I.isLt; omega) rfl rfl
  · intro h r l
    exact (upto m c r l B _ _).2 ⟨(Spec.mag_nonneg _).trans (h 0 0), fun I J _ _ _ => h I J⟩

end Cert.OprojIdeal.Sem

end
-- ==== Proof.OprojRef.lean ====
/-
  The output projection, reference side: the hidden states, codes and amax after the run are `Spec.opHid`, `Spec.opCodes`,
  `Spec.opAmax` of the arguments.
-/
module

public import proofs.«01_k».proof.Proof.Spec
public import proofs.«01_k».proof.Proof.Gen.OprojRefIdeal.Value

@[expose] public section

set_option maxRecDepth 16384

noncomputable section

open Idealize.ShloMosaic Idealize.ShloMosaic.TcCoe Idealize.SL.Sem
open Idealize.ShloMosaic.Pipeline (Dat)

namespace Cert.OprojRefIdeal.Sem

open Cert.OprojRefIdeal Cert.OprojRefIdeal.Gen

variable (m : (ℓ : Loc nD τ sig) → Buf (Elt Ideal) ℓ)

/-- The block index of every window at the one grid point. -/
theorem idx : ∀ t : Fin cfg0.N, win0_0.index t = ![0] ∧ win0_1.index t = ![0] ∧ win0_2.index t = ![0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0] :=
  (by decide +kernel : ∀ t : Fin grid0.N, _)

/-- A scalar load reads its word. -/
theorem ld1 (v : Vec Ideal S1 .f32) (inb : ∀ a, (![0] : Fin 1 → ℕ) a + (![1] : Fin 1 → ℕ) a ≤ S1.size a) (h) :
    View.ld v (Rect.unit (s := S1) ![0] ![1] inb) (Shape.Idx.first h) = v (ix1 0) := by
  pointwise

/-- The hidden states' payload at an index. -/
theorem pay2 (x3 : Vec Ideal S15360x1792 .fp8e4m3) (x6 : Vec Ideal S1792x3584 .fp8e4m3) (x0 x1 : Vec Ideal S1 .f32)
    (x4 : Vec Ideal S15360x3584 .bf16) (i : Fin 15360) (j : Fin 3584) :
    k0_pay2 (F := Ideal) x3 x6 (x0 (ix1 0)) (x1 (ix1 0)) x4 (ix2 i j) = Spec.opHid x3 x4 x0 x1 x6 (ix2 i j) := by
  pointwise [k0_pay2, Spec.opHid, Spec.lin]

/-- The norm's payload at an index. -/
theorem pay3 (x3 : Vec Ideal S15360x1792 .fp8e4m3) (x6 : Vec Ideal S1792x3584 .fp8e4m3) (x0 x1 : Vec Ideal S1 .f32)
    (x4 : Vec Ideal S15360x3584 .bf16) (x5 : Vec Ideal S1x3584 .f32) (i : Fin 15360) (j : Fin 3584) :
    k0_pay3 (F := Ideal) x3 x6 (x0 (ix1 0)) (x1 (ix1 0)) x4 x5 (ix2 i j)
      = Spec.opNorm (Spec.opHid x3 x4 x0 x1 x6) (fun k => x5 (ix2 0 (k 0))) i j := by
  pointwise [k0_pay3, Spec.opNorm, Spec.rms]
  simp only [pay2]

/-- What the body leaves in the outputs' buffers, over the input blocks: the hidden states. -/
theorem out_A7 (c : Dev nD) (a0 : Memref sig .tc .smem S1 .f32) (h0 : a0.IsWhole) (a1 : Memref sig .tc .smem S1 .f32) (h1 : a1.IsWhole)
    (a2 : Memref sig .tc .smem S1 .f32) (h2 : a2.IsWhole) (a3 : Memref sig .tc .vmem S15360x1792 .fp8e4m3) (h3 : a3.IsWhole)
    (a4 : Memref sig .tc .vmem S15360x3584 .bf16) (h4 : a4.IsWhole) (a5 : Memref sig .tc .vmem S1x3584 .f32) (h5 : a5.IsWhole)
    (a6 : Memref sig .tc .vmem S1792x3584 .fp8e4m3) (h6 : a6.IsWhole) (a7 : Memref sig .tc .vmem S15360x3584 .f32) (h7 : a7.IsWhole)
    (a8 : Memref sig .tc .vmem S15360x3584 .fp8e4m3) (h8 : a8.IsWhole) (a9 : Memref sig .tc .smem S1 .f32) (h9 : a9.IsWhole)
    (x0 x1 x2 : Vec Ideal S1 .f32) (x3 : Vec Ideal S15360x1792 .fp8e4m3) (x4 : Vec Ideal S15360x3584 .bf16)
    (x5 : Vec Ideal S1x3584 .f32) (x6 : Vec Ideal S1792x3584 .fp8e4m3) :
    out0_A_7 c a0 h0 a1 h1 a2 h2 a3 h3 a4 h4 a5 h5 a6 h6 a7 h7 a8 h8 a9 h9 x0 x1 x2 x3 x4 x5 x6 = Spec.opHid x3 x4 x0 x1 x6 := by
  frame_out
  funext y
  rw [ld1, ld1]
  idx_vars y
  exact pay2 x3 x6 x0 x1 x4 _ _

/-- … the codes. -/
theorem out_A8 (c : Dev nD) (a0 : Memref sig .tc .smem S1 .f32) (h0 : a0.IsWhole) (a1 : Memref sig .tc .smem S1 .f32) (h1 : a1.IsWhole)
    (a2 : Memref sig .tc .smem S1 .f32) (h2 : a2.IsWhole) (a3 : Memref sig .tc .vmem S15360x1792 .fp8e4m3) (h3 : a3.IsWhole)
    (a4 : Memref sig .tc .vmem S15360x3584 .bf16) (h4 : a4.IsWhole) (a5 : Memref sig .tc .vmem S1x3584 .f32) (h5 : a5.IsWhole)
    (a6 : Memref sig .tc .vmem S1792x3584 .fp8e4m3) (h6 : a6.IsWhole) (a7 : Memref sig .tc .vmem S15360x3584 .f32) (h7 : a7.IsWhole)
    (a8 : Memref sig .tc .vmem S15360x3584 .fp8e4m3) (h8 : a8.IsWhole) (a9 : Memref sig .tc .smem S1 .f32) (h9 : a9.IsWhole)
    (x0 x1 x2 : Vec Ideal S1 .f32) (x3 : Vec Ideal S15360x1792 .fp8e4m3) (x4 : Vec Ideal S15360x3584 .bf16)
    (x5 : Vec Ideal S1x3584 .f32) (x6 : Vec Ideal S1792x3584 .fp8e4m3) :
    out0_A_8 c a0 h0 a1 h1 a2 h2 a3 h3 a4 h4 a5 h5 a6 h6 a7 h7 a8 h8 a9 h9 x0 x1 x2 x3 x4 x5 x6 = Spec.opCodes (Spec.opHid x3 x4 x0 x1 x6) (fun k => x5 (ix2 0 (k 0))) x2 := by
  frame_out
  funext y
  rw [ld1, ld1, ld1]
  idx_vars y
  pointwise [k0_pay4, Spec.opCodes, Spec.code]
  rw [pay3]

/-- … and the amax. -/
theorem out_A9 (c : Dev nD) (a0 : Memref sig .tc .smem S1 .f32) (h0 : a0.IsWhole) (a1 : Memref sig .tc .smem S1 .f32) (h1 : a1.IsWhole)
    (a2 : Memref sig .tc .smem S1 .f32) (h2 : a2.IsWhole) (a3 : Memref sig .tc .vmem S15360x1792 .fp8e4m3) (h3 : a3.IsWhole)
    (a4 : Memref sig .tc .vmem S15360x3584 .bf16) (h4 : a4.IsWhole) (a5 : Memref sig .tc .vmem S1x3584 .f32) (h5 : a5.IsWhole)
    (a6 : Memref sig .tc .vmem S1792x3584 .fp8e4m3) (h6 : a6.IsWhole) (a7 : Memref sig .tc .vmem S15360x3584 .f32) (h7 : a7.IsWhole)
    (a8 : Memref sig .tc .vmem S15360x3584 .fp8e4m3) (h8 : a8.IsWhole) (a9 : Memref sig .tc .smem S1 .f32) (h9 : a9.IsWhole)
    (x0 x1 x2 : Vec Ideal S1 .f32) (x3 : Vec Ideal S15360x1792 .fp8e4m3) (x4 : Vec Ideal S15360x3584 .bf16)
    (x5 : Vec Ideal S1x3584 .f32) (x6 : Vec Ideal S1792x3584 .fp8e4m3) :
    out0_A_9 c a0 h0 a1 h1 a2 h2 a3 h3 a4 h4 a5 h5 a6 h6 a7 h7 a8 h8 a9 h9 x0 x1 x2 x3 x4 x5 x6 = Spec.opAmax (Spec.opHid x3 x4 x0 x1 x6) (fun k => x5 (ix2 0 (k 0))) := by
  frame_out
  funext y
  pointwise
  refine (show k0_pay1 (F := Ideal) (k0_pay5 (F := Ideal) x3 x6 (x0 (ix1 0)) (x1 (ix1 0)) x4 x5) = _ from ?_)
  pointwise [k0_pay1, k0_pay5, Spec.opAmax]
  refine eq_of_forall_ge_iff fun B => ?_
  rw [Spec.fold_max_le]
  simp only [iSup_le_iff]
  have e : ∀ i j, FloatOps.absf (k0_pay3 (F := Ideal) x3 x6 (x0 (ix1 0)) (x1 (ix1 0)) x4 x5 (ix2 i j))
      = Spec.mag (Spec.opNorm (Spec.opHid x3 x4 x0 x1 x6) (fun k => x5 (ix2 0 (k 0))) i j) := fun i j => congrArg Spec.mag (pay3 x3 x6 x0 x1 x4 x5 i j)
  exact ⟨fun h i j => e i j ▸ h (i, j), fun h p => (e p.1 p.2).symm ▸ h p.1 p.2⟩

/-- Every input block is its array. -/
theorem blk0 (c : Dev nD) (t : Fin cfg0.N) : iblk m c 0 t = m ((c : Thread nD τ).loc main_arg3) := by blk_ext! [iblk, V, idx t]
/-- The block of window 1 at a grid point, read off the argument it is cut from. -/
theorem blk1 (c : Dev nD) (t : Fin cfg0.N) : iblk m c 1 t = m ((c : Thread nD τ).loc main_arg4) := by blk_ext! [iblk, V, idx t]
/-- The block of window 2 at a grid point, read off the argument it is cut from. -/
theorem blk2 (c : Dev nD) (t : Fin cfg0.N) : iblk m c 2 t = m ((c : Thread nD τ).loc main_arg5) := by blk_ext! [iblk, V, idx t]
/-- The block of window 3 at a grid point, read off the argument it is cut from. -/
theorem blk3 (c : Dev nD) (t : Fin cfg0.N) : iblk m c 3 t = m ((c : Thread nD τ).loc main_arg0) := by blk_ext! [iblk, V, idx t]
/-- The block of window 4 at a grid point, read off the argument it is cut from. -/
theorem blk4 (c : Dev nD) (t : Fin cfg0.N) : iblk m c 4 t = m ((c : Thread nD τ).loc main_arg1) := by blk_ext! [iblk, V, idx t]
/-- The block of window 6 at a grid point, read off the argument it is cut from. -/
theorem blk6 (c : Dev nD) (t : Fin cfg0.N) : iblk m c 6 t = m ((c : Thread nD τ).loc main_arg6) := by blk_ext! [iblk, V, idx t]

/-- The gain's block is the gain, as a row. -/
theorem blk5 (c : Dev nD) (t : Fin cfg0.N) : (fun k : (⟨1, ![3584]⟩ : Shape).Idx => iblk m c 5 t (ix2 0 (k 0)))
    = m ((c : Thread nD τ).loc main_arg2) := by
  funext k
  idx_vars k
  blk_simp [iblk]
  entry_read
  generalize hf : shapeCast _ (m _) _ = f
  refine Eq.trans (b := f (ix2 0 k0)) (by blk_point [idx t]) ?_
  rw [← hf]
  pointwise

/-- The hidden states of the arguments. -/
def H1 (c : Dev nD) : FVec Ideal ⟨2, ![15360, 3584]⟩ .f32 :=
  Spec.opHid (m ((c : Thread nD τ).loc main_arg0)) (m ((c : Thread nD τ).loc main_arg1))
    (m ((c : Thread nD τ).loc main_arg3)) (m ((c : Thread nD τ).loc main_arg4)) (m ((c : Thread nD τ).loc main_arg6))

/-- The hidden states after the run. -/
theorem hid (c : Dev nD) : (dats m 0 c).arrAt 7 (cfgs 0).N = H1 m c := by
  refine (dats m 0 c).arrAt_eq_of_covers 7 _ (by decide +kernel) fun t _ y => ?_
  blk_simp
  rw [after0_7]; unfold outsAt0 H1
  dsimp only
  rw [out_A7, blk0, blk1, blk3, blk4, blk6]
  blk_ext [idx t]

/-- The codes after the run. -/
theorem codes (c : Dev nD) : (dats m 0 c).arrAt 8 (cfgs 0).N
    = Spec.opCodes (H1 m c) (m ((c : Thread nD τ).loc main_arg2)) (m ((c : Thread nD τ).loc main_arg5)) := by
  refine (dats m 0 c).arrAt_eq_of_covers 8 _ (by decide +kernel) fun t _ y => ?_
  blk_simp
  rw [after0_8]; unfold outsAt0 H1
  dsimp only
  rw [out_A8, blk0, blk1, blk2, blk3, blk4, blk5, blk6]
  blk_ext [idx t]

/-- The amax after the run. -/
theorem amax (c : Dev nD) : (dats m 0 c).arrAt 9 (cfgs 0).N
    = Spec.opAmax (H1 m c) (m ((c : Thread nD τ).loc main_arg2)) := by
  refine (dats m 0 c).arrAt_eq_of_covers 9 _ (by decide +kernel) fun t _ y => ?_
  blk_simp
  rw [after0_9]; unfold outsAt0 H1
  dsimp only
  rw [out_A9, blk0, blk1, blk3, blk4, blk5, blk6]
  rfl

end Cert.OprojRefIdeal.Sem

end
-- ==== Proof.SpecQkv.lean ====
/-
  The mathematics of the query, key and value projections' results, on the extended reals.
-/
module

public import proofs.«01_k».proof.Proof.Spec

@[expose] public section

noncomputable section

namespace Cert.Spec

open Idealize.ShloMosaic

/-- The norm of the input, at batch `b`, row `r`, column `k`. -/
def xNorm (X : FVec Ideal ⟨3, ![3, 5120, 3584]⟩ .bf16) (g : FVec Ideal ⟨1, ![3584]⟩ .f32) (b : Fin 3) (r : Fin 5120) (k : Fin 3584) :
    EReal :=
  rms (Ideal.ofBits .f32 0x45600000#32) (fun q : Fin 3584 => X (ix3 b r q)) (X (ix3 b r k)) (g (ix1 k))

/-- The codes of the norm. -/
def xCodes (X : FVec Ideal ⟨3, ![3, 5120, 3584]⟩ .bf16) (g : FVec Ideal ⟨1, ![3584]⟩ .f32) (xs : Scale) :
    FVec Ideal ⟨3, ![3, 5120, 3584]⟩ .fp8e4m3 := fun j => code (xNorm X g (j 0) (j 1) (j 2)) (xs (ix1 0))

/-- The largest magnitude of the norm. -/
def xAmax (X : FVec Ideal ⟨3, ![3, 5120, 3584]⟩ .bf16) (g : FVec Ideal ⟨1, ![3584]⟩ .f32) : FVec Ideal ⟨1, ![1]⟩ .f32 := fun _ =>
  ⨆ (b : Fin 3) (r : Fin 5120) (k : Fin 3584), mag (xNorm X g b r k)

/-- A row of codes against the weights' column `J`, scaled. -/
def proj (C : FVec Ideal ⟨3, ![3, 5120, 3584]⟩ .fp8e4m3) (W : FVec Ideal ⟨2, ![3584, 2304]⟩ .fp8e4m3) (s : EReal) (b : Fin 3)
    (r : Fin 5120) (J : Fin 2304) : EReal := lin (fun k : Fin 3584 => C (ix3 b r k)) (fun k => W (ix2 k J)) s

/-- The rotary embedding of a head's row: its halves `a`, `b` become `a cos - b sin` and `b cos + a sin`. -/
def rope (cos sin : Fin 64 → EReal) (f : Fin 128 → EReal) (l : Fin 128) : EReal :=
  if h : l.val < 64 then f l * cos ⟨l.val, h⟩ - f ⟨l.val + 64, by omega⟩ * sin ⟨l.val, h⟩
  else f l * cos ⟨l.val - 64, by omega⟩ + f ⟨l.val - 64, by omega⟩ * sin ⟨l.val - 64, by omega⟩

/-- The norm of a head's row. -/
def headNorm (g f : Fin 128 → EReal) (l : Fin 128) : EReal := rms (Ideal.ofBits .f32 0x43000000#32) f (f l) (g l)

/-- The angles of a row: both halves of the sequence have the same. -/
def angle (a : FVec Ideal ⟨3, ![3, 2560, 64]⟩ .f32) (b : Fin 3) (r : Fin 5120) (k : Fin 64) : EReal :=
  a (ix3 b ⟨r.val % 2560, by omega⟩ k)

/-- The value of a query head (columns from 0) or a key head (columns from 1792): the projection, normed and rotated. -/
def qk (p : Fin 3 → Fin 5120 → Fin 2304 → EReal) (g : FVec Ideal ⟨1, ![128]⟩ .f32) (cos sin : FVec Ideal ⟨3, ![3, 2560, 64]⟩ .f32)
    (n o : ℕ) (ho : o + n * 128 ≤ 2304) (b : Fin 3) (r : Fin 5120) (h : Fin n) (l : Fin 128) : EReal :=
  rope (angle cos b r) (angle sin b r) (headNorm (fun q => g (ix1 q)) fun q => p b r ⟨o + h.val * 128 + q.val, by omega⟩) l

/-- The value of a value head (columns from 2048): the projection. -/
def vv (p : Fin 3 → Fin 5120 → Fin 2304 → EReal) (b : Fin 3) (r : Fin 5120) (h : Fin 2) (l : Fin 128) : EReal :=
  p b r ⟨2048 + h.val * 128 + l.val, by omega⟩

/-- The codes of a head's values, each head at its scale. -/
def headCodes {n : ℕ} (v : Fin 3 → Fin 5120 → Fin n → Fin 128 → EReal) (s : FVec Ideal ⟨1, ![n]⟩ .f32) :
    FVec Ideal ⟨4, ![3, n, 5120, 128]⟩ .fp8e4m3 := fun j => code (v (j 0) (j 2) (j 1) (j 3)) (s (ix1 (j 1)))

/-- The largest magnitude of a head's values. -/
def headAmax {n : ℕ} (v : Fin 3 → Fin 5120 → Fin n → Fin 128 → EReal) : FVec Ideal ⟨1, ![n]⟩ .f32 := fun j =>
  ⨆ (b : Fin 3) (r : Fin 5120) (l : Fin 128), mag (v b r (j 0) l)

end Cert.Spec

end
-- ==== Proof.QkvX.lean ====
/-
  The query, key and value projections, kernel side: the codes of the norm after the run are `Spec.xCodes` of the arguments.
-/
module

public import proofs.«01_k».proof.Proof.SpecQkv
public import proofs.«01_k».proof.Proof.Gen.QkvIdeal.Value

@[expose] public section

set_option maxRecDepth 16384

noncomputable section

open Idealize.ShloMosaic Idealize.ShloMosaic.TcCoe Idealize.SL.Sem
open Idealize.ShloMosaic.Pipeline (Dat)

namespace Cert.QkvIdeal.Sem

open Cert.QkvIdeal Cert.QkvIdeal.Gen

variable (m : (ℓ : Loc nD τ sig) → Buf (Elt Ideal) ℓ)

/-- The block index of every window at every grid point. -/
theorem idx : ∀ t : Fin cfg0.N, win0_0.index t = ![0] ∧ win0_1.index t = ![0] ∧ win0_2.index t = ![0] ∧ win0_3.index t = ![0]
    ∧ win0_4.index t = ![0] ∧ win0_5.index t = ![t.val / 10, t.val % 10, 0] ∧ win0_6.index t = ![0, 0] ∧ win0_7.index t = ![0, 0]
    ∧ win0_8.index t = ![0, 0] ∧ win0_9.index t = ![t.val / 10, 0, t.val % 10 % 5] ∧ win0_10.index t = ![t.val / 10, 0, t.val % 10 % 5]
    ∧ win0_11.index t = ![0, 0] ∧ win0_12.index t = ![t.val / 10, t.val % 10, 0]
    ∧ win0_13.index t = ![t.val / 10, 0, t.val % 10, 0] ∧ win0_14.index t = ![t.val / 10, 0, t.val % 10, 0]
    ∧ win0_15.index t = ![t.val / 10, 0, t.val % 10, 0] ∧ win0_16.index t = ![0] ∧ win0_17.index t = ![0] ∧ win0_18.index t = ![0]
    ∧ win0_19.index t = ![0] :=
  (by decide +kernel : ∀ t : Fin grid0.N, _)

/-- The norm of an input block at row `i`, column `j`. -/
def nrm (X : Vec Ideal S1x512x3584 .bf16) (g : Vec Ideal S1x3584 .f32) (i : Fin 512) (j : Fin 3584) : EReal :=
  Spec.rms (Ideal.ofBits .f32 0x45600000#32) (fun k : Fin 3584 => X (ix3 0 i k)) (X (ix3 0 i j)) (g (ix2 0 j))

/-- The codes a point stores, from its input blocks. The three cases of the body (first point, last point, the points between)
    store the same. -/
theorem codesAt (c : Dev nD) (t : Fin cfg0.N) (y : S1x512x3584.Idx) :
    (outsAt0 m c t.val t.isLt).1 y = Spec.code (nrm (iblk m c 5 t) (iblk m c 6 t) (y 1) (y 2)) (iblk m c 0 t (ix1 0)) := by
  have key : ∃ v : Vec Ideal S1x512x3584 .fp8e4m3,
      ((t.val % 30 = 0 → ¬t.val % 30 = 29 → (outsAt0 m c t.val t.isLt).1 y = v y)
      ∧ (¬t.val % 30 = 0 → ¬t.val % 30 = 29 → (outsAt0 m c t.val t.isLt).1 y = v y)
      ∧ (¬t.val % 30 = 0 → t.val % 30 = 29 → (outsAt0 m c t.val t.isLt).1 y = v y))
      ∧ v y = Spec.code (nrm (iblk m c 5 t) (iblk m c 6 t) (y 1) (y 2)) (iblk m c 0 t (ix1 0)) := by
    refine ⟨?v, ⟨fun h0 h1 => ?a, fun h0 h1 => ?b, fun h0 h1 => ?c⟩, ?d⟩
    case a => rw [outsAt0_A m c t h0 h1]; frame_out; exact rfl
    case b => rw [outsAt0_B m c t h0 h1]; frame_out
    case c => rw [outsAt0_C m c t h0 h1]; frame_out
    case d =>
      generalize (iblk m c 5 t : Vec Ideal S1x512x3584 .bf16) = X
      generalize (iblk m c 6 t : Vec Ideal S1x3584 .f32) = g
      generalize (iblk m c 0 t : Vec Ideal S1 .f32) = s
      canon_tiles x h
      all_goals
        open_payloads
        idx_vars x
        pointwise [nrm, Spec.code, Spec.rms]
        obtain rfl : x2 = y 2 := Fin.ext h2.symm
        simp only [← h1]
        rfl
  obtain ⟨v, ⟨hA, hB, hC⟩, hv⟩ := key
  refine Eq.trans ?_ hv
  by_cases h0 : t.val % 30 = 0
  · exact hA h0 (by omega)
  · by_cases h1 : t.val % 30 = 29
    · exact hC h0 h1
    · exact hB h0 h1

/-- The norm's codes of the arguments. -/
def XC (c : Dev nD) : FVec Ideal ⟨3, ![3, 5120, 3584]⟩ .fp8e4m3 :=
  Spec.xCodes (m ((c : Thread nD τ).loc main_arg0)) (m ((c : Thread nD τ).loc main_arg1)) (m ((c : Thread nD τ).loc main_arg4))

/-- The gain of an input block is the argument's. -/
theorem gain (c : Dev nD) (t : Fin cfg0.N) (j : Fin 3584) : iblk m c 6 t (ix2 0 j) = m ((c : Thread nD τ).loc main_arg1) (ix1 j) := by
  blk_simp [iblk]
  entry_read
  generalize hf : shapeCast _ (m _) _ = f
  refine Eq.trans (b := f (ix2 0 j)) (by blk_point [idx t]) ?_
  rw [← hf]
  pointwise

/-- An input block is the argument at the point's rows. -/
theorem xblk (c : Dev nD) (t : Fin cfg0.N) (i : Fin 512) (k : Fin 3584) :
    iblk m c 5 t (ix3 0 i k) = m ((c : Thread nD τ).loc main_arg0) (ix3 ⟨t.val / 10, by have := t.isLt; change t.val < 30 at this; omega⟩ ⟨t.val % 10 * 512 + i.val, by omega⟩ k) := by
  blk_point [iblk, V, idx t]

/-- The scale of the norm's codes. -/
theorem xscale (c : Dev nD) (t : Fin cfg0.N) : iblk m c 0 t (ix1 0) = m ((c : Thread nD τ).loc main_arg4) (ix1 0) := by
  blk_point [iblk, V, idx t]

/-- The norm of an input block is the norm of the argument at the point's rows. -/
theorem nrm_blk (c : Dev nD) (t : Fin cfg0.N) (i : Fin 512) (k : Fin 3584) :
    nrm (iblk m c 5 t) (iblk m c 6 t) i k
      = Spec.xNorm (m ((c : Thread nD τ).loc main_arg0)) (m ((c : Thread nD τ).loc main_arg1))
          ⟨t.val / 10, by have := t.isLt; change t.val < 30 at this; omega⟩ ⟨t.val % 10 * 512 + i.val, by omega⟩ k := by
  unfold nrm Spec.xNorm
  rw [gain, xblk]
  congr 1
  funext q
  exact xblk m c t i q

/-- The codes a point stores are the arguments' at the point's rows. -/
theorem codes_blk (c : Dev nD) (t : Fin cfg0.N) (i : Fin 512) (k : Fin 3584) :
    Spec.code (nrm (iblk m c 5 t) (iblk m c 6 t) i k) (iblk m c 0 t (ix1 0))
      = XC m c (ix3 ⟨t.val / 10, by have := t.isLt; change t.val < 30 at this; omega⟩ ⟨t.val % 10 * 512 + i.val, by omega⟩ k) := by
  rw [nrm_blk, xscale]
  rfl

/-- The norm's codes after the run. -/
theorem codes (c : Dev nD) : (dats m 0 c).arrAt 12 (cfgs 0).N = XC m c := by
  refine (dats m 0 c).arrAt_eq_of_covers 12 _ (by decide +kernel) fun t _ y => ?_
  blk_simp
  rw [after0_12, codesAt]
  refine (codes_blk m c t (y 1) (y 2)).trans ?_
  blk_point [idx t]

end Cert.QkvIdeal.Sem

end
-- ==== Proof.QkvHeads.lean ====
/-
  The query, key and value projections, kernel side: the codes of the heads that a point stores.
-/
module

public import proofs.«01_k».proof.Proof.QkvX

@[expose] public section

set_option maxRecDepth 16384

noncomputable section

open Idealize.ShloMosaic Idealize.ShloMosaic.TcCoe Idealize.SL.Sem
open Idealize.ShloMosaic.Pipeline (Dat)

namespace Cert.QkvIdeal.Sem

open Cert.QkvIdeal Cert.QkvIdeal.Gen

variable (m : (ℓ : Loc nD τ sig) → Buf (Elt Ideal) ℓ)

/-- A one-word load of a vector is its word there. -/
theorem first1 (h) : Shape.Idx.first (s := S1) h = ix1 0 := by
  funext a
  refine Fin.ext ?_
  match a with
  | ⟨0, _⟩ =>
    have := (Shape.Idx.first (s := S1) h 0).isLt
    show (Shape.Idx.first (s := S1) h 0).val = 0
    have e : S1.size 0 = 1 := rfl
    omega

/-- An index of a block of heads is its coordinates. -/
theorem eq4 {n : ℕ} (y : (⟨4, ![1, n, 512, 128]⟩ : Shape).Idx) (h : Fin n) (r : Fin 512) (l : Fin 128)
    (h1 : (y 1).val = h.val) (h2 : (y 2).val = r.val) (h3 : (y 3).val = l.val) : y = ix4 0 h r l := by
  funext q
  refine Fin.ext ?_
  match q with
  | ⟨0, _⟩ =>
    have := (y 0).isLt
    change (y 0).val < 1 at this
    show (y 0).val = 0
    omega
  | ⟨1, _⟩ => exact h1
  | ⟨2, _⟩ => exact h2
  | ⟨3, _⟩ => exact h3

/-- A row among 32 rows from `o` lies in their rectangle. -/
theorem in_rows (o : ℕ) (inb : ∀ a, (![0, o, 0] : Fin 3 → ℕ) a + (![1, 32, 3584] : Fin 3 → ℕ) a ≤ S1x512x3584.size a) (y : S1x512x3584.Idx)
    (h : o ≤ (y 1).val ∧ (y 1).val < o + 32) : y ∈ (Rect.unit (s := S1x512x3584) ![0, o, 0] ![1, 32, 3584] inb).set := by
  rw [Rect.mem_set_unit]
  intro a
  match a with
  | ⟨0, _⟩ =>
    have := (y 0).isLt
    change (y 0).val < 1 at this
    exact ⟨Nat.zero_le _, by show (y 0).val < 0 + 1; omega⟩
  | ⟨1, _⟩ => exact h
  | ⟨2, _⟩ =>
    have := (y 2).isLt
    change (y 2).val < 3584 at this
    exact ⟨Nat.zero_le _, by show (y 2).val < 0 + 3584; omega⟩

/-- Eight groups of 32 rows hold every row below 256. -/
theorem cover8 (w7 w6 w5 w4 w3 w2 w1 w0 : Vec Ideal S1x32x3584 .fp8e4m3) (y : S1x512x3584.Idx) (h : (y 1).val < 256) :
    ∃ p ∈ ([⟨Rect.unit (s := S1x512x3584) ![0, 224, 0] ![1, 32, 3584] inb_S1x512x3584_S1x32x3584_0_224_0, w7⟩,
      ⟨Rect.unit (s := S1x512x3584) ![0, 192, 0] ![1, 32, 3584] inb_S1x512x3584_S1x32x3584_0_192_0, w6⟩,
      ⟨Rect.unit (s := S1x512x3584) ![0, 160, 0] ![1, 32, 3584] inb_S1x512x3584_S1x32x3584_0_160_0, w5⟩,
      ⟨Rect.unit (s := S1x512x3584) ![0, 128, 0] ![1, 32, 3584] inb_S1x512x3584_S1x32x3584_0_128_0, w4⟩,
      ⟨Rect.unit (s := S1x512x3584) ![0, 96, 0] ![1, 32, 3584] inb_S1x512x3584_S1x32x3584_0_96_0, w3⟩,
      ⟨Rect.unit (s := S1x512x3584) ![0, 64, 0] ![1, 32, 3584] inb_S1x512x3584_S1x32x3584_0_64_0, w2⟩,
      ⟨Rect.unit (s := S1x512x3584) ![0, 32, 0] ![1, 32, 3584] inb_S1x512x3584_S1x32x3584_0_32_0, w1⟩,
      ⟨Rect.unit (s := S1x512x3584) ![0, 0, 0] ![1, 32, 3584] inb_S1x512x3584_S1x32x3584_0_0_0, w0⟩] : List (View.Piece (Elt Ideal) S1x512x3584 .fp8e4m3)), y ∈ p.1.set := by
  have hq : ∀ q : ℕ, q < 8 → (y 1).val / 32 = q → q * 32 ≤ (y 1).val ∧ (y 1).val < q * 32 + 32 := by omega
  match hd : (y 1).val / 32, (by omega : (y 1).val / 32 < 8) with
  | 0, _ => exact ⟨_, .tail _ (.tail _ (.tail _ (.tail _ (.tail _ (.tail _ (.tail _ (.head _))))))), in_rows 0 inb_S1x512x3584_S1x32x3584_0_0_0 y (by omega)⟩
  | 1, _ => exact ⟨_, .tail _ (.tail _ (.tail _ (.tail _ (.tail _ (.tail _ (.head _)))))), in_rows 32 inb_S1x512x3584_S1x32x3584_0_32_0 y (by omega)⟩
  | 2, _ => exact ⟨_, .tail _ (.tail _ (.tail _ (.tail _ (.tail _ (.head _))))), in_rows 64 inb_S1x512x3584_S1x32x3584_0_64_0 y (by omega)⟩
  | 3, _ => exact ⟨_, .tail _ (.tail _ (.tail _ (.tail _ (.head _)))), in_rows 96 inb_S1x512x3584_S1x32x3584_0_96_0 y (by omega)⟩
  | 4, _ => exact ⟨_, .tail _ (.tail _ (.tail _ (.head _))), in_rows 128 inb_S1x512x3584_S1x32x3584_0_128_0 y (by omega)⟩
  | 5, _ => exact ⟨_, .tail _ (.tail _ (.head _)), in_rows 160 inb_S1x512x3584_S1x32x3584_0_160_0 y (by omega)⟩
  | 6, _ => exact ⟨_, .tail _ (.head _), in_rows 192 inb_S1x512x3584_S1x32x3584_0_192_0 y (by omega)⟩
  | 7, _ => exact ⟨_, .head _, in_rows 224 inb_S1x512x3584_S1x32x3584_0_224_0 y (by omega)⟩

/-- The projection of a block's row `i` onto the weights' column `J`. -/
def pB (X : Vec Ideal S1x512x3584 .bf16) (g : Vec Ideal S1x3584 .f32) (xs ws : Vec Ideal S1 .f32) (w : Vec Ideal S3584x2304 .fp8e4m3)
    (i : Fin 512) (J : Fin 2304) : EReal :=
  Spec.lin (fun k => Spec.code (nrm X g i k) (xs (ix1 0))) (fun k => w (ix2 k J)) (xs (ix1 0) * ws (ix1 0))

/-- The value of a query or key head whose columns begin at `o`, at a block's row `i`. -/
def qkB (p : Fin 512 → Fin 2304 → EReal) (gain : Vec Ideal S1x128 .f32) (cos sin : Vec Ideal S1x64x512 .f32) (o : ℕ) (ho : o + 128 ≤ 2304)
    (i : Fin 512) (l : Fin 128) : EReal :=
  Spec.rope (fun k => cos (ix3 0 k i)) (fun k => sin (ix3 0 k i)) (Spec.headNorm (fun q => gain (ix2 0 q)) fun q => p i ⟨o + q.val, by omega⟩) l

/-- The rotation as the body writes it: the row times the doubled cosine, plus the row rolled by a half times the sine whose first
    half is negated. -/
theorem rope_roll (f : Fin 128 → EReal) (cos sin : Fin 64 → EReal) (l : Fin 128) (hl : (l.val + 128 - 64) % 128 < 128) :
    (f l * if h : l.val < 64 then cos ⟨l.val, h⟩ else cos ⟨l.val - 64, by omega⟩)
        + f ⟨(l.val + 128 - 64) % 128, hl⟩ * (if h : l.val < 64 then 0 - sin ⟨l.val, h⟩ else sin ⟨l.val - 64, by omega⟩)
      = Spec.rope cos sin f l := by
  unfold Spec.rope
  split
  · rename_i h
    rw [zero_sub, mul_neg, ← sub_eq_add_neg]
    congr 2
    exact congrArg f (Fin.ext (by first | rfl | (simp only []; omega)))
  · congr 2
    exact congrArg f (Fin.ext (by first | rfl | (simp only []; omega)))

/-- A head's row as the body computes it is the head's row. -/
theorem head_at (C : Fin 3584 → EReal) (w : Vec Ideal S3584x2304 .fp8e4m3) (s : EReal) (gain : Vec Ideal S1x128 .f32) (cos sin : Fin 64 → EReal)
    (col : Fin 128 → Fin 2304) (l : Fin 128) (hl : (l.val + 128 - 64) % 128 < 128) (p : Fin 128 → EReal)
    (hp : ∀ q, Spec.lin C (fun k => w (ix2 k (col q))) s = p q) :
    (Spec.headNorm (fun q => gain (ix2 0 q)) (fun q => (∑ k, C k * w (ix2 k (col q))) * s) l
        * if h : l.val < 64 then cos ⟨l.val, h⟩ else cos ⟨l.val - 64, by omega⟩)
      + Spec.headNorm (fun q => gain (ix2 0 q)) (fun q => (∑ k, C k * w (ix2 k (col q))) * s) ⟨(l.val + 128 - 64) % 128, hl⟩
        * (if h : l.val < 64 then 0 - sin ⟨l.val, h⟩ else sin ⟨l.val - 64, by omega⟩)
      = Spec.rope cos sin (Spec.headNorm (fun q => gain (ix2 0 q)) p) l := by
  obtain rfl : (fun q => Spec.lin C (fun k => w (ix2 k (col q))) s) = p := funext hp
  exact rope_roll _ cos sin l hl

set_option maxHeartbeats 4000000 in
/-- The value codes a point stores. -/
theorem v_at (c : Dev nD) (t : Fin cfg0.N) (y : S1x2x512x128.Idx) :
    (outsAt0 m c t.val t.isLt).2.2.2.1 y = Spec.code ((pB (iblk m c 5 t) (iblk m c 6 t) (iblk m c 0 t) (iblk m c 1 t) (iblk m c 11 t)) (y 2) ⟨2048 + (y 1).val * 128 + (y 3).val, by have h := (y 1).isLt; change (y 1).val < 2 at h; have h := (y 3).isLt; change (y 3).val < 128 at h; omega⟩) (iblk m c 4 t (ix1 (y 1))) := by
  have key : ∃ v : Vec Ideal S1x2x512x128 .fp8e4m3,
      ((t.val % 30 = 0 → ¬t.val % 30 = 29 → (outsAt0 m c t.val t.isLt).2.2.2.1 y = v y)
      ∧ (¬t.val % 30 = 0 → ¬t.val % 30 = 29 → (outsAt0 m c t.val t.isLt).2.2.2.1 y = v y)
      ∧ (¬t.val % 30 = 0 → t.val % 30 = 29 → (outsAt0 m c t.val t.isLt).2.2.2.1 y = v y))
      ∧ v y = Spec.code ((pB (iblk m c 5 t) (iblk m c 6 t) (iblk m c 0 t) (iblk m c 1 t) (iblk m c 11 t)) (y 2) ⟨2048 + (y 1).val * 128 + (y 3).val, by have h := (y 1).isLt; change (y 1).val < 2 at h; have h := (y 3).isLt; change (y 3).val < 128 at h; omega⟩) (iblk m c 4 t (ix1 (y 1))) := by
    refine ⟨?v, ⟨fun h0 h1 => ?a, fun h0 h1 => ?b, fun h0 h1 => ?c⟩, ?d⟩
    case a => rw [outsAt0_A m c t h0 h1]; frame_out; exact rfl
    case b => rw [outsAt0_B m c t h0 h1]; frame_out
    case c => rw [outsAt0_C m c t h0 h1]; frame_out
    case d =>
      generalize (iblk m c 0 t : Vec Ideal S1 .f32) = b0
      generalize (iblk m c 1 t : Vec Ideal S1 .f32) = b1
      generalize (iblk m c 5 t : Vec Ideal S1x512x3584 .bf16) = b5
      generalize (iblk m c 6 t : Vec Ideal S1x3584 .f32) = b6
      generalize (iblk m c 11 t : Vec Ideal S3584x2304 .fp8e4m3) = b11
      generalize (iblk m c 4 t : Vec Ideal S2 .f32) = b4
      generalize hC1 : View.readCov (Val := Elt Ideal) (ms0_12 t).view _ (Rect.unit ![0, 256, 0] ![1, 256, 3584] inb_S1x512x3584_S1x256x3584_0_256_0).toLoadRect = C1
      have eC1 : ∀ (i : Fin 256) (k : Fin 3584), C1 (ix3 0 i k) = Spec.code (nrm b5 b6 ⟨256 + i.val, by omega⟩ k) (b0 (ix1 0)) := by
        intro i k
        rw [← hC1, View.readCov_eq_canon']
        obtain ⟨y, hy⟩ : ∃ y : S1x512x3584.Idx, y = (Rect.unit ![0, 256, 0] ![1, 256, 3584] inb_S1x512x3584_S1x256x3584_0_256_0).idx (ix3 0 i k) := ⟨_, rfl⟩
        beta_reduce
        rw [← hy]
        have e0 : (y 0).val = 0 := by rw [hy]; rfl
        have e1 : (y 1).val = 256 + i.val := by rw [hy]; show 256 + 1 * i.val = _; omega
        have e2 : (y 2).val = k.val := by rw [hy]; show 0 + 1 * k.val = _; omega
        clear hy hC1
        obtain rfl : y 2 = k := Fin.ext e2
        rw [show (⟨256 + i.val, by omega⟩ : Fin 512) = y 1 from Fin.ext (by simp only []; omega)]
        clear e1
        canon_tiles x h
        all_goals
          open_payloads
          idx_vars x
          pointwise [nrm, Spec.code, Spec.rms]
          obtain rfl : x2 = y 2 := Fin.ext h2.symm
          simp only [← h1]
          rfl
      clear hC1
      generalize hC0 : View.readCov (Val := Elt Ideal) (ms0_12 t).view _ (Rect.unit ![0, 0, 0] ![1, 256, 3584] inb_S1x512x3584_S1x256x3584_0_0_0).toLoadRect = C0
      have eC0 : ∀ (i : Fin 256) (k : Fin 3584), C0 (ix3 0 i k) = Spec.code (nrm b5 b6 ⟨i.val, by omega⟩ k) (b0 (ix1 0)) := by
        intro i k
        rw [← hC0, View.readCov_eq_canon']
        obtain ⟨y, hy⟩ : ∃ y : S1x512x3584.Idx, y = (Rect.unit ![0, 0, 0] ![1, 256, 3584] inb_S1x512x3584_S1x256x3584_0_0_0).idx (ix3 0 i k) := ⟨_, rfl⟩
        beta_reduce
        rw [← hy]
        have e0 : (y 0).val = 0 := by rw [hy]; rfl
        have e1 : (y 1).val = 0 + i.val := by rw [hy]; show 0 + 1 * i.val = _; omega
        have e2 : (y 2).val = k.val := by rw [hy]; show 0 + 1 * k.val = _; omega
        clear hy hC0
        obtain rfl : y 2 = k := Fin.ext e2
        rw [show (⟨i.val, by omega⟩ : Fin 512) = y 1 from Fin.ext (by simp only []; omega)]
        skip
        canon_tiles x h using (cover8 _ _ _ _ _ _ _ _ y (by omega))
        all_goals
          open_payloads
          idx_vars x
          pointwise [nrm, Spec.code, Spec.rms]
          obtain rfl : x2 = y 2 := Fin.ext h2.symm
          simp only [← h1]
          rfl
      clear hC0
      clear * - eC0 eC1
      canon_tiles x h
      case piece0 =>
        idx_vars x
        have hy := eq4 y ⟨1, by decide⟩ ⟨256 + x2.val, by clear h0 h1 h2 h3; omega⟩ x3 (by first | omega | (simp only []; omega)) (by first | omega | (simp only []; omega)) (by omega)
        clear h0 h1 h2 h3
        subst hy
        open_payloads
        pointwise
        simp only [eC1]
        exact congrArg (fun J => Spec.code (pB b5 b6 b0 b1 b11 ⟨256 + x2.val, by omega⟩ J) (b4 (ix1 1))) (Fin.ext (by first | rfl | (simp only []; omega)))
      case piece1 =>
        idx_vars x
        have hy := eq4 y ⟨0, by decide⟩ ⟨256 + x2.val, by clear h0 h1 h2 h3; omega⟩ x3 (by first | omega | (simp only []; omega)) (by first | omega | (simp only []; omega)) (by omega)
        clear h0 h1 h2 h3
        subst hy
        open_payloads
        pointwise
        simp only [eC1]
        exact congrArg (fun J => Spec.code (pB b5 b6 b0 b1 b11 ⟨256 + x2.val, by omega⟩ J) (b4 (ix1 0))) (Fin.ext (by first | rfl | (simp only []; omega)))
      case piece2 =>
        idx_vars x
        have hy := eq4 y ⟨1, by decide⟩ ⟨x2.val, by clear h0 h1 h2 h3; omega⟩ x3 (by first | omega | (simp only []; omega)) (by first | omega | (simp only []; omega)) (by omega)
        clear h0 h1 h2 h3
        subst hy
        open_payloads
        pointwise
        simp only [eC0]
        exact congrArg (fun J => Spec.code (pB b5 b6 b0 b1 b11 ⟨x2.val, by omega⟩ J) (b4 (ix1 1))) (Fin.ext (by first | rfl | (simp only []; omega)))
      case piece3 =>
        idx_vars x
        have hy := eq4 y ⟨0, by decide⟩ ⟨x2.val, by clear h0 h1 h2 h3; omega⟩ x3 (by first | omega | (simp only []; omega)) (by first | omega | (simp only []; omega)) (by omega)
        clear h0 h1 h2 h3
        subst hy
        open_payloads
        pointwise
        simp only [eC0]
        exact congrArg (fun J => Spec.code (pB b5 b6 b0 b1 b11 ⟨x2.val, by omega⟩ J) (b4 (ix1 0))) (Fin.ext (by first | rfl | (simp only []; omega)))
  obtain ⟨v, ⟨hA, hB, hC⟩, hv⟩ := key
  refine Eq.trans ?_ hv
  by_cases h0 : t.val % 30 = 0
  · exact hA h0 (by omega)
  · by_cases h1 : t.val % 30 = 29
    · exact hC h0 h1
    · exact hB h0 h1

set_option maxHeartbeats 4000000 in
/-- The key codes a point stores. -/
theorem k_at (c : Dev nD) (t : Fin cfg0.N) (y : S1x2x512x128.Idx) :
    (outsAt0 m c t.val t.isLt).2.2.1 y = Spec.code (qkB (pB (iblk m c 5 t) (iblk m c 6 t) (iblk m c 0 t) (iblk m c 1 t) (iblk m c 11 t)) (iblk m c 8 t) (iblk m c 9 t) (iblk m c 10 t) (1792 + (y 1).val * 128) (by have h := (y 1).isLt; change (y 1).val < 2 at h; omega) (y 2) (y 3)) (iblk m c 3 t (ix1 (y 1))) := by
  have key : ∃ v : Vec Ideal S1x2x512x128 .fp8e4m3,
      ((t.val % 30 = 0 → ¬t.val % 30 = 29 → (outsAt0 m c t.val t.isLt).2.2.1 y = v y)
      ∧ (¬t.val % 30 = 0 → ¬t.val % 30 = 29 → (outsAt0 m c t.val t.isLt).2.2.1 y = v y)
      ∧ (¬t.val % 30 = 0 → t.val % 30 = 29 → (outsAt0 m c t.val t.isLt).2.2.1 y = v y))
      ∧ v y = Spec.code (qkB (pB (iblk m c 5 t) (iblk m c 6 t) (iblk m c 0 t) (iblk m c 1 t) (iblk m c 11 t)) (iblk m c 8 t) (iblk m c 9 t) (iblk m c 10 t) (1792 + (y 1).val * 128) (by have h := (y 1).isLt; change (y 1).val < 2 at h; omega) (y 2) (y 3)) (iblk m c 3 t (ix1 (y 1))) := by
    refine ⟨?v, ⟨fun h0 h1 => ?a, fun h0 h1 => ?b, fun h0 h1 => ?c⟩, ?d⟩
    case a => rw [outsAt0_A m c t h0 h1]; frame_out; exact rfl
    case b => rw [outsAt0_B m c t h0 h1]; frame_out
    case c => rw [outsAt0_C m c t h0 h1]; frame_out
    case d =>
      generalize (iblk m c 0 t : Vec Ideal S1 .f32) = b0
      generalize (iblk m c 1 t : Vec Ideal S1 .f32) = b1
      generalize (iblk m c 5 t : Vec Ideal S1x512x3584 .bf16) = b5
      generalize (iblk m c 6 t : Vec Ideal S1x3584 .f32) = b6
      generalize (iblk m c 11 t : Vec Ideal S3584x2304 .fp8e4m3) = b11
      generalize (iblk m c 3 t : Vec Ideal S2 .f32) = b3
      generalize (iblk m c 8 t : Vec Ideal S1x128 .f32) = b8
      generalize (iblk m c 9 t : Vec Ideal S1x64x512 .f32) = b9
      generalize (iblk m c 10 t : Vec Ideal S1x64x512 .f32) = b10
      generalize hC1 : View.readCov (Val := Elt Ideal) (ms0_12 t).view _ (Rect.unit ![0, 256, 0] ![1, 256, 3584] inb_S1x512x3584_S1x256x3584_0_256_0).toLoadRect = C1
      have eC1 : ∀ (i : Fin 256) (k : Fin 3584), C1 (ix3 0 i k) = Spec.code (nrm b5 b6 ⟨256 + i.val, by omega⟩ k) (b0 (ix1 0)) := by
        intro i k
        rw [← hC1, View.readCov_eq_canon']
        obtain ⟨y, hy⟩ : ∃ y : S1x512x3584.Idx, y = (Rect.unit ![0, 256, 0] ![1, 256, 3584] inb_S1x512x3584_S1x256x3584_0_256_0).idx (ix3 0 i k) := ⟨_, rfl⟩
        beta_reduce
        rw [← hy]
        have e0 : (y 0).val = 0 := by rw [hy]; rfl
        have e1 : (y 1).val = 256 + i.val := by rw [hy]; show 256 + 1 * i.val = _; omega
        have e2 : (y 2).val = k.val := by rw [hy]; show 0 + 1 * k.val = _; omega
        clear hy hC1
        obtain rfl : y 2 = k := Fin.ext e2
        rw [show (⟨256 + i.val, by omega⟩ : Fin 512) = y 1 from Fin.ext (by simp only []; omega)]
        clear e1
        canon_tiles x h
        all_goals
          open_payloads
          idx_vars x
          pointwise [nrm, Spec.code, Spec.rms]
          obtain rfl : x2 = y 2 := Fin.ext h2.symm
          simp only [← h1]
          rfl
      clear hC1
      generalize hC0 : View.readCov (Val := Elt Ideal) (ms0_12 t).view _ (Rect.unit ![0, 0, 0] ![1, 256, 3584] inb_S1x512x3584_S1x256x3584_0_0_0).toLoadRect = C0
      have eC0 : ∀ (i : Fin 256) (k : Fin 3584), C0 (ix3 0 i k) = Spec.code (nrm b5 b6 ⟨i.val, by omega⟩ k) (b0 (ix1 0)) := by
        intro i k
        rw [← hC0, View.readCov_eq_canon']
        obtain ⟨y, hy⟩ : ∃ y : S1x512x3584.Idx, y = (Rect.unit ![0, 0, 0] ![1, 256, 3584] inb_S1x512x3584_S1x256x3584_0_0_0).idx (ix3 0 i k) := ⟨_, rfl⟩
        beta_reduce
        rw [← hy]
        have e0 : (y 0).val = 0 := by rw [hy]; rfl
        have e1 : (y 1).val = 0 + i.val := by rw [hy]; show 0 + 1 * i.val = _; omega
        have e2 : (y 2).val = k.val := by rw [hy]; show 0 + 1 * k.val = _; omega
        clear hy hC0
        obtain rfl : y 2 = k := Fin.ext e2
        rw [show (⟨i.val, by omega⟩ : Fin 512) = y 1 from Fin.ext (by simp only []; omega)]
        skip
        canon_tiles x h using (cover8 _ _ _ _ _ _ _ _ y (by omega))
        all_goals
          open_payloads
          idx_vars x
          pointwise [nrm, Spec.code, Spec.rms]
          obtain rfl : x2 = y 2 := Fin.ext h2.symm
          simp only [← h1]
          rfl
      clear hC0
      clear * - eC0 eC1
      canon_tiles x h
      case piece0 =>
        idx_vars x
        have hy := eq4 y ⟨1, by decide⟩ ⟨256 + x2.val, by clear h0 h1 h2 h3; omega⟩ x3 (by first | omega | (simp only []; omega)) (by first | omega | (simp only []; omega)) (by omega)
        clear h0 h1 h2 h3
        subst hy
        open_payloads
        pointwise
        exact congrArg (fun v => Spec.code v (b3 (ix1 1))) (head_at (fun k => C1 (ix3 0 x2 k)) b11 _ b8 (fun k => b9 (ix3 0 k ⟨256 + x2.val, by omega⟩)) (fun k => b10 (ix3 0 k ⟨256 + x2.val, by omega⟩))
          (fun q => ⟨1536 + (384 + q.val), by omega⟩) x3 (by omega) _ fun q => by
            simp only [eC1]
            exact congrArg (fun J => pB b5 b6 b0 b1 b11 ⟨256 + x2.val, by omega⟩ J) (Fin.ext (by first | rfl | (simp only []; omega))))
      case piece1 =>
        idx_vars x
        have hy := eq4 y ⟨0, by decide⟩ ⟨256 + x2.val, by clear h0 h1 h2 h3; omega⟩ x3 (by first | omega | (simp only []; omega)) (by first | omega | (simp only []; omega)) (by omega)
        clear h0 h1 h2 h3
        subst hy
        open_payloads
        pointwise
        exact congrArg (fun v => Spec.code v (b3 (ix1 0))) (head_at (fun k => C1 (ix3 0 x2 k)) b11 _ b8 (fun k => b9 (ix3 0 k ⟨256 + x2.val, by omega⟩)) (fun k => b10 (ix3 0 k ⟨256 + x2.val, by omega⟩))
          (fun q => ⟨1536 + (256 + q.val), by omega⟩) x3 (by omega) _ fun q => by
            simp only [eC1]
            exact congrArg (fun J => pB b5 b6 b0 b1 b11 ⟨256 + x2.val, by omega⟩ J) (Fin.ext (by first | rfl | (simp only []; omega))))
      case piece2 =>
        idx_vars x
        have hy := eq4 y ⟨1, by decide⟩ ⟨x2.val, by clear h0 h1 h2 h3; omega⟩ x3 (by first | omega | (simp only []; omega)) (by first | omega | (simp only []; omega)) (by omega)
        clear h0 h1 h2 h3
        subst hy
        open_payloads
        pointwise
        exact congrArg (fun v => Spec.code v (b3 (ix1 1))) (head_at (fun k => C0 (ix3 0 x2 k)) b11 _ b8 (fun k => b9 (ix3 0 k ⟨x2.val, by omega⟩)) (fun k => b10 (ix3 0 k ⟨x2.val, by omega⟩))
          (fun q => ⟨1536 + (384 + q.val), by omega⟩) x3 (by omega) _ fun q => by
            simp only [eC0]
            exact congrArg (fun J => pB b5 b6 b0 b1 b11 ⟨x2.val, by omega⟩ J) (Fin.ext (by first | rfl | (simp only []; omega))))
      case piece3 =>
        idx_vars x
        have hy := eq4 y ⟨0, by decide⟩ ⟨x2.val, by clear h0 h1 h2 h3; omega⟩ x3 (by first | omega | (simp only []; omega)) (by first | omega | (simp only []; omega)) (by omega)
        clear h0 h1 h2 h3
        subst hy
        open_payloads
        pointwise
        exact congrArg (fun v => Spec.code v (b3 (ix1 0))) (head_at (fun k => C0 (ix3 0 x2 k)) b11 _ b8 (fun k => b9 (ix3 0 k ⟨x2.val, by omega⟩)) (fun k => b10 (ix3 0 k ⟨x2.val, by omega⟩))
          (fun q => ⟨1536 + (256 + q.val), by omega⟩) x3 (by omega) _ fun q => by
            simp only [eC0]
            exact congrArg (fun J => pB b5 b6 b0 b1 b11 ⟨x2.val, by omega⟩ J) (Fin.ext (by first | rfl | (simp only []; omega))))
  obtain ⟨v, ⟨hA, hB, hC⟩, hv⟩ := key
  refine Eq.trans ?_ hv
  by_cases h0 : t.val % 30 = 0
  · exact hA h0 (by omega)
  · by_cases h1 : t.val % 30 = 29
    · exact hC h0 h1
    · exact hB h0 h1

end Cert.QkvIdeal.Sem

end
-- ==== Proof.QkvHeadsQ.lean ====
/-
  The query, key and value projections, kernel side: the query codes that a point stores.
-/
module

public import proofs.«01_k».proof.Proof.QkvHeads

@[expose] public section

set_option maxRecDepth 16384

noncomputable section

open Idealize.ShloMosaic Idealize.ShloMosaic.TcCoe Idealize.SL.Sem
open Idealize.ShloMosaic.Pipeline (Dat)

namespace Cert.QkvIdeal.Sem

open Cert.QkvIdeal Cert.QkvIdeal.Gen

variable (m : (ℓ : Loc nD τ sig) → Buf (Elt Ideal) ℓ)

set_option maxHeartbeats 4000000 in
/-- The query codes a point stores. -/
theorem q_at (c : Dev nD) (t : Fin cfg0.N) (y : S1x14x512x128.Idx) :
    (outsAt0 m c t.val t.isLt).2.1 y = Spec.code (qkB (pB (iblk m c 5 t) (iblk m c 6 t) (iblk m c 0 t) (iblk m c 1 t) (iblk m c 11 t)) (iblk m c 7 t) (iblk m c 9 t) (iblk m c 10 t) (0 + (y 1).val * 128) (by have h := (y 1).isLt; change (y 1).val < 14 at h; omega) (y 2) (y 3)) (iblk m c 2 t (ix1 (y 1))) := by
  have key : ∃ v : Vec Ideal S1x14x512x128 .fp8e4m3,
      ((t.val % 30 = 0 → ¬t.val % 30 = 29 → (outsAt0 m c t.val t.isLt).2.1 y = v y)
      ∧ (¬t.val % 30 = 0 → ¬t.val % 30 = 29 → (outsAt0 m c t.val t.isLt).2.1 y = v y)
      ∧ (¬t.val % 30 = 0 → t.val % 30 = 29 → (outsAt0 m c t.val t.isLt).2.1 y = v y))
      ∧ v y = Spec.code (qkB (pB (iblk m c 5 t) (iblk m c 6 t) (iblk m c 0 t) (iblk m c 1 t) (iblk m c 11 t)) (iblk m c 7 t) (iblk m c 9 t) (iblk m c 10 t) (0 + (y 1).val * 128) (by have h := (y 1).isLt; change (y 1).val < 14 at h; omega) (y 2) (y 3)) (iblk m c 2 t (ix1 (y 1))) := by
    refine ⟨?v, ⟨fun h0 h1 => ?a, fun h0 h1 => ?b, fun h0 h1 => ?c⟩, ?d⟩
    case a => rw [outsAt0_A m c t h0 h1]; frame_out; exact rfl
    case b => rw [outsAt0_B m c t h0 h1]; frame_out
    case c => rw [outsAt0_C m c t h0 h1]; frame_out
    case d =>
      generalize (iblk m c 0 t : Vec Ideal S1 .f32) = b0
      generalize (iblk m c 1 t : Vec Ideal S1 .f32) = b1
      generalize (iblk m c 5 t : Vec Ideal S1x512x3584 .bf16) = b5
      generalize (iblk m c 6 t : Vec Ideal S1x3584 .f32) = b6
      generalize (iblk m c 11 t : Vec Ideal S3584x2304 .fp8e4m3) = b11
      generalize (iblk m c 2 t : Vec Ideal S14 .f32) = b2
      generalize (iblk m c 7 t : Vec Ideal S1x128 .f32) = b7
      generalize (iblk m c 9 t : Vec Ideal S1x64x512 .f32) = b9
      generalize (iblk m c 10 t : Vec Ideal S1x64x512 .f32) = b10
      generalize hC1 : View.readCov (Val := Elt Ideal) (ms0_12 t).view _ (Rect.unit ![0, 256, 0] ![1, 256, 3584] inb_S1x512x3584_S1x256x3584_0_256_0).toLoadRect = C1
      have eC1 : ∀ (i : Fin 256) (k : Fin 3584), C1 (ix3 0 i k) = Spec.code (nrm b5 b6 ⟨256 + i.val, by omega⟩ k) (b0 (ix1 0)) := by
        intro i k
        rw [← hC1, View.readCov_eq_canon']
        obtain ⟨y, hy⟩ : ∃ y : S1x512x3584.Idx, y = (Rect.unit ![0, 256, 0] ![1, 256, 3584] inb_S1x512x3584_S1x256x3584_0_256_0).idx (ix3 0 i k) := ⟨_, rfl⟩
        beta_reduce
        rw [← hy]
        have e0 : (y 0).val = 0 := by rw [hy]; rfl
        have e1 : (y 1).val = 256 + i.val := by rw [hy]; show 256 + 1 * i.val = _; omega
        have e2 : (y 2).val = k.val := by rw [hy]; show 0 + 1 * k.val = _; omega
        clear hy hC1
        obtain rfl : y 2 = k := Fin.ext e2
        rw [show (⟨256 + i.val, by omega⟩ : Fin 512) = y 1 from Fin.ext (by simp only []; omega)]
        clear e1
        canon_tiles x h
        all_goals
          open_payloads
          idx_vars x
          pointwise [nrm, Spec.code, Spec.rms]
          obtain rfl : x2 = y 2 := Fin.ext h2.symm
          simp only [← h1]
          rfl
      clear hC1
      generalize hC0 : View.readCov (Val := Elt Ideal) (ms0_12 t).view _ (Rect.unit ![0, 0, 0] ![1, 256, 3584] inb_S1x512x3584_S1x256x3584_0_0_0).toLoadRect = C0
      have eC0 : ∀ (i : Fin 256) (k : Fin 3584), C0 (ix3 0 i k) = Spec.code (nrm b5 b6 ⟨i.val, by omega⟩ k) (b0 (ix1 0)) := by
        intro i k
        rw [← hC0, View.readCov_eq_canon']
        obtain ⟨y, hy⟩ : ∃ y : S1x512x3584.Idx, y = (Rect.unit ![0, 0, 0] ![1, 256, 3584] inb_S1x512x3584_S1x256x3584_0_0_0).idx (ix3 0 i k) := ⟨_, rfl⟩
        beta_reduce
        rw [← hy]
        have e0 : (y 0).val = 0 := by rw [hy]; rfl
        have e1 : (y 1).val = 0 + i.val := by rw [hy]; show 0 + 1 * i.val = _; omega
        have e2 : (y 2).val = k.val := by rw [hy]; show 0 + 1 * k.val = _; omega
        clear hy hC0
        obtain rfl : y 2 = k := Fin.ext e2
        rw [show (⟨i.val, by omega⟩ : Fin 512) = y 1 from Fin.ext (by simp only []; omega)]
        skip
        canon_tiles x h using (cover8 _ _ _ _ _ _ _ _ y (by omega))
        all_goals
          open_payloads
          idx_vars x
          pointwise [nrm, Spec.code, Spec.rms]
          obtain rfl : x2 = y 2 := Fin.ext h2.symm
          simp only [← h1]
          rfl
      clear hC0
      clear * - eC0 eC1
      canon_tiles x h
      case piece0 =>
        idx_vars x
        have hy := eq4 y ⟨13, by decide⟩ ⟨256 + x2.val, by clear h0 h1 h2 h3; omega⟩ x3 (by first | omega | (simp only []; omega)) (by first | omega | (simp only []; omega)) (by omega)
        clear h0 h1 h2 h3
        subst hy
        open_payloads
        pointwise
        exact congrArg (fun v => Spec.code v (b2 (ix1 13))) (head_at (fun k => C1 (ix3 0 x2 k)) b11 _ b7 (fun k => b9 (ix3 0 k ⟨256 + x2.val, by omega⟩)) (fun k => b10 (ix3 0 k ⟨256 + x2.val, by omega⟩))
          (fun q => ⟨1536 + (128 + q.val), by omega⟩) x3 (by omega) _ fun q => by
            simp only [eC1]
            exact congrArg (fun J => pB b5 b6 b0 b1 b11 ⟨256 + x2.val, by omega⟩ J) (Fin.ext (by first | rfl | (simp only []; omega))))
      case piece1 =>
        idx_vars x
        have hy := eq4 y ⟨12, by decide⟩ ⟨256 + x2.val, by clear h0 h1 h2 h3; omega⟩ x3 (by first | omega | (simp only []; omega)) (by first | omega | (simp only []; omega)) (by omega)
        clear h0 h1 h2 h3
        subst hy
        open_payloads
        pointwise
        exact congrArg (fun v => Spec.code v (b2 (ix1 12))) (head_at (fun k => C1 (ix3 0 x2 k)) b11 _ b7 (fun k => b9 (ix3 0 k ⟨256 + x2.val, by omega⟩)) (fun k => b10 (ix3 0 k ⟨256 + x2.val, by omega⟩))
          (fun q => ⟨1536 + q.val, by omega⟩) x3 (by omega) _ fun q => by
            simp only [eC1]
            exact congrArg (fun J => pB b5 b6 b0 b1 b11 ⟨256 + x2.val, by omega⟩ J) (Fin.ext (by first | rfl | (simp only []; omega))))
      case piece2 =>
        idx_vars x
        have hy := eq4 y ⟨11, by decide⟩ ⟨256 + x2.val, by clear h0 h1 h2 h3; omega⟩ x3 (by first | omega | (simp only []; omega)) (by first | omega | (simp only []; omega)) (by omega)
        clear h0 h1 h2 h3
        subst hy
        open_payloads
        pointwise
        exact congrArg (fun v => Spec.code v (b2 (ix1 11))) (head_at (fun k => C1 (ix3 0 x2 k)) b11 _ b7 (fun k => b9 (ix3 0 k ⟨256 + x2.val, by omega⟩)) (fun k => b10 (ix3 0 k ⟨256 + x2.val, by omega⟩))
          (fun q => ⟨1024 + (384 + q.val), by omega⟩) x3 (by omega) _ fun q => by
            simp only [eC1]
            exact congrArg (fun J => pB b5 b6 b0 b1 b11 ⟨256 + x2.val, by omega⟩ J) (Fin.ext (by first | rfl | (simp only []; omega))))
      case piece3 =>
        idx_vars x
        have hy := eq4 y ⟨10, by decide⟩ ⟨256 + x2.val, by clear h0 h1 h2 h3; omega⟩ x3 (by first | omega | (simp only []; omega)) (by first | omega | (simp only []; omega)) (by omega)
        clear h0 h1 h2 h3
        subst hy
        open_payloads
        pointwise
        exact congrArg (fun v => Spec.code v (b2 (ix1 10))) (head_at (fun k => C1 (ix3 0 x2 k)) b11 _ b7 (fun k => b9 (ix3 0 k ⟨256 + x2.val, by omega⟩)) (fun k => b10 (ix3 0 k ⟨256 + x2.val, by omega⟩))
          (fun q => ⟨1024 + (256 + q.val), by omega⟩) x3 (by omega) _ fun q => by
            simp only [eC1]
            exact congrArg (fun J => pB b5 b6 b0 b1 b11 ⟨256 + x2.val, by omega⟩ J) (Fin.ext (by first | rfl | (simp only []; omega))))
      case piece4 =>
        idx_vars x
        have hy := eq4 y ⟨9, by decide⟩ ⟨256 + x2.val, by clear h0 h1 h2 h3; omega⟩ x3 (by first | omega | (simp only []; omega)) (by first | omega | (simp only []; omega)) (by omega)
        clear h0 h1 h2 h3
        subst hy
        open_payloads
        pointwise
        exact congrArg (fun v => Spec.code v (b2 (ix1 9))) (head_at (fun k => C1 (ix3 0 x2 k)) b11 _ b7 (fun k => b9 (ix3 0 k ⟨256 + x2.val, by omega⟩)) (fun k => b10 (ix3 0 k ⟨256 + x2.val, by omega⟩))
          (fun q => ⟨1024 + (128 + q.val), by omega⟩) x3 (by omega) _ fun q => by
            simp only [eC1]
            exact congrArg (fun J => pB b5 b6 b0 b1 b11 ⟨256 + x2.val, by omega⟩ J) (Fin.ext (by first | rfl | (simp only []; omega))))
      case piece5 =>
        idx_vars x
        have hy := eq4 y ⟨8, by decide⟩ ⟨256 + x2.val, by clear h0 h1 h2 h3; omega⟩ x3 (by first | omega | (simp only []; omega)) (by first | omega | (simp only []; omega)) (by omega)
        clear h0 h1 h2 h3
        subst hy
        open_payloads
        pointwise
        exact congrArg (fun v => Spec.code v (b2 (ix1 8))) (head_at (fun k => C1 (ix3 0 x2 k)) b11 _ b7 (fun k => b9 (ix3 0 k ⟨256 + x2.val, by omega⟩)) (fun k => b10 (ix3 0 k ⟨256 + x2.val, by omega⟩))
          (fun q => ⟨1024 + q.val, by omega⟩) x3 (by omega) _ fun q => by
            simp only [eC1]
            exact congrArg (fun J => pB b5 b6 b0 b1 b11 ⟨256 + x2.val, by omega⟩ J) (Fin.ext (by first | rfl | (simp only []; omega))))
      case piece6 =>
        idx_vars x
        have hy := eq4 y ⟨7, by decide⟩ ⟨256 + x2.val, by clear h0 h1 h2 h3; omega⟩ x3 (by first | omega | (simp only []; omega)) (by first | omega | (simp only []; omega)) (by omega)
        clear h0 h1 h2 h3
        subst hy
        open_payloads
        pointwise
        exact congrArg (fun v => Spec.code v (b2 (ix1 7))) (head_at (fun k => C1 (ix3 0 x2 k)) b11 _ b7 (fun k => b9 (ix3 0 k ⟨256 + x2.val, by omega⟩)) (fun k => b10 (ix3 0 k ⟨256 + x2.val, by omega⟩))
          (fun q => ⟨512 + (384 + q.val), by omega⟩) x3 (by omega) _ fun q => by
            simp only [eC1]
            exact congrArg (fun J => pB b5 b6 b0 b1 b11 ⟨256 + x2.val, by omega⟩ J) (Fin.ext (by first | rfl | (simp only []; omega))))
      case piece7 =>
        idx_vars x
        have hy := eq4 y ⟨6, by decide⟩ ⟨256 + x2.val, by clear h0 h1 h2 h3; omega⟩ x3 (by first | omega | (simp only []; omega)) (by first | omega | (simp only []; omega)) (by omega)
        clear h0 h1 h2 h3
        subst hy
        open_payloads
        pointwise
        exact congrArg (fun v => Spec.code v (b2 (ix1 6))) (head_at (fun k => C1 (ix3 0 x2 k)) b11 _ b7 (fun k => b9 (ix3 0 k ⟨256 + x2.val, by omega⟩)) (fun k => b10 (ix3 0 k ⟨256 + x2.val, by omega⟩))
          (fun q => ⟨512 + (256 + q.val), by omega⟩) x3 (by omega) _ fun q => by
            simp only [eC1]
            exact congrArg (fun J => pB b5 b6 b0 b1 b11 ⟨256 + x2.val, by omega⟩ J) (Fin.ext (by first | rfl | (simp only []; omega))))
      case piece8 =>
        idx_vars x
        have hy := eq4 y ⟨5, by decide⟩ ⟨256 + x2.val, by clear h0 h1 h2 h3; omega⟩ x3 (by first | omega | (simp only []; omega)) (by first | omega | (simp only []; omega)) (by omega)
        clear h0 h1 h2 h3
        subst hy
        open_payloads
        pointwise
        exact congrArg (fun v => Spec.code v (b2 (ix1 5))) (head_at (fun k => C1 (ix3 0 x2 k)) b11 _ b7 (fun k => b9 (ix3 0 k ⟨256 + x2.val, by omega⟩)) (fun k => b10 (ix3 0 k ⟨256 + x2.val, by omega⟩))
          (fun q => ⟨512 + (128 + q.val), by omega⟩) x3 (by omega) _ fun q => by
            simp only [eC1]
            exact congrArg (fun J => pB b5 b6 b0 b1 b11 ⟨256 + x2.val, by omega⟩ J) (Fin.ext (by first | rfl | (simp only []; omega))))
      case piece9 =>
        idx_vars x
        have hy := eq4 y ⟨4, by decide⟩ ⟨256 + x2.val, by clear h0 h1 h2 h3; omega⟩ x3 (by first | omega | (simp only []; omega)) (by first | omega | (simp only []; omega)) (by omega)
        clear h0 h1 h2 h3
        subst hy
        open_payloads
        pointwise
        exact congrArg (fun v => Spec.code v (b2 (ix1 4))) (head_at (fun k => C1 (ix3 0 x2 k)) b11 _ b7 (fun k => b9 (ix3 0 k ⟨256 + x2.val, by omega⟩)) (fun k => b10 (ix3 0 k ⟨256 + x2.val, by omega⟩))
          (fun q => ⟨512 + q.val, by omega⟩) x3 (by omega) _ fun q => by
            simp only [eC1]
            exact congrArg (fun J => pB b5 b6 b0 b1 b11 ⟨256 + x2.val, by omega⟩ J) (Fin.ext (by first | rfl | (simp only []; omega))))
      case piece10 =>
        idx_vars x
        have hy := eq4 y ⟨3, by decide⟩ ⟨256 + x2.val, by clear h0 h1 h2 h3; omega⟩ x3 (by first | omega | (simp only []; omega)) (by first | omega | (simp only []; omega)) (by omega)
        clear h0 h1 h2 h3
        subst hy
        open_payloads
        pointwise
        exact congrArg (fun v => Spec.code v (b2 (ix1 3))) (head_at (fun k => C1 (ix3 0 x2 k)) b11 _ b7 (fun k => b9 (ix3 0 k ⟨256 + x2.val, by omega⟩)) (fun k => b10 (ix3 0 k ⟨256 + x2.val, by omega⟩))
          (fun q => ⟨384 + q.val, by omega⟩) x3 (by omega) _ fun q => by
            simp only [eC1]
            exact congrArg (fun J => pB b5 b6 b0 b1 b11 ⟨256 + x2.val, by omega⟩ J) (Fin.ext (by first | rfl | (simp only []; omega))))
      case piece11 =>
        idx_vars x
        have hy := eq4 y ⟨2, by decide⟩ ⟨256 + x2.val, by clear h0 h1 h2 h3; omega⟩ x3 (by first | omega | (simp only []; omega)) (by first | omega | (simp only []; omega)) (by omega)
        clear h0 h1 h2 h3
        subst hy
        open_payloads
        pointwise
        exact congrArg (fun v => Spec.code v (b2 (ix1 2))) (head_at (fun k => C1 (ix3 0 x2 k)) b11 _ b7 (fun k => b9 (ix3 0 k ⟨256 + x2.val, by omega⟩)) (fun k => b10 (ix3 0 k ⟨256 + x2.val, by omega⟩))
          (fun q => ⟨256 + q.val, by omega⟩) x3 (by omega) _ fun q => by
            simp only [eC1]
            exact congrArg (fun J => pB b5 b6 b0 b1 b11 ⟨256 + x2.val, by omega⟩ J) (Fin.ext (by first | rfl | (simp only []; omega))))
      case piece12 =>
        idx_vars x
        have hy := eq4 y ⟨1, by decide⟩ ⟨256 + x2.val, by clear h0 h1 h2 h3; omega⟩ x3 (by first | omega | (simp only []; omega)) (by first | omega | (simp only []; omega)) (by omega)
        clear h0 h1 h2 h3
        subst hy
        open_payloads
        pointwise
        exact congrArg (fun v => Spec.code v (b2 (ix1 1))) (head_at (fun k => C1 (ix3 0 x2 k)) b11 _ b7 (fun k => b9 (ix3 0 k ⟨256 + x2.val, by omega⟩)) (fun k => b10 (ix3 0 k ⟨256 + x2.val, by omega⟩))
          (fun q => ⟨128 + q.val, by omega⟩) x3 (by omega) _ fun q => by
            simp only [eC1]
            exact congrArg (fun J => pB b5 b6 b0 b1 b11 ⟨256 + x2.val, by omega⟩ J) (Fin.ext (by first | rfl | (simp only []; omega))))
      case piece13 =>
        idx_vars x
        have hy := eq4 y ⟨0, by decide⟩ ⟨256 + x2.val, by clear h0 h1 h2 h3; omega⟩ x3 (by first | omega | (simp only []; omega)) (by first | omega | (simp only []; omega)) (by omega)
        clear h0 h1 h2 h3
        subst hy
        open_payloads
        pointwise
        exact congrArg (fun v => Spec.code v (b2 (ix1 0))) (head_at (fun k => C1 (ix3 0 x2 k)) b11 _ b7 (fun k => b9 (ix3 0 k ⟨256 + x2.val, by omega⟩)) (fun k => b10 (ix3 0 k ⟨256 + x2.val, by omega⟩))
          (fun q => ⟨q.val, by omega⟩) x3 (by omega) _ fun q => by
            simp only [eC1]
            exact congrArg (fun J => pB b5 b6 b0 b1 b11 ⟨256 + x2.val, by omega⟩ J) (Fin.ext (by first | rfl | (simp only []; omega))))
      case piece14 =>
        idx_vars x
        have hy := eq4 y ⟨13, by decide⟩ ⟨x2.val, by clear h0 h1 h2 h3; omega⟩ x3 (by first | omega | (simp only []; omega)) (by first | omega | (simp only []; omega)) (by omega)
        clear h0 h1 h2 h3
        subst hy
        open_payloads
        pointwise
        exact congrArg (fun v => Spec.code v (b2 (ix1 13))) (head_at (fun k => C0 (ix3 0 x2 k)) b11 _ b7 (fun k => b9 (ix3 0 k ⟨x2.val, by omega⟩)) (fun k => b10 (ix3 0 k ⟨x2.val, by omega⟩))
          (fun q => ⟨1536 + (128 + q.val), by omega⟩) x3 (by omega) _ fun q => by
            simp only [eC0]
            exact congrArg (fun J => pB b5 b6 b0 b1 b11 ⟨x2.val, by omega⟩ J) (Fin.ext (by first | rfl | (simp only []; omega))))
      case piece15 =>
        idx_vars x
        have hy := eq4 y ⟨12, by decide⟩ ⟨x2.val, by clear h0 h1 h2 h3; omega⟩ x3 (by first | omega | (simp only []; omega)) (by first | omega | (simp only []; omega)) (by omega)
        clear h0 h1 h2 h3
        subst hy
        open_payloads
        pointwise
        exact congrArg (fun v => Spec.code v (b2 (ix1 12))) (head_at (fun k => C0 (ix3 0 x2 k)) b11 _ b7 (fun k => b9 (ix3 0 k ⟨x2.val, by omega⟩)) (fun k => b10 (ix3 0 k ⟨x2.val, by omega⟩))
          (fun q => ⟨1536 + q.val, by omega⟩) x3 (by omega) _ fun q => by
            simp only [eC0]
            exact congrArg (fun J => pB b5 b6 b0 b1 b11 ⟨x2.val, by omega⟩ J) (Fin.ext (by first | rfl | (simp only []; omega))))
      case piece16 =>
        idx_vars x
        have hy := eq4 y ⟨11, by decide⟩ ⟨x2.val, by clear h0 h1 h2 h3; omega⟩ x3 (by first | omega | (simp only []; omega)) (by first | omega | (simp only []; omega)) (by omega)
        clear h0 h1 h2 h3
        subst hy
        open_payloads
        pointwise
        exact congrArg (fun v => Spec.code v (b2 (ix1 11))) (head_at (fun k => C0 (ix3 0 x2 k)) b11 _ b7 (fun k => b9 (ix3 0 k ⟨x2.val, by omega⟩)) (fun k => b10 (ix3 0 k ⟨x2.val, by omega⟩))
          (fun q => ⟨1024 + (384 + q.val), by omega⟩) x3 (by omega) _ fun q => by
            simp only [eC0]
            exact congrArg (fun J => pB b5 b6 b0 b1 b11 ⟨x2.val, by omega⟩ J) (Fin.ext (by first | rfl | (simp only []; omega))))
      case piece17 =>
        idx_vars x
        have hy := eq4 y ⟨10, by decide⟩ ⟨x2.val, by clear h0 h1 h2 h3; omega⟩ x3 (by first | omega | (simp only []; omega)) (by first | omega | (simp only []; omega)) (by omega)
        clear h0 h1 h2 h3
        subst hy
        open_payloads
        pointwise
        exact congrArg (fun v => Spec.code v (b2 (ix1 10))) (head_at (fun k => C0 (ix3 0 x2 k)) b11 _ b7 (fun k => b9 (ix3 0 k ⟨x2.val, by omega⟩)) (fun k => b10 (ix3 0 k ⟨x2.val, by omega⟩))
          (fun q => ⟨1024 + (256 + q.val), by omega⟩) x3 (by omega) _ fun q => by
            simp only [eC0]
            exact congrArg (fun J => pB b5 b6 b0 b1 b11 ⟨x2.val, by omega⟩ J) (Fin.ext (by first | rfl | (simp only []; omega))))
      case piece18 =>
        idx_vars x
        have hy := eq4 y ⟨9, by decide⟩ ⟨x2.val, by clear h0 h1 h2 h3; omega⟩ x3 (by first | omega | (simp only []; omega)) (by first | omega | (simp only []; omega)) (by omega)
        clear h0 h1 h2 h3
        subst hy
        open_payloads
        pointwise
        exact congrArg (fun v => Spec.code v (b2 (ix1 9))) (head_at (fun k => C0 (ix3 0 x2 k)) b11 _ b7 (fun k => b9 (ix3 0 k ⟨x2.val, by omega⟩)) (fun k => b10 (ix3 0 k ⟨x2.val, by omega⟩))
          (fun q => ⟨1024 + (128 + q.val), by omega⟩) x3 (by omega) _ fun q => by
            simp only [eC0]
            exact congrArg (fun J => pB b5 b6 b0 b1 b11 ⟨x2.val, by omega⟩ J) (Fin.ext (by first | rfl | (simp only []; omega))))
      case piece19 =>
        idx_vars x
        have hy := eq4 y ⟨8, by decide⟩ ⟨x2.val, by clear h0 h1 h2 h3; omega⟩ x3 (by first | omega | (simp only []; omega)) (by first | omega | (simp only []; omega)) (by omega)
        clear h0 h1 h2 h3
        subst hy
        open_payloads
        pointwise
        exact congrArg (fun v => Spec.code v (b2 (ix1 8))) (head_at (fun k => C0 (ix3 0 x2 k)) b11 _ b7 (fun k => b9 (ix3 0 k ⟨x2.val, by omega⟩)) (fun k => b10 (ix3 0 k ⟨x2.val, by omega⟩))
          (fun q => ⟨1024 + q.val, by omega⟩) x3 (by omega) _ fun q => by
            simp only [eC0]
            exact congrArg (fun J => pB b5 b6 b0 b1 b11 ⟨x2.val, by omega⟩ J) (Fin.ext (by first | rfl | (simp only []; omega))))
      case piece20 =>
        idx_vars x
        have hy := eq4 y ⟨7, by decide⟩ ⟨x2.val, by clear h0 h1 h2 h3; omega⟩ x3 (by first | omega | (simp only []; omega)) (by first | omega | (simp only []; omega)) (by omega)
        clear h0 h1 h2 h3
        subst hy
        open_payloads
        pointwise
        exact congrArg (fun v => Spec.code v (b2 (ix1 7))) (head_at (fun k => C0 (ix3 0 x2 k)) b11 _ b7 (fun k => b9 (ix3 0 k ⟨x2.val, by omega⟩)) (fun k => b10 (ix3 0 k ⟨x2.val, by omega⟩))
          (fun q => ⟨512 + (384 + q.val), by omega⟩) x3 (by omega) _ fun q => by
            simp only [eC0]
            exact congrArg (fun J => pB b5 b6 b0 b1 b11 ⟨x2.val, by omega⟩ J) (Fin.ext (by first | rfl | (simp only []; omega))))
      case piece21 =>
        idx_vars x
        have hy := eq4 y ⟨6, by decide⟩ ⟨x2.val, by clear h0 h1 h2 h3; omega⟩ x3 (by first | omega | (simp only []; omega)) (by first | omega | (simp only []; omega)) (by omega)
        clear h0 h1 h2 h3
        subst hy
        open_payloads
        pointwise
        exact congrArg (fun v => Spec.code v (b2 (ix1 6))) (head_at (fun k => C0 (ix3 0 x2 k)) b11 _ b7 (fun k => b9 (ix3 0 k ⟨x2.val, by omega⟩)) (fun k => b10 (ix3 0 k ⟨x2.val, by omega⟩))
          (fun q => ⟨512 + (256 + q.val), by omega⟩) x3 (by omega) _ fun q => by
            simp only [eC0]
            exact congrArg (fun J => pB b5 b6 b0 b1 b11 ⟨x2.val, by omega⟩ J) (Fin.ext (by first | rfl | (simp only []; omega))))
      case piece22 =>
        idx_vars x
        have hy := eq4 y ⟨5, by decide⟩ ⟨x2.val, by clear h0 h1 h2 h3; omega⟩ x3 (by first | omega | (simp only []; omega)) (by first | omega | (simp only []; omega)) (by omega)
        clear h0 h1 h2 h3
        subst hy
        open_payloads
        pointwise
        exact congrArg (fun v => Spec.code v (b2 (ix1 5))) (head_at (fun k => C0 (ix3 0 x2 k)) b11 _ b7 (fun k => b9 (ix3 0 k ⟨x2.val, by omega⟩)) (fun k => b10 (ix3 0 k ⟨x2.val, by omega⟩))
          (fun q => ⟨512 + (128 + q.val), by omega⟩) x3 (by omega) _ fun q => by
            simp only [eC0]
            exact congrArg (fun J => pB b5 b6 b0 b1 b11 ⟨x2.val, by omega⟩ J) (Fin.ext (by first | rfl | (simp only []; omega))))
      case piece23 =>
        idx_vars x
        have hy := eq4 y ⟨4, by decide⟩ ⟨x2.val, by clear h0 h1 h2 h3; omega⟩ x3 (by first | omega | (simp only []; omega)) (by first | omega | (simp only []; omega)) (by omega)
        clear h0 h1 h2 h3
        subst hy
        open_payloads
        pointwise
        exact congrArg (fun v => Spec.code v (b2 (ix1 4))) (head_at (fun k => C0 (ix3 0 x2 k)) b11 _ b7 (fun k => b9 (ix3 0 k ⟨x2.val, by omega⟩)) (fun k => b10 (ix3 0 k ⟨x2.val, by omega⟩))
          (fun q => ⟨512 + q.val, by omega⟩) x3 (by omega) _ fun q => by
            simp only [eC0]
            exact congrArg (fun J => pB b5 b6 b0 b1 b11 ⟨x2.val, by omega⟩ J) (Fin.ext (by first | rfl | (simp only []; omega))))
      case piece24 =>
        idx_vars x
        have hy := eq4 y ⟨3, by decide⟩ ⟨x2.val, by clear h0 h1 h2 h3; omega⟩ x3 (by first | omega | (simp only []; omega)) (by first | omega | (simp only []; omega)) (by omega)
        clear h0 h1 h2 h3
        subst hy
        open_payloads
        pointwise
        exact congrArg (fun v => Spec.code v (b2 (ix1 3))) (head_at (fun k => C0 (ix3 0 x2 k)) b11 _ b7 (fun k => b9 (ix3 0 k ⟨x2.val, by omega⟩)) (fun k => b10 (ix3 0 k ⟨x2.val, by omega⟩))
          (fun q => ⟨384 + q.val, by omega⟩) x3 (by omega) _ fun q => by
            simp only [eC0]
            exact congrArg (fun J => pB b5 b6 b0 b1 b11 ⟨x2.val, by omega⟩ J) (Fin.ext (by first | rfl | (simp only []; omega))))
      case piece25 =>
        idx_vars x
        have hy := eq4 y ⟨2, by decide⟩ ⟨x2.val, by clear h0 h1 h2 h3; omega⟩ x3 (by first | omega | (simp only []; omega)) (by first | omega | (simp only []; omega)) (by omega)
        clear h0 h1 h2 h3
        subst hy
        open_payloads
        pointwise
        exact congrArg (fun v => Spec.code v (b2 (ix1 2))) (head_at (fun k => C0 (ix3 0 x2 k)) b11 _ b7 (fun k => b9 (ix3 0 k ⟨x2.val, by omega⟩)) (fun k => b10 (ix3 0 k ⟨x2.val, by omega⟩))
          (fun q => ⟨256 + q.val, by omega⟩) x3 (by omega) _ fun q => by
            simp only [eC0]
            exact congrArg (fun J => pB b5 b6 b0 b1 b11 ⟨x2.val, by omega⟩ J) (Fin.ext (by first | rfl | (simp only []; omega))))
      case piece26 =>
        idx_vars x
        have hy := eq4 y ⟨1, by decide⟩ ⟨x2.val, by clear h0 h1 h2 h3; omega⟩ x3 (by first | omega | (simp only []; omega)) (by first | omega | (simp only []; omega)) (by omega)
        clear h0 h1 h2 h3
        subst hy
        open_payloads
        pointwise
        exact congrArg (fun v => Spec.code v (b2 (ix1 1))) (head_at (fun k => C0 (ix3 0 x2 k)) b11 _ b7 (fun k => b9 (ix3 0 k ⟨x2.val, by omega⟩)) (fun k => b10 (ix3 0 k ⟨x2.val, by omega⟩))
          (fun q => ⟨128 + q.val, by omega⟩) x3 (by omega) _ fun q => by
            simp only [eC0]
            exact congrArg (fun J => pB b5 b6 b0 b1 b11 ⟨x2.val, by omega⟩ J) (Fin.ext (by first | rfl | (simp only []; omega))))
      case piece27 =>
        idx_vars x
        have hy := eq4 y ⟨0, by decide⟩ ⟨x2.val, by clear h0 h1 h2 h3; omega⟩ x3 (by first | omega | (simp only []; omega)) (by first | omega | (simp only []; omega)) (by omega)
        clear h0 h1 h2 h3
        subst hy
        open_payloads
        pointwise
        exact congrArg (fun v => Spec.code v (b2 (ix1 0))) (head_at (fun k => C0 (ix3 0 x2 k)) b11 _ b7 (fun k => b9 (ix3 0 k ⟨x2.val, by omega⟩)) (fun k => b10 (ix3 0 k ⟨x2.val, by omega⟩))
          (fun q => ⟨q.val, by omega⟩) x3 (by omega) _ fun q => by
            simp only [eC0]
            exact congrArg (fun J => pB b5 b6 b0 b1 b11 ⟨x2.val, by omega⟩ J) (Fin.ext (by first | rfl | (simp only []; omega))))
  obtain ⟨v, ⟨hA, hB, hC⟩, hv⟩ := key
  refine Eq.trans ?_ hv
  by_cases h0 : t.val % 30 = 0
  · exact hA h0 (by omega)
  · by_cases h1 : t.val % 30 = 29
    · exact hC h0 h1
    · exact hB h0 h1

end Cert.QkvIdeal.Sem

end
-- ==== Proof.QkvFinal.lean ====
/-
  The query, key and value projections, kernel side: the codes of the heads after the run are the mathematics' of the arguments.
-/
module

public import proofs.«01_k».proof.Proof.Spec
public import proofs.«01_k».proof.Proof.QkvHeadsQ
public import proofs.«01_k».proof.Proof.Gen.QkvIdeal.Value

@[expose] public section

set_option maxRecDepth 16384

noncomputable section

open Idealize.ShloMosaic Idealize.ShloMosaic.TcCoe Idealize.SL.Sem
open Idealize.ShloMosaic.Pipeline (Dat)

namespace Cert.QkvIdeal.Sem

open Cert.QkvIdeal Cert.QkvIdeal.Gen

variable (m : (ℓ : Loc nD τ sig) → Buf (Elt Ideal) ℓ)

/-- The cosine of a block's row is the argument's at the row's angle. -/
theorem blk9 (c : Dev nD) (t : Fin cfg0.N) (k : Fin 64) (i : Fin 512) :
    iblk m c 9 t (ix3 0 k i) = m ((c : Thread nD τ).loc main_arg9) (ix3 ⟨t.val / 10, by have := t.isLt; change t.val < 30 at this; omega⟩ ⟨(t.val % 10 * 512 + i.val) % 2560, by omega⟩ k) := by
  have ht : t.val < 30 := t.isLt
  blk_simp [iblk]
  entry_read
  have key : ∀ f : S3x64x2560.Idx → EReal, f (((View.whole main_v0).slice (win0_9.rect t)).emb (ix3 0 k i))
      = f (ix3 ⟨t.val / 10, by omega⟩ k ⟨(t.val % 10 * 512 + i.val) % 2560, by omega⟩) := fun f => by blk_point [idx t]
  refine (key _).trans ?_
  pointwise

/-- The sine of a block's row is the argument's at the row's angle. -/
theorem blk10 (c : Dev nD) (t : Fin cfg0.N) (k : Fin 64) (i : Fin 512) :
    iblk m c 10 t (ix3 0 k i) = m ((c : Thread nD τ).loc main_arg10) (ix3 ⟨t.val / 10, by have := t.isLt; change t.val < 30 at this; omega⟩ ⟨(t.val % 10 * 512 + i.val) % 2560, by omega⟩ k) := by
  have ht : t.val < 30 := t.isLt
  blk_simp [iblk]
  entry_read
  have key : ∀ f : S3x64x2560.Idx → EReal, f (((View.whole main_v1).slice (win0_10.rect t)).emb (ix3 0 k i))
      = f (ix3 ⟨t.val / 10, by omega⟩ k ⟨(t.val % 10 * 512 + i.val) % 2560, by omega⟩) := fun f => by blk_point [idx t]
  refine (key _).trans ?_
  pointwise

/-- The heads' gain of a block is the argument's. -/
theorem blk7 (c : Dev nD) (t : Fin cfg0.N) (j : Fin 128) : iblk m c 7 t (ix2 0 j) = m ((c : Thread nD τ).loc main_arg2) (ix1 j) := by
  blk_simp [iblk]
  entry_read
  generalize hf : shapeCast _ (m _) _ = f
  refine Eq.trans (b := f (ix2 0 j)) (by blk_point [idx t]) ?_
  rw [← hf]
  pointwise

/-- The heads' gain of a block is the argument's. -/
theorem blk8 (c : Dev nD) (t : Fin cfg0.N) (j : Fin 128) : iblk m c 8 t (ix2 0 j) = m ((c : Thread nD τ).loc main_arg3) (ix1 j) := by
  blk_simp [iblk]
  entry_read
  generalize hf : shapeCast _ (m _) _ = f
  refine Eq.trans (b := f (ix2 0 j)) (by blk_point [idx t]) ?_
  rw [← hf]
  pointwise
/-- The block of window 0 at a grid point, read off the argument it is cut from. -/
theorem blk0 (c : Dev nD) (t : Fin cfg0.N) : iblk m c 0 t = m ((c : Thread nD τ).loc main_arg4) := by blk_ext! [iblk, V, idx t]
/-- The block of window 1 at a grid point, read off the argument it is cut from. -/
theorem blk1 (c : Dev nD) (t : Fin cfg0.N) : iblk m c 1 t = m ((c : Thread nD τ).loc main_arg5) := by blk_ext! [iblk, V, idx t]
/-- The block of window 2 at a grid point, read off the argument it is cut from. -/
theorem blk2 (c : Dev nD) (t : Fin cfg0.N) : iblk m c 2 t = m ((c : Thread nD τ).loc main_arg6) := by blk_ext! [iblk, V, idx t]
/-- The block of window 3 at a grid point, read off the argument it is cut from. -/
theorem blk3 (c : Dev nD) (t : Fin cfg0.N) : iblk m c 3 t = m ((c : Thread nD τ).loc main_arg7) := by blk_ext! [iblk, V, idx t]
/-- The block of window 4 at a grid point, read off the argument it is cut from. -/
theorem blk4 (c : Dev nD) (t : Fin cfg0.N) : iblk m c 4 t = m ((c : Thread nD τ).loc main_arg8) := by blk_ext! [iblk, V, idx t]
/-- The block of window 11 at a grid point, read off the argument it is cut from. -/
theorem blk11 (c : Dev nD) (t : Fin cfg0.N) : iblk m c 11 t = m ((c : Thread nD τ).loc main_arg11) := by blk_ext! [iblk, V, idx t]

/-- The projections of the arguments. -/
def P (c : Dev nD) : Fin 3 → Fin 5120 → Fin 2304 → EReal := Spec.proj (XC m c) (m ((c : Thread nD τ).loc main_arg11)) (HMul.hMul (α := EReal) (β := EReal) (γ := EReal) ((m ((c : Thread nD τ).loc main_arg4)) (ix1 0)) ((m ((c : Thread nD τ).loc main_arg5)) (ix1 0)))

/-- A block's projection is the arguments' at the point's rows. -/
theorem pB_blk (c : Dev nD) (t : Fin cfg0.N) (i : Fin 512) (J : Fin 2304) :
    pB (iblk m c 5 t) (iblk m c 6 t) (iblk m c 0 t) (iblk m c 1 t) (iblk m c 11 t) i J
      = P m c ⟨t.val / 10, by have := t.isLt; change t.val < 30 at this; omega⟩ ⟨t.val % 10 * 512 + i.val, by omega⟩ J := by
  unfold pB P Spec.proj
  rw [show (fun k => Spec.code (nrm (iblk m c 5 t) (iblk m c 6 t) i k) (iblk m c 0 t (ix1 0)))
    = fun k => XC m c (ix3 ⟨t.val / 10, by have := t.isLt; change t.val < 30 at this; omega⟩ ⟨t.val % 10 * 512 + i.val, by omega⟩ k) from funext fun k => codes_blk m c t i k]
  rw [blk0, blk1, blk11]

/-- The query heads of the arguments. -/
def Q (c : Dev nD) : Fin 3 → Fin 5120 → Fin 14 → Fin 128 → EReal := Spec.qk (P m c) (m ((c : Thread nD τ).loc main_arg2)) (m ((c : Thread nD τ).loc main_arg9)) (m ((c : Thread nD τ).loc main_arg10)) 14 0 (by decide)

/-- The key heads of the arguments. -/
def K (c : Dev nD) : Fin 3 → Fin 5120 → Fin 2 → Fin 128 → EReal := Spec.qk (P m c) (m ((c : Thread nD τ).loc main_arg3)) (m ((c : Thread nD τ).loc main_arg9)) (m ((c : Thread nD τ).loc main_arg10)) 2 1792 (by decide)

/-- A block's query heads are the arguments' at the point's rows. -/
theorem Q_blk (c : Dev nD) (t : Fin cfg0.N) (i : Fin 512) (h : Fin 14) (l : Fin 128) (ho : 0 + h.val * 128 + 128 ≤ 2304) :
    qkB (pB (iblk m c 5 t) (iblk m c 6 t) (iblk m c 0 t) (iblk m c 1 t) (iblk m c 11 t)) (iblk m c 7 t) (iblk m c 9 t) (iblk m c 10 t)
        (0 + h.val * 128) ho i l
      = Q m c ⟨t.val / 10, by have := t.isLt; change t.val < 30 at this; omega⟩ ⟨t.val % 10 * 512 + i.val, by omega⟩ h l := by
  unfold qkB Q Spec.qk Spec.angle
  simp only [blk9, blk10, blk7, pB_blk]

/-- A block's key heads are the arguments' at the point's rows. -/
theorem K_blk (c : Dev nD) (t : Fin cfg0.N) (i : Fin 512) (h : Fin 2) (l : Fin 128) (ho : 1792 + h.val * 128 + 128 ≤ 2304) :
    qkB (pB (iblk m c 5 t) (iblk m c 6 t) (iblk m c 0 t) (iblk m c 1 t) (iblk m c 11 t)) (iblk m c 8 t) (iblk m c 9 t) (iblk m c 10 t)
        (1792 + h.val * 128) ho i l
      = K m c ⟨t.val / 10, by have := t.isLt; change t.val < 30 at this; omega⟩ ⟨t.val % 10 * 512 + i.val, by omega⟩ h l := by
  unfold qkB K Spec.qk Spec.angle
  simp only [blk9, blk10, blk8, pB_blk]

/-- The query codes after the run. -/
theorem q (c : Dev nD) : (dats m 0 c).arrAt 13 (cfgs 0).N = Spec.headCodes (Q m c) (m ((c : Thread nD τ).loc main_arg6)) := by
  refine (dats m 0 c).arrAt_eq_of_covers 13 _ (by decide +kernel) fun t _ y => ?_
  blk_simp
  rw [after0_13, q_at]
  have hy := (y 1).isLt
  change (y 1).val < 14 at hy
  refine Eq.trans (b := Spec.code (Q m c ⟨t.val / 10, by have := t.isLt; change t.val < 30 at this; omega⟩ ⟨t.val % 10 * 512 + (y 2).val, by have := (y 2).isLt; change (y 2).val < 512 at this; omega⟩ (y 1) (y 3)) ((m ((c : Thread nD τ).loc main_arg6)) (ix1 (y 1)))) ?_ ?_
  · rw [blk2]
    refine congrArg (fun v => Spec.code v _) ?_
    exact Q_blk m c t (y 2) (y 1) (y 3) _
  · generalize hf : Spec.headCodes _ _ = f
    refine Eq.trans (b := f (ix4 ⟨t.val / 10, by have := t.isLt; change t.val < 30 at this; omega⟩ (y 1) ⟨t.val % 10 * 512 + (y 2).val, by have := (y 2).isLt; change (y 2).val < 512 at this; omega⟩ (y 3))) (by rw [← hf]; rfl) ?_
    clear hf
    blk_point [idx t]

/-- The key codes after the run. -/
theorem k (c : Dev nD) : (dats m 0 c).arrAt 14 (cfgs 0).N = Spec.headCodes (K m c) (m ((c : Thread nD τ).loc main_arg7)) := by
  refine (dats m 0 c).arrAt_eq_of_covers 14 _ (by decide +kernel) fun t _ y => ?_
  blk_simp
  rw [after0_14, k_at]
  have hy := (y 1).isLt
  change (y 1).val < 2 at hy
  refine Eq.trans (b := Spec.code (K m c ⟨t.val / 10, by have := t.isLt; change t.val < 30 at this; omega⟩ ⟨t.val % 10 * 512 + (y 2).val, by have := (y 2).isLt; change (y 2).val < 512 at this; omega⟩ (y 1) (y 3)) ((m ((c : Thread nD τ).loc main_arg7)) (ix1 (y 1)))) ?_ ?_
  · rw [blk3]
    refine congrArg (fun v => Spec.code v _) ?_
    exact K_blk m c t (y 2) (y 1) (y 3) _
  · generalize hf : Spec.headCodes _ _ = f
    refine Eq.trans (b := f (ix4 ⟨t.val / 10, by have := t.isLt; change t.val < 30 at this; omega⟩ (y 1) ⟨t.val % 10 * 512 + (y 2).val, by have := (y 2).isLt; change (y 2).val < 512 at this; omega⟩ (y 3))) (by rw [← hf]; rfl) ?_
    clear hf
    blk_point [idx t]

/-- The value codes after the run. -/
theorem v (c : Dev nD) : (dats m 0 c).arrAt 15 (cfgs 0).N = Spec.headCodes ((Spec.vv (P m c))) (m ((c : Thread nD τ).loc main_arg8)) := by
  refine (dats m 0 c).arrAt_eq_of_covers 15 _ (by decide +kernel) fun t _ y => ?_
  blk_simp
  rw [after0_15, v_at]
  have hy := (y 1).isLt
  change (y 1).val < 2 at hy
  refine Eq.trans (b := Spec.code ((Spec.vv (P m c)) ⟨t.val / 10, by have := t.isLt; change t.val < 30 at this; omega⟩ ⟨t.val % 10 * 512 + (y 2).val, by have := (y 2).isLt; change (y 2).val < 512 at this; omega⟩ (y 1) (y 3)) ((m ((c : Thread nD τ).loc main_arg8)) (ix1 (y 1)))) ?_ ?_
  · rw [blk4]
    refine congrArg (fun v => Spec.code v _) ?_
    exact pB_blk m c t (y 2) _
  · generalize hf : Spec.headCodes _ _ = f
    refine Eq.trans (b := f (ix4 ⟨t.val / 10, by have := t.isLt; change t.val < 30 at this; omega⟩ (y 1) ⟨t.val % 10 * 512 + (y 2).val, by have := (y 2).isLt; change (y 2).val < 512 at this; omega⟩ (y 3))) (by rw [← hf]; rfl) ?_
    clear hf
    blk_point [idx t]

end Cert.QkvIdeal.Sem

end
-- ==== Proof.QkvRows.lean ====
/-
  The query, key and value projections, kernel side: what one group of 32 rows does to the running maxima of the norm's
  magnitudes. The groups' texts differ, and each comes to the same.
-/
module

public import proofs.«01_k».proof.Proof.Spec
public import proofs.«01_k».proof.Proof.QkvX
public import proofs.«01_k».proof.Proof.Gen.QkvIdeal.Value

@[expose] public section

set_option maxRecDepth 16384

noncomputable section

open Idealize.ShloMosaic Idealize.ShloMosaic.TcCoe Idealize.SL.Sem
open Idealize.ShloMosaic.Pipeline (Dat)

namespace Cert.QkvIdeal.Sem

open Cert.QkvIdeal Cert.QkvIdeal.Gen

variable (m : (ℓ : Loc nD τ sig) → Buf (Elt Ideal) ℓ)

/-- A group's update of the running maxima: the payload every group's text comes to. -/
def group (g : Vec Ideal S1x3584 .f32) (v : Vec Ideal S1x32x3584 .bf16) (acc : Vec Ideal S8x128 .f32) : FVec Ideal S8x128 .f32 :=
  k0_pay71 (F := Ideal) acc (k0_pay70 (F := Ideal) (k0_pay27 (F := Ideal) g) v)

/-- Value 42 of the body's text, in the form its siblings have. -/
theorem pay42 (g : Vec Ideal S1x3584 .f32) (v : Vec Ideal S1x32x3584 .bf16) (acc : Vec Ideal S8x128 .f32) :
    k0_pay42 (F := Ideal) acc (k0_pay29 (F := Ideal) g v) (k0_pay30 (F := Ideal) g v) (k0_pay31 (F := Ideal) g
      v) (k0_pay32 (F := Ideal) g v) (k0_pay33 (F := Ideal) g v) (k0_pay34 (F := Ideal) g v) (k0_pay35 (F :=
      Ideal) g v) (k0_pay36 (F := Ideal) g v) (k0_pay37 (F := Ideal) g v) (k0_pay38 (F := Ideal) g v) (k0_pay39
      (F := Ideal) g v) (k0_pay40 (F := Ideal) g v) (k0_pay41 (F := Ideal) g v)
      = group g v acc := rfl
/-- Value 67 of the body's text, in the form its siblings have. -/
theorem pay67 (g : Vec Ideal S1x3584 .f32) (v : Vec Ideal S1x32x3584 .bf16) (acc : Vec Ideal S8x128 .f32) :
    k0_pay67 (F := Ideal) acc (k0_pay46 (F := Ideal) (k0_pay27 (F := Ideal) g) v) (k0_pay47 (F := Ideal)
      (k0_pay27 (F := Ideal) g) v) (k0_pay48 (F := Ideal) (k0_pay27 (F := Ideal) g) v) (k0_pay49 (F := Ideal)
      (k0_pay27 (F := Ideal) g) v) (k0_pay50 (F := Ideal) (k0_pay27 (F := Ideal) g) v) (k0_pay51 (F := Ideal)
      (k0_pay27 (F := Ideal) g) v) (k0_pay52 (F := Ideal) (k0_pay27 (F := Ideal) g) v) (k0_pay53 (F := Ideal)
      (k0_pay27 (F := Ideal) g) v) (k0_pay54 (F := Ideal) (k0_pay27 (F := Ideal) g) v) (k0_pay55 (F := Ideal)
      (k0_pay27 (F := Ideal) g) v) (k0_pay56 (F := Ideal) (k0_pay27 (F := Ideal) g) v) (k0_pay57 (F := Ideal)
      (k0_pay27 (F := Ideal) g) v) (k0_pay58 (F := Ideal) (k0_pay27 (F := Ideal) g) v) (k0_pay59 (F := Ideal)
      (k0_pay27 (F := Ideal) g) v) (k0_pay60 (F := Ideal) (k0_pay27 (F := Ideal) g) v) (k0_pay61 (F := Ideal)
      (k0_pay27 (F := Ideal) g) v) (k0_pay62 (F := Ideal) (k0_pay27 (F := Ideal) g) v) (k0_pay63 (F := Ideal)
      (k0_pay27 (F := Ideal) g) v) (k0_pay64 (F := Ideal) (k0_pay27 (F := Ideal) g) v) (k0_pay65 (F := Ideal)
      (k0_pay27 (F := Ideal) g) v) (k0_pay66 (F := Ideal) (k0_pay27 (F := Ideal) g) v)
      = group g v acc := rfl
/-- Value 71 of the body's text, in the form its siblings have. -/
theorem pay71 (g : Vec Ideal S1x3584 .f32) (v : Vec Ideal S1x32x3584 .bf16) (acc : Vec Ideal S8x128 .f32) :
    k0_pay71 (F := Ideal) acc (k0_pay70 (F := Ideal) (k0_pay27 (F := Ideal) g) v)
      = group g v acc := rfl
/-- Value 97 of the body's text, in the form its siblings have. -/
theorem pay97 (g : Vec Ideal S1x3584 .f32) (v : Vec Ideal S1x32x3584 .bf16) (acc : Vec Ideal S8x128 .f32) :
    k0_pay97 (F := Ideal) acc (k0_pay75 (F := Ideal) (k0_pay27 (F := Ideal) g) v) (k0_pay76 (F := Ideal)
      (k0_pay27 (F := Ideal) g) v) (k0_pay77 (F := Ideal) (k0_pay27 (F := Ideal) g) v) (k0_pay78 (F := Ideal)
      (k0_pay27 (F := Ideal) g) v) (k0_pay79 (F := Ideal) (k0_pay27 (F := Ideal) g) v) (k0_pay80 (F := Ideal)
      (k0_pay27 (F := Ideal) g) v) (k0_pay81 (F := Ideal) (k0_pay27 (F := Ideal) g) v) (k0_pay82 (F := Ideal)
      (k0_pay27 (F := Ideal) g) v) (k0_pay83 (F := Ideal) (k0_pay27 (F := Ideal) g) v) (k0_pay84 (F := Ideal)
      (k0_pay27 (F := Ideal) g) v) (k0_pay85 (F := Ideal) (k0_pay27 (F := Ideal) g) v) (k0_pay86 (F := Ideal)
      (k0_pay27 (F := Ideal) g) v) (k0_pay87 (F := Ideal) (k0_pay27 (F := Ideal) g) v) (k0_pay88 (F := Ideal)
      (k0_pay27 (F := Ideal) g) v) (k0_pay89 (F := Ideal) (k0_pay27 (F := Ideal) g) v) (k0_pay90 (F := Ideal)
      (k0_pay27 (F := Ideal) g) v) (k0_pay91 (F := Ideal) (k0_pay27 (F := Ideal) g) v) (k0_pay92 (F := Ideal)
      (k0_pay27 (F := Ideal) g) v) (k0_pay93 (F := Ideal) (k0_pay27 (F := Ideal) g) v) (k0_pay94 (F := Ideal)
      (k0_pay27 (F := Ideal) g) v) (k0_pay95 (F := Ideal) (k0_pay27 (F := Ideal) g) v) (k0_pay96 (F := Ideal)
      (k0_pay27 (F := Ideal) g) v)
      = group g v acc := rfl
/-- Value 115 of the body's text, in the form its siblings have. -/
theorem pay115 (g : Vec Ideal S1x3584 .f32) (v : Vec Ideal S1x32x3584 .bf16) (acc : Vec Ideal S8x128 .f32) :
    k0_pay115 (F := Ideal) acc (k0_pay103 (F := Ideal) (k0_pay27 (F := Ideal) g) (k0_pay99 (F := Ideal) v)
      (k0_pay100 (F := Ideal) v)) (k0_pay104 (F := Ideal) (k0_pay27 (F := Ideal) g) (k0_pay99 (F := Ideal) v)
      (k0_pay100 (F := Ideal) v)) (k0_pay105 (F := Ideal) (k0_pay27 (F := Ideal) g) (k0_pay99 (F := Ideal) v)
      (k0_pay100 (F := Ideal) v)) (k0_pay106 (F := Ideal) (k0_pay27 (F := Ideal) g) (k0_pay99 (F := Ideal) v)
      (k0_pay100 (F := Ideal) v)) (k0_pay107 (F := Ideal) (k0_pay27 (F := Ideal) g) (k0_pay99 (F := Ideal) v)
      (k0_pay100 (F := Ideal) v)) (k0_pay108 (F := Ideal) (k0_pay27 (F := Ideal) g) (k0_pay99 (F := Ideal) v)
      (k0_pay100 (F := Ideal) v)) (k0_pay109 (F := Ideal) (k0_pay27 (F := Ideal) g) (k0_pay99 (F := Ideal) v)
      (k0_pay100 (F := Ideal) v)) (k0_pay110 (F := Ideal) (k0_pay27 (F := Ideal) g) (k0_pay99 (F := Ideal) v)
      (k0_pay100 (F := Ideal) v)) (k0_pay111 (F := Ideal) (k0_pay27 (F := Ideal) g) (k0_pay99 (F := Ideal) v)
      (k0_pay100 (F := Ideal) v)) (k0_pay112 (F := Ideal) (k0_pay27 (F := Ideal) g) (k0_pay99 (F := Ideal) v)
      (k0_pay100 (F := Ideal) v)) (k0_pay113 (F := Ideal) (k0_pay27 (F := Ideal) g) (k0_pay99 (F := Ideal) v)
      (k0_pay100 (F := Ideal) v)) (k0_pay114 (F := Ideal) (k0_pay27 (F := Ideal) g) (k0_pay99 (F := Ideal) v)
      (k0_pay100 (F := Ideal) v))
      = group g v acc := rfl
/-- Value 126 of the body's text, in the form its siblings have. -/
theorem pay126 (g : Vec Ideal S1x3584 .f32) (v : Vec Ideal S1x32x3584 .bf16) (acc : Vec Ideal S8x128 .f32) :
    k0_pay126 (F := Ideal) acc (k0_pay118 (F := Ideal) (k0_pay27 (F := Ideal) g) v) (k0_pay119 (F := Ideal)
      (k0_pay27 (F := Ideal) g) v) (k0_pay120 (F := Ideal) (k0_pay27 (F := Ideal) g) v) (k0_pay121 (F := Ideal)
      (k0_pay27 (F := Ideal) g) v) (k0_pay122 (F := Ideal) (k0_pay27 (F := Ideal) g) v) (k0_pay123 (F := Ideal)
      (k0_pay27 (F := Ideal) g) v) (k0_pay124 (F := Ideal) (k0_pay27 (F := Ideal) g) v) (k0_pay125 (F := Ideal)
      (k0_pay27 (F := Ideal) g) v)
      = group g v acc := rfl
/-- Value 157 of the body's text, in the form its siblings have. -/
theorem pay157 (g : Vec Ideal S1x3584 .f32) (v : Vec Ideal S1x32x3584 .bf16) (acc : Vec Ideal S8x128 .f32) :
    k0_pay157 (F := Ideal) acc (k0_pay131 (F := Ideal) (k0_pay27 (F := Ideal) g) v) (k0_pay132 (F := Ideal)
      (k0_pay27 (F := Ideal) g) v) (k0_pay133 (F := Ideal) (k0_pay27 (F := Ideal) g) v) (k0_pay134 (F := Ideal)
      (k0_pay27 (F := Ideal) g) v) (k0_pay135 (F := Ideal) (k0_pay27 (F := Ideal) g) v) (k0_pay136 (F := Ideal)
      (k0_pay27 (F := Ideal) g) v) (k0_pay137 (F := Ideal) (k0_pay27 (F := Ideal) g) v) (k0_pay138 (F := Ideal)
      (k0_pay27 (F := Ideal) g) v) (k0_pay139 (F := Ideal) (k0_pay27 (F := Ideal) g) v) (k0_pay140 (F := Ideal)
      (k0_pay27 (F := Ideal) g) v) (k0_pay141 (F := Ideal) (k0_pay27 (F := Ideal) g) v) (k0_pay142 (F := Ideal)
      (k0_pay27 (F := Ideal) g) v) (k0_pay143 (F := Ideal) (k0_pay27 (F := Ideal) g) v) (k0_pay144 (F := Ideal)
      (k0_pay27 (F := Ideal) g) v) (k0_pay145 (F := Ideal) (k0_pay27 (F := Ideal) g) v) (k0_pay146 (F := Ideal)
      (k0_pay27 (F := Ideal) g) v) (k0_pay147 (F := Ideal) (k0_pay27 (F := Ideal) g) v) (k0_pay148 (F := Ideal)
      (k0_pay27 (F := Ideal) g) v) (k0_pay149 (F := Ideal) (k0_pay27 (F := Ideal) g) v) (k0_pay150 (F := Ideal)
      (k0_pay27 (F := Ideal) g) v) (k0_pay151 (F := Ideal) (k0_pay27 (F := Ideal) g) v) (k0_pay152 (F := Ideal)
      (k0_pay27 (F := Ideal) g) v) (k0_pay153 (F := Ideal) (k0_pay27 (F := Ideal) g) v) (k0_pay154 (F := Ideal)
      (k0_pay27 (F := Ideal) g) v) (k0_pay155 (F := Ideal) (k0_pay27 (F := Ideal) g) v) (k0_pay156 (F := Ideal)
      (k0_pay27 (F := Ideal) g) v)
      = group g v acc := rfl
/-- Value 167 of the body's text, in the form its siblings have. -/
theorem pay167 (g : Vec Ideal S1x3584 .f32) (v : Vec Ideal S1x32x3584 .bf16) (acc : Vec Ideal S8x128 .f32) :
    k0_pay167 (F := Ideal) acc (k0_pay163 (F := Ideal) (k0_pay27 (F := Ideal) g) (k0_pay159 (F := Ideal) v)
      (k0_pay160 (F := Ideal) v)) (k0_pay164 (F := Ideal) (k0_pay27 (F := Ideal) g) (k0_pay159 (F := Ideal) v)
      (k0_pay160 (F := Ideal) v)) (k0_pay165 (F := Ideal) (k0_pay27 (F := Ideal) g) (k0_pay159 (F := Ideal) v)
      (k0_pay160 (F := Ideal) v))
      = group g v acc := by
  funext y
  change shapeCast S8x128 (group g v acc) shapeCasts_S8x128_S8x128 y = _
  pointwise
/-- Value 270 of the body's text, in the form its siblings have. -/
theorem pay270 (g : Vec Ideal S1x3584 .f32) (v : Vec Ideal S1x32x3584 .bf16) (acc : Vec Ideal S8x128 .f32) :
    k0_pay270 (F := Ideal) acc (k0_pay259 (F := Ideal) g v) (k0_pay260 (F := Ideal) g v) (k0_pay261 (F := Ideal)
      g v) (k0_pay262 (F := Ideal) g v) (k0_pay263 (F := Ideal) g v) (k0_pay264 (F := Ideal) g v) (k0_pay265 (F
      := Ideal) g v) (k0_pay266 (F := Ideal) g v) (k0_pay267 (F := Ideal) g v) (k0_pay268 (F := Ideal) g v)
      (k0_pay269 (F := Ideal) g v)
      = group g v acc := rfl
/-- Value 298 of the body's text, in the form its siblings have. -/
theorem pay298 (g : Vec Ideal S1x3584 .f32) (v : Vec Ideal S1x32x3584 .bf16) (acc : Vec Ideal S8x128 .f32) :
    k0_pay298 (F := Ideal) acc (k0_pay275 (F := Ideal) (k0_pay257 (F := Ideal) g) v) (k0_pay276 (F := Ideal)
      (k0_pay257 (F := Ideal) g) v) (k0_pay277 (F := Ideal) (k0_pay257 (F := Ideal) g) v) (k0_pay278 (F :=
      Ideal) (k0_pay257 (F := Ideal) g) v) (k0_pay279 (F := Ideal) (k0_pay257 (F := Ideal) g) v) (k0_pay280 (F
      := Ideal) (k0_pay257 (F := Ideal) g) v) (k0_pay281 (F := Ideal) (k0_pay257 (F := Ideal) g) v) (k0_pay282
      (F := Ideal) (k0_pay257 (F := Ideal) g) v) (k0_pay283 (F := Ideal) (k0_pay257 (F := Ideal) g) v)
      (k0_pay284 (F := Ideal) (k0_pay257 (F := Ideal) g) v) (k0_pay285 (F := Ideal) (k0_pay257 (F := Ideal) g)
      v) (k0_pay286 (F := Ideal) (k0_pay257 (F := Ideal) g) v) (k0_pay287 (F := Ideal) (k0_pay257 (F := Ideal)
      g) v) (k0_pay288 (F := Ideal) (k0_pay257 (F := Ideal) g) v) (k0_pay289 (F := Ideal) (k0_pay257 (F :=
      Ideal) g) v) (k0_pay290 (F := Ideal) (k0_pay257 (F := Ideal) g) v) (k0_pay291 (F := Ideal) (k0_pay257 (F
      := Ideal) g) v) (k0_pay292 (F := Ideal) (k0_pay257 (F := Ideal) g) v) (k0_pay293 (F := Ideal) (k0_pay257
      (F := Ideal) g) v) (k0_pay294 (F := Ideal) (k0_pay257 (F := Ideal) g) v) (k0_pay295 (F := Ideal)
      (k0_pay257 (F := Ideal) g) v) (k0_pay296 (F := Ideal) (k0_pay257 (F := Ideal) g) v) (k0_pay297 (F :=
      Ideal) (k0_pay257 (F := Ideal) g) v)
      = group g v acc := rfl
/-- Value 301 of the body's text, in the form its siblings have. -/
theorem pay301 (g : Vec Ideal S1x3584 .f32) (v : Vec Ideal S1x32x3584 .bf16) (acc : Vec Ideal S8x128 .f32) :
    k0_pay301 (F := Ideal) acc (k0_pay300 (F := Ideal) (k0_pay257 (F := Ideal) g) v)
      = group g v acc := rfl
/-- Value 324 of the body's text, in the form its siblings have. -/
theorem pay324 (g : Vec Ideal S1x3584 .f32) (v : Vec Ideal S1x32x3584 .bf16) (acc : Vec Ideal S8x128 .f32) :
    k0_pay324 (F := Ideal) acc (k0_pay304 (F := Ideal) (k0_pay257 (F := Ideal) g) v) (k0_pay305 (F := Ideal)
      (k0_pay257 (F := Ideal) g) v) (k0_pay306 (F := Ideal) (k0_pay257 (F := Ideal) g) v) (k0_pay307 (F :=
      Ideal) (k0_pay257 (F := Ideal) g) v) (k0_pay308 (F := Ideal) (k0_pay257 (F := Ideal) g) v) (k0_pay309 (F
      := Ideal) (k0_pay257 (F := Ideal) g) v) (k0_pay310 (F := Ideal) (k0_pay257 (F := Ideal) g) v) (k0_pay311
      (F := Ideal) (k0_pay257 (F := Ideal) g) v) (k0_pay312 (F := Ideal) (k0_pay257 (F := Ideal) g) v)
      (k0_pay313 (F := Ideal) (k0_pay257 (F := Ideal) g) v) (k0_pay314 (F := Ideal) (k0_pay257 (F := Ideal) g)
      v) (k0_pay315 (F := Ideal) (k0_pay257 (F := Ideal) g) v) (k0_pay316 (F := Ideal) (k0_pay257 (F := Ideal)
      g) v) (k0_pay317 (F := Ideal) (k0_pay257 (F := Ideal) g) v) (k0_pay318 (F := Ideal) (k0_pay257 (F :=
      Ideal) g) v) (k0_pay319 (F := Ideal) (k0_pay257 (F := Ideal) g) v) (k0_pay320 (F := Ideal) (k0_pay257 (F
      := Ideal) g) v) (k0_pay321 (F := Ideal) (k0_pay257 (F := Ideal) g) v) (k0_pay322 (F := Ideal) (k0_pay257
      (F := Ideal) g) v) (k0_pay323 (F := Ideal) (k0_pay257 (F := Ideal) g) v)
      = group g v acc := rfl
/-- Value 344 of the body's text, in the form its siblings have. -/
theorem pay344 (g : Vec Ideal S1x3584 .f32) (v : Vec Ideal S1x32x3584 .bf16) (acc : Vec Ideal S8x128 .f32) :
    k0_pay344 (F := Ideal) acc (k0_pay330 (F := Ideal) (k0_pay257 (F := Ideal) g) (k0_pay326 (F := Ideal) v)
      (k0_pay327 (F := Ideal) v)) (k0_pay331 (F := Ideal) (k0_pay257 (F := Ideal) g) (k0_pay326 (F := Ideal) v)
      (k0_pay327 (F := Ideal) v)) (k0_pay332 (F := Ideal) (k0_pay257 (F := Ideal) g) (k0_pay326 (F := Ideal) v)
      (k0_pay327 (F := Ideal) v)) (k0_pay333 (F := Ideal) (k0_pay257 (F := Ideal) g) (k0_pay326 (F := Ideal) v)
      (k0_pay327 (F := Ideal) v)) (k0_pay334 (F := Ideal) (k0_pay257 (F := Ideal) g) (k0_pay326 (F := Ideal) v)
      (k0_pay327 (F := Ideal) v)) (k0_pay335 (F := Ideal) (k0_pay257 (F := Ideal) g) (k0_pay326 (F := Ideal) v)
      (k0_pay327 (F := Ideal) v)) (k0_pay336 (F := Ideal) (k0_pay257 (F := Ideal) g) (k0_pay326 (F := Ideal) v)
      (k0_pay327 (F := Ideal) v)) (k0_pay337 (F := Ideal) (k0_pay257 (F := Ideal) g) (k0_pay326 (F := Ideal) v)
      (k0_pay327 (F := Ideal) v)) (k0_pay338 (F := Ideal) (k0_pay257 (F := Ideal) g) (k0_pay326 (F := Ideal) v)
      (k0_pay327 (F := Ideal) v)) (k0_pay339 (F := Ideal) (k0_pay257 (F := Ideal) g) (k0_pay326 (F := Ideal) v)
      (k0_pay327 (F := Ideal) v)) (k0_pay340 (F := Ideal) (k0_pay257 (F := Ideal) g) (k0_pay326 (F := Ideal) v)
      (k0_pay327 (F := Ideal) v)) (k0_pay341 (F := Ideal) (k0_pay257 (F := Ideal) g) (k0_pay326 (F := Ideal) v)
      (k0_pay327 (F := Ideal) v)) (k0_pay342 (F := Ideal) (k0_pay257 (F := Ideal) g) (k0_pay326 (F := Ideal) v)
      (k0_pay327 (F := Ideal) v)) (k0_pay343 (F := Ideal) (k0_pay257 (F := Ideal) g) (k0_pay326 (F := Ideal) v)
      (k0_pay327 (F := Ideal) v))
      = group g v acc := rfl
/-- Value 353 of the body's text, in the form its siblings have. -/
theorem pay353 (g : Vec Ideal S1x3584 .f32) (v : Vec Ideal S1x32x3584 .bf16) (acc : Vec Ideal S8x128 .f32) :
    k0_pay353 (F := Ideal) acc (k0_pay347 (F := Ideal) (k0_pay257 (F := Ideal) g) v) (k0_pay348 (F := Ideal)
      (k0_pay257 (F := Ideal) g) v) (k0_pay349 (F := Ideal) (k0_pay257 (F := Ideal) g) v) (k0_pay350 (F :=
      Ideal) (k0_pay257 (F := Ideal) g) v) (k0_pay351 (F := Ideal) (k0_pay257 (F := Ideal) g) v) (k0_pay352 (F
      := Ideal) (k0_pay257 (F := Ideal) g) v)
      = group g v acc := rfl
/-- Value 386 of the body's text, in the form its siblings have. -/
theorem pay386 (g : Vec Ideal S1x3584 .f32) (v : Vec Ideal S1x32x3584 .bf16) (acc : Vec Ideal S8x128 .f32) :
    k0_pay386 (F := Ideal) acc (k0_pay358 (F := Ideal) (k0_pay257 (F := Ideal) g) v) (k0_pay359 (F := Ideal)
      (k0_pay257 (F := Ideal) g) v) (k0_pay360 (F := Ideal) (k0_pay257 (F := Ideal) g) v) (k0_pay361 (F :=
      Ideal) (k0_pay257 (F := Ideal) g) v) (k0_pay362 (F := Ideal) (k0_pay257 (F := Ideal) g) v) (k0_pay363 (F
      := Ideal) (k0_pay257 (F := Ideal) g) v) (k0_pay364 (F := Ideal) (k0_pay257 (F := Ideal) g) v) (k0_pay365
      (F := Ideal) (k0_pay257 (F := Ideal) g) v) (k0_pay366 (F := Ideal) (k0_pay257 (F := Ideal) g) v)
      (k0_pay367 (F := Ideal) (k0_pay257 (F := Ideal) g) v) (k0_pay368 (F := Ideal) (k0_pay257 (F := Ideal) g)
      v) (k0_pay369 (F := Ideal) (k0_pay257 (F := Ideal) g) v) (k0_pay370 (F := Ideal) (k0_pay257 (F := Ideal)
      g) v) (k0_pay371 (F := Ideal) (k0_pay257 (F := Ideal) g) v) (k0_pay372 (F := Ideal) (k0_pay257 (F :=
      Ideal) g) v) (k0_pay373 (F := Ideal) (k0_pay257 (F := Ideal) g) v) (k0_pay374 (F := Ideal) (k0_pay257 (F
      := Ideal) g) v) (k0_pay375 (F := Ideal) (k0_pay257 (F := Ideal) g) v) (k0_pay376 (F := Ideal) (k0_pay257
      (F := Ideal) g) v) (k0_pay377 (F := Ideal) (k0_pay257 (F := Ideal) g) v) (k0_pay378 (F := Ideal)
      (k0_pay257 (F := Ideal) g) v) (k0_pay379 (F := Ideal) (k0_pay257 (F := Ideal) g) v) (k0_pay380 (F :=
      Ideal) (k0_pay257 (F := Ideal) g) v) (k0_pay381 (F := Ideal) (k0_pay257 (F := Ideal) g) v) (k0_pay382 (F
      := Ideal) (k0_pay257 (F := Ideal) g) v) (k0_pay383 (F := Ideal) (k0_pay257 (F := Ideal) g) v) (k0_pay384
      (F := Ideal) (k0_pay257 (F := Ideal) g) v) (k0_pay385 (F := Ideal) (k0_pay257 (F := Ideal) g) v)
      = group g v acc := rfl
/-- Value 398 of the body's text, in the form its siblings have. -/
theorem pay398 (g : Vec Ideal S1x3584 .f32) (v : Vec Ideal S1x32x3584 .bf16) (acc : Vec Ideal S8x128 .f32) :
    k0_pay398 (F := Ideal) acc (k0_pay392 (F := Ideal) (k0_pay257 (F := Ideal) g) (k0_pay388 (F := Ideal) v)
      (k0_pay389 (F := Ideal) v)) (k0_pay393 (F := Ideal) (k0_pay257 (F := Ideal) g) (k0_pay388 (F := Ideal) v)
      (k0_pay389 (F := Ideal) v)) (k0_pay394 (F := Ideal) (k0_pay257 (F := Ideal) g) (k0_pay388 (F := Ideal) v)
      (k0_pay389 (F := Ideal) v)) (k0_pay395 (F := Ideal) (k0_pay257 (F := Ideal) g) (k0_pay388 (F := Ideal) v)
      (k0_pay389 (F := Ideal) v)) (k0_pay396 (F := Ideal) (k0_pay257 (F := Ideal) g) (k0_pay388 (F := Ideal) v)
      (k0_pay389 (F := Ideal) v))
      = group g v acc := by
  funext y
  change shapeCast S8x128 (group g v acc) shapeCasts_S8x128_S8x128 y = _
  pointwise

/-- A group of 32 rows, normed. -/
def norm32 (g : Vec Ideal S1x3584 .f32) (v : Vec Ideal S1x32x3584 .bf16) : FVec Ideal S32x3584 .f32 :=
  k0_pay69 (F := Ideal) (k0_pay27 (F := Ideal) g) v

/-- The norm at an index. -/
theorem norm32_at (g : Vec Ideal S1x3584 .f32) (v : Vec Ideal S1x32x3584 .bf16) (i : Fin 32) (j : Fin 3584) :
    norm32 g v (ix2 i j) = Spec.rms (Ideal.ofBits .f32 0x45600000#32) (fun k : Fin 3584 => v (ix3 0 i k)) (v (ix3 0 i j)) (g (ix2 0 j)) := by
  unfold norm32 Spec.rms
  pointwise [k0_pay69, k0_pay27]

/-- A group's update of the running maxima: bounded by `B` when the maxima before are and every magnitude of the group that
    falls on this row (modulo 8) and lane (modulo 128) is. -/
theorem group_le (g : Vec Ideal S1x3584 .f32) (v : Vec Ideal S1x32x3584 .bf16) (acc : Vec Ideal S8x128 .f32) (r : Fin 8) (l : Fin 128) (B : EReal) :
    group g v acc (ix2 r l) ≤ B ↔ acc (ix2 r l) ≤ B ∧ ∀ (i : Fin 32) (j : Fin 3584), i.val % 8 = r.val → j.val % 128 = l.val →
      Spec.mag (norm32 g v (ix2 i j)) ≤ B := by
  unfold group
  pointwise [k0_pay71, k0_pay70]
  simp only [max_le_iff, Spec.fold_max_le]
  have e : ∀ (i : Fin 32) (j : Fin 3584), FloatOps.absf (k0_pay69 (F := Ideal) (k0_pay27 (F := Ideal) g) v (ix2 i j)) = Spec.mag (norm32 g v (ix2 i j)) :=
    fun i j => rfl
  simp only [e]
  refine and_congr_right fun _ => ⟨fun hh => ?_, fun h => ?_⟩
  · have all : ∀ (q : Fin 28) (x : Fin 4), Spec.mag (norm32 g v (ix2 ⟨x.val * 8 + r.val, by omega⟩ ⟨128 * q.val + l.val, by omega⟩)) ≤ B := by
      obtain ⟨⟨⟨⟨⟨⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩, h25⟩, h26⟩, h27⟩ := hh
      intro q
      fin_cases q
      · exact fun x => by simpa using h0 x
      · exact h1
      · exact h2
      · exact h3
      · exact h4
      · exact h5
      · exact h6
      · exact h7
      · exact h8
      · exact h9
      · exact h10
      · exact h11
      · exact h12
      · exact h13
      · exact h14
      · exact h15
      · exact h16
      · exact h17
      · exact h18
      · exact h19
      · exact h20
      · exact h21
      · exact h22
      · exact h23
      · exact h24
      · exact h25
      · exact h26
      · exact h27
    intro i j hi hj
    have hi' := i.isLt
    have hj' := j.isLt
    have := all ⟨j.val / 128, by omega⟩ ⟨i.val / 8, by omega⟩
    rwa [show (⟨i.val / 8 * 8 + r.val, by omega⟩ : Fin 32) = i from Fin.ext (by simp only []; omega),
      show (⟨128 * (j.val / 128) + l.val, by omega⟩ : Fin 3584) = j from Fin.ext (by simp only []; omega)] at this
  · have all : ∀ (q : Fin 28) (x : Fin 4), Spec.mag (norm32 g v (ix2 ⟨x.val * 8 + r.val, by omega⟩ ⟨128 * q.val + l.val, by omega⟩)) ≤ B :=
      fun q x => h _ _ (by simp only []; omega) (by simp only []; omega)
    refine ⟨⟨⟨⟨⟨⟨⟨⟨⟨⟨⟨⟨⟨⟨⟨⟨⟨⟨⟨⟨⟨⟨⟨⟨⟨⟨⟨fun x => by simpa using all 0 x, all 1⟩, all 2⟩, all 3⟩, all 4⟩, all 5⟩, all 6⟩, all 7⟩, all
      8⟩, all 9⟩, all 10⟩, all 11⟩, all 12⟩, all 13⟩, all 14⟩, all 15⟩, all 16⟩, all 17⟩, all 18⟩, all 19⟩, all 20⟩, all
      21⟩, all 22⟩, all 23⟩, all 24⟩, all 25⟩, all 26⟩, all 27⟩

end Cert.QkvIdeal.Sem

end
-- ==== Proof.QkvAmax.lean ====
/-
  The query, key and value projections, kernel side: the amax of the norm after the run is `Spec.xAmax` of the arguments.
-/
module

public import proofs.«01_k».proof.Proof.Spec
public import proofs.«01_k».proof.Proof.QkvRows
public import proofs.«01_k».proof.Proof.Gen.QkvIdeal.Value

@[expose] public section

set_option maxRecDepth 16384

noncomputable section

open Idealize.ShloMosaic Idealize.ShloMosaic.TcCoe Idealize.SL.Sem
open Idealize.ShloMosaic.Pipeline (Dat)

namespace Cert.QkvIdeal.Sem

open Cert.QkvIdeal Cert.QkvIdeal.Gen

variable (m : (ℓ : Loc nD τ sig) → Buf (Elt Ideal) ℓ)

/-- A group's rows within the block. -/
theorem row32 (o : ℕ) (inb : ∀ a, (![0, o, 0] : Fin 3 → ℕ) a + (![1, 32, 3584] : Fin 3 → ℕ) a ≤ S1x512x3584.size a) (i : Fin 512) (x0 : Fin 32)
    (h : i.val = o + x0.val) (k : Fin 3584) : (Rect.unit (s := S1x512x3584) ![0, o, 0] ![1, 32, 3584] inb).idx (ix3 0 x0 k) = ix3 0 i k := by
  funext a
  refine Fin.ext ?_
  match a with
  | ⟨0, _⟩ => rfl
  | ⟨1, _⟩ =>
    show o + 1 * x0.val = i.val
    omega
  | ⟨2, _⟩ =>
    show 0 + 1 * k.val = k.val
    omega

/-- A group's norm is the block's norm at the group's rows. -/
theorem norm_at (X : Vec Ideal S1x512x3584 .bf16) (g : Vec Ideal S1x3584 .f32) (o : ℕ)
    (inb : ∀ a, (![0, o, 0] : Fin 3 → ℕ) a + (![1, 32, 3584] : Fin 3 → ℕ) a ≤ S1x512x3584.size a) (i : Fin 512) (x0 : Fin 32)
    (h : i.val = o + x0.val) (j : Fin 3584) :
    norm32 g (fun q => X ((Rect.unit (s := S1x512x3584) ![0, o, 0] ![1, 32, 3584] inb).idx q)) (ix2 x0 j) = nrm X g i j := by
  rw [norm32_at]
  simp only [row32 o inb i x0 h]
  rfl

/-- The magnitudes of a row's norm that fall on row `r` (modulo 8), lane `l` (modulo 128) are at most `B`. -/
def RowLe (X : Vec Ideal S1x512x3584 .bf16) (g : Vec Ideal S1x3584 .f32) (r : Fin 8) (l : Fin 128) (B : EReal) (i : Fin 512) : Prop :=
  ∀ j : Fin 3584, i.val % 8 = r.val → j.val % 128 = l.val → Spec.mag (nrm X g i j) ≤ B

/-- A group's update of the running maxima, over the block's rows. -/
theorem chunk_le (g : Vec Ideal S1x3584 .f32) (X : Vec Ideal S1x512x3584 .bf16) (o : ℕ) (ho : o % 8 = 0)
    (inb : ∀ a, (![0, o, 0] : Fin 3 → ℕ) a + (![1, 32, 3584] : Fin 3 → ℕ) a ≤ S1x512x3584.size a)
    (acc : Vec Ideal S8x128 .f32) (r : Fin 8) (l : Fin 128) (B : EReal) :
    group g (fun q => X ((Rect.unit (s := S1x512x3584) ![0, o, 0] ![1, 32, 3584] inb).idx q)) acc (ix2 r l) ≤ B
      ↔ acc (ix2 r l) ≤ B ∧ ∀ i : Fin 512, o ≤ i.val → i.val < o + 32 → RowLe X g r l B i := by
  have ho' : o + 32 ≤ 512 := inb 1
  rw [group_le]
  refine and_congr_right fun _ => ⟨fun h i h1 h2 j hi hj => ?_, fun h i j hi hj => ?_⟩
  · have := h ⟨i.val - o, by omega⟩ j (by simp only []; omega) hj
    rwa [norm_at X g o inb i _ (by simp only []; omega)] at this
  · rw [norm_at X g o inb ⟨o + i.val, by omega⟩ i rfl]
    exact h ⟨o + i.val, by omega⟩ (by simp) (by simp) j (by simp only []; omega) hj

/-- Sixteen groups are all rows. -/
theorem rows (P : Fin 512 → Prop) (A : Prop) :
    (((((((((((((((((A ∧ ∀ i : Fin 512, 0 ≤ i.val → i.val < 0 + 32 → P i) ∧ ∀ i : Fin 512, 32 ≤ i.val → i.val < 32 + 32 → P i) ∧ ∀ i : Fin 512, 64 ≤ i.val → i.val < 64 + 32 → P i) ∧ ∀ i : Fin 512, 96 ≤ i.val → i.val < 96 + 32 → P i) ∧ ∀ i : Fin 512, 128 ≤ i.val → i.val < 128 + 32 → P i) ∧ ∀ i : Fin 512, 160 ≤ i.val → i.val < 160 + 32 → P i) ∧ ∀ i : Fin 512, 192 ≤ i.val → i.val < 192 + 32 → P i) ∧ ∀ i : Fin 512, 224 ≤ i.val → i.val < 224 + 32 → P i) ∧ ∀ i : Fin 512, 256 ≤ i.val → i.val < 256 + 32 → P i) ∧ ∀ i : Fin 512, 288 ≤ i.val → i.val < 288 + 32 → P i) ∧ ∀ i : Fin 512, 320 ≤ i.val → i.val < 320 + 32 → P i) ∧ ∀ i : Fin 512, 352 ≤ i.val → i.val < 352 + 32 → P i) ∧ ∀ i : Fin 512, 384 ≤ i.val → i.val < 384 + 32 → P i) ∧ ∀ i : Fin 512, 416 ≤ i.val → i.val < 416 + 32 → P i) ∧ ∀ i : Fin 512, 448 ≤ i.val → i.val < 448 + 32 → P i) ∧ ∀ i : Fin 512, 480 ≤ i.val → i.val < 480 + 32 → P i)) ↔ A ∧ ∀ i, P i := by
  constructor
  · rintro ⟨⟨⟨⟨⟨⟨⟨⟨⟨⟨⟨⟨⟨⟨⟨⟨ha, h0⟩, h1⟩, h2⟩, h3⟩, h4⟩, h5⟩, h6⟩, h7⟩, h8⟩, h9⟩, h10⟩, h11⟩, h12⟩, h13⟩, h14⟩, h15⟩
    refine ⟨ha, fun i => ?_⟩
    have hi := i.isLt
    rcases Nat.lt_or_ge i.val 32 with h | h; · exact h0 i (by omega) (by omega)
    rcases Nat.lt_or_ge i.val 64 with h | h; · exact h1 i (by omega) (by omega)
    rcases Nat.lt_or_ge i.val 96 with h | h; · exact h2 i (by omega) (by omega)
    rcases Nat.lt_or_ge i.val 128 with h | h; · exact h3 i (by omega) (by omega)
    rcases Nat.lt_or_ge i.val 160 with h | h; · exact h4 i (by omega) (by omega)
    rcases Nat.lt_or_ge i.val 192 with h | h; · exact h5 i (by omega) (by omega)
    rcases Nat.lt_or_ge i.val 224 with h | h; · exact h6 i (by omega) (by omega)
    rcases Nat.lt_or_ge i.val 256 with h | h; · exact h7 i (by omega) (by omega)
    rcases Nat.lt_or_ge i.val 288 with h | h; · exact h8 i (by omega) (by omega)
    rcases Nat.lt_or_ge i.val 320 with h | h; · exact h9 i (by omega) (by omega)
    rcases Nat.lt_or_ge i.val 352 with h | h; · exact h10 i (by omega) (by omega)
    rcases Nat.lt_or_ge i.val 384 with h | h; · exact h11 i (by omega) (by omega)
    rcases Nat.lt_or_ge i.val 416 with h | h; · exact h12 i (by omega) (by omega)
    rcases Nat.lt_or_ge i.val 448 with h | h; · exact h13 i (by omega) (by omega)
    rcases Nat.lt_or_ge i.val 480 with h | h; · exact h14 i (by omega) (by omega)
    exact h15 i (by omega) (by omega)
  · rintro ⟨ha, h⟩
    exact ⟨⟨⟨⟨⟨⟨⟨⟨⟨⟨⟨⟨⟨⟨⟨⟨ha, fun i _ _ => h i⟩, fun i _ _ => h i⟩, fun i _ _ => h i⟩, fun i _ _ => h i⟩, fun i _ _ => h i⟩, fun i _ _ => h i⟩, fun i _ _ => h i⟩, fun i _ _ => h i⟩, fun i _ _ => h i⟩, fun i _ _ => h i⟩, fun i _ _ => h i⟩, fun i _ _ => h i⟩, fun i _ _ => h i⟩, fun i _ _ => h i⟩, fun i _ _ => h i⟩, fun i _ _ => h i⟩

/-- The sixteen groups' updates one after the other, over all rows of the block. -/
theorem groups (g : Vec Ideal S1x3584 .f32) (X : Vec Ideal S1x512x3584 .bf16) (acc : Vec Ideal S8x128 .f32) (r : Fin 8) (l : Fin 128)
    (B : EReal) :

      (group g (fun q => X ((Rect.unit (s := S1x512x3584) ![0, 480, 0] ![1, 32, 3584] inb_S1x512x3584_S1x32x3584_0_480_0).idx q))
      (group g (fun q => X ((Rect.unit (s := S1x512x3584) ![0, 448, 0] ![1, 32, 3584] inb_S1x512x3584_S1x32x3584_0_448_0).idx q))
      (group g (fun q => X ((Rect.unit (s := S1x512x3584) ![0, 416, 0] ![1, 32, 3584] inb_S1x512x3584_S1x32x3584_0_416_0).idx q))
      (group g (fun q => X ((Rect.unit (s := S1x512x3584) ![0, 384, 0] ![1, 32, 3584] inb_S1x512x3584_S1x32x3584_0_384_0).idx q))
      (group g (fun q => X ((Rect.unit (s := S1x512x3584) ![0, 352, 0] ![1, 32, 3584] inb_S1x512x3584_S1x32x3584_0_352_0).idx q))
      (group g (fun q => X ((Rect.unit (s := S1x512x3584) ![0, 320, 0] ![1, 32, 3584] inb_S1x512x3584_S1x32x3584_0_320_0).idx q))
      (group g (fun q => X ((Rect.unit (s := S1x512x3584) ![0, 288, 0] ![1, 32, 3584] inb_S1x512x3584_S1x32x3584_0_288_0).idx q))
      (group g (fun q => X ((Rect.unit (s := S1x512x3584) ![0, 256, 0] ![1, 32, 3584] inb_S1x512x3584_S1x32x3584_0_256_0).idx q))
      (group g (fun q => X ((Rect.unit (s := S1x512x3584) ![0, 224, 0] ![1, 32, 3584] inb_S1x512x3584_S1x32x3584_0_224_0).idx q))
      (group g (fun q => X ((Rect.unit (s := S1x512x3584) ![0, 192, 0] ![1, 32, 3584] inb_S1x512x3584_S1x32x3584_0_192_0).idx q))
      (group g (fun q => X ((Rect.unit (s := S1x512x3584) ![0, 160, 0] ![1, 32, 3584] inb_S1x512x3584_S1x32x3584_0_160_0).idx q))
      (group g (fun q => X ((Rect.unit (s := S1x512x3584) ![0, 128, 0] ![1, 32, 3584] inb_S1x512x3584_S1x32x3584_0_128_0).idx q))
      (group g (fun q => X ((Rect.unit (s := S1x512x3584) ![0, 96, 0] ![1, 32, 3584] inb_S1x512x3584_S1x32x3584_0_96_0).idx q))
      (group g (fun q => X ((Rect.unit (s := S1x512x3584) ![0, 64, 0] ![1, 32, 3584] inb_S1x512x3584_S1x32x3584_0_64_0).idx q))
      (group g (fun q => X ((Rect.unit (s := S1x512x3584) ![0, 32, 0] ![1, 32, 3584] inb_S1x512x3584_S1x32x3584_0_32_0).idx q))
      (group g (fun q => X ((Rect.unit (s := S1x512x3584) ![0, 0, 0] ![1, 32, 3584] inb_S1x512x3584_S1x32x3584_0_0_0).idx q)) acc)))))))))))))))) (ix2 r l) ≤ B
      ↔ acc (ix2 r l) ≤ B ∧ ∀ i, RowLe X g r l B i := by
  rw [chunk_le g X 480 (by decide), chunk_le g X 448 (by decide), chunk_le g X 416 (by decide), chunk_le g X 384 (by decide), chunk_le g X 352 (by decide), chunk_le g X 320 (by decide), chunk_le g X 288 (by decide), chunk_le g X 256 (by decide), chunk_le g X 224 (by decide), chunk_le g X 192 (by decide), chunk_le g X 160 (by decide), chunk_le g X 128 (by decide), chunk_le g X 96 (by decide), chunk_le g X 64 (by decide), chunk_le g X 32 (by decide), chunk_le g X 0 (by decide), rows]

/-- The running maxima start at zero. -/
theorem zero (r : Fin 8) (l : Fin 128) : k0_pay24 (F := Ideal) (ix2 r l) = 0 := by
  pointwise [k0_pay24]

/-- The running maxima after a point of case A. -/
theorem stepA (c : Dev nD) (t : Fin cfg0.N) (h0 : t.val % 30 = 0) (h1 : ¬t.val % 30 = 29) (r : Fin 8) (l : Fin 128) (B : EReal) :
    (outsAt0 m c t.val t.isLt).2.2.2.2.2.2.2.2.1 (ix2 r l) ≤ B ↔ (0 : EReal) ≤ B
      ∧ ∀ i, RowLe (iblk m c 5 t) (iblk m c 6 t) r l B i := by
  rw [outsAt0_A m c t h0 h1]
  frame_out
  simp only [pay42, pay67, pay71, pay97, pay115, pay126, pay157, pay167, pay270, pay298, pay301, pay324, pay344, pay353, pay386, pay398]
  refine (groups (iblk m c 6 t) (iblk m c 5 t) _ r l B).trans ?_
  rw [show k0_pay24 (F := Ideal) (ix2 r l) = 0 from zero r l]

/-- The running maxima after a point of case B. -/
theorem stepB (c : Dev nD) (t : Fin cfg0.N) (h0 : ¬t.val % 30 = 0) (h1 : ¬t.val % 30 = 29) (r : Fin 8) (l : Fin 128) (B : EReal) :
    (outsAt0 m c t.val t.isLt).2.2.2.2.2.2.2.2.1 (ix2 r l) ≤ B ↔ (outsAt0 m c (t.val - 1) (Nat.lt_of_le_of_lt (Nat.sub_le _ _) t.isLt)).2.2.2.2.2.2.2.2.1 (ix2 r l) ≤ B
      ∧ ∀ i, RowLe (iblk m c 5 t) (iblk m c 6 t) r l B i := by
  rw [outsAt0_B m c t h0 h1]
  frame_out
  simp only [pay42, pay67, pay71, pay97, pay115, pay126, pay157, pay167, pay270, pay298, pay301, pay324, pay344, pay353, pay386, pay398]
  refine (groups (iblk m c 6 t) (iblk m c 5 t) _ r l B).trans ?_
  rw [(Memref.isWhole_whole _).read_unread]

/-- The running maxima after a point of case C. -/
theorem stepC (c : Dev nD) (t : Fin cfg0.N) (h0 : ¬t.val % 30 = 0) (h1 : t.val % 30 = 29) (r : Fin 8) (l : Fin 128) (B : EReal) :
    (outsAt0 m c t.val t.isLt).2.2.2.2.2.2.2.2.1 (ix2 r l) ≤ B ↔ (outsAt0 m c (t.val - 1) (Nat.lt_of_le_of_lt (Nat.sub_le _ _) t.isLt)).2.2.2.2.2.2.2.2.1 (ix2 r l) ≤ B
      ∧ ∀ i, RowLe (iblk m c 5 t) (iblk m c 6 t) r l B i := by
  rw [outsAt0_C m c t h0 h1]
  frame_out
  simp only [pay42, pay67, pay71, pay97, pay115, pay126, pay157, pay167, pay270, pay298, pay301, pay324, pay344, pay353, pay386, pay398]
  refine (groups (iblk m c 6 t) (iblk m c 5 t) _ r l B).trans ?_
  rw [(Memref.isWhole_whole _).read_unread]

/-- The magnitude of the norm at an index is at most `B`, if the index lies on row `r` (modulo 8), lane `l` (modulo 128). -/
def CellLe (c : Dev nD) (r : Fin 8) (l : Fin 128) (B : EReal) (b : Fin 3) (i : Fin 5120) (j : Fin 3584) : Prop :=
  i.val % 8 = r.val → j.val % 128 = l.val → Spec.mag (Spec.xNorm (m ((c : Thread nD τ).loc main_arg0)) (m ((c : Thread nD τ).loc main_arg1)) b i j) ≤ B

/-- A point's part of the bound, over the whole array's indices. -/
theorem part (c : Dev nD) (t : Fin cfg0.N) (r : Fin 8) (l : Fin 128) (B : EReal) :
    (∀ i, RowLe (iblk m c 5 t) (iblk m c 6 t) r l B i)
      ↔ ∀ (b : Fin 3) (I : Fin 5120) (J : Fin 3584), b.val * 10 + I.val / 512 = t.val → CellLe m c r l B b I J := by
  have ht : t.val < 30 := t.isLt
  constructor
  · intro h b I J hIJ hI hJ
    have hI' := I.isLt
    have := h ⟨I.val % 512, by omega⟩ J (by simp only []; omega) hJ
    rw [nrm_blk m c t] at this
    rwa [show (⟨t.val / 10, by omega⟩ : Fin 3) = b from Fin.ext (by simp only []; omega),
      show (⟨t.val % 10 * 512 + I.val % 512, by omega⟩ : Fin 5120) = I from Fin.ext (by simp only []; omega)] at this
  · intro h i j hi hj
    have hi' := i.isLt
    have := h ⟨t.val / 10, by omega⟩ ⟨t.val % 10 * 512 + i.val, by omega⟩ j (by simp only []; omega) (by simp only []; omega) hj
    rwa [← nrm_blk m c t i] at this

/-- The running maxima after point `n`: the largest magnitudes of the rows the points up to `n` hold. -/
theorem upto (c : Dev nD) (r : Fin 8) (l : Fin 128) (B : EReal) : ∀ (n : ℕ) (hn : n < cfg0.N),
    (outsAt0 m c n hn).2.2.2.2.2.2.2.2.1 (ix2 r l) ≤ B ↔ 0 ≤ B
      ∧ ∀ (b : Fin 3) (I : Fin 5120) (J : Fin 3584), b.val * 10 + I.val / 512 ≤ n → CellLe m c r l B b I J
  | 0, hn => by
    rw [stepA m c ⟨0, hn⟩ rfl (by show ¬0 % 30 = 29; decide) r l B, part]
    exact and_congr_right fun _ => forall_congr' fun b => forall₂_congr fun I J => by rw [Nat.le_zero]
  | n + 1, hn => by
    have hn' : n + 1 < 30 := hn
    have key : (outsAt0 m c (n + 1) hn).2.2.2.2.2.2.2.2.1 (ix2 r l) ≤ B ↔ (outsAt0 m c n (Nat.lt_of_succ_lt hn)).2.2.2.2.2.2.2.2.1 (ix2 r l) ≤ B
        ∧ ∀ i, RowLe (iblk m c 5 ⟨n + 1, hn⟩) (iblk m c 6 ⟨n + 1, hn⟩) r l B i := by
      by_cases h : (n + 1) % 30 = 29
      · exact stepC m c ⟨n + 1, hn⟩ (by simp only []; omega) h r l B
      · exact stepB m c ⟨n + 1, hn⟩ (by simp only []; omega) h r l B
    rw [key, upto c r l B n, part m c ⟨n + 1, hn⟩, and_assoc]
    refine and_congr_right fun _ => ⟨fun ⟨h1, h2⟩ b I J hIJ => ?_, fun h => ⟨fun b I J hIJ => h b I J (by omega), fun b I J hIJ => h b I J hIJ.le⟩⟩
    rcases Nat.lt_or_ge n (b.val * 10 + I.val / 512) with h | h
    · exact h2 b I J (by simp only []; omega)
    · exact h1 b I J h

/-- The running maximum over the 8 by 128 cells. -/
theorem pay4_le (v : Vec Ideal S8x128 .f32) (B : EReal) :
    k0_pay4 (F := Ideal) v ≤ B ↔ ∀ (r : Fin 8) (l : Fin 128), v (ix2 r l) ≤ B := by
  pointwise [k0_pay4]
  rw [Spec.fold_max_le]
  exact ⟨fun h r l => h (r, l), fun h p => h p.1 p.2⟩

/-- The last point stores the largest of the running maxima. -/
theorem last (c : Dev nD) (t : Fin cfg0.N) (h0 : ¬t.val % 30 = 0) (h1 : t.val % 30 = 29) (y : S1.Idx) :
    (outsAt0 m c t.val t.isLt).2.2.2.2.1 y = k0_pay4 (F := Ideal) (outsAt0 m c t.val t.isLt).2.2.2.2.2.2.2.2.1 := by
  rw [outsAt0_C m c t h0 h1]
  frame_out

/-- The amax of the norm after the run. -/
theorem amax (c : Dev nD) : (dats m 0 c).arrAt 16 (cfgs 0).N
    = Spec.xAmax (m ((c : Thread nD τ).loc main_arg0)) (m ((c : Thread nD τ).loc main_arg1)) := by
  refine (dats m 0 c).arrAt_eq_of_covers 16 _ (by decide +kernel) fun t hf y => ?_
  blk_simp
  have h1 : t.val % 30 = 29 := (flush0_16 t).1 hf
  have ht : t.val < 30 := t.isLt
  rw [after0_16]
  refine (last m c t (by omega) h1 y).trans ?_
  unfold Spec.xAmax
  refine eq_of_forall_ge_iff fun B => ?_
  rw [pay4_le]
  simp only [iSup_le_iff]
  constructor
  · intro h b I J
    exact ((upto m c ⟨I.val % 8, by omega⟩ ⟨J.val % 128, by omega⟩ B _ _).1 (h _ _)).2 b I J (by have := I.isLt; have := b.isLt; omega) rfl rfl
  · intro h r l
    exact (upto m c r l B _ _).2 ⟨(Spec.mag_nonneg _).trans (h 0 0 0), fun b I J _ _ _ => h b I J⟩

end Cert.QkvIdeal.Sem

end
-- ==== Proof.QkvUpd.lean ====
/-
  The query, key and value projections, kernel side: what half a block's rows do to a head's running maxima. The heads' texts
  differ, and each comes to one of six by the head's place among the columns read together.
-/
module

public import proofs.«01_k».proof.Proof.Spec
public import proofs.«01_k».proof.Proof.QkvHeads
public import proofs.«01_k».proof.Proof.Gen.QkvIdeal.Value

@[expose] public section

set_option maxRecDepth 16384

noncomputable section

open Idealize.ShloMosaic Idealize.ShloMosaic.TcCoe Idealize.SL.Sem
open Idealize.ShloMosaic.Pipeline (Dat)

namespace Cert.QkvIdeal.Sem

open Cert.QkvIdeal Cert.QkvIdeal.Gen

variable (m : (ℓ : Loc nD τ sig) → Buf (Elt Ideal) ℓ)

/-- The value at an index of a head's row as the body computes it. -/
theorem head_row (f : Fin 128 → EReal) (g : Vec Ideal S1x128 .f32) (cos sin : Fin 64 → EReal) (l : Fin 128) (hl : (l.val + 128 - 64) % 128 < 128) :
    (Spec.headNorm (fun q => g (ix2 0 q)) f l * if h : l.val < 64 then cos ⟨l.val, h⟩ else cos ⟨l.val - 64, by omega⟩)
      + Spec.headNorm (fun q => g (ix2 0 q)) f ⟨(l.val + 128 - 64) % 128, hl⟩
        * (if h : l.val < 64 then 0 - sin ⟨l.val, h⟩ else sin ⟨l.val - 64, by omega⟩)
      = Spec.rope cos sin (Spec.headNorm (fun q => g (ix2 0 q)) f) l := rope_roll _ cos sin l hl

/-- The rows congruent to `r` modulo 8, a group at a time. -/
theorem rows8 (P : Fin 256 → Prop) (r : Fin 8) : (∀ x : Fin 32, P ⟨x.val * 8 + r.val, by omega⟩) ↔ ∀ i : Fin 256, i.val % 8 = r.val → P i := by
  refine ⟨fun h i hi => ?_, fun h x => h _ (by simp only []; omega)⟩
  have := h ⟨i.val / 8, by omega⟩
  rwa [show (⟨i.val / 8 * 8 + r.val, by omega⟩ : Fin 256) = i from Fin.ext (by simp only []; omega)] at this

/-- The update of a head's running maxima, the head at place 0. -/
def uq0 (c s : Vec Ideal S1x64x256 .f32) (a b : EReal) (C : Vec Ideal S1x256x3584 .fp8e4m3) (w : Vec Ideal S3584x512 .fp8e4m3) (g : Vec Ideal S1x128 .f32) (o : Vec Ideal S1x8x128 .f32) : FVec Ideal S1x8x128 .f32 :=
    k0_pay176 (F := Ideal) (k0_pay169 (F := Ideal) c) (k0_pay170 (F := Ideal) s) (k0_pay172 (F := Ideal)
      (k0_pay26 (F := Ideal) a b) C w) (k0_pay173 (F := Ideal) g) (k0_pay174 (F := Ideal) (k0_pay26 (F := Ideal)
      a b) C w) o

/-- The update of a head's running maxima, the head at place 1. -/
def uq1 (c s : Vec Ideal S1x64x256 .f32) (a b : EReal) (C : Vec Ideal S1x256x3584 .fp8e4m3) (w : Vec Ideal S3584x512 .fp8e4m3) (g : Vec Ideal S1x128 .f32) (o : Vec Ideal S1x8x128 .f32) : FVec Ideal S1x8x128 .f32 :=
    k0_pay180 (F := Ideal) (k0_pay169 (F := Ideal) c) (k0_pay170 (F := Ideal) s) (k0_pay178 (F := Ideal)
      (k0_pay26 (F := Ideal) a b) (k0_pay171 (F := Ideal) C w)) g o

/-- The update of a head's running maxima, the head at place 2. -/
def uq2 (c s : Vec Ideal S1x64x256 .f32) (a b : EReal) (C : Vec Ideal S1x256x3584 .fp8e4m3) (w : Vec Ideal S3584x512 .fp8e4m3) (g : Vec Ideal S1x128 .f32) (o : Vec Ideal S1x8x128 .f32) : FVec Ideal S1x8x128 .f32 :=
    k0_pay185 (F := Ideal) (k0_pay169 (F := Ideal) c) (k0_pay170 (F := Ideal) s) (k0_pay182 (F := Ideal)
      (k0_pay171 (F := Ideal) C w)) (k0_pay183 (F := Ideal) (k0_pay26 (F := Ideal) a b)) g o

/-- The update of a head's running maxima, the head at place 3. -/
def uq3 (c s : Vec Ideal S1x64x256 .f32) (a b : EReal) (C : Vec Ideal S1x256x3584 .fp8e4m3) (w : Vec Ideal S3584x512 .fp8e4m3) (g : Vec Ideal S1x128 .f32) (o : Vec Ideal S1x8x128 .f32) : FVec Ideal S1x8x128 .f32 :=
    k0_pay188 (F := Ideal) (k0_pay26 (F := Ideal) a b) (k0_pay169 (F := Ideal) c) (k0_pay170 (F := Ideal) s)
      (k0_pay171 (F := Ideal) C w) g o

/-- The update of a value head's running maxima, the head at place 0. -/
def uv0 (a b : EReal) (C : Vec Ideal S1x256x3584 .fp8e4m3) (w : Vec Ideal S3584x256 .fp8e4m3) (o : Vec Ideal S1x8x128 .f32) : FVec Ideal S1x8x128 .f32 :=
    k0_pay252 (F := Ideal) (k0_pay26 (F := Ideal) a b) (k0_pay250 (F := Ideal) (k0_pay168 (F := Ideal) C) w) o

/-- The update of a value head's running maxima, the head at place 1. -/
def uv1 (a b : EReal) (C : Vec Ideal S1x256x3584 .fp8e4m3) (w : Vec Ideal S3584x256 .fp8e4m3) (o : Vec Ideal S1x8x128 .f32) : FVec Ideal S1x8x128 .f32 :=
    k0_pay255 (F := Ideal) (k0_pay26 (F := Ideal) a b) (k0_pay250 (F := Ideal) (k0_pay168 (F := Ideal) C) w) o
/-- Half 0 of the rows, head 0: the text of its new running maxima is the update its siblings have. -/
theorem up0_0 (c s : Vec Ideal S1x64x256 .f32) (a b : EReal) (C : Vec Ideal S1x256x3584 .fp8e4m3) (w : Vec Ideal S3584x512 .fp8e4m3) (g : Vec Ideal S1x128 .f32) (o : Vec Ideal S1x8x128 .f32) :
    k0_pay176 (F := Ideal) (k0_pay169 (F := Ideal) c) (k0_pay170 (F := Ideal) s) (k0_pay172 (F := Ideal)
      (k0_pay26 (F := Ideal) a b) C w) (k0_pay173 (F := Ideal) g) (k0_pay174 (F := Ideal) (k0_pay26 (F := Ideal)
      a b) C w) o
      = uq0 c s a b C w g o := rfl
/-- Half 0 of the rows, head 1: the text of its new running maxima is the update its siblings have. -/
theorem up0_1 (c s : Vec Ideal S1x64x256 .f32) (a b : EReal) (C : Vec Ideal S1x256x3584 .fp8e4m3) (w : Vec Ideal S3584x512 .fp8e4m3) (g : Vec Ideal S1x128 .f32) (o : Vec Ideal S1x8x128 .f32) :
    k0_pay180 (F := Ideal) (k0_pay169 (F := Ideal) c) (k0_pay170 (F := Ideal) s) (k0_pay178 (F := Ideal)
      (k0_pay26 (F := Ideal) a b) (k0_pay171 (F := Ideal) C w)) g o
      = uq1 c s a b C w g o := rfl
/-- Half 0 of the rows, head 2: the text of its new running maxima is the update its siblings have. -/
theorem up0_2 (c s : Vec Ideal S1x64x256 .f32) (a b : EReal) (C : Vec Ideal S1x256x3584 .fp8e4m3) (w : Vec Ideal S3584x512 .fp8e4m3) (g : Vec Ideal S1x128 .f32) (o : Vec Ideal S1x8x128 .f32) :
    k0_pay185 (F := Ideal) (k0_pay169 (F := Ideal) c) (k0_pay170 (F := Ideal) s) (k0_pay182 (F := Ideal)
      (k0_pay171 (F := Ideal) C w)) (k0_pay183 (F := Ideal) (k0_pay26 (F := Ideal) a b)) g o
      = uq2 c s a b C w g o := rfl
/-- Half 0 of the rows, head 3: the text of its new running maxima is the update its siblings have. -/
theorem up0_3 (c s : Vec Ideal S1x64x256 .f32) (a b : EReal) (C : Vec Ideal S1x256x3584 .fp8e4m3) (w : Vec Ideal S3584x512 .fp8e4m3) (g : Vec Ideal S1x128 .f32) (o : Vec Ideal S1x8x128 .f32) :
    k0_pay188 (F := Ideal) (k0_pay26 (F := Ideal) a b) (k0_pay169 (F := Ideal) c) (k0_pay170 (F := Ideal) s)
      (k0_pay171 (F := Ideal) C w) g o
      = uq3 c s a b C w g o := rfl
/-- Half 0 of the rows, head 4: the text of its new running maxima is the update its siblings have. -/
theorem up0_4 (c s : Vec Ideal S1x64x256 .f32) (a b : EReal) (C : Vec Ideal S1x256x3584 .fp8e4m3) (w : Vec Ideal S3584x512 .fp8e4m3) (g : Vec Ideal S1x128 .f32) (o : Vec Ideal S1x8x128 .f32) :
    k0_pay193 (F := Ideal) (k0_pay26 (F := Ideal) a b) (k0_pay168 (F := Ideal) C) (k0_pay169 (F := Ideal) c)
      (k0_pay170 (F := Ideal) s) w g o
      = uq0 c s a b C w g o := rfl
/-- Half 0 of the rows, head 5: the text of its new running maxima is the update its siblings have. -/
theorem up0_5 (c s : Vec Ideal S1x64x256 .f32) (a b : EReal) (C : Vec Ideal S1x256x3584 .fp8e4m3) (w : Vec Ideal S3584x512 .fp8e4m3) (g : Vec Ideal S1x128 .f32) (o : Vec Ideal S1x8x128 .f32) :
    k0_pay198 (F := Ideal) (k0_pay26 (F := Ideal) a b) (k0_pay169 (F := Ideal) c) (k0_pay170 (F := Ideal) s)
      (k0_pay191 (F := Ideal) (k0_pay168 (F := Ideal) C) w) g o
      = uq1 c s a b C w g o := rfl
/-- Half 0 of the rows, head 6: the text of its new running maxima is the update its siblings have. -/
theorem up0_6 (c s : Vec Ideal S1x64x256 .f32) (a b : EReal) (C : Vec Ideal S1x256x3584 .fp8e4m3) (w : Vec Ideal S3584x512 .fp8e4m3) (g : Vec Ideal S1x128 .f32) (o : Vec Ideal S1x8x128 .f32) :
    k0_pay202 (F := Ideal) (k0_pay26 (F := Ideal) a b) (k0_pay169 (F := Ideal) c) (k0_pay170 (F := Ideal) s)
      (k0_pay191 (F := Ideal) (k0_pay168 (F := Ideal) C) w) g o
      = uq2 c s a b C w g o := rfl
/-- Half 0 of the rows, head 7: the text of its new running maxima is the update its siblings have. -/
theorem up0_7 (c s : Vec Ideal S1x64x256 .f32) (a b : EReal) (C : Vec Ideal S1x256x3584 .fp8e4m3) (w : Vec Ideal S3584x512 .fp8e4m3) (g : Vec Ideal S1x128 .f32) (o : Vec Ideal S1x8x128 .f32) :
    k0_pay206 (F := Ideal) (k0_pay205 (F := Ideal) (k0_pay26 (F := Ideal) a b) (k0_pay169 (F := Ideal) c)
      (k0_pay170 (F := Ideal) s) (k0_pay191 (F := Ideal) (k0_pay168 (F := Ideal) C) w) g o)
      = uq3 c s a b C w g o := rfl
/-- Half 0 of the rows, head 8: the text of its new running maxima is the update its siblings have. -/
theorem up0_8 (c s : Vec Ideal S1x64x256 .f32) (a b : EReal) (C : Vec Ideal S1x256x3584 .fp8e4m3) (w : Vec Ideal S3584x512 .fp8e4m3) (g : Vec Ideal S1x128 .f32) (o : Vec Ideal S1x8x128 .f32) :
    k0_pay211 (F := Ideal) (k0_pay209 (F := Ideal) (k0_pay26 (F := Ideal) a b) (k0_pay168 (F := Ideal) C)
      (k0_pay169 (F := Ideal) c) (k0_pay170 (F := Ideal) s) w g) (k0_pay210 (F := Ideal) o)
      = uq0 c s a b C w g o := rfl
/-- Half 0 of the rows, head 9: the text of its new running maxima is the update its siblings have. -/
theorem up0_9 (c s : Vec Ideal S1x64x256 .f32) (a b : EReal) (C : Vec Ideal S1x256x3584 .fp8e4m3) (w : Vec Ideal S3584x512 .fp8e4m3) (g : Vec Ideal S1x128 .f32) (o : Vec Ideal S1x8x128 .f32) :
    k0_pay214 (F := Ideal) (k0_pay213 (F := Ideal) (k0_pay26 (F := Ideal) a b) (k0_pay169 (F := Ideal) c)
      (k0_pay170 (F := Ideal) s) (k0_pay208 (F := Ideal) (k0_pay168 (F := Ideal) C) w) g) o
      = uq1 c s a b C w g o := rfl
/-- Half 0 of the rows, head 10: the text of its new running maxima is the update its siblings have. -/
theorem up0_10 (c s : Vec Ideal S1x64x256 .f32) (a b : EReal) (C : Vec Ideal S1x256x3584 .fp8e4m3) (w : Vec Ideal S3584x512 .fp8e4m3) (g : Vec Ideal S1x128 .f32) (o : Vec Ideal S1x8x128 .f32) :
    k0_pay217 (F := Ideal) (k0_pay216 (F := Ideal) (k0_pay26 (F := Ideal) a b) (k0_pay169 (F := Ideal) c)
      (k0_pay170 (F := Ideal) s) (k0_pay208 (F := Ideal) (k0_pay168 (F := Ideal) C) w) g) o
      = uq2 c s a b C w g o := rfl
/-- Half 0 of the rows, head 11: the text of its new running maxima is the update its siblings have. -/
theorem up0_11 (c s : Vec Ideal S1x64x256 .f32) (a b : EReal) (C : Vec Ideal S1x256x3584 .fp8e4m3) (w : Vec Ideal S3584x512 .fp8e4m3) (g : Vec Ideal S1x128 .f32) (o : Vec Ideal S1x8x128 .f32) :
    k0_pay223 (F := Ideal) (k0_pay170 (F := Ideal) s) (k0_pay220 (F := Ideal) (k0_pay26 (F := Ideal) a b)
      (k0_pay169 (F := Ideal) c) (k0_pay208 (F := Ideal) (k0_pay168 (F := Ideal) C) w) g) (k0_pay221 (F :=
      Ideal) (k0_pay26 (F := Ideal) a b) (k0_pay208 (F := Ideal) (k0_pay168 (F := Ideal) C) w) g) o
      = uq3 c s a b C w g o := rfl
/-- Half 0 of the rows, head 12: the text of its new running maxima is the update its siblings have. -/
theorem up0_12 (c s : Vec Ideal S1x64x256 .f32) (a b : EReal) (C : Vec Ideal S1x256x3584 .fp8e4m3) (w : Vec Ideal S3584x512 .fp8e4m3) (g : Vec Ideal S1x128 .f32) (o : Vec Ideal S1x8x128 .f32) :
    k0_pay230 (F := Ideal) (k0_pay169 (F := Ideal) c) (k0_pay170 (F := Ideal) s) (k0_pay226 (F := Ideal)
      (k0_pay26 (F := Ideal) a b) (k0_pay168 (F := Ideal) C) w) (k0_pay227 (F := Ideal) g) (k0_pay228 (F :=
      Ideal) (k0_pay26 (F := Ideal) a b) (k0_pay168 (F := Ideal) C) w) o
      = uq0 c s a b C w g o := rfl
/-- Half 0 of the rows, head 13: the text of its new running maxima is the update its siblings have. -/
theorem up0_13 (c s : Vec Ideal S1x64x256 .f32) (a b : EReal) (C : Vec Ideal S1x256x3584 .fp8e4m3) (w : Vec Ideal S3584x512 .fp8e4m3) (g : Vec Ideal S1x128 .f32) (o : Vec Ideal S1x8x128 .f32) :
    k0_pay236 (F := Ideal) (k0_pay169 (F := Ideal) c) (k0_pay170 (F := Ideal) s) (k0_pay232 (F := Ideal)
      (k0_pay26 (F := Ideal) a b) (k0_pay225 (F := Ideal) (k0_pay168 (F := Ideal) C) w)) (k0_pay233 (F := Ideal)
      g) (k0_pay234 (F := Ideal) (k0_pay26 (F := Ideal) a b) (k0_pay225 (F := Ideal) (k0_pay168 (F := Ideal) C)
      w)) o
      = uq1 c s a b C w g o := rfl
/-- Half 0 of the rows, head 14: the text of its new running maxima is the update its siblings have. -/
theorem up0_14 (c s : Vec Ideal S1x64x256 .f32) (a b : EReal) (C : Vec Ideal S1x256x3584 .fp8e4m3) (w : Vec Ideal S3584x512 .fp8e4m3) (g : Vec Ideal S1x128 .f32) (o : Vec Ideal S1x8x128 .f32) :
    k0_pay242 (F := Ideal) (k0_pay169 (F := Ideal) c) (k0_pay170 (F := Ideal) s) (k0_pay238 (F := Ideal)
      (k0_pay26 (F := Ideal) a b) (k0_pay225 (F := Ideal) (k0_pay168 (F := Ideal) C) w)) (k0_pay239 (F := Ideal)
      g) (k0_pay240 (F := Ideal) (k0_pay26 (F := Ideal) a b) (k0_pay225 (F := Ideal) (k0_pay168 (F := Ideal) C)
      w)) o
      = uq2 c s a b C w g o := rfl
/-- Half 0 of the rows, head 15: the text of its new running maxima is the update its siblings have. -/
theorem up0_15 (c s : Vec Ideal S1x64x256 .f32) (a b : EReal) (C : Vec Ideal S1x256x3584 .fp8e4m3) (w : Vec Ideal S3584x512 .fp8e4m3) (g : Vec Ideal S1x128 .f32) (o : Vec Ideal S1x8x128 .f32) :
    k0_pay248 (F := Ideal) (k0_pay169 (F := Ideal) c) (k0_pay170 (F := Ideal) s) (k0_pay244 (F := Ideal)
      (k0_pay26 (F := Ideal) a b) (k0_pay225 (F := Ideal) (k0_pay168 (F := Ideal) C) w)) (k0_pay245 (F := Ideal)
      g) (k0_pay246 (F := Ideal) (k0_pay26 (F := Ideal) a b) (k0_pay225 (F := Ideal) (k0_pay168 (F := Ideal) C)
      w)) o
      = uq3 c s a b C w g o := rfl
/-- Half 0 of the rows, head 16: the text of its new running maxima is the update its siblings have. -/
theorem up0_16 (a b : EReal) (C : Vec Ideal S1x256x3584 .fp8e4m3) (w : Vec Ideal S3584x256 .fp8e4m3) (o : Vec Ideal S1x8x128 .f32) :
    k0_pay252 (F := Ideal) (k0_pay26 (F := Ideal) a b) (k0_pay250 (F := Ideal) (k0_pay168 (F := Ideal) C) w) o
      = uv0 a b C w o := rfl
/-- Half 0 of the rows, head 17: the text of its new running maxima is the update its siblings have. -/
theorem up0_17 (a b : EReal) (C : Vec Ideal S1x256x3584 .fp8e4m3) (w : Vec Ideal S3584x256 .fp8e4m3) (o : Vec Ideal S1x8x128 .f32) :
    k0_pay255 (F := Ideal) (k0_pay26 (F := Ideal) a b) (k0_pay250 (F := Ideal) (k0_pay168 (F := Ideal) C) w) o
      = uv1 a b C w o := rfl
/-- Half 1 of the rows, head 0: the text of its new running maxima is the update its siblings have. -/
theorem up1_0 (c s : Vec Ideal S1x64x256 .f32) (a b : EReal) (C : Vec Ideal S1x256x3584 .fp8e4m3) (w : Vec Ideal S3584x512 .fp8e4m3) (g : Vec Ideal S1x128 .f32) (o : Vec Ideal S1x8x128 .f32) :
    k0_pay405 (F := Ideal) (k0_pay400 (F := Ideal) c) (k0_pay401 (F := Ideal) s) (k0_pay403 (F := Ideal)
      (k0_pay26 (F := Ideal) a b) C w) g o
      = uq0 c s a b C w g o := rfl
/-- Half 1 of the rows, head 1: the text of its new running maxima is the update its siblings have. -/
theorem up1_1 (c s : Vec Ideal S1x64x256 .f32) (a b : EReal) (C : Vec Ideal S1x256x3584 .fp8e4m3) (w : Vec Ideal S3584x512 .fp8e4m3) (g : Vec Ideal S1x128 .f32) (o : Vec Ideal S1x8x128 .f32) :
    k0_pay409 (F := Ideal) (k0_pay400 (F := Ideal) c) (k0_pay401 (F := Ideal) s) (k0_pay407 (F := Ideal)
      (k0_pay26 (F := Ideal) a b) (k0_pay402 (F := Ideal) C w)) g o
      = uq1 c s a b C w g o := rfl
/-- Half 1 of the rows, head 2: the text of its new running maxima is the update its siblings have. -/
theorem up1_2 (c s : Vec Ideal S1x64x256 .f32) (a b : EReal) (C : Vec Ideal S1x256x3584 .fp8e4m3) (w : Vec Ideal S3584x512 .fp8e4m3) (g : Vec Ideal S1x128 .f32) (o : Vec Ideal S1x8x128 .f32) :
    k0_pay412 (F := Ideal) (k0_pay26 (F := Ideal) a b) (k0_pay400 (F := Ideal) c) (k0_pay401 (F := Ideal) s)
      (k0_pay402 (F := Ideal) C w) g o
      = uq2 c s a b C w g o := rfl
/-- Half 1 of the rows, head 3: the text of its new running maxima is the update its siblings have. -/
theorem up1_3 (c s : Vec Ideal S1x64x256 .f32) (a b : EReal) (C : Vec Ideal S1x256x3584 .fp8e4m3) (w : Vec Ideal S3584x512 .fp8e4m3) (g : Vec Ideal S1x128 .f32) (o : Vec Ideal S1x8x128 .f32) :
    k0_pay416 (F := Ideal) (k0_pay26 (F := Ideal) a b) (k0_pay400 (F := Ideal) c) (k0_pay401 (F := Ideal) s)
      (k0_pay402 (F := Ideal) C w) g o
      = uq3 c s a b C w g o := rfl
/-- Half 1 of the rows, head 4: the text of its new running maxima is the update its siblings have. -/
theorem up1_4 (c s : Vec Ideal S1x64x256 .f32) (a b : EReal) (C : Vec Ideal S1x256x3584 .fp8e4m3) (w : Vec Ideal S3584x512 .fp8e4m3) (g : Vec Ideal S1x128 .f32) (o : Vec Ideal S1x8x128 .f32) :
    k0_pay421 (F := Ideal) (k0_pay26 (F := Ideal) a b) (k0_pay399 (F := Ideal) C) (k0_pay400 (F := Ideal) c)
      (k0_pay401 (F := Ideal) s) w g o
      = uq0 c s a b C w g o := rfl
/-- Half 1 of the rows, head 5: the text of its new running maxima is the update its siblings have. -/
theorem up1_5 (c s : Vec Ideal S1x64x256 .f32) (a b : EReal) (C : Vec Ideal S1x256x3584 .fp8e4m3) (w : Vec Ideal S3584x512 .fp8e4m3) (g : Vec Ideal S1x128 .f32) (o : Vec Ideal S1x8x128 .f32) :
    k0_pay425 (F := Ideal) (k0_pay26 (F := Ideal) a b) (k0_pay400 (F := Ideal) c) (k0_pay401 (F := Ideal) s)
      (k0_pay419 (F := Ideal) (k0_pay399 (F := Ideal) C) w) g o
      = uq1 c s a b C w g o := rfl
/-- Half 1 of the rows, head 6: the text of its new running maxima is the update its siblings have. -/
theorem up1_6 (c s : Vec Ideal S1x64x256 .f32) (a b : EReal) (C : Vec Ideal S1x256x3584 .fp8e4m3) (w : Vec Ideal S3584x512 .fp8e4m3) (g : Vec Ideal S1x128 .f32) (o : Vec Ideal S1x8x128 .f32) :
    k0_pay429 (F := Ideal) (k0_pay428 (F := Ideal) (k0_pay26 (F := Ideal) a b) (k0_pay400 (F := Ideal) c)
      (k0_pay401 (F := Ideal) s) (k0_pay419 (F := Ideal) (k0_pay399 (F := Ideal) C) w) g o)
      = uq2 c s a b C w g o := rfl
/-- Half 1 of the rows, head 7: the text of its new running maxima is the update its siblings have. -/
theorem up1_7 (c s : Vec Ideal S1x64x256 .f32) (a b : EReal) (C : Vec Ideal S1x256x3584 .fp8e4m3) (w : Vec Ideal S3584x512 .fp8e4m3) (g : Vec Ideal S1x128 .f32) (o : Vec Ideal S1x8x128 .f32) :
    k0_pay433 (F := Ideal) (k0_pay432 (F := Ideal) (k0_pay26 (F := Ideal) a b) (k0_pay400 (F := Ideal) c)
      (k0_pay401 (F := Ideal) s) (k0_pay419 (F := Ideal) (k0_pay399 (F := Ideal) C) w) g o)
      = uq3 c s a b C w g o := rfl
/-- Half 1 of the rows, head 8: the text of its new running maxima is the update its siblings have. -/
theorem up1_8 (c s : Vec Ideal S1x64x256 .f32) (a b : EReal) (C : Vec Ideal S1x256x3584 .fp8e4m3) (w : Vec Ideal S3584x512 .fp8e4m3) (g : Vec Ideal S1x128 .f32) (o : Vec Ideal S1x8x128 .f32) :
    k0_pay437 (F := Ideal) (k0_pay436 (F := Ideal) (k0_pay26 (F := Ideal) a b) (k0_pay399 (F := Ideal) C)
      (k0_pay400 (F := Ideal) c) (k0_pay401 (F := Ideal) s) w g) o
      = uq0 c s a b C w g o := rfl
/-- Half 1 of the rows, head 9: the text of its new running maxima is the update its siblings have. -/
theorem up1_9 (c s : Vec Ideal S1x64x256 .f32) (a b : EReal) (C : Vec Ideal S1x256x3584 .fp8e4m3) (w : Vec Ideal S3584x512 .fp8e4m3) (g : Vec Ideal S1x128 .f32) (o : Vec Ideal S1x8x128 .f32) :
    k0_pay440 (F := Ideal) (k0_pay439 (F := Ideal) (k0_pay26 (F := Ideal) a b) (k0_pay400 (F := Ideal) c)
      (k0_pay401 (F := Ideal) s) (k0_pay435 (F := Ideal) (k0_pay399 (F := Ideal) C) w) g) o
      = uq1 c s a b C w g o := rfl
/-- Half 1 of the rows, head 10: the text of its new running maxima is the update its siblings have. -/
theorem up1_10 (c s : Vec Ideal S1x64x256 .f32) (a b : EReal) (C : Vec Ideal S1x256x3584 .fp8e4m3) (w : Vec Ideal S3584x512 .fp8e4m3) (g : Vec Ideal S1x128 .f32) (o : Vec Ideal S1x8x128 .f32) :
    k0_pay446 (F := Ideal) (k0_pay443 (F := Ideal) (k0_pay26 (F := Ideal) a b) (k0_pay400 (F := Ideal) c)
      (k0_pay435 (F := Ideal) (k0_pay399 (F := Ideal) C) w) g) (k0_pay444 (F := Ideal) (k0_pay26 (F := Ideal) a
      b) (k0_pay401 (F := Ideal) s) (k0_pay435 (F := Ideal) (k0_pay399 (F := Ideal) C) w) g) o
      = uq2 c s a b C w g o := rfl
/-- Half 1 of the rows, head 11: the text of its new running maxima is the update its siblings have. -/
theorem up1_11 (c s : Vec Ideal S1x64x256 .f32) (a b : EReal) (C : Vec Ideal S1x256x3584 .fp8e4m3) (w : Vec Ideal S3584x512 .fp8e4m3) (g : Vec Ideal S1x128 .f32) (o : Vec Ideal S1x8x128 .f32) :
    k0_pay451 (F := Ideal) (k0_pay401 (F := Ideal) s) (k0_pay448 (F := Ideal) (k0_pay26 (F := Ideal) a b)
      (k0_pay435 (F := Ideal) (k0_pay399 (F := Ideal) C) w) g) (k0_pay449 (F := Ideal) (k0_pay26 (F := Ideal) a
      b) (k0_pay400 (F := Ideal) c) (k0_pay435 (F := Ideal) (k0_pay399 (F := Ideal) C) w) g) o
      = uq3 c s a b C w g o := rfl
/-- Half 1 of the rows, head 12: the text of its new running maxima is the update its siblings have. -/
theorem up1_12 (c s : Vec Ideal S1x64x256 .f32) (a b : EReal) (C : Vec Ideal S1x256x3584 .fp8e4m3) (w : Vec Ideal S3584x512 .fp8e4m3) (g : Vec Ideal S1x128 .f32) (o : Vec Ideal S1x8x128 .f32) :
    k0_pay458 (F := Ideal) (k0_pay400 (F := Ideal) c) (k0_pay401 (F := Ideal) s) (k0_pay454 (F := Ideal)
      (k0_pay26 (F := Ideal) a b) (k0_pay399 (F := Ideal) C) w) (k0_pay455 (F := Ideal) g) (k0_pay456 (F :=
      Ideal) (k0_pay26 (F := Ideal) a b) (k0_pay399 (F := Ideal) C) w) (Scalar.ofBits .f32 0x358637BD#32) o
      = uq0 c s a b C w g o := rfl
/-- Half 1 of the rows, head 13: the text of its new running maxima is the update its siblings have. -/
theorem up1_13 (c s : Vec Ideal S1x64x256 .f32) (a b : EReal) (C : Vec Ideal S1x256x3584 .fp8e4m3) (w : Vec Ideal S3584x512 .fp8e4m3) (g : Vec Ideal S1x128 .f32) (o : Vec Ideal S1x8x128 .f32) :
    k0_pay464 (F := Ideal) (k0_pay400 (F := Ideal) c) (k0_pay401 (F := Ideal) s) (k0_pay460 (F := Ideal)
      (k0_pay26 (F := Ideal) a b) (k0_pay453 (F := Ideal) (k0_pay399 (F := Ideal) C) w)) (k0_pay461 (F := Ideal)
      g) (k0_pay462 (F := Ideal) (k0_pay26 (F := Ideal) a b) (k0_pay453 (F := Ideal) (k0_pay399 (F := Ideal) C)
      w)) (Scalar.ofBits .f32 0x43000000#32) o
      = uq1 c s a b C w g o := rfl
/-- Half 1 of the rows, head 14: the text of its new running maxima is the update its siblings have. -/
theorem up1_14 (c s : Vec Ideal S1x64x256 .f32) (a b : EReal) (C : Vec Ideal S1x256x3584 .fp8e4m3) (w : Vec Ideal S3584x512 .fp8e4m3) (g : Vec Ideal S1x128 .f32) (o : Vec Ideal S1x8x128 .f32) :
    k0_pay470 (F := Ideal) (k0_pay400 (F := Ideal) c) (k0_pay401 (F := Ideal) s) (k0_pay466 (F := Ideal)
      (k0_pay26 (F := Ideal) a b) (k0_pay453 (F := Ideal) (k0_pay399 (F := Ideal) C) w)) (k0_pay467 (F := Ideal)
      g) (k0_pay468 (F := Ideal) (k0_pay26 (F := Ideal) a b) (k0_pay453 (F := Ideal) (k0_pay399 (F := Ideal) C)
      w)) o
      = uq2 c s a b C w g o := rfl
/-- Half 1 of the rows, head 15: the text of its new running maxima is the update its siblings have. -/
theorem up1_15 (c s : Vec Ideal S1x64x256 .f32) (a b : EReal) (C : Vec Ideal S1x256x3584 .fp8e4m3) (w : Vec Ideal S3584x512 .fp8e4m3) (g : Vec Ideal S1x128 .f32) (o : Vec Ideal S1x8x128 .f32) :
    k0_pay474 (F := Ideal) (k0_pay400 (F := Ideal) c) (k0_pay401 (F := Ideal) s) (k0_pay472 (F := Ideal)
      (k0_pay26 (F := Ideal) a b) (k0_pay453 (F := Ideal) (k0_pay399 (F := Ideal) C) w)) g o
      = uq3 c s a b C w g o := rfl
/-- Half 1 of the rows, head 16: the text of its new running maxima is the update its siblings have. -/
theorem up1_16 (a b : EReal) (C : Vec Ideal S1x256x3584 .fp8e4m3) (w : Vec Ideal S3584x256 .fp8e4m3) (o : Vec Ideal S1x8x128 .f32) :
    k0_pay478 (F := Ideal) (k0_pay26 (F := Ideal) a b) (k0_pay399 (F := Ideal) C) w o
      = uv0 a b C w o := rfl
/-- Half 1 of the rows, head 17: the text of its new running maxima is the update its siblings have. -/
theorem up1_17 (a b : EReal) (C : Vec Ideal S1x256x3584 .fp8e4m3) (w : Vec Ideal S3584x256 .fp8e4m3) (o : Vec Ideal S1x8x128 .f32) :
    k0_pay1 (F := Ideal) (k0_pay481 (F := Ideal) (k0_pay26 (F := Ideal) a b) (k0_pay399 (F := Ideal) C) w o)
      = uv1 a b C w o := rfl

/-- The update's bound, the head at place 0. -/
theorem uq0_le (c s : Vec Ideal S1x64x256 .f32) (a b : EReal) (C : Vec Ideal S1x256x3584 .fp8e4m3) (w : Vec Ideal S3584x512 .fp8e4m3) (g : Vec Ideal S1x128 .f32) (o : Vec Ideal S1x8x128 .f32) (r : Fin 8) (l : Fin 128) (B : EReal) :
    uq0 c s a b C w g o (ix3 0 r l) ≤ B ↔ o (ix3 0 r l) ≤ B ∧ ∀ i : Fin 256, i.val % 8 = r.val → Spec.mag (Spec.rope (fun k => c (ix3 0 k i)) (fun k => s (ix3 0 k i)) (Spec.headNorm (fun q => g (ix2 0 q)) fun q => (∑ k : Fin 3584, C (ix3 0 i k) * w (ix2 k ⟨q.val, by omega⟩)) * (a * b)) l) ≤ B := by
  unfold uq0
  pointwise [k0_pay26, k0_pay168, k0_pay169, k0_pay170, k0_pay171, k0_pay172, k0_pay173, k0_pay174, k0_pay175, k0_pay176]
  rw [max_le_iff, Spec.fold_max_le]
  refine and_congr_right fun _ => Iff.trans ?_ (rows8 _ r)
  refine forall_congr' fun x => ?_
  exact iff_of_eq (congrArg (fun z => Spec.mag z ≤ B) (head_row (fun q => (∑ k : Fin 3584, C (ix3 0 ⟨x.val * 8 + r.val, by omega⟩ k) * w (ix2 k ⟨q.val, by omega⟩)) * (a * b)) g (fun k => c (ix3 0 k ⟨x.val * 8 + r.val, by omega⟩)) (fun k => s (ix3 0 k ⟨x.val * 8 + r.val, by omega⟩)) l (by omega)))

/-- The update's bound, the head at place 1. -/
theorem uq1_le (c s : Vec Ideal S1x64x256 .f32) (a b : EReal) (C : Vec Ideal S1x256x3584 .fp8e4m3) (w : Vec Ideal S3584x512 .fp8e4m3) (g : Vec Ideal S1x128 .f32) (o : Vec Ideal S1x8x128 .f32) (r : Fin 8) (l : Fin 128) (B : EReal) :
    uq1 c s a b C w g o (ix3 0 r l) ≤ B ↔ o (ix3 0 r l) ≤ B ∧ ∀ i : Fin 256, i.val % 8 = r.val → Spec.mag (Spec.rope (fun k => c (ix3 0 k i)) (fun k => s (ix3 0 k i)) (Spec.headNorm (fun q => g (ix2 0 q)) fun q => (∑ k : Fin 3584, C (ix3 0 i k) * w (ix2 k ⟨128 + q.val, by omega⟩)) * (a * b)) l) ≤ B := by
  unfold uq1
  pointwise [k0_pay26, k0_pay168, k0_pay169, k0_pay170, k0_pay171, k0_pay178, k0_pay179, k0_pay180]
  rw [max_le_iff, Spec.fold_max_le]
  refine and_congr_right fun _ => Iff.trans ?_ (rows8 _ r)
  refine forall_congr' fun x => ?_
  exact iff_of_eq (congrArg (fun z => Spec.mag z ≤ B) (head_row (fun q => (∑ k : Fin 3584, C (ix3 0 ⟨x.val * 8 + r.val, by omega⟩ k) * w (ix2 k ⟨128 + q.val, by omega⟩)) * (a * b)) g (fun k => c (ix3 0 k ⟨x.val * 8 + r.val, by omega⟩)) (fun k => s (ix3 0 k ⟨x.val * 8 + r.val, by omega⟩)) l (by omega)))

/-- The update's bound, the head at place 2. -/
theorem uq2_le (c s : Vec Ideal S1x64x256 .f32) (a b : EReal) (C : Vec Ideal S1x256x3584 .fp8e4m3) (w : Vec Ideal S3584x512 .fp8e4m3) (g : Vec Ideal S1x128 .f32) (o : Vec Ideal S1x8x128 .f32) (r : Fin 8) (l : Fin 128) (B : EReal) :
    uq2 c s a b C w g o (ix3 0 r l) ≤ B ↔ o (ix3 0 r l) ≤ B ∧ ∀ i : Fin 256, i.val % 8 = r.val → Spec.mag (Spec.rope (fun k => c (ix3 0 k i)) (fun k => s (ix3 0 k i)) (Spec.headNorm (fun q => g (ix2 0 q)) fun q => (∑ k : Fin 3584, C (ix3 0 i k) * w (ix2 k ⟨256 + q.val, by omega⟩)) * (a * b)) l) ≤ B := by
  unfold uq2
  pointwise [k0_pay26, k0_pay168, k0_pay169, k0_pay170, k0_pay171, k0_pay182, k0_pay183, k0_pay184, k0_pay185]
  rw [max_le_iff, Spec.fold_max_le]
  refine and_congr_right fun _ => Iff.trans ?_ (rows8 _ r)
  refine forall_congr' fun x => ?_
  exact iff_of_eq (congrArg (fun z => Spec.mag z ≤ B) (head_row (fun q => (∑ k : Fin 3584, C (ix3 0 ⟨x.val * 8 + r.val, by omega⟩ k) * w (ix2 k ⟨256 + q.val, by omega⟩)) * (a * b)) g (fun k => c (ix3 0 k ⟨x.val * 8 + r.val, by omega⟩)) (fun k => s (ix3 0 k ⟨x.val * 8 + r.val, by omega⟩)) l (by omega)))

/-- The update's bound, the head at place 3. -/
theorem uq3_le (c s : Vec Ideal S1x64x256 .f32) (a b : EReal) (C : Vec Ideal S1x256x3584 .fp8e4m3) (w : Vec Ideal S3584x512 .fp8e4m3) (g : Vec Ideal S1x128 .f32) (o : Vec Ideal S1x8x128 .f32) (r : Fin 8) (l : Fin 128) (B : EReal) :
    uq3 c s a b C w g o (ix3 0 r l) ≤ B ↔ o (ix3 0 r l) ≤ B ∧ ∀ i : Fin 256, i.val % 8 = r.val → Spec.mag (Spec.rope (fun k => c (ix3 0 k i)) (fun k => s (ix3 0 k i)) (Spec.headNorm (fun q => g (ix2 0 q)) fun q => (∑ k : Fin 3584, C (ix3 0 i k) * w (ix2 k ⟨384 + q.val, by omega⟩)) * (a * b)) l) ≤ B := by
  unfold uq3
  pointwise [k0_pay26, k0_pay168, k0_pay169, k0_pay170, k0_pay171, k0_pay187, k0_pay188]
  rw [max_le_iff, Spec.fold_max_le]
  refine and_congr_right fun _ => Iff.trans ?_ (rows8 _ r)
  refine forall_congr' fun x => ?_
  exact iff_of_eq (congrArg (fun z => Spec.mag z ≤ B) (head_row (fun q => (∑ k : Fin 3584, C (ix3 0 ⟨x.val * 8 + r.val, by omega⟩ k) * w (ix2 k ⟨384 + q.val, by omega⟩)) * (a * b)) g (fun k => c (ix3 0 k ⟨x.val * 8 + r.val, by omega⟩)) (fun k => s (ix3 0 k ⟨x.val * 8 + r.val, by omega⟩)) l (by omega)))

/-- The update's bound, the value head at place 0. -/
theorem uv0_le (a b : EReal) (C : Vec Ideal S1x256x3584 .fp8e4m3) (w : Vec Ideal S3584x256 .fp8e4m3) (o : Vec Ideal S1x8x128 .f32) (r : Fin 8) (l : Fin 128) (B : EReal) :
    uv0 a b C w o (ix3 0 r l) ≤ B ↔ o (ix3 0 r l) ≤ B ∧ ∀ i : Fin 256, i.val % 8 = r.val → Spec.mag ((∑ k : Fin 3584, C (ix3 0 i k) * w (ix2 k ⟨l.val, by omega⟩)) * (a * b)) ≤ B := by
  unfold uv0
  pointwise [k0_pay26, k0_pay168, k0_pay250, k0_pay251, k0_pay252]
  rw [max_le_iff, Spec.fold_max_le]
  refine and_congr_right fun _ => Iff.trans ?_ (rows8 _ r)
  refine forall_congr' fun x => ?_
  exact Iff.rfl

/-- The update's bound, the value head at place 1. -/
theorem uv1_le (a b : EReal) (C : Vec Ideal S1x256x3584 .fp8e4m3) (w : Vec Ideal S3584x256 .fp8e4m3) (o : Vec Ideal S1x8x128 .f32) (r : Fin 8) (l : Fin 128) (B : EReal) :
    uv1 a b C w o (ix3 0 r l) ≤ B ↔ o (ix3 0 r l) ≤ B ∧ ∀ i : Fin 256, i.val % 8 = r.val → Spec.mag ((∑ k : Fin 3584, C (ix3 0 i k) * w (ix2 k ⟨128 + l.val, by omega⟩)) * (a * b)) ≤ B := by
  unfold uv1
  pointwise [k0_pay26, k0_pay168, k0_pay250, k0_pay254, k0_pay255]
  rw [max_le_iff, Spec.fold_max_le]
  refine and_congr_right fun _ => Iff.trans ?_ (rows8 _ r)
  refine forall_congr' fun x => ?_
  exact Iff.rfl

end Cert.QkvIdeal.Sem

end
-- ==== Proof.QkvHd.lean ====
/-
  The query, key and value projections, kernel side: a head's running maxima after a block, from the maxima before it.
-/
module

public import proofs.«01_k».proof.Proof.QkvUpd

@[expose] public section

set_option maxRecDepth 16384

noncomputable section

open Idealize.ShloMosaic Idealize.ShloMosaic.TcCoe Idealize.SL.Sem
open Idealize.ShloMosaic.Pipeline (Dat)

namespace Cert.QkvIdeal.Sem

open Cert.QkvIdeal Cert.QkvIdeal.Gen

variable (m : (ℓ : Loc nD τ sig) → Buf (Elt Ideal) ℓ)

/-- A head's value at a block's row: a query head (0 to 13), a key head (14, 15) or a value head (16, 17). -/
def hval (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (h : Fin 18) (i : Fin 512) (l : Fin 128) : EReal :=
  if h.val < 14 then qkB (pB b5 b6 b0 b1 b11) b7 b9 b10 (h.val * 128) (by omega) i l
  else if h.val < 16 then qkB (pB b5 b6 b0 b1 b11) b8 b9 b10 (h.val * 128) (by omega) i l
  else pB b5 b6 b0 b1 b11 i ⟨h.val * 128 + l.val, by omega⟩

/-- The larger of `o` and the magnitudes of the rows below `n` congruent to `r` modulo 8. -/
def mx (o : EReal) (n : ℕ) (r : Fin 8) (v : Fin 512 → EReal) : EReal :=
  max o (⨆ i : Fin 512, ⨆ _ : i.val < n ∧ i.val % 8 = r.val, Spec.mag (v i))

/-- The bound of `mx`. -/
theorem mx_le (o : EReal) (n : ℕ) (r : Fin 8) (v : Fin 512 → EReal) (B : EReal) :
    mx o n r v ≤ B ↔ o ≤ B ∧ ∀ i : Fin 512, i.val < n → i.val % 8 = r.val → Spec.mag (v i) ≤ B := by
  unfold mx
  simp only [max_le_iff, iSup_le_iff, and_imp]

/-- A head's running maxima after the first `n` rows of a block, from the maxima `o` before the block. -/
def aft (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (n : ℕ) (o : FVec Ideal S18x8x128 .f32) (r : Fin 8) (l : Fin 128) (j : Fin 18) : EReal :=
  mx (o (ix3 j r l)) n r fun i => hval b5 b6 b0 b1 b11 b7 b8 b9 b10 j i l

/-- An update by the first half's rows. -/
theorem half0 (u o : EReal) (r : Fin 8) (v : Fin 512 → EReal) (V : Fin 256 → EReal)
    (hu : ∀ B, u ≤ B ↔ o ≤ B ∧ ∀ i : Fin 256, i.val % 8 = r.val → Spec.mag (V i) ≤ B) (hV : ∀ i : Fin 256, V i = v ⟨i.val, by omega⟩) :
    u = mx o 256 r v := by
  refine eq_of_forall_ge_iff fun B => ?_
  rw [hu, mx_le]
  refine and_congr_right fun _ => ⟨fun h i hn hr => ?_, fun h i hr => ?_⟩
  · have := h ⟨i.val, hn⟩ hr
    rwa [hV] at this
  · rw [hV]
    exact h _ i.isLt hr

/-- An update by the second half's rows, after the first half's. -/
theorem half1 (u o o' : EReal) (r : Fin 8) (v : Fin 512 → EReal) (V : Fin 256 → EReal)
    (hu : ∀ B, u ≤ B ↔ o ≤ B ∧ ∀ i : Fin 256, i.val % 8 = r.val → Spec.mag (V i) ≤ B) (hV : ∀ i : Fin 256, V i = v ⟨256 + i.val, by omega⟩)
    (ho : o = mx o' 256 r v) : u = mx o' 512 r v := by
  refine eq_of_forall_ge_iff fun B => ?_
  rw [hu, ho, mx_le, mx_le, and_assoc]
  refine and_congr_right fun _ => ⟨fun ⟨h1, h2⟩ i hn hr => ?_, fun h => ⟨fun i hn hr => h i (by omega) hr, fun i hr => ?_⟩⟩
  · rcases Nat.lt_or_ge i.val 256 with hi | hi
    · exact h1 i hi hr
    · have := h2 ⟨i.val - 256, by omega⟩ (by simp only []; omega)
      rwa [hV, show (⟨256 + (i.val - 256), by omega⟩ : Fin 512) = i from Fin.ext (by simp only []; omega)] at this
  · rw [hV]
    exact h _ (by simp only []; omega) (by simp only []; omega)

/-- The place in the running maxima of a head's cell. -/
theorem hm_idx (h : ℕ) (hh : h < 18) (inb : ∀ a, (![h, 0, 0] : Fin 3 → ℕ) a + (![1, 8, 128] : Fin 3 → ℕ) a ≤ S18x8x128.size a) (r : Fin 8) (l : Fin 128) :
    (Rect.unit (s := S18x8x128) ![h, 0, 0] ![1, 8, 128] inb).emb (ix3 0 r l) = ix3 ⟨h, hh⟩ r l := by
  funext a
  refine Fin.ext ?_
  rw [Rect.emb_apply]
  fin_cases a
  · show h + 1 * 0 = h
    omega
  · show 0 + 1 * r.val = r.val
    omega
  · show 0 + 1 * l.val = l.val
    omega

/-- What a list of stores leaves at a head's cell: the last store's value if it is this head's, else what the earlier ones leave. -/
theorem cn_cons (h : ℕ) (hh : h < 18) (inb) (w) (L) (j : Fin 18) (r : Fin 8) (l : Fin 128) (v : Fin 18 → EReal)
    (hhit : w (ix3 0 r l) = v ⟨h, hh⟩) (hskip : j.val ≠ h → View.canon (Val := Elt Ideal) (s := S18x8x128) (e := .f32) L (ix3 j r l) = v j) :
    View.canon (Val := Elt Ideal) (s := S18x8x128) (e := .f32) (⟨Rect.unit ![h, 0, 0] ![1, 8, 128] inb, w⟩ :: L) (ix3 j r l) = v j := by
  by_cases hj : j.val = h
  · obtain rfl : j = ⟨h, hh⟩ := Fin.ext hj
    rw [← hhit, ← View.canon_cons_emb _ w L (ix3 0 r l), hm_idx h hh]
  · refine (View.canon_cons_of_not_mem _ L ?_).trans (hskip hj)
    rw [Rect.mem_set_unit]
    intro hm
    have h3 : h ≤ j.val ∧ j.val < h + 1 := hm 0
    omega

/-- The last store is this head's. -/
theorem cn_hit (h : ℕ) (hh : h < 18) (inb) (w) (L) (r : Fin 8) (l : Fin 128) (x : EReal) (hx : w (ix3 0 r l) = x) :
    View.canon (Val := Elt Ideal) (s := S18x8x128) (e := .f32) (⟨Rect.unit ![h, 0, 0] ![1, 8, 128] inb, w⟩ :: L) (ix3 ⟨h, hh⟩ r l) = x :=
  cn_cons h hh inb w L ⟨h, hh⟩ r l (fun _ => x) hx fun hn => absurd rfl hn

/-- The last store is another head's. -/
theorem cn_skip (h : ℕ) (hh : h < 18) (inb) (w) (L) (j : Fin 18) (r : Fin 8) (l : Fin 128) (x : EReal) (hn : j.val ≠ h)
    (hx : View.canon (Val := Elt Ideal) (s := S18x8x128) (e := .f32) L (ix3 j r l) = x) :
    View.canon (Val := Elt Ideal) (s := S18x8x128) (e := .f32) (⟨Rect.unit ![h, 0, 0] ![1, 8, 128] inb, w⟩ :: L) (ix3 j r l) = x := by
  refine (View.canon_cons_of_not_mem _ L ?_).trans hx
  rw [Rect.mem_set_unit]
  intro hm
  have h3 : h ≤ j.val ∧ j.val < h + 1 := hm 0
  omega

/-- A read back of a head's cells. -/
theorem cov_at (L) (h : ℕ) (hh : h < 18) (inb) (r : Fin 8) (l : Fin 128) (x : EReal)
    (hx : View.canon (Val := Elt Ideal) (s := S18x8x128) (e := .f32) L (ix3 ⟨h, hh⟩ r l) = x) :
    (View.whole cc0_scratch1).readCov (Val := Elt Ideal) L (Rect.unit (s := S18x8x128) ![h, 0, 0] ![1, 8, 128] inb).toLoadRect (ix3 0 r l) = x := by
  rw [View.readCov_eq_canon', ← hx]
  exact congrArg (View.canon (Val := Elt Ideal) (s := S18x8x128) (e := .f32) L) (hm_idx h hh inb r l)

/-- A load of a head's cells. -/
theorem old_at (o : FVec Ideal S18x8x128 .f32) (h : ℕ) (hh : h < 18) (inb) (r : Fin 8) (l : Fin 128) :
    View.ld (Val := Elt Ideal) (e' := .f32) o (Rect.unit (s := S18x8x128) ![h, 0, 0] ![1, 8, 128] inb) (ix3 0 r l) = o (ix3 ⟨h, hh⟩ r l) :=
  congrArg o (hm_idx h hh inb r l)

/-- A load of half a block's angles. -/
theorem ld_cs (b : Vec Ideal S1x64x512 .f32) (o : ℕ) (inb) (k : Fin 64) (i : Fin 256) (J : Fin 512) (hJ : o + i.val = J.val) :
    View.ld (Val := Elt Ideal) (e' := .f32) b (Rect.unit (s := S1x64x512) ![0, 0, o] ![1, 64, 256] inb) (ix3 0 k i) = b (ix3 0 k J) := by
  refine congrArg b (funext fun a => Fin.ext ?_)
  rw [Rect.idx_unit_val]
  fin_cases a
  · rfl
  · show 0 + k.val = k.val
    omega
  · exact hJ

/-- A load of a few of the weights' columns. -/
theorem ld_w (b : Vec Ideal S3584x2304 .fp8e4m3) (o n : ℕ) (inb) (k : Fin 3584) (i : Fin n) (J : Fin 2304) (hJ : o + i.val = J.val) :
    View.ld (Val := Elt Ideal) (e' := .fp8e4m3) b (Rect.unit (s := S3584x2304) ![0, o] ![3584, n] inb) (ix2 k i) = b (ix2 k J) := by
  refine congrArg b (funext fun a => Fin.ext ?_)
  rw [Rect.idx_unit_val]
  fin_cases a
  · show 0 + k.val = k.val
    omega
  · exact hJ

/-- A load of a scale. -/
theorem ld_s (b : Vec Ideal S1 .f32) (e) : View.ld (Val := Elt Ideal) (e' := .f32) b (Rect.unit (s := S1) ![0] ![1] inb_S1_S1_0) (Shape.Idx.first e) = b (ix1 0) := by
  refine congrArg b (funext fun a => ?_)
  fin_cases a
  exact Subsingleton.elim (α := Fin 1) _ _

/-- Head 0's maxima after the first half of a block. -/
theorem hd0_0 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨i.val, by omega⟩ k) (b0 (ix1 0)))
    (ho : o (ix3 0 r l) = o0 (ix3 ⟨0, by decide⟩ r l)) :
    uq0 (View.ld b9 (Rect.unit ![0, 0, 0] ![1, 64, 256] inb_S1x64x512_S1x64x256_0_0_0)) (View.ld b10 (Rect.unit ![0, 0, 0] ![1, 64, 256] inb_S1x64x512_S1x64x256_0_0_0)) a0 a1 C (View.ld b11 (Rect.unit ![0, 0] ![3584, 512] inb_S3584x2304_S3584x512_0_0)) b7 o (ix3 0 r l)
      = aft b5 b6 b0 b1 b11 b7 b8 b9 b10 256 o0 r l ⟨0, by decide⟩ := by
  unfold aft
  rw [← ho]
  refine half0 _ _ r _ _ (fun B => uq0_le _ _ _ _ _ _ _ _ r l B) (fun i => ?_)
  unfold hval qkB pB Spec.lin
  simp only [hC]
  have ew : ∀ (k : Fin 3584) (q : Fin 128), View.ld (Val := Elt Ideal) (e' := .fp8e4m3) b11 (Rect.unit (s := S3584x2304) ![0, 0] ![3584, 512] inb_S3584x2304_S3584x512_0_0) (ix2 k (⟨q.val, by omega⟩ : Fin 512)) = b11 (ix2 k ⟨0 * 128 + q.val, by omega⟩) := fun k q => ld_w _ _ _ _ _ _ _ (by first | omega | (simp only []; omega) | simp only [])
  simp only [ew, ha0, ha1]
  have ec9 : ∀ k : Fin 64, View.ld (Val := Elt Ideal) (e' := .f32) b9 (Rect.unit (s := S1x64x512) ![0, 0, 0] ![1, 64, 256] inb_S1x64x512_S1x64x256_0_0_0) (ix3 0 k i) = b9 (ix3 0 k ⟨i.val, by omega⟩) := fun k => ld_cs _ _ _ _ _ _ (by first | omega | (simp only []; omega) | simp only [])
  have ec10 : ∀ k : Fin 64, View.ld (Val := Elt Ideal) (e' := .f32) b10 (Rect.unit (s := S1x64x512) ![0, 0, 0] ![1, 64, 256] inb_S1x64x512_S1x64x256_0_0_0) (ix3 0 k i) = b10 (ix3 0 k ⟨i.val, by omega⟩) := fun k => ld_cs _ _ _ _ _ _ (by first | omega | (simp only []; omega) | simp only [])
  simp only [ec9, ec10]
  rfl

/-- Head 1's maxima after the first half of a block. -/
theorem hd0_1 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨i.val, by omega⟩ k) (b0 (ix1 0)))
    (ho : o (ix3 0 r l) = o0 (ix3 ⟨1, by decide⟩ r l)) :
    uq1 (View.ld b9 (Rect.unit ![0, 0, 0] ![1, 64, 256] inb_S1x64x512_S1x64x256_0_0_0)) (View.ld b10 (Rect.unit ![0, 0, 0] ![1, 64, 256] inb_S1x64x512_S1x64x256_0_0_0)) a0 a1 C (View.ld b11 (Rect.unit ![0, 0] ![3584, 512] inb_S3584x2304_S3584x512_0_0)) b7 o (ix3 0 r l)
      = aft b5 b6 b0 b1 b11 b7 b8 b9 b10 256 o0 r l ⟨1, by decide⟩ := by
  unfold aft
  rw [← ho]
  refine half0 _ _ r _ _ (fun B => uq1_le _ _ _ _ _ _ _ _ r l B) (fun i => ?_)
  unfold hval qkB pB Spec.lin
  simp only [hC]
  have ew : ∀ (k : Fin 3584) (q : Fin 128), View.ld (Val := Elt Ideal) (e' := .fp8e4m3) b11 (Rect.unit (s := S3584x2304) ![0, 0] ![3584, 512] inb_S3584x2304_S3584x512_0_0) (ix2 k (⟨128 + q.val, by omega⟩ : Fin 512)) = b11 (ix2 k ⟨1 * 128 + q.val, by omega⟩) := fun k q => ld_w _ _ _ _ _ _ _ (by first | omega | (simp only []; omega) | simp only [])
  simp only [ew, ha0, ha1]
  have ec9 : ∀ k : Fin 64, View.ld (Val := Elt Ideal) (e' := .f32) b9 (Rect.unit (s := S1x64x512) ![0, 0, 0] ![1, 64, 256] inb_S1x64x512_S1x64x256_0_0_0) (ix3 0 k i) = b9 (ix3 0 k ⟨i.val, by omega⟩) := fun k => ld_cs _ _ _ _ _ _ (by first | omega | (simp only []; omega) | simp only [])
  have ec10 : ∀ k : Fin 64, View.ld (Val := Elt Ideal) (e' := .f32) b10 (Rect.unit (s := S1x64x512) ![0, 0, 0] ![1, 64, 256] inb_S1x64x512_S1x64x256_0_0_0) (ix3 0 k i) = b10 (ix3 0 k ⟨i.val, by omega⟩) := fun k => ld_cs _ _ _ _ _ _ (by first | omega | (simp only []; omega) | simp only [])
  simp only [ec9, ec10]
  rfl

/-- Head 2's maxima after the first half of a block. -/
theorem hd0_2 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨i.val, by omega⟩ k) (b0 (ix1 0)))
    (ho : o (ix3 0 r l) = o0 (ix3 ⟨2, by decide⟩ r l)) :
    uq2 (View.ld b9 (Rect.unit ![0, 0, 0] ![1, 64, 256] inb_S1x64x512_S1x64x256_0_0_0)) (View.ld b10 (Rect.unit ![0, 0, 0] ![1, 64, 256] inb_S1x64x512_S1x64x256_0_0_0)) a0 a1 C (View.ld b11 (Rect.unit ![0, 0] ![3584, 512] inb_S3584x2304_S3584x512_0_0)) b7 o (ix3 0 r l)
      = aft b5 b6 b0 b1 b11 b7 b8 b9 b10 256 o0 r l ⟨2, by decide⟩ := by
  unfold aft
  rw [← ho]
  refine half0 _ _ r _ _ (fun B => uq2_le _ _ _ _ _ _ _ _ r l B) (fun i => ?_)
  unfold hval qkB pB Spec.lin
  simp only [hC]
  have ew : ∀ (k : Fin 3584) (q : Fin 128), View.ld (Val := Elt Ideal) (e' := .fp8e4m3) b11 (Rect.unit (s := S3584x2304) ![0, 0] ![3584, 512] inb_S3584x2304_S3584x512_0_0) (ix2 k (⟨256 + q.val, by omega⟩ : Fin 512)) = b11 (ix2 k ⟨2 * 128 + q.val, by omega⟩) := fun k q => ld_w _ _ _ _ _ _ _ (by first | omega | (simp only []; omega) | simp only [])
  simp only [ew, ha0, ha1]
  have ec9 : ∀ k : Fin 64, View.ld (Val := Elt Ideal) (e' := .f32) b9 (Rect.unit (s := S1x64x512) ![0, 0, 0] ![1, 64, 256] inb_S1x64x512_S1x64x256_0_0_0) (ix3 0 k i) = b9 (ix3 0 k ⟨i.val, by omega⟩) := fun k => ld_cs _ _ _ _ _ _ (by first | omega | (simp only []; omega) | simp only [])
  have ec10 : ∀ k : Fin 64, View.ld (Val := Elt Ideal) (e' := .f32) b10 (Rect.unit (s := S1x64x512) ![0, 0, 0] ![1, 64, 256] inb_S1x64x512_S1x64x256_0_0_0) (ix3 0 k i) = b10 (ix3 0 k ⟨i.val, by omega⟩) := fun k => ld_cs _ _ _ _ _ _ (by first | omega | (simp only []; omega) | simp only [])
  simp only [ec9, ec10]
  rfl

/-- Head 3's maxima after the first half of a block. -/
theorem hd0_3 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨i.val, by omega⟩ k) (b0 (ix1 0)))
    (ho : o (ix3 0 r l) = o0 (ix3 ⟨3, by decide⟩ r l)) :
    uq3 (View.ld b9 (Rect.unit ![0, 0, 0] ![1, 64, 256] inb_S1x64x512_S1x64x256_0_0_0)) (View.ld b10 (Rect.unit ![0, 0, 0] ![1, 64, 256] inb_S1x64x512_S1x64x256_0_0_0)) a0 a1 C (View.ld b11 (Rect.unit ![0, 0] ![3584, 512] inb_S3584x2304_S3584x512_0_0)) b7 o (ix3 0 r l)
      = aft b5 b6 b0 b1 b11 b7 b8 b9 b10 256 o0 r l ⟨3, by decide⟩ := by
  unfold aft
  rw [← ho]
  refine half0 _ _ r _ _ (fun B => uq3_le _ _ _ _ _ _ _ _ r l B) (fun i => ?_)
  unfold hval qkB pB Spec.lin
  simp only [hC]
  have ew : ∀ (k : Fin 3584) (q : Fin 128), View.ld (Val := Elt Ideal) (e' := .fp8e4m3) b11 (Rect.unit (s := S3584x2304) ![0, 0] ![3584, 512] inb_S3584x2304_S3584x512_0_0) (ix2 k (⟨384 + q.val, by omega⟩ : Fin 512)) = b11 (ix2 k ⟨3 * 128 + q.val, by omega⟩) := fun k q => ld_w _ _ _ _ _ _ _ (by first | omega | (simp only []; omega) | simp only [])
  simp only [ew, ha0, ha1]
  have ec9 : ∀ k : Fin 64, View.ld (Val := Elt Ideal) (e' := .f32) b9 (Rect.unit (s := S1x64x512) ![0, 0, 0] ![1, 64, 256] inb_S1x64x512_S1x64x256_0_0_0) (ix3 0 k i) = b9 (ix3 0 k ⟨i.val, by omega⟩) := fun k => ld_cs _ _ _ _ _ _ (by first | omega | (simp only []; omega) | simp only [])
  have ec10 : ∀ k : Fin 64, View.ld (Val := Elt Ideal) (e' := .f32) b10 (Rect.unit (s := S1x64x512) ![0, 0, 0] ![1, 64, 256] inb_S1x64x512_S1x64x256_0_0_0) (ix3 0 k i) = b10 (ix3 0 k ⟨i.val, by omega⟩) := fun k => ld_cs _ _ _ _ _ _ (by first | omega | (simp only []; omega) | simp only [])
  simp only [ec9, ec10]
  rfl

/-- Head 4's maxima after the first half of a block. -/
theorem hd0_4 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨i.val, by omega⟩ k) (b0 (ix1 0)))
    (ho : o (ix3 0 r l) = o0 (ix3 ⟨4, by decide⟩ r l)) :
    uq0 (View.ld b9 (Rect.unit ![0, 0, 0] ![1, 64, 256] inb_S1x64x512_S1x64x256_0_0_0)) (View.ld b10 (Rect.unit ![0, 0, 0] ![1, 64, 256] inb_S1x64x512_S1x64x256_0_0_0)) a0 a1 C (View.ld b11 (Rect.unit ![0, 512] ![3584, 512] inb_S3584x2304_S3584x512_0_512)) b7 o (ix3 0 r l)
      = aft b5 b6 b0 b1 b11 b7 b8 b9 b10 256 o0 r l ⟨4, by decide⟩ := by
  unfold aft
  rw [← ho]
  refine half0 _ _ r _ _ (fun B => uq0_le _ _ _ _ _ _ _ _ r l B) (fun i => ?_)
  unfold hval qkB pB Spec.lin
  simp only [hC]
  have ew : ∀ (k : Fin 3584) (q : Fin 128), View.ld (Val := Elt Ideal) (e' := .fp8e4m3) b11 (Rect.unit (s := S3584x2304) ![0, 512] ![3584, 512] inb_S3584x2304_S3584x512_0_512) (ix2 k (⟨q.val, by omega⟩ : Fin 512)) = b11 (ix2 k ⟨4 * 128 + q.val, by omega⟩) := fun k q => ld_w _ _ _ _ _ _ _ (by first | omega | (simp only []; omega) | simp only [])
  simp only [ew, ha0, ha1]
  have ec9 : ∀ k : Fin 64, View.ld (Val := Elt Ideal) (e' := .f32) b9 (Rect.unit (s := S1x64x512) ![0, 0, 0] ![1, 64, 256] inb_S1x64x512_S1x64x256_0_0_0) (ix3 0 k i) = b9 (ix3 0 k ⟨i.val, by omega⟩) := fun k => ld_cs _ _ _ _ _ _ (by first | omega | (simp only []; omega) | simp only [])
  have ec10 : ∀ k : Fin 64, View.ld (Val := Elt Ideal) (e' := .f32) b10 (Rect.unit (s := S1x64x512) ![0, 0, 0] ![1, 64, 256] inb_S1x64x512_S1x64x256_0_0_0) (ix3 0 k i) = b10 (ix3 0 k ⟨i.val, by omega⟩) := fun k => ld_cs _ _ _ _ _ _ (by first | omega | (simp only []; omega) | simp only [])
  simp only [ec9, ec10]
  rfl

/-- Head 5's maxima after the first half of a block. -/
theorem hd0_5 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨i.val, by omega⟩ k) (b0 (ix1 0)))
    (ho : o (ix3 0 r l) = o0 (ix3 ⟨5, by decide⟩ r l)) :
    uq1 (View.ld b9 (Rect.unit ![0, 0, 0] ![1, 64, 256] inb_S1x64x512_S1x64x256_0_0_0)) (View.ld b10 (Rect.unit ![0, 0, 0] ![1, 64, 256] inb_S1x64x512_S1x64x256_0_0_0)) a0 a1 C (View.ld b11 (Rect.unit ![0, 512] ![3584, 512] inb_S3584x2304_S3584x512_0_512)) b7 o (ix3 0 r l)
      = aft b5 b6 b0 b1 b11 b7 b8 b9 b10 256 o0 r l ⟨5, by decide⟩ := by
  unfold aft
  rw [← ho]
  refine half0 _ _ r _ _ (fun B => uq1_le _ _ _ _ _ _ _ _ r l B) (fun i => ?_)
  unfold hval qkB pB Spec.lin
  simp only [hC]
  have ew : ∀ (k : Fin 3584) (q : Fin 128), View.ld (Val := Elt Ideal) (e' := .fp8e4m3) b11 (Rect.unit (s := S3584x2304) ![0, 512] ![3584, 512] inb_S3584x2304_S3584x512_0_512) (ix2 k (⟨128 + q.val, by omega⟩ : Fin 512)) = b11 (ix2 k ⟨5 * 128 + q.val, by omega⟩) := fun k q => ld_w _ _ _ _ _ _ _ (by first | omega | (simp only []; omega) | simp only [])
  simp only [ew, ha0, ha1]
  have ec9 : ∀ k : Fin 64, View.ld (Val := Elt Ideal) (e' := .f32) b9 (Rect.unit (s := S1x64x512) ![0, 0, 0] ![1, 64, 256] inb_S1x64x512_S1x64x256_0_0_0) (ix3 0 k i) = b9 (ix3 0 k ⟨i.val, by omega⟩) := fun k => ld_cs _ _ _ _ _ _ (by first | omega | (simp only []; omega) | simp only [])
  have ec10 : ∀ k : Fin 64, View.ld (Val := Elt Ideal) (e' := .f32) b10 (Rect.unit (s := S1x64x512) ![0, 0, 0] ![1, 64, 256] inb_S1x64x512_S1x64x256_0_0_0) (ix3 0 k i) = b10 (ix3 0 k ⟨i.val, by omega⟩) := fun k => ld_cs _ _ _ _ _ _ (by first | omega | (simp only []; omega) | simp only [])
  simp only [ec9, ec10]
  rfl

/-- Head 6's maxima after the first half of a block. -/
theorem hd0_6 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨i.val, by omega⟩ k) (b0 (ix1 0)))
    (ho : o (ix3 0 r l) = o0 (ix3 ⟨6, by decide⟩ r l)) :
    uq2 (View.ld b9 (Rect.unit ![0, 0, 0] ![1, 64, 256] inb_S1x64x512_S1x64x256_0_0_0)) (View.ld b10 (Rect.unit ![0, 0, 0] ![1, 64, 256] inb_S1x64x512_S1x64x256_0_0_0)) a0 a1 C (View.ld b11 (Rect.unit ![0, 512] ![3584, 512] inb_S3584x2304_S3584x512_0_512)) b7 o (ix3 0 r l)
      = aft b5 b6 b0 b1 b11 b7 b8 b9 b10 256 o0 r l ⟨6, by decide⟩ := by
  unfold aft
  rw [← ho]
  refine half0 _ _ r _ _ (fun B => uq2_le _ _ _ _ _ _ _ _ r l B) (fun i => ?_)
  unfold hval qkB pB Spec.lin
  simp only [hC]
  have ew : ∀ (k : Fin 3584) (q : Fin 128), View.ld (Val := Elt Ideal) (e' := .fp8e4m3) b11 (Rect.unit (s := S3584x2304) ![0, 512] ![3584, 512] inb_S3584x2304_S3584x512_0_512) (ix2 k (⟨256 + q.val, by omega⟩ : Fin 512)) = b11 (ix2 k ⟨6 * 128 + q.val, by omega⟩) := fun k q => ld_w _ _ _ _ _ _ _ (by first | omega | (simp only []; omega) | simp only [])
  simp only [ew, ha0, ha1]
  have ec9 : ∀ k : Fin 64, View.ld (Val := Elt Ideal) (e' := .f32) b9 (Rect.unit (s := S1x64x512) ![0, 0, 0] ![1, 64, 256] inb_S1x64x512_S1x64x256_0_0_0) (ix3 0 k i) = b9 (ix3 0 k ⟨i.val, by omega⟩) := fun k => ld_cs _ _ _ _ _ _ (by first | omega | (simp only []; omega) | simp only [])
  have ec10 : ∀ k : Fin 64, View.ld (Val := Elt Ideal) (e' := .f32) b10 (Rect.unit (s := S1x64x512) ![0, 0, 0] ![1, 64, 256] inb_S1x64x512_S1x64x256_0_0_0) (ix3 0 k i) = b10 (ix3 0 k ⟨i.val, by omega⟩) := fun k => ld_cs _ _ _ _ _ _ (by first | omega | (simp only []; omega) | simp only [])
  simp only [ec9, ec10]
  rfl

/-- Head 7's maxima after the first half of a block. -/
theorem hd0_7 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨i.val, by omega⟩ k) (b0 (ix1 0)))
    (ho : o (ix3 0 r l) = o0 (ix3 ⟨7, by decide⟩ r l)) :
    uq3 (View.ld b9 (Rect.unit ![0, 0, 0] ![1, 64, 256] inb_S1x64x512_S1x64x256_0_0_0)) (View.ld b10 (Rect.unit ![0, 0, 0] ![1, 64, 256] inb_S1x64x512_S1x64x256_0_0_0)) a0 a1 C (View.ld b11 (Rect.unit ![0, 512] ![3584, 512] inb_S3584x2304_S3584x512_0_512)) b7 o (ix3 0 r l)
      = aft b5 b6 b0 b1 b11 b7 b8 b9 b10 256 o0 r l ⟨7, by decide⟩ := by
  unfold aft
  rw [← ho]
  refine half0 _ _ r _ _ (fun B => uq3_le _ _ _ _ _ _ _ _ r l B) (fun i => ?_)
  unfold hval qkB pB Spec.lin
  simp only [hC]
  have ew : ∀ (k : Fin 3584) (q : Fin 128), View.ld (Val := Elt Ideal) (e' := .fp8e4m3) b11 (Rect.unit (s := S3584x2304) ![0, 512] ![3584, 512] inb_S3584x2304_S3584x512_0_512) (ix2 k (⟨384 + q.val, by omega⟩ : Fin 512)) = b11 (ix2 k ⟨7 * 128 + q.val, by omega⟩) := fun k q => ld_w _ _ _ _ _ _ _ (by first | omega | (simp only []; omega) | simp only [])
  simp only [ew, ha0, ha1]
  have ec9 : ∀ k : Fin 64, View.ld (Val := Elt Ideal) (e' := .f32) b9 (Rect.unit (s := S1x64x512) ![0, 0, 0] ![1, 64, 256] inb_S1x64x512_S1x64x256_0_0_0) (ix3 0 k i) = b9 (ix3 0 k ⟨i.val, by omega⟩) := fun k => ld_cs _ _ _ _ _ _ (by first | omega | (simp only []; omega) | simp only [])
  have ec10 : ∀ k : Fin 64, View.ld (Val := Elt Ideal) (e' := .f32) b10 (Rect.unit (s := S1x64x512) ![0, 0, 0] ![1, 64, 256] inb_S1x64x512_S1x64x256_0_0_0) (ix3 0 k i) = b10 (ix3 0 k ⟨i.val, by omega⟩) := fun k => ld_cs _ _ _ _ _ _ (by first | omega | (simp only []; omega) | simp only [])
  simp only [ec9, ec10]
  rfl

/-- Head 8's maxima after the first half of a block. -/
theorem hd0_8 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨i.val, by omega⟩ k) (b0 (ix1 0)))
    (ho : o (ix3 0 r l) = o0 (ix3 ⟨8, by decide⟩ r l)) :
    uq0 (View.ld b9 (Rect.unit ![0, 0, 0] ![1, 64, 256] inb_S1x64x512_S1x64x256_0_0_0)) (View.ld b10 (Rect.unit ![0, 0, 0] ![1, 64, 256] inb_S1x64x512_S1x64x256_0_0_0)) a0 a1 C (View.ld b11 (Rect.unit ![0, 1024] ![3584, 512] inb_S3584x2304_S3584x512_0_1024)) b7 o (ix3 0 r l)
      = aft b5 b6 b0 b1 b11 b7 b8 b9 b10 256 o0 r l ⟨8, by decide⟩ := by
  unfold aft
  rw [← ho]
  refine half0 _ _ r _ _ (fun B => uq0_le _ _ _ _ _ _ _ _ r l B) (fun i => ?_)
  unfold hval qkB pB Spec.lin
  simp only [hC]
  have ew : ∀ (k : Fin 3584) (q : Fin 128), View.ld (Val := Elt Ideal) (e' := .fp8e4m3) b11 (Rect.unit (s := S3584x2304) ![0, 1024] ![3584, 512] inb_S3584x2304_S3584x512_0_1024) (ix2 k (⟨q.val, by omega⟩ : Fin 512)) = b11 (ix2 k ⟨8 * 128 + q.val, by omega⟩) := fun k q => ld_w _ _ _ _ _ _ _ (by first | omega | (simp only []; omega) | simp only [])
  simp only [ew, ha0, ha1]
  have ec9 : ∀ k : Fin 64, View.ld (Val := Elt Ideal) (e' := .f32) b9 (Rect.unit (s := S1x64x512) ![0, 0, 0] ![1, 64, 256] inb_S1x64x512_S1x64x256_0_0_0) (ix3 0 k i) = b9 (ix3 0 k ⟨i.val, by omega⟩) := fun k => ld_cs _ _ _ _ _ _ (by first | omega | (simp only []; omega) | simp only [])
  have ec10 : ∀ k : Fin 64, View.ld (Val := Elt Ideal) (e' := .f32) b10 (Rect.unit (s := S1x64x512) ![0, 0, 0] ![1, 64, 256] inb_S1x64x512_S1x64x256_0_0_0) (ix3 0 k i) = b10 (ix3 0 k ⟨i.val, by omega⟩) := fun k => ld_cs _ _ _ _ _ _ (by first | omega | (simp only []; omega) | simp only [])
  simp only [ec9, ec10]
  rfl

/-- Head 9's maxima after the first half of a block. -/
theorem hd0_9 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨i.val, by omega⟩ k) (b0 (ix1 0)))
    (ho : o (ix3 0 r l) = o0 (ix3 ⟨9, by decide⟩ r l)) :
    uq1 (View.ld b9 (Rect.unit ![0, 0, 0] ![1, 64, 256] inb_S1x64x512_S1x64x256_0_0_0)) (View.ld b10 (Rect.unit ![0, 0, 0] ![1, 64, 256] inb_S1x64x512_S1x64x256_0_0_0)) a0 a1 C (View.ld b11 (Rect.unit ![0, 1024] ![3584, 512] inb_S3584x2304_S3584x512_0_1024)) b7 o (ix3 0 r l)
      = aft b5 b6 b0 b1 b11 b7 b8 b9 b10 256 o0 r l ⟨9, by decide⟩ := by
  unfold aft
  rw [← ho]
  refine half0 _ _ r _ _ (fun B => uq1_le _ _ _ _ _ _ _ _ r l B) (fun i => ?_)
  unfold hval qkB pB Spec.lin
  simp only [hC]
  have ew : ∀ (k : Fin 3584) (q : Fin 128), View.ld (Val := Elt Ideal) (e' := .fp8e4m3) b11 (Rect.unit (s := S3584x2304) ![0, 1024] ![3584, 512] inb_S3584x2304_S3584x512_0_1024) (ix2 k (⟨128 + q.val, by omega⟩ : Fin 512)) = b11 (ix2 k ⟨9 * 128 + q.val, by omega⟩) := fun k q => ld_w _ _ _ _ _ _ _ (by first | omega | (simp only []; omega) | simp only [])
  simp only [ew, ha0, ha1]
  have ec9 : ∀ k : Fin 64, View.ld (Val := Elt Ideal) (e' := .f32) b9 (Rect.unit (s := S1x64x512) ![0, 0, 0] ![1, 64, 256] inb_S1x64x512_S1x64x256_0_0_0) (ix3 0 k i) = b9 (ix3 0 k ⟨i.val, by omega⟩) := fun k => ld_cs _ _ _ _ _ _ (by first | omega | (simp only []; omega) | simp only [])
  have ec10 : ∀ k : Fin 64, View.ld (Val := Elt Ideal) (e' := .f32) b10 (Rect.unit (s := S1x64x512) ![0, 0, 0] ![1, 64, 256] inb_S1x64x512_S1x64x256_0_0_0) (ix3 0 k i) = b10 (ix3 0 k ⟨i.val, by omega⟩) := fun k => ld_cs _ _ _ _ _ _ (by first | omega | (simp only []; omega) | simp only [])
  simp only [ec9, ec10]
  rfl

/-- Head 10's maxima after the first half of a block. -/
theorem hd0_10 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨i.val, by omega⟩ k) (b0 (ix1 0)))
    (ho : o (ix3 0 r l) = o0 (ix3 ⟨10, by decide⟩ r l)) :
    uq2 (View.ld b9 (Rect.unit ![0, 0, 0] ![1, 64, 256] inb_S1x64x512_S1x64x256_0_0_0)) (View.ld b10 (Rect.unit ![0, 0, 0] ![1, 64, 256] inb_S1x64x512_S1x64x256_0_0_0)) a0 a1 C (View.ld b11 (Rect.unit ![0, 1024] ![3584, 512] inb_S3584x2304_S3584x512_0_1024)) b7 o (ix3 0 r l)
      = aft b5 b6 b0 b1 b11 b7 b8 b9 b10 256 o0 r l ⟨10, by decide⟩ := by
  unfold aft
  rw [← ho]
  refine half0 _ _ r _ _ (fun B => uq2_le _ _ _ _ _ _ _ _ r l B) (fun i => ?_)
  unfold hval qkB pB Spec.lin
  simp only [hC]
  have ew : ∀ (k : Fin 3584) (q : Fin 128), View.ld (Val := Elt Ideal) (e' := .fp8e4m3) b11 (Rect.unit (s := S3584x2304) ![0, 1024] ![3584, 512] inb_S3584x2304_S3584x512_0_1024) (ix2 k (⟨256 + q.val, by omega⟩ : Fin 512)) = b11 (ix2 k ⟨10 * 128 + q.val, by omega⟩) := fun k q => ld_w _ _ _ _ _ _ _ (by first | omega | (simp only []; omega) | simp only [])
  simp only [ew, ha0, ha1]
  have ec9 : ∀ k : Fin 64, View.ld (Val := Elt Ideal) (e' := .f32) b9 (Rect.unit (s := S1x64x512) ![0, 0, 0] ![1, 64, 256] inb_S1x64x512_S1x64x256_0_0_0) (ix3 0 k i) = b9 (ix3 0 k ⟨i.val, by omega⟩) := fun k => ld_cs _ _ _ _ _ _ (by first | omega | (simp only []; omega) | simp only [])
  have ec10 : ∀ k : Fin 64, View.ld (Val := Elt Ideal) (e' := .f32) b10 (Rect.unit (s := S1x64x512) ![0, 0, 0] ![1, 64, 256] inb_S1x64x512_S1x64x256_0_0_0) (ix3 0 k i) = b10 (ix3 0 k ⟨i.val, by omega⟩) := fun k => ld_cs _ _ _ _ _ _ (by first | omega | (simp only []; omega) | simp only [])
  simp only [ec9, ec10]
  rfl

/-- Head 11's maxima after the first half of a block. -/
theorem hd0_11 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨i.val, by omega⟩ k) (b0 (ix1 0)))
    (ho : o (ix3 0 r l) = o0 (ix3 ⟨11, by decide⟩ r l)) :
    uq3 (View.ld b9 (Rect.unit ![0, 0, 0] ![1, 64, 256] inb_S1x64x512_S1x64x256_0_0_0)) (View.ld b10 (Rect.unit ![0, 0, 0] ![1, 64, 256] inb_S1x64x512_S1x64x256_0_0_0)) a0 a1 C (View.ld b11 (Rect.unit ![0, 1024] ![3584, 512] inb_S3584x2304_S3584x512_0_1024)) b7 o (ix3 0 r l)
      = aft b5 b6 b0 b1 b11 b7 b8 b9 b10 256 o0 r l ⟨11, by decide⟩ := by
  unfold aft
  rw [← ho]
  refine half0 _ _ r _ _ (fun B => uq3_le _ _ _ _ _ _ _ _ r l B) (fun i => ?_)
  unfold hval qkB pB Spec.lin
  simp only [hC]
  have ew : ∀ (k : Fin 3584) (q : Fin 128), View.ld (Val := Elt Ideal) (e' := .fp8e4m3) b11 (Rect.unit (s := S3584x2304) ![0, 1024] ![3584, 512] inb_S3584x2304_S3584x512_0_1024) (ix2 k (⟨384 + q.val, by omega⟩ : Fin 512)) = b11 (ix2 k ⟨11 * 128 + q.val, by omega⟩) := fun k q => ld_w _ _ _ _ _ _ _ (by first | omega | (simp only []; omega) | simp only [])
  simp only [ew, ha0, ha1]
  have ec9 : ∀ k : Fin 64, View.ld (Val := Elt Ideal) (e' := .f32) b9 (Rect.unit (s := S1x64x512) ![0, 0, 0] ![1, 64, 256] inb_S1x64x512_S1x64x256_0_0_0) (ix3 0 k i) = b9 (ix3 0 k ⟨i.val, by omega⟩) := fun k => ld_cs _ _ _ _ _ _ (by first | omega | (simp only []; omega) | simp only [])
  have ec10 : ∀ k : Fin 64, View.ld (Val := Elt Ideal) (e' := .f32) b10 (Rect.unit (s := S1x64x512) ![0, 0, 0] ![1, 64, 256] inb_S1x64x512_S1x64x256_0_0_0) (ix3 0 k i) = b10 (ix3 0 k ⟨i.val, by omega⟩) := fun k => ld_cs _ _ _ _ _ _ (by first | omega | (simp only []; omega) | simp only [])
  simp only [ec9, ec10]
  rfl

/-- Head 12's maxima after the first half of a block. -/
theorem hd0_12 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨i.val, by omega⟩ k) (b0 (ix1 0)))
    (ho : o (ix3 0 r l) = o0 (ix3 ⟨12, by decide⟩ r l)) :
    uq0 (View.ld b9 (Rect.unit ![0, 0, 0] ![1, 64, 256] inb_S1x64x512_S1x64x256_0_0_0)) (View.ld b10 (Rect.unit ![0, 0, 0] ![1, 64, 256] inb_S1x64x512_S1x64x256_0_0_0)) a0 a1 C (View.ld b11 (Rect.unit ![0, 1536] ![3584, 512] inb_S3584x2304_S3584x512_0_1536)) b7 o (ix3 0 r l)
      = aft b5 b6 b0 b1 b11 b7 b8 b9 b10 256 o0 r l ⟨12, by decide⟩ := by
  unfold aft
  rw [← ho]
  refine half0 _ _ r _ _ (fun B => uq0_le _ _ _ _ _ _ _ _ r l B) (fun i => ?_)
  unfold hval qkB pB Spec.lin
  simp only [hC]
  have ew : ∀ (k : Fin 3584) (q : Fin 128), View.ld (Val := Elt Ideal) (e' := .fp8e4m3) b11 (Rect.unit (s := S3584x2304) ![0, 1536] ![3584, 512] inb_S3584x2304_S3584x512_0_1536) (ix2 k (⟨q.val, by omega⟩ : Fin 512)) = b11 (ix2 k ⟨12 * 128 + q.val, by omega⟩) := fun k q => ld_w _ _ _ _ _ _ _ (by first | omega | (simp only []; omega) | simp only [])
  simp only [ew, ha0, ha1]
  have ec9 : ∀ k : Fin 64, View.ld (Val := Elt Ideal) (e' := .f32) b9 (Rect.unit (s := S1x64x512) ![0, 0, 0] ![1, 64, 256] inb_S1x64x512_S1x64x256_0_0_0) (ix3 0 k i) = b9 (ix3 0 k ⟨i.val, by omega⟩) := fun k => ld_cs _ _ _ _ _ _ (by first | omega | (simp only []; omega) | simp only [])
  have ec10 : ∀ k : Fin 64, View.ld (Val := Elt Ideal) (e' := .f32) b10 (Rect.unit (s := S1x64x512) ![0, 0, 0] ![1, 64, 256] inb_S1x64x512_S1x64x256_0_0_0) (ix3 0 k i) = b10 (ix3 0 k ⟨i.val, by omega⟩) := fun k => ld_cs _ _ _ _ _ _ (by first | omega | (simp only []; omega) | simp only [])
  simp only [ec9, ec10]
  rfl

/-- Head 13's maxima after the first half of a block. -/
theorem hd0_13 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨i.val, by omega⟩ k) (b0 (ix1 0)))
    (ho : o (ix3 0 r l) = o0 (ix3 ⟨13, by decide⟩ r l)) :
    uq1 (View.ld b9 (Rect.unit ![0, 0, 0] ![1, 64, 256] inb_S1x64x512_S1x64x256_0_0_0)) (View.ld b10 (Rect.unit ![0, 0, 0] ![1, 64, 256] inb_S1x64x512_S1x64x256_0_0_0)) a0 a1 C (View.ld b11 (Rect.unit ![0, 1536] ![3584, 512] inb_S3584x2304_S3584x512_0_1536)) b7 o (ix3 0 r l)
      = aft b5 b6 b0 b1 b11 b7 b8 b9 b10 256 o0 r l ⟨13, by decide⟩ := by
  unfold aft
  rw [← ho]
  refine half0 _ _ r _ _ (fun B => uq1_le _ _ _ _ _ _ _ _ r l B) (fun i => ?_)
  unfold hval qkB pB Spec.lin
  simp only [hC]
  have ew : ∀ (k : Fin 3584) (q : Fin 128), View.ld (Val := Elt Ideal) (e' := .fp8e4m3) b11 (Rect.unit (s := S3584x2304) ![0, 1536] ![3584, 512] inb_S3584x2304_S3584x512_0_1536) (ix2 k (⟨128 + q.val, by omega⟩ : Fin 512)) = b11 (ix2 k ⟨13 * 128 + q.val, by omega⟩) := fun k q => ld_w _ _ _ _ _ _ _ (by first | omega | (simp only []; omega) | simp only [])
  simp only [ew, ha0, ha1]
  have ec9 : ∀ k : Fin 64, View.ld (Val := Elt Ideal) (e' := .f32) b9 (Rect.unit (s := S1x64x512) ![0, 0, 0] ![1, 64, 256] inb_S1x64x512_S1x64x256_0_0_0) (ix3 0 k i) = b9 (ix3 0 k ⟨i.val, by omega⟩) := fun k => ld_cs _ _ _ _ _ _ (by first | omega | (simp only []; omega) | simp only [])
  have ec10 : ∀ k : Fin 64, View.ld (Val := Elt Ideal) (e' := .f32) b10 (Rect.unit (s := S1x64x512) ![0, 0, 0] ![1, 64, 256] inb_S1x64x512_S1x64x256_0_0_0) (ix3 0 k i) = b10 (ix3 0 k ⟨i.val, by omega⟩) := fun k => ld_cs _ _ _ _ _ _ (by first | omega | (simp only []; omega) | simp only [])
  simp only [ec9, ec10]
  rfl

/-- Head 14's maxima after the first half of a block. -/
theorem hd0_14 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨i.val, by omega⟩ k) (b0 (ix1 0)))
    (ho : o (ix3 0 r l) = o0 (ix3 ⟨14, by decide⟩ r l)) :
    uq2 (View.ld b9 (Rect.unit ![0, 0, 0] ![1, 64, 256] inb_S1x64x512_S1x64x256_0_0_0)) (View.ld b10 (Rect.unit ![0, 0, 0] ![1, 64, 256] inb_S1x64x512_S1x64x256_0_0_0)) a0 a1 C (View.ld b11 (Rect.unit ![0, 1536] ![3584, 512] inb_S3584x2304_S3584x512_0_1536)) b8 o (ix3 0 r l)
      = aft b5 b6 b0 b1 b11 b7 b8 b9 b10 256 o0 r l ⟨14, by decide⟩ := by
  unfold aft
  rw [← ho]
  refine half0 _ _ r _ _ (fun B => uq2_le _ _ _ _ _ _ _ _ r l B) (fun i => ?_)
  unfold hval qkB pB Spec.lin
  simp only [hC]
  have ew : ∀ (k : Fin 3584) (q : Fin 128), View.ld (Val := Elt Ideal) (e' := .fp8e4m3) b11 (Rect.unit (s := S3584x2304) ![0, 1536] ![3584, 512] inb_S3584x2304_S3584x512_0_1536) (ix2 k (⟨256 + q.val, by omega⟩ : Fin 512)) = b11 (ix2 k ⟨14 * 128 + q.val, by omega⟩) := fun k q => ld_w _ _ _ _ _ _ _ (by first | omega | (simp only []; omega) | simp only [])
  simp only [ew, ha0, ha1]
  have ec9 : ∀ k : Fin 64, View.ld (Val := Elt Ideal) (e' := .f32) b9 (Rect.unit (s := S1x64x512) ![0, 0, 0] ![1, 64, 256] inb_S1x64x512_S1x64x256_0_0_0) (ix3 0 k i) = b9 (ix3 0 k ⟨i.val, by omega⟩) := fun k => ld_cs _ _ _ _ _ _ (by first | omega | (simp only []; omega) | simp only [])
  have ec10 : ∀ k : Fin 64, View.ld (Val := Elt Ideal) (e' := .f32) b10 (Rect.unit (s := S1x64x512) ![0, 0, 0] ![1, 64, 256] inb_S1x64x512_S1x64x256_0_0_0) (ix3 0 k i) = b10 (ix3 0 k ⟨i.val, by omega⟩) := fun k => ld_cs _ _ _ _ _ _ (by first | omega | (simp only []; omega) | simp only [])
  simp only [ec9, ec10]
  rfl

/-- Head 15's maxima after the first half of a block. -/
theorem hd0_15 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨i.val, by omega⟩ k) (b0 (ix1 0)))
    (ho : o (ix3 0 r l) = o0 (ix3 ⟨15, by decide⟩ r l)) :
    uq3 (View.ld b9 (Rect.unit ![0, 0, 0] ![1, 64, 256] inb_S1x64x512_S1x64x256_0_0_0)) (View.ld b10 (Rect.unit ![0, 0, 0] ![1, 64, 256] inb_S1x64x512_S1x64x256_0_0_0)) a0 a1 C (View.ld b11 (Rect.unit ![0, 1536] ![3584, 512] inb_S3584x2304_S3584x512_0_1536)) b8 o (ix3 0 r l)
      = aft b5 b6 b0 b1 b11 b7 b8 b9 b10 256 o0 r l ⟨15, by decide⟩ := by
  unfold aft
  rw [← ho]
  refine half0 _ _ r _ _ (fun B => uq3_le _ _ _ _ _ _ _ _ r l B) (fun i => ?_)
  unfold hval qkB pB Spec.lin
  simp only [hC]
  have ew : ∀ (k : Fin 3584) (q : Fin 128), View.ld (Val := Elt Ideal) (e' := .fp8e4m3) b11 (Rect.unit (s := S3584x2304) ![0, 1536] ![3584, 512] inb_S3584x2304_S3584x512_0_1536) (ix2 k (⟨384 + q.val, by omega⟩ : Fin 512)) = b11 (ix2 k ⟨15 * 128 + q.val, by omega⟩) := fun k q => ld_w _ _ _ _ _ _ _ (by first | omega | (simp only []; omega) | simp only [])
  simp only [ew, ha0, ha1]
  have ec9 : ∀ k : Fin 64, View.ld (Val := Elt Ideal) (e' := .f32) b9 (Rect.unit (s := S1x64x512) ![0, 0, 0] ![1, 64, 256] inb_S1x64x512_S1x64x256_0_0_0) (ix3 0 k i) = b9 (ix3 0 k ⟨i.val, by omega⟩) := fun k => ld_cs _ _ _ _ _ _ (by first | omega | (simp only []; omega) | simp only [])
  have ec10 : ∀ k : Fin 64, View.ld (Val := Elt Ideal) (e' := .f32) b10 (Rect.unit (s := S1x64x512) ![0, 0, 0] ![1, 64, 256] inb_S1x64x512_S1x64x256_0_0_0) (ix3 0 k i) = b10 (ix3 0 k ⟨i.val, by omega⟩) := fun k => ld_cs _ _ _ _ _ _ (by first | omega | (simp only []; omega) | simp only [])
  simp only [ec9, ec10]
  rfl

/-- Head 16's maxima after the first half of a block. -/
theorem hd0_16 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨i.val, by omega⟩ k) (b0 (ix1 0)))
    (ho : o (ix3 0 r l) = o0 (ix3 ⟨16, by decide⟩ r l)) :
    uv0 a0 a1 C (View.ld b11 (Rect.unit ![0, 2048] ![3584, 256] inb_S3584x2304_S3584x256_0_2048)) o (ix3 0 r l)
      = aft b5 b6 b0 b1 b11 b7 b8 b9 b10 256 o0 r l ⟨16, by decide⟩ := by
  unfold aft
  rw [← ho]
  refine half0 _ _ r _ _ (fun B => uv0_le _ _ _ _ _ r l B) (fun i => ?_)
  unfold hval pB Spec.lin
  simp only [hC]
  have ew : ∀ (k : Fin 3584) (q : Fin 128), View.ld (Val := Elt Ideal) (e' := .fp8e4m3) b11 (Rect.unit (s := S3584x2304) ![0, 2048] ![3584, 256] inb_S3584x2304_S3584x256_0_2048) (ix2 k (⟨q.val, by omega⟩ : Fin 256)) = b11 (ix2 k ⟨16 * 128 + q.val, by omega⟩) := fun k q => ld_w _ _ _ _ _ _ _ (by first | omega | (simp only []; omega) | simp only [])
  simp only [ew, ha0, ha1]
  rfl

/-- Head 17's maxima after the first half of a block. -/
theorem hd0_17 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨i.val, by omega⟩ k) (b0 (ix1 0)))
    (ho : o (ix3 0 r l) = o0 (ix3 ⟨17, by decide⟩ r l)) :
    uv1 a0 a1 C (View.ld b11 (Rect.unit ![0, 2048] ![3584, 256] inb_S3584x2304_S3584x256_0_2048)) o (ix3 0 r l)
      = aft b5 b6 b0 b1 b11 b7 b8 b9 b10 256 o0 r l ⟨17, by decide⟩ := by
  unfold aft
  rw [← ho]
  refine half0 _ _ r _ _ (fun B => uv1_le _ _ _ _ _ r l B) (fun i => ?_)
  unfold hval pB Spec.lin
  simp only [hC]
  have ew : ∀ (k : Fin 3584) (q : Fin 128), View.ld (Val := Elt Ideal) (e' := .fp8e4m3) b11 (Rect.unit (s := S3584x2304) ![0, 2048] ![3584, 256] inb_S3584x2304_S3584x256_0_2048) (ix2 k (⟨128 + q.val, by omega⟩ : Fin 256)) = b11 (ix2 k ⟨17 * 128 + q.val, by omega⟩) := fun k q => ld_w _ _ _ _ _ _ _ (by first | omega | (simp only []; omega) | simp only [])
  simp only [ew, ha0, ha1]
  rfl

/-- Head 0's maxima after the second half of a block. -/
theorem hd1_0 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨256 + i.val, by omega⟩ k) (b0 (ix1 0)))
    (ho : o (ix3 0 r l) = aft b5 b6 b0 b1 b11 b7 b8 b9 b10 256 o0 r l ⟨0, by decide⟩) :
    uq0 (View.ld b9 (Rect.unit ![0, 0, 256] ![1, 64, 256] inb_S1x64x512_S1x64x256_0_0_256)) (View.ld b10 (Rect.unit ![0, 0, 256] ![1, 64, 256] inb_S1x64x512_S1x64x256_0_0_256)) a0 a1 C (View.ld b11 (Rect.unit ![0, 0] ![3584, 512] inb_S3584x2304_S3584x512_0_0)) b7 o (ix3 0 r l)
      = aft b5 b6 b0 b1 b11 b7 b8 b9 b10 512 o0 r l ⟨0, by decide⟩ := by
  unfold aft
  refine half1 _ _ _ r _ _ (fun B => uq0_le _ _ _ _ _ _ _ _ r l B) (fun i => ?_) ho
  unfold hval qkB pB Spec.lin
  simp only [hC]
  have ew : ∀ (k : Fin 3584) (q : Fin 128), View.ld (Val := Elt Ideal) (e' := .fp8e4m3) b11 (Rect.unit (s := S3584x2304) ![0, 0] ![3584, 512] inb_S3584x2304_S3584x512_0_0) (ix2 k (⟨q.val, by omega⟩ : Fin 512)) = b11 (ix2 k ⟨0 * 128 + q.val, by omega⟩) := fun k q => ld_w _ _ _ _ _ _ _ (by first | omega | (simp only []; omega) | simp only [])
  simp only [ew, ha0, ha1]
  have ec9 : ∀ k : Fin 64, View.ld (Val := Elt Ideal) (e' := .f32) b9 (Rect.unit (s := S1x64x512) ![0, 0, 256] ![1, 64, 256] inb_S1x64x512_S1x64x256_0_0_256) (ix3 0 k i) = b9 (ix3 0 k ⟨256 + i.val, by omega⟩) := fun k => ld_cs _ _ _ _ _ _ (by first | omega | (simp only []; omega) | simp only [])
  have ec10 : ∀ k : Fin 64, View.ld (Val := Elt Ideal) (e' := .f32) b10 (Rect.unit (s := S1x64x512) ![0, 0, 256] ![1, 64, 256] inb_S1x64x512_S1x64x256_0_0_256) (ix3 0 k i) = b10 (ix3 0 k ⟨256 + i.val, by omega⟩) := fun k => ld_cs _ _ _ _ _ _ (by first | omega | (simp only []; omega) | simp only [])
  simp only [ec9, ec10]
  rfl

/-- Head 1's maxima after the second half of a block. -/
theorem hd1_1 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨256 + i.val, by omega⟩ k) (b0 (ix1 0)))
    (ho : o (ix3 0 r l) = aft b5 b6 b0 b1 b11 b7 b8 b9 b10 256 o0 r l ⟨1, by decide⟩) :
    uq1 (View.ld b9 (Rect.unit ![0, 0, 256] ![1, 64, 256] inb_S1x64x512_S1x64x256_0_0_256)) (View.ld b10 (Rect.unit ![0, 0, 256] ![1, 64, 256] inb_S1x64x512_S1x64x256_0_0_256)) a0 a1 C (View.ld b11 (Rect.unit ![0, 0] ![3584, 512] inb_S3584x2304_S3584x512_0_0)) b7 o (ix3 0 r l)
      = aft b5 b6 b0 b1 b11 b7 b8 b9 b10 512 o0 r l ⟨1, by decide⟩ := by
  unfold aft
  refine half1 _ _ _ r _ _ (fun B => uq1_le _ _ _ _ _ _ _ _ r l B) (fun i => ?_) ho
  unfold hval qkB pB Spec.lin
  simp only [hC]
  have ew : ∀ (k : Fin 3584) (q : Fin 128), View.ld (Val := Elt Ideal) (e' := .fp8e4m3) b11 (Rect.unit (s := S3584x2304) ![0, 0] ![3584, 512] inb_S3584x2304_S3584x512_0_0) (ix2 k (⟨128 + q.val, by omega⟩ : Fin 512)) = b11 (ix2 k ⟨1 * 128 + q.val, by omega⟩) := fun k q => ld_w _ _ _ _ _ _ _ (by first | omega | (simp only []; omega) | simp only [])
  simp only [ew, ha0, ha1]
  have ec9 : ∀ k : Fin 64, View.ld (Val := Elt Ideal) (e' := .f32) b9 (Rect.unit (s := S1x64x512) ![0, 0, 256] ![1, 64, 256] inb_S1x64x512_S1x64x256_0_0_256) (ix3 0 k i) = b9 (ix3 0 k ⟨256 + i.val, by omega⟩) := fun k => ld_cs _ _ _ _ _ _ (by first | omega | (simp only []; omega) | simp only [])
  have ec10 : ∀ k : Fin 64, View.ld (Val := Elt Ideal) (e' := .f32) b10 (Rect.unit (s := S1x64x512) ![0, 0, 256] ![1, 64, 256] inb_S1x64x512_S1x64x256_0_0_256) (ix3 0 k i) = b10 (ix3 0 k ⟨256 + i.val, by omega⟩) := fun k => ld_cs _ _ _ _ _ _ (by first | omega | (simp only []; omega) | simp only [])
  simp only [ec9, ec10]
  rfl

/-- Head 2's maxima after the second half of a block. -/
theorem hd1_2 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨256 + i.val, by omega⟩ k) (b0 (ix1 0)))
    (ho : o (ix3 0 r l) = aft b5 b6 b0 b1 b11 b7 b8 b9 b10 256 o0 r l ⟨2, by decide⟩) :
    uq2 (View.ld b9 (Rect.unit ![0, 0, 256] ![1, 64, 256] inb_S1x64x512_S1x64x256_0_0_256)) (View.ld b10 (Rect.unit ![0, 0, 256] ![1, 64, 256] inb_S1x64x512_S1x64x256_0_0_256)) a0 a1 C (View.ld b11 (Rect.unit ![0, 0] ![3584, 512] inb_S3584x2304_S3584x512_0_0)) b7 o (ix3 0 r l)
      = aft b5 b6 b0 b1 b11 b7 b8 b9 b10 512 o0 r l ⟨2, by decide⟩ := by
  unfold aft
  refine half1 _ _ _ r _ _ (fun B => uq2_le _ _ _ _ _ _ _ _ r l B) (fun i => ?_) ho
  unfold hval qkB pB Spec.lin
  simp only [hC]
  have ew : ∀ (k : Fin 3584) (q : Fin 128), View.ld (Val := Elt Ideal) (e' := .fp8e4m3) b11 (Rect.unit (s := S3584x2304) ![0, 0] ![3584, 512] inb_S3584x2304_S3584x512_0_0) (ix2 k (⟨256 + q.val, by omega⟩ : Fin 512)) = b11 (ix2 k ⟨2 * 128 + q.val, by omega⟩) := fun k q => ld_w _ _ _ _ _ _ _ (by first | omega | (simp only []; omega) | simp only [])
  simp only [ew, ha0, ha1]
  have ec9 : ∀ k : Fin 64, View.ld (Val := Elt Ideal) (e' := .f32) b9 (Rect.unit (s := S1x64x512) ![0, 0, 256] ![1, 64, 256] inb_S1x64x512_S1x64x256_0_0_256) (ix3 0 k i) = b9 (ix3 0 k ⟨256 + i.val, by omega⟩) := fun k => ld_cs _ _ _ _ _ _ (by first | omega | (simp only []; omega) | simp only [])
  have ec10 : ∀ k : Fin 64, View.ld (Val := Elt Ideal) (e' := .f32) b10 (Rect.unit (s := S1x64x512) ![0, 0, 256] ![1, 64, 256] inb_S1x64x512_S1x64x256_0_0_256) (ix3 0 k i) = b10 (ix3 0 k ⟨256 + i.val, by omega⟩) := fun k => ld_cs _ _ _ _ _ _ (by first | omega | (simp only []; omega) | simp only [])
  simp only [ec9, ec10]
  rfl

/-- Head 3's maxima after the second half of a block. -/
theorem hd1_3 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨256 + i.val, by omega⟩ k) (b0 (ix1 0)))
    (ho : o (ix3 0 r l) = aft b5 b6 b0 b1 b11 b7 b8 b9 b10 256 o0 r l ⟨3, by decide⟩) :
    uq3 (View.ld b9 (Rect.unit ![0, 0, 256] ![1, 64, 256] inb_S1x64x512_S1x64x256_0_0_256)) (View.ld b10 (Rect.unit ![0, 0, 256] ![1, 64, 256] inb_S1x64x512_S1x64x256_0_0_256)) a0 a1 C (View.ld b11 (Rect.unit ![0, 0] ![3584, 512] inb_S3584x2304_S3584x512_0_0)) b7 o (ix3 0 r l)
      = aft b5 b6 b0 b1 b11 b7 b8 b9 b10 512 o0 r l ⟨3, by decide⟩ := by
  unfold aft
  refine half1 _ _ _ r _ _ (fun B => uq3_le _ _ _ _ _ _ _ _ r l B) (fun i => ?_) ho
  unfold hval qkB pB Spec.lin
  simp only [hC]
  have ew : ∀ (k : Fin 3584) (q : Fin 128), View.ld (Val := Elt Ideal) (e' := .fp8e4m3) b11 (Rect.unit (s := S3584x2304) ![0, 0] ![3584, 512] inb_S3584x2304_S3584x512_0_0) (ix2 k (⟨384 + q.val, by omega⟩ : Fin 512)) = b11 (ix2 k ⟨3 * 128 + q.val, by omega⟩) := fun k q => ld_w _ _ _ _ _ _ _ (by first | omega | (simp only []; omega) | simp only [])
  simp only [ew, ha0, ha1]
  have ec9 : ∀ k : Fin 64, View.ld (Val := Elt Ideal) (e' := .f32) b9 (Rect.unit (s := S1x64x512) ![0, 0, 256] ![1, 64, 256] inb_S1x64x512_S1x64x256_0_0_256) (ix3 0 k i) = b9 (ix3 0 k ⟨256 + i.val, by omega⟩) := fun k => ld_cs _ _ _ _ _ _ (by first | omega | (simp only []; omega) | simp only [])
  have ec10 : ∀ k : Fin 64, View.ld (Val := Elt Ideal) (e' := .f32) b10 (Rect.unit (s := S1x64x512) ![0, 0, 256] ![1, 64, 256] inb_S1x64x512_S1x64x256_0_0_256) (ix3 0 k i) = b10 (ix3 0 k ⟨256 + i.val, by omega⟩) := fun k => ld_cs _ _ _ _ _ _ (by first | omega | (simp only []; omega) | simp only [])
  simp only [ec9, ec10]
  rfl

/-- Head 4's maxima after the second half of a block. -/
theorem hd1_4 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨256 + i.val, by omega⟩ k) (b0 (ix1 0)))
    (ho : o (ix3 0 r l) = aft b5 b6 b0 b1 b11 b7 b8 b9 b10 256 o0 r l ⟨4, by decide⟩) :
    uq0 (View.ld b9 (Rect.unit ![0, 0, 256] ![1, 64, 256] inb_S1x64x512_S1x64x256_0_0_256)) (View.ld b10 (Rect.unit ![0, 0, 256] ![1, 64, 256] inb_S1x64x512_S1x64x256_0_0_256)) a0 a1 C (View.ld b11 (Rect.unit ![0, 512] ![3584, 512] inb_S3584x2304_S3584x512_0_512)) b7 o (ix3 0 r l)
      = aft b5 b6 b0 b1 b11 b7 b8 b9 b10 512 o0 r l ⟨4, by decide⟩ := by
  unfold aft
  refine half1 _ _ _ r _ _ (fun B => uq0_le _ _ _ _ _ _ _ _ r l B) (fun i => ?_) ho
  unfold hval qkB pB Spec.lin
  simp only [hC]
  have ew : ∀ (k : Fin 3584) (q : Fin 128), View.ld (Val := Elt Ideal) (e' := .fp8e4m3) b11 (Rect.unit (s := S3584x2304) ![0, 512] ![3584, 512] inb_S3584x2304_S3584x512_0_512) (ix2 k (⟨q.val, by omega⟩ : Fin 512)) = b11 (ix2 k ⟨4 * 128 + q.val, by omega⟩) := fun k q => ld_w _ _ _ _ _ _ _ (by first | omega | (simp only []; omega) | simp only [])
  simp only [ew, ha0, ha1]
  have ec9 : ∀ k : Fin 64, View.ld (Val := Elt Ideal) (e' := .f32) b9 (Rect.unit (s := S1x64x512) ![0, 0, 256] ![1, 64, 256] inb_S1x64x512_S1x64x256_0_0_256) (ix3 0 k i) = b9 (ix3 0 k ⟨256 + i.val, by omega⟩) := fun k => ld_cs _ _ _ _ _ _ (by first | omega | (simp only []; omega) | simp only [])
  have ec10 : ∀ k : Fin 64, View.ld (Val := Elt Ideal) (e' := .f32) b10 (Rect.unit (s := S1x64x512) ![0, 0, 256] ![1, 64, 256] inb_S1x64x512_S1x64x256_0_0_256) (ix3 0 k i) = b10 (ix3 0 k ⟨256 + i.val, by omega⟩) := fun k => ld_cs _ _ _ _ _ _ (by first | omega | (simp only []; omega) | simp only [])
  simp only [ec9, ec10]
  rfl

/-- Head 5's maxima after the second half of a block. -/
theorem hd1_5 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨256 + i.val, by omega⟩ k) (b0 (ix1 0)))
    (ho : o (ix3 0 r l) = aft b5 b6 b0 b1 b11 b7 b8 b9 b10 256 o0 r l ⟨5, by decide⟩) :
    uq1 (View.ld b9 (Rect.unit ![0, 0, 256] ![1, 64, 256] inb_S1x64x512_S1x64x256_0_0_256)) (View.ld b10 (Rect.unit ![0, 0, 256] ![1, 64, 256] inb_S1x64x512_S1x64x256_0_0_256)) a0 a1 C (View.ld b11 (Rect.unit ![0, 512] ![3584, 512] inb_S3584x2304_S3584x512_0_512)) b7 o (ix3 0 r l)
      = aft b5 b6 b0 b1 b11 b7 b8 b9 b10 512 o0 r l ⟨5, by decide⟩ := by
  unfold aft
  refine half1 _ _ _ r _ _ (fun B => uq1_le _ _ _ _ _ _ _ _ r l B) (fun i => ?_) ho
  unfold hval qkB pB Spec.lin
  simp only [hC]
  have ew : ∀ (k : Fin 3584) (q : Fin 128), View.ld (Val := Elt Ideal) (e' := .fp8e4m3) b11 (Rect.unit (s := S3584x2304) ![0, 512] ![3584, 512] inb_S3584x2304_S3584x512_0_512) (ix2 k (⟨128 + q.val, by omega⟩ : Fin 512)) = b11 (ix2 k ⟨5 * 128 + q.val, by omega⟩) := fun k q => ld_w _ _ _ _ _ _ _ (by first | omega | (simp only []; omega) | simp only [])
  simp only [ew, ha0, ha1]
  have ec9 : ∀ k : Fin 64, View.ld (Val := Elt Ideal) (e' := .f32) b9 (Rect.unit (s := S1x64x512) ![0, 0, 256] ![1, 64, 256] inb_S1x64x512_S1x64x256_0_0_256) (ix3 0 k i) = b9 (ix3 0 k ⟨256 + i.val, by omega⟩) := fun k => ld_cs _ _ _ _ _ _ (by first | omega | (simp only []; omega) | simp only [])
  have ec10 : ∀ k : Fin 64, View.ld (Val := Elt Ideal) (e' := .f32) b10 (Rect.unit (s := S1x64x512) ![0, 0, 256] ![1, 64, 256] inb_S1x64x512_S1x64x256_0_0_256) (ix3 0 k i) = b10 (ix3 0 k ⟨256 + i.val, by omega⟩) := fun k => ld_cs _ _ _ _ _ _ (by first | omega | (simp only []; omega) | simp only [])
  simp only [ec9, ec10]
  rfl

/-- Head 6's maxima after the second half of a block. -/
theorem hd1_6 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨256 + i.val, by omega⟩ k) (b0 (ix1 0)))
    (ho : o (ix3 0 r l) = aft b5 b6 b0 b1 b11 b7 b8 b9 b10 256 o0 r l ⟨6, by decide⟩) :
    uq2 (View.ld b9 (Rect.unit ![0, 0, 256] ![1, 64, 256] inb_S1x64x512_S1x64x256_0_0_256)) (View.ld b10 (Rect.unit ![0, 0, 256] ![1, 64, 256] inb_S1x64x512_S1x64x256_0_0_256)) a0 a1 C (View.ld b11 (Rect.unit ![0, 512] ![3584, 512] inb_S3584x2304_S3584x512_0_512)) b7 o (ix3 0 r l)
      = aft b5 b6 b0 b1 b11 b7 b8 b9 b10 512 o0 r l ⟨6, by decide⟩ := by
  unfold aft
  refine half1 _ _ _ r _ _ (fun B => uq2_le _ _ _ _ _ _ _ _ r l B) (fun i => ?_) ho
  unfold hval qkB pB Spec.lin
  simp only [hC]
  have ew : ∀ (k : Fin 3584) (q : Fin 128), View.ld (Val := Elt Ideal) (e' := .fp8e4m3) b11 (Rect.unit (s := S3584x2304) ![0, 512] ![3584, 512] inb_S3584x2304_S3584x512_0_512) (ix2 k (⟨256 + q.val, by omega⟩ : Fin 512)) = b11 (ix2 k ⟨6 * 128 + q.val, by omega⟩) := fun k q => ld_w _ _ _ _ _ _ _ (by first | omega | (simp only []; omega) | simp only [])
  simp only [ew, ha0, ha1]
  have ec9 : ∀ k : Fin 64, View.ld (Val := Elt Ideal) (e' := .f32) b9 (Rect.unit (s := S1x64x512) ![0, 0, 256] ![1, 64, 256] inb_S1x64x512_S1x64x256_0_0_256) (ix3 0 k i) = b9 (ix3 0 k ⟨256 + i.val, by omega⟩) := fun k => ld_cs _ _ _ _ _ _ (by first | omega | (simp only []; omega) | simp only [])
  have ec10 : ∀ k : Fin 64, View.ld (Val := Elt Ideal) (e' := .f32) b10 (Rect.unit (s := S1x64x512) ![0, 0, 256] ![1, 64, 256] inb_S1x64x512_S1x64x256_0_0_256) (ix3 0 k i) = b10 (ix3 0 k ⟨256 + i.val, by omega⟩) := fun k => ld_cs _ _ _ _ _ _ (by first | omega | (simp only []; omega) | simp only [])
  simp only [ec9, ec10]
  rfl

/-- Head 7's maxima after the second half of a block. -/
theorem hd1_7 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨256 + i.val, by omega⟩ k) (b0 (ix1 0)))
    (ho : o (ix3 0 r l) = aft b5 b6 b0 b1 b11 b7 b8 b9 b10 256 o0 r l ⟨7, by decide⟩) :
    uq3 (View.ld b9 (Rect.unit ![0, 0, 256] ![1, 64, 256] inb_S1x64x512_S1x64x256_0_0_256)) (View.ld b10 (Rect.unit ![0, 0, 256] ![1, 64, 256] inb_S1x64x512_S1x64x256_0_0_256)) a0 a1 C (View.ld b11 (Rect.unit ![0, 512] ![3584, 512] inb_S3584x2304_S3584x512_0_512)) b7 o (ix3 0 r l)
      = aft b5 b6 b0 b1 b11 b7 b8 b9 b10 512 o0 r l ⟨7, by decide⟩ := by
  unfold aft
  refine half1 _ _ _ r _ _ (fun B => uq3_le _ _ _ _ _ _ _ _ r l B) (fun i => ?_) ho
  unfold hval qkB pB Spec.lin
  simp only [hC]
  have ew : ∀ (k : Fin 3584) (q : Fin 128), View.ld (Val := Elt Ideal) (e' := .fp8e4m3) b11 (Rect.unit (s := S3584x2304) ![0, 512] ![3584, 512] inb_S3584x2304_S3584x512_0_512) (ix2 k (⟨384 + q.val, by omega⟩ : Fin 512)) = b11 (ix2 k ⟨7 * 128 + q.val, by omega⟩) := fun k q => ld_w _ _ _ _ _ _ _ (by first | omega | (simp only []; omega) | simp only [])
  simp only [ew, ha0, ha1]
  have ec9 : ∀ k : Fin 64, View.ld (Val := Elt Ideal) (e' := .f32) b9 (Rect.unit (s := S1x64x512) ![0, 0, 256] ![1, 64, 256] inb_S1x64x512_S1x64x256_0_0_256) (ix3 0 k i) = b9 (ix3 0 k ⟨256 + i.val, by omega⟩) := fun k => ld_cs _ _ _ _ _ _ (by first | omega | (simp only []; omega) | simp only [])
  have ec10 : ∀ k : Fin 64, View.ld (Val := Elt Ideal) (e' := .f32) b10 (Rect.unit (s := S1x64x512) ![0, 0, 256] ![1, 64, 256] inb_S1x64x512_S1x64x256_0_0_256) (ix3 0 k i) = b10 (ix3 0 k ⟨256 + i.val, by omega⟩) := fun k => ld_cs _ _ _ _ _ _ (by first | omega | (simp only []; omega) | simp only [])
  simp only [ec9, ec10]
  rfl

/-- Head 8's maxima after the second half of a block. -/
theorem hd1_8 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨256 + i.val, by omega⟩ k) (b0 (ix1 0)))
    (ho : o (ix3 0 r l) = aft b5 b6 b0 b1 b11 b7 b8 b9 b10 256 o0 r l ⟨8, by decide⟩) :
    uq0 (View.ld b9 (Rect.unit ![0, 0, 256] ![1, 64, 256] inb_S1x64x512_S1x64x256_0_0_256)) (View.ld b10 (Rect.unit ![0, 0, 256] ![1, 64, 256] inb_S1x64x512_S1x64x256_0_0_256)) a0 a1 C (View.ld b11 (Rect.unit ![0, 1024] ![3584, 512] inb_S3584x2304_S3584x512_0_1024)) b7 o (ix3 0 r l)
      = aft b5 b6 b0 b1 b11 b7 b8 b9 b10 512 o0 r l ⟨8, by decide⟩ := by
  unfold aft
  refine half1 _ _ _ r _ _ (fun B => uq0_le _ _ _ _ _ _ _ _ r l B) (fun i => ?_) ho
  unfold hval qkB pB Spec.lin
  simp only [hC]
  have ew : ∀ (k : Fin 3584) (q : Fin 128), View.ld (Val := Elt Ideal) (e' := .fp8e4m3) b11 (Rect.unit (s := S3584x2304) ![0, 1024] ![3584, 512] inb_S3584x2304_S3584x512_0_1024) (ix2 k (⟨q.val, by omega⟩ : Fin 512)) = b11 (ix2 k ⟨8 * 128 + q.val, by omega⟩) := fun k q => ld_w _ _ _ _ _ _ _ (by first | omega | (simp only []; omega) | simp only [])
  simp only [ew, ha0, ha1]
  have ec9 : ∀ k : Fin 64, View.ld (Val := Elt Ideal) (e' := .f32) b9 (Rect.unit (s := S1x64x512) ![0, 0, 256] ![1, 64, 256] inb_S1x64x512_S1x64x256_0_0_256) (ix3 0 k i) = b9 (ix3 0 k ⟨256 + i.val, by omega⟩) := fun k => ld_cs _ _ _ _ _ _ (by first | omega | (simp only []; omega) | simp only [])
  have ec10 : ∀ k : Fin 64, View.ld (Val := Elt Ideal) (e' := .f32) b10 (Rect.unit (s := S1x64x512) ![0, 0, 256] ![1, 64, 256] inb_S1x64x512_S1x64x256_0_0_256) (ix3 0 k i) = b10 (ix3 0 k ⟨256 + i.val, by omega⟩) := fun k => ld_cs _ _ _ _ _ _ (by first | omega | (simp only []; omega) | simp only [])
  simp only [ec9, ec10]
  rfl

/-- Head 9's maxima after the second half of a block. -/
theorem hd1_9 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨256 + i.val, by omega⟩ k) (b0 (ix1 0)))
    (ho : o (ix3 0 r l) = aft b5 b6 b0 b1 b11 b7 b8 b9 b10 256 o0 r l ⟨9, by decide⟩) :
    uq1 (View.ld b9 (Rect.unit ![0, 0, 256] ![1, 64, 256] inb_S1x64x512_S1x64x256_0_0_256)) (View.ld b10 (Rect.unit ![0, 0, 256] ![1, 64, 256] inb_S1x64x512_S1x64x256_0_0_256)) a0 a1 C (View.ld b11 (Rect.unit ![0, 1024] ![3584, 512] inb_S3584x2304_S3584x512_0_1024)) b7 o (ix3 0 r l)
      = aft b5 b6 b0 b1 b11 b7 b8 b9 b10 512 o0 r l ⟨9, by decide⟩ := by
  unfold aft
  refine half1 _ _ _ r _ _ (fun B => uq1_le _ _ _ _ _ _ _ _ r l B) (fun i => ?_) ho
  unfold hval qkB pB Spec.lin
  simp only [hC]
  have ew : ∀ (k : Fin 3584) (q : Fin 128), View.ld (Val := Elt Ideal) (e' := .fp8e4m3) b11 (Rect.unit (s := S3584x2304) ![0, 1024] ![3584, 512] inb_S3584x2304_S3584x512_0_1024) (ix2 k (⟨128 + q.val, by omega⟩ : Fin 512)) = b11 (ix2 k ⟨9 * 128 + q.val, by omega⟩) := fun k q => ld_w _ _ _ _ _ _ _ (by first | omega | (simp only []; omega) | simp only [])
  simp only [ew, ha0, ha1]
  have ec9 : ∀ k : Fin 64, View.ld (Val := Elt Ideal) (e' := .f32) b9 (Rect.unit (s := S1x64x512) ![0, 0, 256] ![1, 64, 256] inb_S1x64x512_S1x64x256_0_0_256) (ix3 0 k i) = b9 (ix3 0 k ⟨256 + i.val, by omega⟩) := fun k => ld_cs _ _ _ _ _ _ (by first | omega | (simp only []; omega) | simp only [])
  have ec10 : ∀ k : Fin 64, View.ld (Val := Elt Ideal) (e' := .f32) b10 (Rect.unit (s := S1x64x512) ![0, 0, 256] ![1, 64, 256] inb_S1x64x512_S1x64x256_0_0_256) (ix3 0 k i) = b10 (ix3 0 k ⟨256 + i.val, by omega⟩) := fun k => ld_cs _ _ _ _ _ _ (by first | omega | (simp only []; omega) | simp only [])
  simp only [ec9, ec10]
  rfl

/-- Head 10's maxima after the second half of a block. -/
theorem hd1_10 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨256 + i.val, by omega⟩ k) (b0 (ix1 0)))
    (ho : o (ix3 0 r l) = aft b5 b6 b0 b1 b11 b7 b8 b9 b10 256 o0 r l ⟨10, by decide⟩) :
    uq2 (View.ld b9 (Rect.unit ![0, 0, 256] ![1, 64, 256] inb_S1x64x512_S1x64x256_0_0_256)) (View.ld b10 (Rect.unit ![0, 0, 256] ![1, 64, 256] inb_S1x64x512_S1x64x256_0_0_256)) a0 a1 C (View.ld b11 (Rect.unit ![0, 1024] ![3584, 512] inb_S3584x2304_S3584x512_0_1024)) b7 o (ix3 0 r l)
      = aft b5 b6 b0 b1 b11 b7 b8 b9 b10 512 o0 r l ⟨10, by decide⟩ := by
  unfold aft
  refine half1 _ _ _ r _ _ (fun B => uq2_le _ _ _ _ _ _ _ _ r l B) (fun i => ?_) ho
  unfold hval qkB pB Spec.lin
  simp only [hC]
  have ew : ∀ (k : Fin 3584) (q : Fin 128), View.ld (Val := Elt Ideal) (e' := .fp8e4m3) b11 (Rect.unit (s := S3584x2304) ![0, 1024] ![3584, 512] inb_S3584x2304_S3584x512_0_1024) (ix2 k (⟨256 + q.val, by omega⟩ : Fin 512)) = b11 (ix2 k ⟨10 * 128 + q.val, by omega⟩) := fun k q => ld_w _ _ _ _ _ _ _ (by first | omega | (simp only []; omega) | simp only [])
  simp only [ew, ha0, ha1]
  have ec9 : ∀ k : Fin 64, View.ld (Val := Elt Ideal) (e' := .f32) b9 (Rect.unit (s := S1x64x512) ![0, 0, 256] ![1, 64, 256] inb_S1x64x512_S1x64x256_0_0_256) (ix3 0 k i) = b9 (ix3 0 k ⟨256 + i.val, by omega⟩) := fun k => ld_cs _ _ _ _ _ _ (by first | omega | (simp only []; omega) | simp only [])
  have ec10 : ∀ k : Fin 64, View.ld (Val := Elt Ideal) (e' := .f32) b10 (Rect.unit (s := S1x64x512) ![0, 0, 256] ![1, 64, 256] inb_S1x64x512_S1x64x256_0_0_256) (ix3 0 k i) = b10 (ix3 0 k ⟨256 + i.val, by omega⟩) := fun k => ld_cs _ _ _ _ _ _ (by first | omega | (simp only []; omega) | simp only [])
  simp only [ec9, ec10]
  rfl

/-- Head 11's maxima after the second half of a block. -/
theorem hd1_11 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨256 + i.val, by omega⟩ k) (b0 (ix1 0)))
    (ho : o (ix3 0 r l) = aft b5 b6 b0 b1 b11 b7 b8 b9 b10 256 o0 r l ⟨11, by decide⟩) :
    uq3 (View.ld b9 (Rect.unit ![0, 0, 256] ![1, 64, 256] inb_S1x64x512_S1x64x256_0_0_256)) (View.ld b10 (Rect.unit ![0, 0, 256] ![1, 64, 256] inb_S1x64x512_S1x64x256_0_0_256)) a0 a1 C (View.ld b11 (Rect.unit ![0, 1024] ![3584, 512] inb_S3584x2304_S3584x512_0_1024)) b7 o (ix3 0 r l)
      = aft b5 b6 b0 b1 b11 b7 b8 b9 b10 512 o0 r l ⟨11, by decide⟩ := by
  unfold aft
  refine half1 _ _ _ r _ _ (fun B => uq3_le _ _ _ _ _ _ _ _ r l B) (fun i => ?_) ho
  unfold hval qkB pB Spec.lin
  simp only [hC]
  have ew : ∀ (k : Fin 3584) (q : Fin 128), View.ld (Val := Elt Ideal) (e' := .fp8e4m3) b11 (Rect.unit (s := S3584x2304) ![0, 1024] ![3584, 512] inb_S3584x2304_S3584x512_0_1024) (ix2 k (⟨384 + q.val, by omega⟩ : Fin 512)) = b11 (ix2 k ⟨11 * 128 + q.val, by omega⟩) := fun k q => ld_w _ _ _ _ _ _ _ (by first | omega | (simp only []; omega) | simp only [])
  simp only [ew, ha0, ha1]
  have ec9 : ∀ k : Fin 64, View.ld (Val := Elt Ideal) (e' := .f32) b9 (Rect.unit (s := S1x64x512) ![0, 0, 256] ![1, 64, 256] inb_S1x64x512_S1x64x256_0_0_256) (ix3 0 k i) = b9 (ix3 0 k ⟨256 + i.val, by omega⟩) := fun k => ld_cs _ _ _ _ _ _ (by first | omega | (simp only []; omega) | simp only [])
  have ec10 : ∀ k : Fin 64, View.ld (Val := Elt Ideal) (e' := .f32) b10 (Rect.unit (s := S1x64x512) ![0, 0, 256] ![1, 64, 256] inb_S1x64x512_S1x64x256_0_0_256) (ix3 0 k i) = b10 (ix3 0 k ⟨256 + i.val, by omega⟩) := fun k => ld_cs _ _ _ _ _ _ (by first | omega | (simp only []; omega) | simp only [])
  simp only [ec9, ec10]
  rfl

/-- Head 12's maxima after the second half of a block. -/
theorem hd1_12 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨256 + i.val, by omega⟩ k) (b0 (ix1 0)))
    (ho : o (ix3 0 r l) = aft b5 b6 b0 b1 b11 b7 b8 b9 b10 256 o0 r l ⟨12, by decide⟩) :
    uq0 (View.ld b9 (Rect.unit ![0, 0, 256] ![1, 64, 256] inb_S1x64x512_S1x64x256_0_0_256)) (View.ld b10 (Rect.unit ![0, 0, 256] ![1, 64, 256] inb_S1x64x512_S1x64x256_0_0_256)) a0 a1 C (View.ld b11 (Rect.unit ![0, 1536] ![3584, 512] inb_S3584x2304_S3584x512_0_1536)) b7 o (ix3 0 r l)
      = aft b5 b6 b0 b1 b11 b7 b8 b9 b10 512 o0 r l ⟨12, by decide⟩ := by
  unfold aft
  refine half1 _ _ _ r _ _ (fun B => uq0_le _ _ _ _ _ _ _ _ r l B) (fun i => ?_) ho
  unfold hval qkB pB Spec.lin
  simp only [hC]
  have ew : ∀ (k : Fin 3584) (q : Fin 128), View.ld (Val := Elt Ideal) (e' := .fp8e4m3) b11 (Rect.unit (s := S3584x2304) ![0, 1536] ![3584, 512] inb_S3584x2304_S3584x512_0_1536) (ix2 k (⟨q.val, by omega⟩ : Fin 512)) = b11 (ix2 k ⟨12 * 128 + q.val, by omega⟩) := fun k q => ld_w _ _ _ _ _ _ _ (by first | omega | (simp only []; omega) | simp only [])
  simp only [ew, ha0, ha1]
  have ec9 : ∀ k : Fin 64, View.ld (Val := Elt Ideal) (e' := .f32) b9 (Rect.unit (s := S1x64x512) ![0, 0, 256] ![1, 64, 256] inb_S1x64x512_S1x64x256_0_0_256) (ix3 0 k i) = b9 (ix3 0 k ⟨256 + i.val, by omega⟩) := fun k => ld_cs _ _ _ _ _ _ (by first | omega | (simp only []; omega) | simp only [])
  have ec10 : ∀ k : Fin 64, View.ld (Val := Elt Ideal) (e' := .f32) b10 (Rect.unit (s := S1x64x512) ![0, 0, 256] ![1, 64, 256] inb_S1x64x512_S1x64x256_0_0_256) (ix3 0 k i) = b10 (ix3 0 k ⟨256 + i.val, by omega⟩) := fun k => ld_cs _ _ _ _ _ _ (by first | omega | (simp only []; omega) | simp only [])
  simp only [ec9, ec10]
  rfl

/-- Head 13's maxima after the second half of a block. -/
theorem hd1_13 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨256 + i.val, by omega⟩ k) (b0 (ix1 0)))
    (ho : o (ix3 0 r l) = aft b5 b6 b0 b1 b11 b7 b8 b9 b10 256 o0 r l ⟨13, by decide⟩) :
    uq1 (View.ld b9 (Rect.unit ![0, 0, 256] ![1, 64, 256] inb_S1x64x512_S1x64x256_0_0_256)) (View.ld b10 (Rect.unit ![0, 0, 256] ![1, 64, 256] inb_S1x64x512_S1x64x256_0_0_256)) a0 a1 C (View.ld b11 (Rect.unit ![0, 1536] ![3584, 512] inb_S3584x2304_S3584x512_0_1536)) b7 o (ix3 0 r l)
      = aft b5 b6 b0 b1 b11 b7 b8 b9 b10 512 o0 r l ⟨13, by decide⟩ := by
  unfold aft
  refine half1 _ _ _ r _ _ (fun B => uq1_le _ _ _ _ _ _ _ _ r l B) (fun i => ?_) ho
  unfold hval qkB pB Spec.lin
  simp only [hC]
  have ew : ∀ (k : Fin 3584) (q : Fin 128), View.ld (Val := Elt Ideal) (e' := .fp8e4m3) b11 (Rect.unit (s := S3584x2304) ![0, 1536] ![3584, 512] inb_S3584x2304_S3584x512_0_1536) (ix2 k (⟨128 + q.val, by omega⟩ : Fin 512)) = b11 (ix2 k ⟨13 * 128 + q.val, by omega⟩) := fun k q => ld_w _ _ _ _ _ _ _ (by first | omega | (simp only []; omega) | simp only [])
  simp only [ew, ha0, ha1]
  have ec9 : ∀ k : Fin 64, View.ld (Val := Elt Ideal) (e' := .f32) b9 (Rect.unit (s := S1x64x512) ![0, 0, 256] ![1, 64, 256] inb_S1x64x512_S1x64x256_0_0_256) (ix3 0 k i) = b9 (ix3 0 k ⟨256 + i.val, by omega⟩) := fun k => ld_cs _ _ _ _ _ _ (by first | omega | (simp only []; omega) | simp only [])
  have ec10 : ∀ k : Fin 64, View.ld (Val := Elt Ideal) (e' := .f32) b10 (Rect.unit (s := S1x64x512) ![0, 0, 256] ![1, 64, 256] inb_S1x64x512_S1x64x256_0_0_256) (ix3 0 k i) = b10 (ix3 0 k ⟨256 + i.val, by omega⟩) := fun k => ld_cs _ _ _ _ _ _ (by first | omega | (simp only []; omega) | simp only [])
  simp only [ec9, ec10]
  rfl

/-- Head 14's maxima after the second half of a block. -/
theorem hd1_14 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨256 + i.val, by omega⟩ k) (b0 (ix1 0)))
    (ho : o (ix3 0 r l) = aft b5 b6 b0 b1 b11 b7 b8 b9 b10 256 o0 r l ⟨14, by decide⟩) :
    uq2 (View.ld b9 (Rect.unit ![0, 0, 256] ![1, 64, 256] inb_S1x64x512_S1x64x256_0_0_256)) (View.ld b10 (Rect.unit ![0, 0, 256] ![1, 64, 256] inb_S1x64x512_S1x64x256_0_0_256)) a0 a1 C (View.ld b11 (Rect.unit ![0, 1536] ![3584, 512] inb_S3584x2304_S3584x512_0_1536)) b8 o (ix3 0 r l)
      = aft b5 b6 b0 b1 b11 b7 b8 b9 b10 512 o0 r l ⟨14, by decide⟩ := by
  unfold aft
  refine half1 _ _ _ r _ _ (fun B => uq2_le _ _ _ _ _ _ _ _ r l B) (fun i => ?_) ho
  unfold hval qkB pB Spec.lin
  simp only [hC]
  have ew : ∀ (k : Fin 3584) (q : Fin 128), View.ld (Val := Elt Ideal) (e' := .fp8e4m3) b11 (Rect.unit (s := S3584x2304) ![0, 1536] ![3584, 512] inb_S3584x2304_S3584x512_0_1536) (ix2 k (⟨256 + q.val, by omega⟩ : Fin 512)) = b11 (ix2 k ⟨14 * 128 + q.val, by omega⟩) := fun k q => ld_w _ _ _ _ _ _ _ (by first | omega | (simp only []; omega) | simp only [])
  simp only [ew, ha0, ha1]
  have ec9 : ∀ k : Fin 64, View.ld (Val := Elt Ideal) (e' := .f32) b9 (Rect.unit (s := S1x64x512) ![0, 0, 256] ![1, 64, 256] inb_S1x64x512_S1x64x256_0_0_256) (ix3 0 k i) = b9 (ix3 0 k ⟨256 + i.val, by omega⟩) := fun k => ld_cs _ _ _ _ _ _ (by first | omega | (simp only []; omega) | simp only [])
  have ec10 : ∀ k : Fin 64, View.ld (Val := Elt Ideal) (e' := .f32) b10 (Rect.unit (s := S1x64x512) ![0, 0, 256] ![1, 64, 256] inb_S1x64x512_S1x64x256_0_0_256) (ix3 0 k i) = b10 (ix3 0 k ⟨256 + i.val, by omega⟩) := fun k => ld_cs _ _ _ _ _ _ (by first | omega | (simp only []; omega) | simp only [])
  simp only [ec9, ec10]
  rfl

/-- Head 15's maxima after the second half of a block. -/
theorem hd1_15 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨256 + i.val, by omega⟩ k) (b0 (ix1 0)))
    (ho : o (ix3 0 r l) = aft b5 b6 b0 b1 b11 b7 b8 b9 b10 256 o0 r l ⟨15, by decide⟩) :
    uq3 (View.ld b9 (Rect.unit ![0, 0, 256] ![1, 64, 256] inb_S1x64x512_S1x64x256_0_0_256)) (View.ld b10 (Rect.unit ![0, 0, 256] ![1, 64, 256] inb_S1x64x512_S1x64x256_0_0_256)) a0 a1 C (View.ld b11 (Rect.unit ![0, 1536] ![3584, 512] inb_S3584x2304_S3584x512_0_1536)) b8 o (ix3 0 r l)
      = aft b5 b6 b0 b1 b11 b7 b8 b9 b10 512 o0 r l ⟨15, by decide⟩ := by
  unfold aft
  refine half1 _ _ _ r _ _ (fun B => uq3_le _ _ _ _ _ _ _ _ r l B) (fun i => ?_) ho
  unfold hval qkB pB Spec.lin
  simp only [hC]
  have ew : ∀ (k : Fin 3584) (q : Fin 128), View.ld (Val := Elt Ideal) (e' := .fp8e4m3) b11 (Rect.unit (s := S3584x2304) ![0, 1536] ![3584, 512] inb_S3584x2304_S3584x512_0_1536) (ix2 k (⟨384 + q.val, by omega⟩ : Fin 512)) = b11 (ix2 k ⟨15 * 128 + q.val, by omega⟩) := fun k q => ld_w _ _ _ _ _ _ _ (by first | omega | (simp only []; omega) | simp only [])
  simp only [ew, ha0, ha1]
  have ec9 : ∀ k : Fin 64, View.ld (Val := Elt Ideal) (e' := .f32) b9 (Rect.unit (s := S1x64x512) ![0, 0, 256] ![1, 64, 256] inb_S1x64x512_S1x64x256_0_0_256) (ix3 0 k i) = b9 (ix3 0 k ⟨256 + i.val, by omega⟩) := fun k => ld_cs _ _ _ _ _ _ (by first | omega | (simp only []; omega) | simp only [])
  have ec10 : ∀ k : Fin 64, View.ld (Val := Elt Ideal) (e' := .f32) b10 (Rect.unit (s := S1x64x512) ![0, 0, 256] ![1, 64, 256] inb_S1x64x512_S1x64x256_0_0_256) (ix3 0 k i) = b10 (ix3 0 k ⟨256 + i.val, by omega⟩) := fun k => ld_cs _ _ _ _ _ _ (by first | omega | (simp only []; omega) | simp only [])
  simp only [ec9, ec10]
  rfl

/-- Head 16's maxima after the second half of a block. -/
theorem hd1_16 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨256 + i.val, by omega⟩ k) (b0 (ix1 0)))
    (ho : o (ix3 0 r l) = aft b5 b6 b0 b1 b11 b7 b8 b9 b10 256 o0 r l ⟨16, by decide⟩) :
    uv0 a0 a1 C (View.ld b11 (Rect.unit ![0, 2048] ![3584, 256] inb_S3584x2304_S3584x256_0_2048)) o (ix3 0 r l)
      = aft b5 b6 b0 b1 b11 b7 b8 b9 b10 512 o0 r l ⟨16, by decide⟩ := by
  unfold aft
  refine half1 _ _ _ r _ _ (fun B => uv0_le _ _ _ _ _ r l B) (fun i => ?_) ho
  unfold hval pB Spec.lin
  simp only [hC]
  have ew : ∀ (k : Fin 3584) (q : Fin 128), View.ld (Val := Elt Ideal) (e' := .fp8e4m3) b11 (Rect.unit (s := S3584x2304) ![0, 2048] ![3584, 256] inb_S3584x2304_S3584x256_0_2048) (ix2 k (⟨q.val, by omega⟩ : Fin 256)) = b11 (ix2 k ⟨16 * 128 + q.val, by omega⟩) := fun k q => ld_w _ _ _ _ _ _ _ (by first | omega | (simp only []; omega) | simp only [])
  simp only [ew, ha0, ha1]
  rfl

/-- Head 17's maxima after the second half of a block. -/
theorem hd1_17 (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (a0 a1 : EReal) (ha0 : a0 = b0 (ix1 0)) (ha1 : a1 = b1 (ix1 0)) (C : Vec Ideal S1x256x3584 .fp8e4m3) (o : Vec Ideal S1x8x128 .f32) (o0 : FVec Ideal S18x8x128 .f32) (r : Fin 8) (l : Fin 128)
    (hC : ∀ (i : Fin 256) (k : Fin 3584), C (ix3 0 i k) = Spec.code (nrm b5 b6 ⟨256 + i.val, by omega⟩ k) (b0 (ix1 0)))
    (ho : o (ix3 0 r l) = aft b5 b6 b0 b1 b11 b7 b8 b9 b10 256 o0 r l ⟨17, by decide⟩) :
    uv1 a0 a1 C (View.ld b11 (Rect.unit ![0, 2048] ![3584, 256] inb_S3584x2304_S3584x256_0_2048)) o (ix3 0 r l)
      = aft b5 b6 b0 b1 b11 b7 b8 b9 b10 512 o0 r l ⟨17, by decide⟩ := by
  unfold aft
  refine half1 _ _ _ r _ _ (fun B => uv1_le _ _ _ _ _ r l B) (fun i => ?_) ho
  unfold hval pB Spec.lin
  simp only [hC]
  have ew : ∀ (k : Fin 3584) (q : Fin 128), View.ld (Val := Elt Ideal) (e' := .fp8e4m3) b11 (Rect.unit (s := S3584x2304) ![0, 2048] ![3584, 256] inb_S3584x2304_S3584x256_0_2048) (ix2 k (⟨128 + q.val, by omega⟩ : Fin 256)) = b11 (ix2 k ⟨17 * 128 + q.val, by omega⟩) := fun k q => ld_w _ _ _ _ _ _ _ (by first | omega | (simp only []; omega) | simp only [])
  simp only [ew, ha0, ha1]
  rfl

end Cert.QkvIdeal.Sem

end
-- ==== Proof.QkvHmax.lean ====
/-
  The query, key and value projections, kernel side: the heads' running maxima after a point.
-/
module

public import proofs.«01_k».proof.Proof.QkvHd
public import proofs.«01_k».proof.Proof.QkvFinal

@[expose] public section

set_option maxRecDepth 16384

noncomputable section

open Idealize.ShloMosaic Idealize.ShloMosaic.TcCoe Idealize.SL.Sem
open Idealize.ShloMosaic.Pipeline (Dat)

namespace Cert.QkvIdeal.Sem

open Cert.QkvIdeal Cert.QkvIdeal.Gen

variable (m : (ℓ : Loc nD τ sig) → Buf (Elt Ideal) ℓ)

/-- A claim follows when the two halves' codes are as stated. -/
theorem with_codes (b5 : Vec Ideal S1x512x3584 .bf16) (b6 : Vec Ideal S1x3584 .f32) (b0 : Vec Ideal S1 .f32) (G : Prop)
    (C0 C1 : Vec Ideal S1x256x3584 .fp8e4m3)
    (hcod0 : ∀ (i : Fin 256) (k : Fin 3584), C0 (ix3 0 i k) = Spec.code (nrm b5 b6 ⟨i.val, by omega⟩ k) (b0 (ix1 0)))
    (hcod1 : ∀ (i : Fin 256) (k : Fin 3584), C1 (ix3 0 i k) = Spec.code (nrm b5 b6 ⟨256 + i.val, by omega⟩ k) (b0 (ix1 0)))
    (hG : G) : G := hG

/-- What the first point's stores begin from is zero. -/
theorem cn_zero (inb) (j : Fin 18) (r : Fin 8) (l : Fin 128) :
    View.canon (Val := Elt Ideal) (s := S18x8x128) (e := .f32) [⟨Rect.unit ![0, 0, 0] ![18, 8, 128] inb, k0_pay25 (F := Ideal)⟩] (ix3 j r l) = (0 : EReal) := by
  have hc : ix3 j r l ∈ (Rect.unit (s := S18x8x128) ![0, 0, 0] ![18, 8, 128] inb).set := by
    rw [Rect.mem_set_unit]
    intro a
    fin_cases a
    · exact ⟨Nat.zero_le _, by show j.val < 0 + 18; omega⟩
    · exact ⟨Nat.zero_le _, by show r.val < 0 + 8; omega⟩
    · exact ⟨Nat.zero_le _, by show l.val < 0 + 128; omega⟩
  canon_tiles x h using ⟨_, List.mem_cons_self, hc⟩
  pointwise [k0_pay25]

set_option maxHeartbeats 4000000 in
/-- The heads' running maxima after a point of case A. -/
theorem hstepA (c : Dev nD) (t : Fin cfg0.N) (h0 : t.val % 30 = 0) (h1 : ¬t.val % 30 = 29) (j : Fin 18) (r : Fin 8) (l : Fin 128) :
    (outsAt0 m c t.val t.isLt).2.2.2.2.2.2.2.2.2 (ix3 j r l) = aft (iblk m c 5 t) (iblk m c 6 t) (iblk m c 0 t) (iblk m c 1 t) (iblk m c 11 t) (iblk m c 7 t) (iblk m c 8 t) (iblk m c 9 t) (iblk m c 10 t) 512 (fun _ => 0) r l j := by
  rw [outsAt0_A m c t h0 h1]
  frame_out
  simp only [up0_0, up0_1, up0_2, up0_3, up0_4, up0_5, up0_6, up0_7, up0_8, up0_9, up0_10, up0_11, up0_12, up0_13, up0_14, up0_15, up0_16, up0_17, up1_0, up1_1, up1_2, up1_3, up1_4, up1_5, up1_6, up1_7, up1_8, up1_9, up1_10, up1_11, up1_12, up1_13, up1_14, up1_15, up1_16, up1_17, (Memref.isWhole_whole _).read_unread]
  apply with_codes (iblk m c 5 t) (iblk m c 6 t) (iblk m c 0 t)
  case hG =>
    refine cn_cons 17 (by decide) _ _ _ _ _ _ _ ?_ fun n17 => ?_
    · refine hd1_17 _ _ _ _ _ _ _ _ _ _ _ (ld_s _ _) (ld_s _ _) _ _ _ r l ?hcod1 ?_
      refine cov_at _ 17 (by decide) _ r l _ ?_
      iterate 17 refine cn_skip _ (by decide) _ _ _ _ r l _ (by decide) ?_
      refine cn_hit 17 (by decide) _ _ _ r l _ ?_
      refine hd0_17 _ _ _ _ _ _ _ _ _ _ _ (ld_s _ _) (ld_s _ _) _ _ _ r l ?hcod0 ?_
      refine cov_at _ 17 (by decide) _ r l _ ?_
      iterate 17 refine cn_skip _ (by decide) _ _ _ _ r l _ (by decide) ?_
      exact cn_zero _ _ r l
    refine cn_cons 16 (by decide) _ _ _ _ _ _ _ ?_ fun n16 => ?_
    · refine hd1_16 _ _ _ _ _ _ _ _ _ _ _ (ld_s _ _) (ld_s _ _) _ _ _ r l ?hcod1 ?_
      refine cov_at _ 16 (by decide) _ r l _ ?_
      iterate 17 refine cn_skip _ (by decide) _ _ _ _ r l _ (by decide) ?_
      refine cn_hit 16 (by decide) _ _ _ r l _ ?_
      refine hd0_16 _ _ _ _ _ _ _ _ _ _ _ (ld_s _ _) (ld_s _ _) _ _ _ r l ?hcod0 ?_
      refine cov_at _ 16 (by decide) _ r l _ ?_
      iterate 16 refine cn_skip _ (by decide) _ _ _ _ r l _ (by decide) ?_
      exact cn_zero _ _ r l
    refine cn_cons 15 (by decide) _ _ _ _ _ _ _ ?_ fun n15 => ?_
    · refine hd1_15 _ _ _ _ _ _ _ _ _ _ _ (ld_s _ _) (ld_s _ _) _ _ _ r l ?hcod1 ?_
      refine cov_at _ 15 (by decide) _ r l _ ?_
      iterate 17 refine cn_skip _ (by decide) _ _ _ _ r l _ (by decide) ?_
      refine cn_hit 15 (by decide) _ _ _ r l _ ?_
      refine hd0_15 _ _ _ _ _ _ _ _ _ _ _ (ld_s _ _) (ld_s _ _) _ _ _ r l ?hcod0 ?_
      refine cov_at _ 15 (by decide) _ r l _ ?_
      iterate 15 refine cn_skip _ (by decide) _ _ _ _ r l _ (by decide) ?_
      exact cn_zero _ _ r l
    refine cn_cons 14 (by decide) _ _ _ _ _ _ _ ?_ fun n14 => ?_
    · refine hd1_14 _ _ _ _ _ _ _ _ _ _ _ (ld_s _ _) (ld_s _ _) _ _ _ r l ?hcod1 ?_
      refine cov_at _ 14 (by decide) _ r l _ ?_
      iterate 17 refine cn_skip _ (by decide) _ _ _ _ r l _ (by decide) ?_
      refine cn_hit 14 (by decide) _ _ _ r l _ ?_
      refine hd0_14 _ _ _ _ _ _ _ _ _ _ _ (ld_s _ _) (ld_s _ _) _ _ _ r l ?hcod0 ?_
      refine cov_at _ 14 (by decide) _ r l _ ?_
      iterate 14 refine cn_skip _ (by decide) _ _ _ _ r l _ (by decide) ?_
      exact cn_zero _ _ r l
    refine cn_cons 13 (by decide) _ _ _ _ _ _ _ ?_ fun n13 => ?_
    · refine hd1_13 _ _ _ _ _ _ _ _ _ _ _ (ld_s _ _) (ld_s _ _) _ _ _ r l ?hcod1 ?_
      refine cov_at _ 13 (by decide) _ r l _ ?_
      iterate 17 refine cn_skip _ (by decide) _ _ _ _ r l _ (by decide) ?_
      refine cn_hit 13 (by decide) _ _ _ r l _ ?_
      refine hd0_13 _ _ _ _ _ _ _ _ _ _ _ (ld_s _ _) (ld_s _ _) _ _ _ r l ?hcod0 ?_
      refine cov_at _ 13 (by decide) _ r l _ ?_
      iterate 13 refine cn_skip _ (by decide) _ _ _ _ r l _ (by decide) ?_
      exact cn_zero _ _ r l
    refine cn_cons 12 (by decide) _ _ _ _ _ _ _ ?_ fun n12 => ?_
    · refine hd1_12 _ _ _ _ _ _ _ _ _ _ _ (ld_s _ _) (ld_s _ _) _ _ _ r l ?hcod1 ?_
      refine cov_at _ 12 (by decide) _ r l _ ?_
      iterate 17 refine cn_skip _ (by decide) _ _ _ _ r l _ (by decide) ?_
      refine cn_hit 12 (by decide) _ _ _ r l _ ?_
      refine hd0_12 _ _ _ _ _ _ _ _ _ _ _ (ld_s _ _) (ld_s _ _) _ _ _ r l ?hcod0 ?_
      refine cov_at _ 12 (by decide) _ r l _ ?_
      iterate 12 refine cn_skip _ (by decide) _ _ _ _ r l _ (by decide) ?_
      exact cn_zero _ _ r l
    refine cn_cons 11 (by decide) _ _ _ _ _ _ _ ?_ fun n11 => ?_
    · refine hd1_11 _ _ _ _ _ _ _ _ _ _ _ (ld_s _ _) (ld_s _ _) _ _ _ r l ?hcod1 ?_
      refine cov_at _ 11 (by decide) _ r l _ ?_
      iterate 17 refine cn_skip _ (by decide) _ _ _ _ r l _ (by decide) ?_
      refine cn_hit 11 (by decide) _ _ _ r l _ ?_
      refine hd0_11 _ _ _ _ _ _ _ _ _ _ _ (ld_s _ _) (ld_s _ _) _ _ _ r l ?hcod0 ?_
      refine cov_at _ 11 (by decide) _ r l _ ?_
      iterate 11 refine cn_skip _ (by decide) _ _ _ _ r l _ (by decide) ?_
      exact cn_zero _ _ r l
    refine cn_cons 10 (by decide) _ _ _ _ _ _ _ ?_ fun n10 => ?_
    · refine hd1_10 _ _ _ _ _ _ _ _ _ _ _ (ld_s _ _) (ld_s _ _) _ _ _ r l ?hcod1 ?_
      refine cov_at _ 10 (by decide) _ r l _ ?_
      iterate 17 refine cn_skip _ (by decide) _ _ _ _ r l _ (by decide) ?_
      refine cn_hit 10 (by decide) _ _ _ r l _ ?_
      refine hd0_10 _ _ _ _ _ _ _ _ _ _ _ (ld_s _ _) (ld_s _ _) _ _ _ r l ?hcod0 ?_
      refine cov_at _ 10 (by decide) _ r l _ ?_
      iterate 10 refine cn_skip _ (by decide) _ _ _ _ r l _ (by decide) ?_
      exact cn_zero _ _ r l
    refine cn_cons 9 (by decide) _ _ _ _ _ _ _ ?_ fun n9 => ?_
    · refine hd1_9 _ _ _ _ _ _ _ _ _ _ _ (ld_s _ _) (ld_s _ _) _ _ _ r l ?hcod1 ?_
      refine cov_at _ 9 (by decide) _ r l _ ?_
      iterate 17 refine cn_skip _ (by decide) _ _ _ _ r l _ (by decide) ?_
      refine cn_hit 9 (by decide) _ _ _ r l _ ?_
      refine hd0_9 _ _ _ _ _ _ _ _ _ _ _ (ld_s _ _) (ld_s _ _) _ _ _ r l ?hcod0 ?_
      refine cov_at _ 9 (by decide) _ r l _ ?_
      iterate 9 refine cn_skip _ (by decide) _ _ _ _ r l _ (by decide) ?_
      exact cn_zero _ _ r l
    refine cn_cons 8 (by decide) _ _ _ _ _ _ _ ?_ fun n8 => ?_
    · refine hd1_8 _ _ _ _ _ _ _ _ _ _ _ (ld_s _ _) (ld_s _ _) _ _ _ r l ?hcod1 ?_
      refine cov_at _ 8 (by decide) _ r l _ ?_
      iterate 17 refine cn_skip _ (by decide) _ _ _ _ r l _ (by decide) ?_
      refine cn_hit 8 (by decide) _ _ _ r l _ ?_
      refine hd0_8 _ _ _ _ _ _ _ _ _ _ _ (ld_s _ _) (ld_s _ _) _ _ _ r l ?hcod0 ?_
      refine cov_at _ 8 (by decide) _ r l _ ?_
      iterate 8 refine cn_skip _ (by decide) _ _ _ _ r l _ (by decide) ?_
      exact cn_zero _ _ r l
    refine cn_cons 7 (by decide) _ _ _ _ _ _ _ ?_ fun n7 => ?_
    · refine hd1_7 _ _ _ _ _ _ _ _ _ _ _ (ld_s _ _) (ld_s _ _) _ _ _ r l ?hcod1 ?_
      refine cov_at _ 7 (by decide) _ r l _ ?_
      iterate 17 refine cn_skip _ (by decide) _ _ _ _ r l _ (by decide) ?_
      refine cn_hit 7 (by decide) _ _ _ r l _ ?_
      refine hd0_7 _ _ _ _ _ _ _ _ _ _ _ (ld_s _ _) (ld_s _ _) _ _ _ r l ?hcod0 ?_
      refine cov_at _ 7 (by decide) _ r l _ ?_
      iterate 7 refine cn_skip _ (by decide) _ _ _ _ r l _ (by decide) ?_
      exact cn_zero _ _ r l
    refine cn_cons 6 (by decide) _ _ _ _ _ _ _ ?_ fun n6 => ?_
    · refine hd1_6 _ _ _ _ _ _ _ _ _ _ _ (ld_s _ _) (ld_s _ _) _ _ _ r l ?hcod1 ?_
      refine cov_at _ 6 (by decide) _ r l _ ?_
      iterate 17 refine cn_skip _ (by decide) _ _ _ _ r l _ (by decide) ?_
      refine cn_hit 6 (by decide) _ _ _ r l _ ?_
      refine hd0_6 _ _ _ _ _ _ _ _ _ _ _ (ld_s _ _) (ld_s _ _) _ _ _ r l ?hcod0 ?_
      refine cov_at _ 6 (by decide) _ r l _ ?_
      iterate 6 refine cn_skip _ (by decide) _ _ _ _ r l _ (by decide) ?_
      exact cn_zero _ _ r l
    refine cn_cons 5 (by decide) _ _ _ _ _ _ _ ?_ fun n5 => ?_
    · refine hd1_5 _ _ _ _ _ _ _ _ _ _ _ (ld_s _ _) (ld_s _ _) _ _ _ r l ?hcod1 ?_
      refine cov_at _ 5 (by decide) _ r l _ ?_
      iterate 17 refine cn_skip _ (by decide) _ _ _ _ r l _ (by decide) ?_
      refine cn_hit 5 (by decide) _ _ _ r l _ ?_
      refine hd0_5 _ _ _ _ _ _ _ _ _ _ _ (ld_s _ _) (ld_s _ _) _ _ _ r l ?hcod0 ?_
      refine cov_at _ 5 (by decide) _ r l _ ?_
      iterate 5 refine cn_skip _ (by decide) _ _ _ _ r l _ (by decide) ?_
      exact cn_zero _ _ r l
    refine cn_cons 4 (by decide) _ _ _ _ _ _ _ ?_ fun n4 => ?_
    · refine hd1_4 _ _ _ _ _ _ _ _ _ _ _ (ld_s _ _) (ld_s _ _) _ _ _ r l ?hcod1 ?_
      refine cov_at _ 4 (by decide) _ r l _ ?_
      iterate 17 refine cn_skip _ (by decide) _ _ _ _ r l _ (by decide) ?_
      refine cn_hit 4 (by decide) _ _ _ r l _ ?_
      refine hd0_4 _ _ _ _ _ _ _ _ _ _ _ (ld_s _ _) (ld_s _ _) _ _ _ r l ?hcod0 ?_
      refine cov_at _ 4 (by decide) _ r l _ ?_
      iterate 4 refine cn_skip _ (by decide) _ _ _ _ r l _ (by decide) ?_
      exact cn_zero _ _ r l
    refine cn_cons 3 (by decide) _ _ _ _ _ _ _ ?_ fun n3 => ?_
    · refine hd1_3 _ _ _ _ _ _ _ _ _ _ _ (ld_s _ _) (ld_s _ _) _ _ _ r l ?hcod1 ?_
      refine cov_at _ 3 (by decide) _ r l _ ?_
      iterate 17 refine cn_skip _ (by decide) _ _ _ _ r l _ (by decide) ?_
      refine cn_hit 3 (by decide) _ _ _ r l _ ?_
      refine hd0_3 _ _ _ _ _ _ _ _ _ _ _ (ld_s _ _) (ld_s _ _) _ _ _ r l ?hcod0 ?_
      refine cov_at _ 3 (by decide) _ r l _ ?_
      iterate 3 refine cn_skip _ (by decide) _ _ _ _ r l _ (by decide) ?_
      exact cn_zero _ _ r l
    refine cn_cons 2 (by decide) _ _ _ _ _ _ _ ?_ fun n2 => ?_
    · refine hd1_2 _ _ _ _ _ _ _ _ _ _ _ (ld_s _ _) (ld_s _ _) _ _ _ r l ?hcod1 ?_
      refine cov_at _ 2 (by decide) _ r l _ ?_
      iterate 17 refine cn_skip _ (by decide) _ _ _ _ r l _ (by decide) ?_
      refine cn_hit 2 (by decide) _ _ _ r l _ ?_
      refine hd0_2 _ _ _ _ _ _ _ _ _ _ _ (ld_s _ _) (ld_s _ _) _ _ _ r l ?hcod0 ?_
      refine cov_at _ 2 (by decide) _ r l _ ?_
      iterate 2 refine cn_skip _ (by decide) _ _ _ _ r l _ (by decide) ?_
      exact cn_zero _ _ r l
    refine cn_cons 1 (by decide) _ _ _ _ _ _ _ ?_ fun n1 => ?_
    · refine hd1_1 _ _ _ _ _ _ _ _ _ _ _ (ld_s _ _) (ld_s _ _) _ _ _ r l ?hcod1 ?_
      refine cov_at _ 1 (by decide) _ r l _ ?_
      iterate 17 refine cn_skip _ (by decide) _ _ _ _ r l _ (by decide) ?_
      refine cn_hit 1 (by decide) _ _ _ r l _ ?_
      refine hd0_1 _ _ _ _ _ _ _ _ _ _ _ (ld_s _ _) (ld_s _ _) _ _ _ r l ?hcod0 ?_
      refine cov_at _ 1 (by decide) _ r l _ ?_
      iterate 1 refine cn_skip _ (by decide) _ _ _ _ r l _ (by decide) ?_
      exact cn_zero _ _ r l
    refine cn_cons 0 (by decide) _ _ _ _ _ _ _ ?_ fun n0 => ?_
    · refine hd1_0 _ _ _ _ _ _ _ _ _ _ _ (ld_s _ _) (ld_s _ _) _ _ _ r l ?hcod1 ?_
      refine cov_at _ 0 (by decide) _ r l _ ?_
      iterate 17 refine cn_skip _ (by decide) _ _ _ _ r l _ (by decide) ?_
      refine cn_hit 0 (by decide) _ _ _ r l _ ?_
      refine hd0_0 _ _ _ _ _ _ _ _ _ _ _ (ld_s _ _) (ld_s _ _) _ _ _ r l ?hcod0 ?_
      refine cov_at _ 0 (by decide) _ r l _ ?_
      exact cn_zero _ _ r l
    exfalso; omega
  case hcod1 =>
    generalize (iblk m c 0 t : Vec Ideal S1 .f32) = b0
    generalize (iblk m c 5 t : Vec Ideal S1x512x3584 .bf16) = b5
    generalize (iblk m c 6 t : Vec Ideal S1x3584 .f32) = b6
    intro i k
    rw [View.readCov_eq_canon']
    obtain ⟨y, hy⟩ : ∃ y : S1x512x3584.Idx, y = (Rect.unit ![0, 256, 0] ![1, 256, 3584] inb_S1x512x3584_S1x256x3584_0_256_0).idx (ix3 0 i k) := ⟨_, rfl⟩
    beta_reduce
    rw [← hy]
    have e0 : (y 0).val = 0 := by rw [hy]; rfl
    have e1 : (y 1).val = 256 + i.val := by rw [hy]; show 256 + 1 * i.val = _; omega
    have e2 : (y 2).val = k.val := by rw [hy]; show 0 + 1 * k.val = _; omega
    clear hy
    obtain rfl : y 2 = k := Fin.ext e2
    rw [show (⟨256 + i.val, by omega⟩ : Fin 512) = y 1 from Fin.ext (by simp only []; omega)]
    clear e1
    canon_tiles x h
    all_goals
      open_payloads
      idx_vars x
      pointwise [nrm, Spec.code, Spec.rms]
      obtain rfl : x2 = y 2 := Fin.ext h2.symm
      simp only [← h1]
      rfl
  case hcod0 =>
    generalize (iblk m c 0 t : Vec Ideal S1 .f32) = b0
    generalize (iblk m c 5 t : Vec Ideal S1x512x3584 .bf16) = b5
    generalize (iblk m c 6 t : Vec Ideal S1x3584 .f32) = b6
    intro i k
    rw [View.readCov_eq_canon']
    obtain ⟨y, hy⟩ : ∃ y : S1x512x3584.Idx, y = (Rect.unit ![0, 0, 0] ![1, 256, 3584] inb_S1x512x3584_S1x256x3584_0_0_0).idx (ix3 0 i k) := ⟨_, rfl⟩
    beta_reduce
    rw [← hy]
    have e0 : (y 0).val = 0 := by rw [hy]; rfl
    have e1 : (y 1).val = 0 + i.val := by rw [hy]; show 0 + 1 * i.val = _; omega
    have e2 : (y 2).val = k.val := by rw [hy]; show 0 + 1 * k.val = _; omega
    clear hy
    obtain rfl : y 2 = k := Fin.ext e2
    rw [show (⟨i.val, by omega⟩ : Fin 512) = y 1 from Fin.ext (by simp only []; omega)]
    skip
    canon_tiles x h using (cover8 _ _ _ _ _ _ _ _ y (by omega))
    all_goals
      open_payloads
      idx_vars x
      pointwise [nrm, Spec.code, Spec.rms]
      obtain rfl : x2 = y 2 := Fin.ext h2.symm
      simp only [← h1]
      rfl

set_option maxHeartbeats 4000000 in
/-- The heads' running maxima after a point of case B. -/
theorem hstepB (c : Dev nD) (t : Fin cfg0.N) (h0 : ¬t.val % 30 = 0) (h1 : ¬t.val % 30 = 29) (j : Fin 18) (r : Fin 8) (l : Fin 128) :
    (outsAt0 m c t.val t.isLt).2.2.2.2.2.2.2.2.2 (ix3 j r l) = aft (iblk m c 5 t) (iblk m c 6 t) (iblk m c 0 t) (iblk m c 1 t) (iblk m c 11 t) (iblk m c 7 t) (iblk m c 8 t) (iblk m c 9 t) (iblk m c 10 t) 512 (outsAt0 m c (t.val - 1) (Nat.lt_of_le_of_lt (Nat.sub_le _ _) t.isLt)).2.2.2.2.2.2.2.2.2 r l j := by
  rw [outsAt0_B m c t h0 h1]
  frame_out
  simp only [up0_0, up0_1, up0_2, up0_3, up0_4, up0_5, up0_6, up0_7, up0_8, up0_9, up0_10, up0_11, up0_12, up0_13, up0_14, up0_15, up0_16, up0_17, up1_0, up1_1, up1_2, up1_3, up1_4, up1_5, up1_6, up1_7, up1_8, up1_9, up1_10, up1_11, up1_12, up1_13, up1_14, up1_15, up1_16, up1_17, (Memref.isWhole_whole _).read_unread]
  apply with_codes (iblk m c 5 t) (iblk m c 6 t) (iblk m c 0 t)
  case hG =>
    refine cn_cons 17 (by decide) _ _ _ _ _ _ _ ?_ fun n17 => ?_
    · refine hd1_17 _ _ _ _ _ _ _ _ _ _ _ (ld_s _ _) (ld_s _ _) _ _ _ r l ?hcod1 ?_
      refine cov_at _ 17 (by decide) _ r l _ ?_
      iterate 17 refine cn_skip _ (by decide) _ _ _ _ r l _ (by decide) ?_
      refine cn_hit 17 (by decide) _ _ _ r l _ ?_
      refine hd0_17 _ _ _ _ _ _ _ _ _ _ _ (ld_s _ _) (ld_s _ _) _ _ _ r l ?hcod0 ?_
      exact old_at _ 17 (by decide) _ r l
    refine cn_cons 16 (by decide) _ _ _ _ _ _ _ ?_ fun n16 => ?_
    · refine hd1_16 _ _ _ _ _ _ _ _ _ _ _ (ld_s _ _) (ld_s _ _) _ _ _ r l ?hcod1 ?_
      refine cov_at _ 16 (by decide) _ r l _ ?_
      iterate 17 refine cn_skip _ (by decide) _ _ _ _ r l _ (by decide) ?_
      refine cn_hit 16 (by decide) _ _ _ r l _ ?_
      refine hd0_16 _ _ _ _ _ _ _ _ _ _ _ (ld_s _ _) (ld_s _ _) _ _ _ r l ?hcod0 ?_
      exact old_at _ 16 (by decide) _ r l
    refine cn_cons 15 (by decide) _ _ _ _ _ _ _ ?_ fun n15 => ?_
    · refine hd1_15 _ _ _ _ _ _ _ _ _ _ _ (ld_s _ _) (ld_s _ _) _ _ _ r l ?hcod1 ?_
      refine cov_at _ 15 (by decide) _ r l _ ?_
      iterate 17 refine cn_skip _ (by decide) _ _ _ _ r l _ (by decide) ?_
      refine cn_hit 15 (by decide) _ _ _ r l _ ?_
      refine hd0_15 _ _ _ _ _ _ _ _ _ _ _ (ld_s _ _) (ld_s _ _) _ _ _ r l ?hcod0 ?_
      exact old_at _ 15 (by decide) _ r l
    refine cn_cons 14 (by decide) _ _ _ _ _ _ _ ?_ fun n14 => ?_
    · refine hd1_14 _ _ _ _ _ _ _ _ _ _ _ (ld_s _ _) (ld_s _ _) _ _ _ r l ?hcod1 ?_
      refine cov_at _ 14 (by decide) _ r l _ ?_
      iterate 17 refine cn_skip _ (by decide) _ _ _ _ r l _ (by decide) ?_
      refine cn_hit 14 (by decide) _ _ _ r l _ ?_
      refine hd0_14 _ _ _ _ _ _ _ _ _ _ _ (ld_s _ _) (ld_s _ _) _ _ _ r l ?hcod0 ?_
      exact old_at _ 14 (by decide) _ r l
    refine cn_cons 13 (by decide) _ _ _ _ _ _ _ ?_ fun n13 => ?_
    · refine hd1_13 _ _ _ _ _ _ _ _ _ _ _ (ld_s _ _) (ld_s _ _) _ _ _ r l ?hcod1 ?_
      refine cov_at _ 13 (by decide) _ r l _ ?_
      iterate 17 refine cn_skip _ (by decide) _ _ _ _ r l _ (by decide) ?_
      refine cn_hit 13 (by decide) _ _ _ r l _ ?_
      refine hd0_13 _ _ _ _ _ _ _ _ _ _ _ (ld_s _ _) (ld_s _ _) _ _ _ r l ?hcod0 ?_
      exact old_at _ 13 (by decide) _ r l
    refine cn_cons 12 (by decide) _ _ _ _ _ _ _ ?_ fun n12 => ?_
    · refine hd1_12 _ _ _ _ _ _ _ _ _ _ _ (ld_s _ _) (ld_s _ _) _ _ _ r l ?hcod1 ?_
      refine cov_at _ 12 (by decide) _ r l _ ?_
      iterate 17 refine cn_skip _ (by decide) _ _ _ _ r l _ (by decide) ?_
      refine cn_hit 12 (by decide) _ _ _ r l _ ?_
      refine hd0_12 _ _ _ _ _ _ _ _ _ _ _ (ld_s _ _) (ld_s _ _) _ _ _ r l ?hcod0 ?_
      exact old_at _ 12 (by decide) _ r l
    refine cn_cons 11 (by decide) _ _ _ _ _ _ _ ?_ fun n11 => ?_
    · refine hd1_11 _ _ _ _ _ _ _ _ _ _ _ (ld_s _ _) (ld_s _ _) _ _ _ r l ?hcod1 ?_
      refine cov_at _ 11 (by decide) _ r l _ ?_
      iterate 17 refine cn_skip _ (by decide) _ _ _ _ r l _ (by decide) ?_
      refine cn_hit 11 (by decide) _ _ _ r l _ ?_
      refine hd0_11 _ _ _ _ _ _ _ _ _ _ _ (ld_s _ _) (ld_s _ _) _ _ _ r l ?hcod0 ?_
      exact old_at _ 11 (by decide) _ r l
    refine cn_cons 10 (by decide) _ _ _ _ _ _ _ ?_ fun n10 => ?_
    · refine hd1_10 _ _ _ _ _ _ _ _ _ _ _ (ld_s _ _) (ld_s _ _) _ _ _ r l ?hcod1 ?_
      refine cov_at _ 10 (by decide) _ r l _ ?_
      iterate 17 refine cn_skip _ (by decide) _ _ _ _ r l _ (by decide) ?_
      refine cn_hit 10 (by decide) _ _ _ r l _ ?_
      refine hd0_10 _ _ _ _ _ _ _ _ _ _ _ (ld_s _ _) (ld_s _ _) _ _ _ r l ?hcod0 ?_
      exact old_at _ 10 (by decide) _ r l
    refine cn_cons 9 (by decide) _ _ _ _ _ _ _ ?_ fun n9 => ?_
    · refine hd1_9 _ _ _ _ _ _ _ _ _ _ _ (ld_s _ _) (ld_s _ _) _ _ _ r l ?hcod1 ?_
      refine cov_at _ 9 (by decide) _ r l _ ?_
      iterate 17 refine cn_skip _ (by decide) _ _ _ _ r l _ (by decide) ?_
      refine cn_hit 9 (by decide) _ _ _ r l _ ?_
      refine hd0_9 _ _ _ _ _ _ _ _ _ _ _ (ld_s _ _) (ld_s _ _) _ _ _ r l ?hcod0 ?_
      exact old_at _ 9 (by decide) _ r l
    refine cn_cons 8 (by decide) _ _ _ _ _ _ _ ?_ fun n8 => ?_
    · refine hd1_8 _ _ _ _ _ _ _ _ _ _ _ (ld_s _ _) (ld_s _ _) _ _ _ r l ?hcod1 ?_
      refine cov_at _ 8 (by decide) _ r l _ ?_
      iterate 17 refine cn_skip _ (by decide) _ _ _ _ r l _ (by decide) ?_
      refine cn_hit 8 (by decide) _ _ _ r l _ ?_
      refine hd0_8 _ _ _ _ _ _ _ _ _ _ _ (ld_s _ _) (ld_s _ _) _ _ _ r l ?hcod0 ?_
      exact old_at _ 8 (by decide) _ r l
    refine cn_cons 7 (by decide) _ _ _ _ _ _ _ ?_ fun n7 => ?_
    · refine hd1_7 _ _ _ _ _ _ _ _ _ _ _ (ld_s _ _) (ld_s _ _) _ _ _ r l ?hcod1 ?_
      refine cov_at _ 7 (by decide) _ r l _ ?_
      iterate 17 refine cn_skip _ (by decide) _ _ _ _ r l _ (by decide) ?_
      refine cn_hit 7 (by decide) _ _ _ r l _ ?_
      refine hd0_7 _ _ _ _ _ _ _ _ _ _ _ (ld_s _ _) (ld_s _ _) _ _ _ r l ?hcod0 ?_
      exact old_at _ 7 (by decide) _ r l
    refine cn_cons 6 (by decide) _ _ _ _ _ _ _ ?_ fun n6 => ?_
    · refine hd1_6 _ _ _ _ _ _ _ _ _ _ _ (ld_s _ _) (ld_s _ _) _ _ _ r l ?hcod1 ?_
      refine cov_at _ 6 (by decide) _ r l _ ?_
      iterate 17 refine cn_skip _ (by decide) _ _ _ _ r l _ (by decide) ?_
      refine cn_hit 6 (by decide) _ _ _ r l _ ?_
      refine hd0_6 _ _ _ _ _ _ _ _ _ _ _ (ld_s _ _) (ld_s _ _) _ _ _ r l ?hcod0 ?_
      exact old_at _ 6 (by decide) _ r l
    refine cn_cons 5 (by decide) _ _ _ _ _ _ _ ?_ fun n5 => ?_
    · refine hd1_5 _ _ _ _ _ _ _ _ _ _ _ (ld_s _ _) (ld_s _ _) _ _ _ r l ?hcod1 ?_
      refine cov_at _ 5 (by decide) _ r l _ ?_
      iterate 17 refine cn_skip _ (by decide) _ _ _ _ r l _ (by decide) ?_
      refine cn_hit 5 (by decide) _ _ _ r l _ ?_
      refine hd0_5 _ _ _ _ _ _ _ _ _ _ _ (ld_s _ _) (ld_s _ _) _ _ _ r l ?hcod0 ?_
      exact old_at _ 5 (by decide) _ r l
    refine cn_cons 4 (by decide) _ _ _ _ _ _ _ ?_ fun n4 => ?_
    · refine hd1_4 _ _ _ _ _ _ _ _ _ _ _ (ld_s _ _) (ld_s _ _) _ _ _ r l ?hcod1 ?_
      refine cov_at _ 4 (by decide) _ r l _ ?_
      iterate 17 refine cn_skip _ (by decide) _ _ _ _ r l _ (by decide) ?_
      refine cn_hit 4 (by decide) _ _ _ r l _ ?_
      refine hd0_4 _ _ _ _ _ _ _ _ _ _ _ (ld_s _ _) (ld_s _ _) _ _ _ r l ?hcod0 ?_
      exact old_at _ 4 (by decide) _ r l
    refine cn_cons 3 (by decide) _ _ _ _ _ _ _ ?_ fun n3 => ?_
    · refine hd1_3 _ _ _ _ _ _ _ _ _ _ _ (ld_s _ _) (ld_s _ _) _ _ _ r l ?hcod1 ?_
      refine cov_at _ 3 (by decide) _ r l _ ?_
      iterate 17 refine cn_skip _ (by decide) _ _ _ _ r l _ (by decide) ?_
      refine cn_hit 3 (by decide) _ _ _ r l _ ?_
      refine hd0_3 _ _ _ _ _ _ _ _ _ _ _ (ld_s _ _) (ld_s _ _) _ _ _ r l ?hcod0 ?_
      exact old_at _ 3 (by decide) _ r l
    refine cn_cons 2 (by decide) _ _ _ _ _ _ _ ?_ fun n2 => ?_
    · refine hd1_2 _ _ _ _ _ _ _ _ _ _ _ (ld_s _ _) (ld_s _ _) _ _ _ r l ?hcod1 ?_
      refine cov_at _ 2 (by decide) _ r l _ ?_
      iterate 17 refine cn_skip _ (by decide) _ _ _ _ r l _ (by decide) ?_
      refine cn_hit 2 (by decide) _ _ _ r l _ ?_
      refine hd0_2 _ _ _ _ _ _ _ _ _ _ _ (ld_s _ _) (ld_s _ _) _ _ _ r l ?hcod0 ?_
      exact old_at _ 2 (by decide) _ r l
    refine cn_cons 1 (by decide) _ _ _ _ _ _ _ ?_ fun n1 => ?_
    · refine hd1_1 _ _ _ _ _ _ _ _ _ _ _ (ld_s _ _) (ld_s _ _) _ _ _ r l ?hcod1 ?_
      refine cov_at _ 1 (by decide) _ r l _ ?_
      iterate 17 refine cn_skip _ (by decide) _ _ _ _ r l _ (by decide) ?_
      refine cn_hit 1 (by decide) _ _ _ r l _ ?_
      refine hd0_1 _ _ _ _ _ _ _ _ _ _ _ (ld_s _ _) (ld_s _ _) _ _ _ r l ?hcod0 ?_
      exact old_at _ 1 (by decide) _ r l
    refine cn_cons 0 (by decide) _ _ _ _ _ _ _ ?_ fun n0 => ?_
    · refine hd1_0 _ _ _ _ _ _ _ _ _ _ _ (ld_s _ _) (ld_s _ _) _ _ _ r l ?hcod1 ?_
      refine cov_at _ 0 (by decide) _ r l _ ?_
      iterate 17 refine cn_skip _ (by decide) _ _ _ _ r l _ (by decide) ?_
      refine cn_hit 0 (by decide) _ _ _ r l _ ?_
      refine hd0_0 _ _ _ _ _ _ _ _ _ _ _ (ld_s _ _) (ld_s _ _) _ _ _ r l ?hcod0 ?_
      exact old_at _ 0 (by decide) _ r l
    exfalso; omega
  case hcod1 =>
    generalize (iblk m c 0 t : Vec Ideal S1 .f32) = b0
    generalize (iblk m c 5 t : Vec Ideal S1x512x3584 .bf16) = b5
    generalize (iblk m c 6 t : Vec Ideal S1x3584 .f32) = b6
    intro i k
    rw [View.readCov_eq_canon']
    obtain ⟨y, hy⟩ : ∃ y : S1x512x3584.Idx, y = (Rect.unit ![0, 256, 0] ![1, 256, 3584] inb_S1x512x3584_S1x256x3584_0_256_0).idx (ix3 0 i k) := ⟨_, rfl⟩
    beta_reduce
    rw [← hy]
    have e0 : (y 0).val = 0 := by rw [hy]; rfl
    have e1 : (y 1).val = 256 + i.val := by rw [hy]; show 256 + 1 * i.val = _; omega
    have e2 : (y 2).val = k.val := by rw [hy]; show 0 + 1 * k.val = _; omega
    clear hy
    obtain rfl : y 2 = k := Fin.ext e2
    rw [show (⟨256 + i.val, by omega⟩ : Fin 512) = y 1 from Fin.ext (by simp only []; omega)]
    clear e1
    canon_tiles x h
    all_goals
      open_payloads
      idx_vars x
      pointwise [nrm, Spec.code, Spec.rms]
      obtain rfl : x2 = y 2 := Fin.ext h2.symm
      simp only [← h1]
      rfl
  case hcod0 =>
    generalize (iblk m c 0 t : Vec Ideal S1 .f32) = b0
    generalize (iblk m c 5 t : Vec Ideal S1x512x3584 .bf16) = b5
    generalize (iblk m c 6 t : Vec Ideal S1x3584 .f32) = b6
    intro i k
    rw [View.readCov_eq_canon']
    obtain ⟨y, hy⟩ : ∃ y : S1x512x3584.Idx, y = (Rect.unit ![0, 0, 0] ![1, 256, 3584] inb_S1x512x3584_S1x256x3584_0_0_0).idx (ix3 0 i k) := ⟨_, rfl⟩
    beta_reduce
    rw [← hy]
    have e0 : (y 0).val = 0 := by rw [hy]; rfl
    have e1 : (y 1).val = 0 + i.val := by rw [hy]; show 0 + 1 * i.val = _; omega
    have e2 : (y 2).val = k.val := by rw [hy]; show 0 + 1 * k.val = _; omega
    clear hy
    obtain rfl : y 2 = k := Fin.ext e2
    rw [show (⟨i.val, by omega⟩ : Fin 512) = y 1 from Fin.ext (by simp only []; omega)]
    skip
    canon_tiles x h using (cover8 _ _ _ _ _ _ _ _ y (by omega))
    all_goals
      open_payloads
      idx_vars x
      pointwise [nrm, Spec.code, Spec.rms]
      obtain rfl : x2 = y 2 := Fin.ext h2.symm
      simp only [← h1]
      rfl

set_option maxHeartbeats 4000000 in
/-- The heads' running maxima after a point of case C. -/
theorem hstepC (c : Dev nD) (t : Fin cfg0.N) (h0 : ¬t.val % 30 = 0) (h1 : t.val % 30 = 29) (j : Fin 18) (r : Fin 8) (l : Fin 128) :
    (outsAt0 m c t.val t.isLt).2.2.2.2.2.2.2.2.2 (ix3 j r l) = aft (iblk m c 5 t) (iblk m c 6 t) (iblk m c 0 t) (iblk m c 1 t) (iblk m c 11 t) (iblk m c 7 t) (iblk m c 8 t) (iblk m c 9 t) (iblk m c 10 t) 512 (outsAt0 m c (t.val - 1) (Nat.lt_of_le_of_lt (Nat.sub_le _ _) t.isLt)).2.2.2.2.2.2.2.2.2 r l j := by
  rw [outsAt0_C m c t h0 h1]
  frame_out
  simp only [up0_0, up0_1, up0_2, up0_3, up0_4, up0_5, up0_6, up0_7, up0_8, up0_9, up0_10, up0_11, up0_12, up0_13, up0_14, up0_15, up0_16, up0_17, up1_0, up1_1, up1_2, up1_3, up1_4, up1_5, up1_6, up1_7, up1_8, up1_9, up1_10, up1_11, up1_12, up1_13, up1_14, up1_15, up1_16, up1_17, (Memref.isWhole_whole _).read_unread]
  apply with_codes (iblk m c 5 t) (iblk m c 6 t) (iblk m c 0 t)
  case hG =>
    refine cn_cons 17 (by decide) _ _ _ _ _ _ _ ?_ fun n17 => ?_
    · refine hd1_17 _ _ _ _ _ _ _ _ _ _ _ (ld_s _ _) (ld_s _ _) _ _ _ r l ?hcod1 ?_
      refine cov_at _ 17 (by decide) _ r l _ ?_
      iterate 17 refine cn_skip _ (by decide) _ _ _ _ r l _ (by decide) ?_
      refine cn_hit 17 (by decide) _ _ _ r l _ ?_
      refine hd0_17 _ _ _ _ _ _ _ _ _ _ _ (ld_s _ _) (ld_s _ _) _ _ _ r l ?hcod0 ?_
      exact old_at _ 17 (by decide) _ r l
    refine cn_cons 16 (by decide) _ _ _ _ _ _ _ ?_ fun n16 => ?_
    · refine hd1_16 _ _ _ _ _ _ _ _ _ _ _ (ld_s _ _) (ld_s _ _) _ _ _ r l ?hcod1 ?_
      refine cov_at _ 16 (by decide) _ r l _ ?_
      iterate 17 refine cn_skip _ (by decide) _ _ _ _ r l _ (by decide) ?_
      refine cn_hit 16 (by decide) _ _ _ r l _ ?_
      refine hd0_16 _ _ _ _ _ _ _ _ _ _ _ (ld_s _ _) (ld_s _ _) _ _ _ r l ?hcod0 ?_
      exact old_at _ 16 (by decide) _ r l
    refine cn_cons 15 (by decide) _ _ _ _ _ _ _ ?_ fun n15 => ?_
    · refine hd1_15 _ _ _ _ _ _ _ _ _ _ _ (ld_s _ _) (ld_s _ _) _ _ _ r l ?hcod1 ?_
      refine cov_at _ 15 (by decide) _ r l _ ?_
      iterate 17 refine cn_skip _ (by decide) _ _ _ _ r l _ (by decide) ?_
      refine cn_hit 15 (by decide) _ _ _ r l _ ?_
      refine hd0_15 _ _ _ _ _ _ _ _ _ _ _ (ld_s _ _) (ld_s _ _) _ _ _ r l ?hcod0 ?_
      exact old_at _ 15 (by decide) _ r l
    refine cn_cons 14 (by decide) _ _ _ _ _ _ _ ?_ fun n14 => ?_
    · refine hd1_14 _ _ _ _ _ _ _ _ _ _ _ (ld_s _ _) (ld_s _ _) _ _ _ r l ?hcod1 ?_
      refine cov_at _ 14 (by decide) _ r l _ ?_
      iterate 17 refine cn_skip _ (by decide) _ _ _ _ r l _ (by decide) ?_
      refine cn_hit 14 (by decide) _ _ _ r l _ ?_
      refine hd0_14 _ _ _ _ _ _ _ _ _ _ _ (ld_s _ _) (ld_s _ _) _ _ _ r l ?hcod0 ?_
      exact old_at _ 14 (by decide) _ r l
    refine cn_cons 13 (by decide) _ _ _ _ _ _ _ ?_ fun n13 => ?_
    · refine hd1_13 _ _ _ _ _ _ _ _ _ _ _ (ld_s _ _) (ld_s _ _) _ _ _ r l ?hcod1 ?_
      refine cov_at _ 13 (by decide) _ r l _ ?_
      iterate 17 refine cn_skip _ (by decide) _ _ _ _ r l _ (by decide) ?_
      refine cn_hit 13 (by decide) _ _ _ r l _ ?_
      refine hd0_13 _ _ _ _ _ _ _ _ _ _ _ (ld_s _ _) (ld_s _ _) _ _ _ r l ?hcod0 ?_
      exact old_at _ 13 (by decide) _ r l
    refine cn_cons 12 (by decide) _ _ _ _ _ _ _ ?_ fun n12 => ?_
    · refine hd1_12 _ _ _ _ _ _ _ _ _ _ _ (ld_s _ _) (ld_s _ _) _ _ _ r l ?hcod1 ?_
      refine cov_at _ 12 (by decide) _ r l _ ?_
      iterate 17 refine cn_skip _ (by decide) _ _ _ _ r l _ (by decide) ?_
      refine cn_hit 12 (by decide) _ _ _ r l _ ?_
      refine hd0_12 _ _ _ _ _ _ _ _ _ _ _ (ld_s _ _) (ld_s _ _) _ _ _ r l ?hcod0 ?_
      exact old_at _ 12 (by decide) _ r l
    refine cn_cons 11 (by decide) _ _ _ _ _ _ _ ?_ fun n11 => ?_
    · refine hd1_11 _ _ _ _ _ _ _ _ _ _ _ (ld_s _ _) (ld_s _ _) _ _ _ r l ?hcod1 ?_
      refine cov_at _ 11 (by decide) _ r l _ ?_
      iterate 17 refine cn_skip _ (by decide) _ _ _ _ r l _ (by decide) ?_
      refine cn_hit 11 (by decide) _ _ _ r l _ ?_
      refine hd0_11 _ _ _ _ _ _ _ _ _ _ _ (ld_s _ _) (ld_s _ _) _ _ _ r l ?hcod0 ?_
      exact old_at _ 11 (by decide) _ r l
    refine cn_cons 10 (by decide) _ _ _ _ _ _ _ ?_ fun n10 => ?_
    · refine hd1_10 _ _ _ _ _ _ _ _ _ _ _ (ld_s _ _) (ld_s _ _) _ _ _ r l ?hcod1 ?_
      refine cov_at _ 10 (by decide) _ r l _ ?_
      iterate 17 refine cn_skip _ (by decide) _ _ _ _ r l _ (by decide) ?_
      refine cn_hit 10 (by decide) _ _ _ r l _ ?_
      refine hd0_10 _ _ _ _ _ _ _ _ _ _ _ (ld_s _ _) (ld_s _ _) _ _ _ r l ?hcod0 ?_
      exact old_at _ 10 (by decide) _ r l
    refine cn_cons 9 (by decide) _ _ _ _ _ _ _ ?_ fun n9 => ?_
    · refine hd1_9 _ _ _ _ _ _ _ _ _ _ _ (ld_s _ _) (ld_s _ _) _ _ _ r l ?hcod1 ?_
      refine cov_at _ 9 (by decide) _ r l _ ?_
      iterate 17 refine cn_skip _ (by decide) _ _ _ _ r l _ (by decide) ?_
      refine cn_hit 9 (by decide) _ _ _ r l _ ?_
      refine hd0_9 _ _ _ _ _ _ _ _ _ _ _ (ld_s _ _) (ld_s _ _) _ _ _ r l ?hcod0 ?_
      exact old_at _ 9 (by decide) _ r l
    refine cn_cons 8 (by decide) _ _ _ _ _ _ _ ?_ fun n8 => ?_
    · refine hd1_8 _ _ _ _ _ _ _ _ _ _ _ (ld_s _ _) (ld_s _ _) _ _ _ r l ?hcod1 ?_
      refine cov_at _ 8 (by decide) _ r l _ ?_
      iterate 17 refine cn_skip _ (by decide) _ _ _ _ r l _ (by decide) ?_
      refine cn_hit 8 (by decide) _ _ _ r l _ ?_
      refine hd0_8 _ _ _ _ _ _ _ _ _ _ _ (ld_s _ _) (ld_s _ _) _ _ _ r l ?hcod0 ?_
      exact old_at _ 8 (by decide) _ r l
    refine cn_cons 7 (by decide) _ _ _ _ _ _ _ ?_ fun n7 => ?_
    · refine hd1_7 _ _ _ _ _ _ _ _ _ _ _ (ld_s _ _) (ld_s _ _) _ _ _ r l ?hcod1 ?_
      refine cov_at _ 7 (by decide) _ r l _ ?_
      iterate 17 refine cn_skip _ (by decide) _ _ _ _ r l _ (by decide) ?_
      refine cn_hit 7 (by decide) _ _ _ r l _ ?_
      refine hd0_7 _ _ _ _ _ _ _ _ _ _ _ (ld_s _ _) (ld_s _ _) _ _ _ r l ?hcod0 ?_
      exact old_at _ 7 (by decide) _ r l
    refine cn_cons 6 (by decide) _ _ _ _ _ _ _ ?_ fun n6 => ?_
    · refine hd1_6 _ _ _ _ _ _ _ _ _ _ _ (ld_s _ _) (ld_s _ _) _ _ _ r l ?hcod1 ?_
      refine cov_at _ 6 (by decide) _ r l _ ?_
      iterate 17 refine cn_skip _ (by decide) _ _ _ _ r l _ (by decide) ?_
      refine cn_hit 6 (by decide) _ _ _ r l _ ?_
      refine hd0_6 _ _ _ _ _ _ _ _ _ _ _ (ld_s _ _) (ld_s _ _) _ _ _ r l ?hcod0 ?_
      exact old_at _ 6 (by decide) _ r l
    refine cn_cons 5 (by decide) _ _ _ _ _ _ _ ?_ fun n5 => ?_
    · refine hd1_5 _ _ _ _ _ _ _ _ _ _ _ (ld_s _ _) (ld_s _ _) _ _ _ r l ?hcod1 ?_
      refine cov_at _ 5 (by decide) _ r l _ ?_
      iterate 17 refine cn_skip _ (by decide) _ _ _ _ r l _ (by decide) ?_
      refine cn_hit 5 (by decide) _ _ _ r l _ ?_
      refine hd0_5 _ _ _ _ _ _ _ _ _ _ _ (ld_s _ _) (ld_s _ _) _ _ _ r l ?hcod0 ?_
      exact old_at _ 5 (by decide) _ r l
    refine cn_cons 4 (by decide) _ _ _ _ _ _ _ ?_ fun n4 => ?_
    · refine hd1_4 _ _ _ _ _ _ _ _ _ _ _ (ld_s _ _) (ld_s _ _) _ _ _ r l ?hcod1 ?_
      refine cov_at _ 4 (by decide) _ r l _ ?_
      iterate 17 refine cn_skip _ (by decide) _ _ _ _ r l _ (by decide) ?_
      refine cn_hit 4 (by decide) _ _ _ r l _ ?_
      refine hd0_4 _ _ _ _ _ _ _ _ _ _ _ (ld_s _ _) (ld_s _ _) _ _ _ r l ?hcod0 ?_
      exact old_at _ 4 (by decide) _ r l
    refine cn_cons 3 (by decide) _ _ _ _ _ _ _ ?_ fun n3 => ?_
    · refine hd1_3 _ _ _ _ _ _ _ _ _ _ _ (ld_s _ _) (ld_s _ _) _ _ _ r l ?hcod1 ?_
      refine cov_at _ 3 (by decide) _ r l _ ?_
      iterate 17 refine cn_skip _ (by decide) _ _ _ _ r l _ (by decide) ?_
      refine cn_hit 3 (by decide) _ _ _ r l _ ?_
      refine hd0_3 _ _ _ _ _ _ _ _ _ _ _ (ld_s _ _) (ld_s _ _) _ _ _ r l ?hcod0 ?_
      exact old_at _ 3 (by decide) _ r l
    refine cn_cons 2 (by decide) _ _ _ _ _ _ _ ?_ fun n2 => ?_
    · refine hd1_2 _ _ _ _ _ _ _ _ _ _ _ (ld_s _ _) (ld_s _ _) _ _ _ r l ?hcod1 ?_
      refine cov_at _ 2 (by decide) _ r l _ ?_
      iterate 17 refine cn_skip _ (by decide) _ _ _ _ r l _ (by decide) ?_
      refine cn_hit 2 (by decide) _ _ _ r l _ ?_
      refine hd0_2 _ _ _ _ _ _ _ _ _ _ _ (ld_s _ _) (ld_s _ _) _ _ _ r l ?hcod0 ?_
      exact old_at _ 2 (by decide) _ r l
    refine cn_cons 1 (by decide) _ _ _ _ _ _ _ ?_ fun n1 => ?_
    · refine hd1_1 _ _ _ _ _ _ _ _ _ _ _ (ld_s _ _) (ld_s _ _) _ _ _ r l ?hcod1 ?_
      refine cov_at _ 1 (by decide) _ r l _ ?_
      iterate 17 refine cn_skip _ (by decide) _ _ _ _ r l _ (by decide) ?_
      refine cn_hit 1 (by decide) _ _ _ r l _ ?_
      refine hd0_1 _ _ _ _ _ _ _ _ _ _ _ (ld_s _ _) (ld_s _ _) _ _ _ r l ?hcod0 ?_
      exact old_at _ 1 (by decide) _ r l
    refine cn_cons 0 (by decide) _ _ _ _ _ _ _ ?_ fun n0 => ?_
    · refine hd1_0 _ _ _ _ _ _ _ _ _ _ _ (ld_s _ _) (ld_s _ _) _ _ _ r l ?hcod1 ?_
      refine cov_at _ 0 (by decide) _ r l _ ?_
      iterate 17 refine cn_skip _ (by decide) _ _ _ _ r l _ (by decide) ?_
      refine cn_hit 0 (by decide) _ _ _ r l _ ?_
      refine hd0_0 _ _ _ _ _ _ _ _ _ _ _ (ld_s _ _) (ld_s _ _) _ _ _ r l ?hcod0 ?_
      exact old_at _ 0 (by decide) _ r l
    exfalso; omega
  case hcod1 =>
    generalize (iblk m c 0 t : Vec Ideal S1 .f32) = b0
    generalize (iblk m c 5 t : Vec Ideal S1x512x3584 .bf16) = b5
    generalize (iblk m c 6 t : Vec Ideal S1x3584 .f32) = b6
    intro i k
    rw [View.readCov_eq_canon']
    obtain ⟨y, hy⟩ : ∃ y : S1x512x3584.Idx, y = (Rect.unit ![0, 256, 0] ![1, 256, 3584] inb_S1x512x3584_S1x256x3584_0_256_0).idx (ix3 0 i k) := ⟨_, rfl⟩
    beta_reduce
    rw [← hy]
    have e0 : (y 0).val = 0 := by rw [hy]; rfl
    have e1 : (y 1).val = 256 + i.val := by rw [hy]; show 256 + 1 * i.val = _; omega
    have e2 : (y 2).val = k.val := by rw [hy]; show 0 + 1 * k.val = _; omega
    clear hy
    obtain rfl : y 2 = k := Fin.ext e2
    rw [show (⟨256 + i.val, by omega⟩ : Fin 512) = y 1 from Fin.ext (by simp only []; omega)]
    clear e1
    canon_tiles x h
    all_goals
      open_payloads
      idx_vars x
      pointwise [nrm, Spec.code, Spec.rms]
      obtain rfl : x2 = y 2 := Fin.ext h2.symm
      simp only [← h1]
      rfl
  case hcod0 =>
    generalize (iblk m c 0 t : Vec Ideal S1 .f32) = b0
    generalize (iblk m c 5 t : Vec Ideal S1x512x3584 .bf16) = b5
    generalize (iblk m c 6 t : Vec Ideal S1x3584 .f32) = b6
    intro i k
    rw [View.readCov_eq_canon']
    obtain ⟨y, hy⟩ : ∃ y : S1x512x3584.Idx, y = (Rect.unit ![0, 0, 0] ![1, 256, 3584] inb_S1x512x3584_S1x256x3584_0_0_0).idx (ix3 0 i k) := ⟨_, rfl⟩
    beta_reduce
    rw [← hy]
    have e0 : (y 0).val = 0 := by rw [hy]; rfl
    have e1 : (y 1).val = 0 + i.val := by rw [hy]; show 0 + 1 * i.val = _; omega
    have e2 : (y 2).val = k.val := by rw [hy]; show 0 + 1 * k.val = _; omega
    clear hy
    obtain rfl : y 2 = k := Fin.ext e2
    rw [show (⟨i.val, by omega⟩ : Fin 512) = y 1 from Fin.ext (by simp only []; omega)]
    skip
    canon_tiles x h using (cover8 _ _ _ _ _ _ _ _ y (by omega))
    all_goals
      open_payloads
      idx_vars x
      pointwise [nrm, Spec.code, Spec.rms]
      obtain rfl : x2 = y 2 := Fin.ext h2.symm
      simp only [← h1]
      rfl

end Cert.QkvIdeal.Sem

end
-- ==== Proof.QkvLast.lean ====
/-
  The query, key and value projections, kernel side: the heads' amaxes that the last point stores.
-/
module

public import proofs.«01_k».proof.Proof.QkvHmax

@[expose] public section

set_option maxRecDepth 16384

noncomputable section

open Idealize.ShloMosaic Idealize.ShloMosaic.TcCoe Idealize.SL.Sem
open Idealize.ShloMosaic.Pipeline (Dat)

namespace Cert.QkvIdeal.Sem

open Cert.QkvIdeal Cert.QkvIdeal.Gen

variable (m : (ℓ : Loc nD τ sig) → Buf (Elt Ideal) ℓ)

/-- A head's amax when the block is the last, from the running maxima before it. -/
def peak (b5 : Vec Ideal S1x512x3584 .bf16) (b6 : Vec Ideal S1x3584 .f32) (b0 b1 : Vec Ideal S1 .f32) (b11 : Vec Ideal S3584x2304 .fp8e4m3) (b7 b8 : Vec Ideal S1x128 .f32) (b9 b10 : Vec Ideal S1x64x512 .f32) (o : FVec Ideal S18x8x128 .f32) (j : Fin 18) : EReal :=
  ⨆ (r : Fin 8) (l : Fin 128), aft b5 b6 b0 b1 b11 b7 b8 b9 b10 512 o r l j

/-- The largest of head 0's cells. -/
theorem top0 (o : Vec Ideal S1x8x128 .f32) : k0_pay5 (F := Ideal) o = (⨆ (r : Fin 8) (l : Fin 128), o (ix3 0 r l) : EReal) := by
  refine eq_of_forall_ge_iff fun B => ?_
  pointwise [k0_pay5]
  rw [Spec.fold_max_le]
  simp only [iSup_le_iff]
  exact ⟨fun h r l => h (r, l), fun h p => h p.1 p.2⟩

/-- The largest of head 1's cells. -/
theorem top1 (o : Vec Ideal S1x8x128 .f32) : k0_pay6 (F := Ideal) o = (⨆ (r : Fin 8) (l : Fin 128), o (ix3 0 r l) : EReal) := by
  refine eq_of_forall_ge_iff fun B => ?_
  pointwise [k0_pay6]
  rw [Spec.fold_max_le]
  simp only [iSup_le_iff]
  exact ⟨fun h r l => h (r, l), fun h p => h p.1 p.2⟩

/-- The largest of head 2's cells. -/
theorem top2 (o : Vec Ideal S1x8x128 .f32) : k0_pay7 (F := Ideal) o = (⨆ (r : Fin 8) (l : Fin 128), o (ix3 0 r l) : EReal) := by
  refine eq_of_forall_ge_iff fun B => ?_
  pointwise [k0_pay7]
  rw [Spec.fold_max_le]
  simp only [iSup_le_iff]
  exact ⟨fun h r l => h (r, l), fun h p => h p.1 p.2⟩

/-- The largest of head 3's cells. -/
theorem top3 (o : Vec Ideal S1x8x128 .f32) : k0_pay8 (F := Ideal) o = (⨆ (r : Fin 8) (l : Fin 128), o (ix3 0 r l) : EReal) := by
  refine eq_of_forall_ge_iff fun B => ?_
  pointwise [k0_pay8]
  rw [Spec.fold_max_le]
  simp only [iSup_le_iff]
  exact ⟨fun h r l => h (r, l), fun h p => h p.1 p.2⟩

/-- The largest of head 4's cells. -/
theorem top4 (o : Vec Ideal S1x8x128 .f32) : k0_pay9 (F := Ideal) o = (⨆ (r : Fin 8) (l : Fin 128), o (ix3 0 r l) : EReal) := by
  refine eq_of_forall_ge_iff fun B => ?_
  pointwise [k0_pay9]
  rw [Spec.fold_max_le]
  simp only [iSup_le_iff]
  exact ⟨fun h r l => h (r, l), fun h p => h p.1 p.2⟩

/-- The largest of head 5's cells. -/
theorem top5 (o : Vec Ideal S1x8x128 .f32) : k0_pay10 (F := Ideal) o = (⨆ (r : Fin 8) (l : Fin 128), o (ix3 0 r l) : EReal) := by
  refine eq_of_forall_ge_iff fun B => ?_
  pointwise [k0_pay10]
  rw [Spec.fold_max_le]
  simp only [iSup_le_iff]
  exact ⟨fun h r l => h (r, l), fun h p => h p.1 p.2⟩

/-- The largest of head 6's cells. -/
theorem top6 (o : Vec Ideal S1x8x128 .f32) : k0_pay11 (F := Ideal) o = (⨆ (r : Fin 8) (l : Fin 128), o (ix3 0 r l) : EReal) := by
  refine eq_of_forall_ge_iff fun B => ?_
  pointwise [k0_pay11]
  rw [Spec.fold_max_le]
  simp only [iSup_le_iff]
  exact ⟨fun h r l => h (r, l), fun h p => h p.1 p.2⟩

/-- The largest of head 7's cells. -/
theorem top7 (o : Vec Ideal S1x8x128 .f32) : k0_pay12 (F := Ideal) o = (⨆ (r : Fin 8) (l : Fin 128), o (ix3 0 r l) : EReal) := by
  refine eq_of_forall_ge_iff fun B => ?_
  pointwise [k0_pay12]
  rw [Spec.fold_max_le]
  simp only [iSup_le_iff]
  exact ⟨fun h r l => h (r, l), fun h p => h p.1 p.2⟩

/-- The largest of head 8's cells. -/
theorem top8 (o : Vec Ideal S1x8x128 .f32) : k0_pay14 (F := Ideal) (k0_pay13 (F := Ideal) o) = (⨆ (r : Fin 8) (l : Fin 128), o (ix3 0 r l) : EReal) := by
  refine eq_of_forall_ge_iff fun B => ?_
  pointwise [k0_pay14, k0_pay13]
  rw [Spec.fold_max_le]
  simp only [iSup_le_iff]
  exact ⟨fun h r l => h (r, l), fun h p => h p.1 p.2⟩

/-- The largest of head 9's cells. -/
theorem top9 (o : Vec Ideal S1x8x128 .f32) : k0_pay15 (F := Ideal) o = (⨆ (r : Fin 8) (l : Fin 128), o (ix3 0 r l) : EReal) := by
  refine eq_of_forall_ge_iff fun B => ?_
  pointwise [k0_pay15]
  rw [Spec.fold_max_le]
  simp only [iSup_le_iff]
  exact ⟨fun h r l => h (r, l), fun h p => h p.1 p.2⟩

/-- The largest of head 10's cells. -/
theorem top10 (o : Vec Ideal S1x8x128 .f32) : k0_pay16 (F := Ideal) o = (⨆ (r : Fin 8) (l : Fin 128), o (ix3 0 r l) : EReal) := by
  refine eq_of_forall_ge_iff fun B => ?_
  pointwise [k0_pay16]
  rw [Spec.fold_max_le]
  simp only [iSup_le_iff]
  exact ⟨fun h r l => h (r, l), fun h p => h p.1 p.2⟩

/-- The largest of head 11's cells. -/
theorem top11 (o : Vec Ideal S1x8x128 .f32) : k0_pay17 (F := Ideal) o = (⨆ (r : Fin 8) (l : Fin 128), o (ix3 0 r l) : EReal) := by
  refine eq_of_forall_ge_iff fun B => ?_
  pointwise [k0_pay17]
  rw [Spec.fold_max_le]
  simp only [iSup_le_iff]
  exact ⟨fun h r l => h (r, l), fun h p => h p.1 p.2⟩

/-- The largest of head 12's cells. -/
theorem top12 (o : Vec Ideal S1x8x128 .f32) : k0_pay18 (F := Ideal) o = (⨆ (r : Fin 8) (l : Fin 128), o (ix3 0 r l) : EReal) := by
  refine eq_of_forall_ge_iff fun B => ?_
  pointwise [k0_pay18]
  rw [Spec.fold_max_le]
  simp only [iSup_le_iff]
  exact ⟨fun h r l => h (r, l), fun h p => h p.1 p.2⟩

/-- The largest of head 13's cells. -/
theorem top13 (o : Vec Ideal S1x8x128 .f32) : k0_pay19 (F := Ideal) o = (⨆ (r : Fin 8) (l : Fin 128), o (ix3 0 r l) : EReal) := by
  refine eq_of_forall_ge_iff fun B => ?_
  pointwise [k0_pay19]
  rw [Spec.fold_max_le]
  simp only [iSup_le_iff]
  exact ⟨fun h r l => h (r, l), fun h p => h p.1 p.2⟩

/-- The largest of head 14's cells. -/
theorem top14 (o : Vec Ideal S1x8x128 .f32) : k0_pay20 (F := Ideal) o = (⨆ (r : Fin 8) (l : Fin 128), o (ix3 0 r l) : EReal) := by
  refine eq_of_forall_ge_iff fun B => ?_
  pointwise [k0_pay20]
  rw [Spec.fold_max_le]
  simp only [iSup_le_iff]
  exact ⟨fun h r l => h (r, l), fun h p => h p.1 p.2⟩

/-- The largest of head 15's cells. -/
theorem top15 (o : Vec Ideal S1x8x128 .f32) : k0_pay22 (F := Ideal) o = (⨆ (r : Fin 8) (l : Fin 128), o (ix3 0 r l) : EReal) := by
  refine eq_of_forall_ge_iff fun B => ?_
  pointwise [k0_pay22]
  rw [Spec.fold_max_le]
  simp only [iSup_le_iff]
  exact ⟨fun h r l => h (r, l), fun h p => h p.1 p.2⟩

/-- The largest of head 16's cells. -/
theorem top16 (o : Vec Ideal S1x8x128 .f32) : k0_pay21 (F := Ideal) o = (⨆ (r : Fin 8) (l : Fin 128), o (ix3 0 r l) : EReal) := by
  refine eq_of_forall_ge_iff fun B => ?_
  pointwise [k0_pay21]
  rw [Spec.fold_max_le]
  simp only [iSup_le_iff]
  exact ⟨fun h r l => h (r, l), fun h p => h p.1 p.2⟩

/-- The largest of head 17's cells. -/
theorem top17 (o : Vec Ideal S1x8x128 .f32) : k0_pay3 (F := Ideal) (k0_pay23 (F := Ideal) o) = (⨆ (r : Fin 8) (l : Fin 128), o (ix3 0 r l) : EReal) := by
  refine eq_of_forall_ge_iff fun B => ?_
  pointwise [k0_pay3, k0_pay23]
  rw [Spec.fold_max_le]
  simp only [iSup_le_iff]
  exact ⟨fun h r l => h (r, l), fun h p => h p.1 p.2⟩

set_option maxHeartbeats 4000000 in
/-- The query heads' amaxes the last point stores. -/
theorem lastq (c : Dev nD) (t : Fin cfg0.N) (h0 : ¬t.val % 30 = 0) (h1 : t.val % 30 = 29) (y : S14.Idx) :
    (outsAt0 m c t.val t.isLt).2.2.2.2.2.1 y = peak (iblk m c 5 t) (iblk m c 6 t) (iblk m c 0 t) (iblk m c 1 t) (iblk m c 11 t) (iblk m c 7 t) (iblk m c 8 t) (iblk m c 9 t) (iblk m c 10 t) (outsAt0 m c (t.val - 1) (Nat.lt_of_le_of_lt (Nat.sub_le _ _) t.isLt)).2.2.2.2.2.2.2.2.2 ⟨(y 0).val, by have := (y 0).isLt; change (y 0).val < 14 at this; omega⟩ := by
  rw [outsAt0_C m c t h0 h1]
  frame_out
  simp only [up0_0, up0_1, up0_2, up0_3, up0_4, up0_5, up0_6, up0_7, up0_8, up0_9, up0_10, up0_11, up0_12, up0_13, up0_14, up0_15, up0_16, up0_17, up1_0, up1_1, up1_2, up1_3, up1_4, up1_5, up1_6, up1_7, up1_8, up1_9, up1_10, up1_11, up1_12, up1_13, up1_14, up1_15, up1_16, up1_17, (Memref.isWhole_whole _).read_unread]
  apply with_codes (iblk m c 5 t) (iblk m c 6 t) (iblk m c 0 t)
  case hG =>
    canon_tiles x g
    · refine (top13 _).trans (Eq.trans ?_ (congrArg (peak (iblk m c 5 t) (iblk m c 6 t) (iblk m c 0 t) (iblk m c 1 t) (iblk m c 11 t) (iblk m c 7 t) (iblk m c 8 t) (iblk m c 9 t) (iblk m c 10 t) (outsAt0 m c (t.val - 1) (Nat.lt_of_le_of_lt (Nat.sub_le _ _) t.isLt)).2.2.2.2.2.2.2.2.2) (show (⟨13, by decide⟩ : Fin 18) = ⟨(y 0).val, by have := (y 0).isLt; change (y 0).val < 14 at this; omega⟩ from Fin.ext (by simp only []; omega))))
      refine iSup_congr fun r => iSup_congr fun l => ?_
      refine cov_at _ 13 (by decide) _ r l _ ?_
      iterate 4 refine cn_skip _ (by decide) _ _ _ _ r l _ (by decide) ?_
      refine cn_hit 13 (by decide) _ _ _ r l _ ?_
      refine hd1_13 _ _ _ _ _ _ _ _ _ _ _ (ld_s _ _) (ld_s _ _) _ _ _ r l ?hcod1 ?_
      refine cov_at _ 13 (by decide) _ r l _ ?_
      iterate 17 refine cn_skip _ (by decide) _ _ _ _ r l _ (by decide) ?_
      refine cn_hit 13 (by decide) _ _ _ r l _ ?_
      refine hd0_13 _ _ _ _ _ _ _ _ _ _ _ (ld_s _ _) (ld_s _ _) _ _ _ r l ?hcod0 ?_
      exact old_at _ 13 (by decide) _ r l
    · refine (top12 _).trans (Eq.trans ?_ (congrArg (peak (iblk m c 5 t) (iblk m c 6 t) (iblk m c 0 t) (iblk m c 1 t) (iblk m c 11 t) (iblk m c 7 t) (iblk m c 8 t) (iblk m c 9 t) (iblk m c 10 t) (outsAt0 m c (t.val - 1) (Nat.lt_of_le_of_lt (Nat.sub_le _ _) t.isLt)).2.2.2.2.2.2.2.2.2) (show (⟨12, by decide⟩ : Fin 18) = ⟨(y 0).val, by have := (y 0).isLt; change (y 0).val < 14 at this; omega⟩ from Fin.ext (by simp only []; omega))))
      refine iSup_congr fun r => iSup_congr fun l => ?_
      refine cov_at _ 12 (by decide) _ r l _ ?_
      iterate 5 refine cn_skip _ (by decide) _ _ _ _ r l _ (by decide) ?_
      refine cn_hit 12 (by decide) _ _ _ r l _ ?_
      refine hd1_12 _ _ _ _ _ _ _ _ _ _ _ (ld_s _ _) (ld_s _ _) _ _ _ r l ?hcod1 ?_
      refine cov_at _ 12 (by decide) _ r l _ ?_
      iterate 17 refine cn_skip _ (by decide) _ _ _ _ r l _ (by decide) ?_
      refine cn_hit 12 (by decide) _ _ _ r l _ ?_
      refine hd0_12 _ _ _ _ _ _ _ _ _ _ _ (ld_s _ _) (ld_s _ _) _ _ _ r l ?hcod0 ?_
      exact old_at _ 12 (by decide) _ r l
    · refine (top11 _).trans (Eq.trans ?_ (congrArg (peak (iblk m c 5 t) (iblk m c 6 t) (iblk m c 0 t) (iblk m c 1 t) (iblk m c 11 t) (iblk m c 7 t) (iblk m c 8 t) (iblk m c 9 t) (iblk m c 10 t) (outsAt0 m c (t.val - 1) (Nat.lt_of_le_of_lt (Nat.sub_le _ _) t.isLt)).2.2.2.2.2.2.2.2.2) (show (⟨11, by decide⟩ : Fin 18) = ⟨(y 0).val, by have := (y 0).isLt; change (y 0).val < 14 at this; omega⟩ from Fin.ext (by simp only []; omega))))
      refine iSup_congr fun r => iSup_congr fun l => ?_
      refine cov_at _ 11 (by decide) _ r l _ ?_
      iterate 6 refine cn_skip _ (by decide) _ _ _ _ r l _ (by decide) ?_
      refine cn_hit 11 (by decide) _ _ _ r l _ ?_
      refine hd1_11 _ _ _ _ _ _ _ _ _ _ _ (ld_s _ _) (ld_s _ _) _ _ _ r l ?hcod1 ?_
      refine cov_at _ 11 (by decide) _ r l _ ?_
      iterate 17 refine cn_skip _ (by decide) _ _ _ _ r l _ (by decide) ?_
      refine cn_hit 11 (by decide) _ _ _ r l _ ?_
      refine hd0_11 _ _ _ _ _ _ _ _ _ _ _ (ld_s _ _) (ld_s _ _) _ _ _ r l ?hcod0 ?_
      exact old_at _ 11 (by decide) _ r l
    · refine (top10 _).trans (Eq.trans ?_ (congrArg (peak (iblk m c 5 t) (iblk m c 6 t) (iblk m c 0 t) (iblk m c 1 t) (iblk m c 11 t) (iblk m c 7 t) (iblk m c 8 t) (iblk m c 9 t) (iblk m c 10 t) (outsAt0 m c (t.val - 1) (Nat.lt_of_le_of_lt (Nat.sub_le _ _) t.isLt)).2.2.2.2.2.2.2.2.2) (show (⟨10, by decide⟩ : Fin 18) = ⟨(y 0).val, by have := (y 0).isLt; change (y 0).val < 14 at this; omega⟩ from Fin.ext (by simp only []; omega))))
      refine iSup_congr fun r => iSup_congr fun l => ?_
      refine cov_at _ 10 (by decide) _ r l _ ?_
      iterate 7 refine cn_skip _ (by decide) _ _ _ _ r l _ (by decide) ?_
      refine cn_hit 10 (by decide) _ _ _ r l _ ?_
      refine hd1_10 _ _ _ _ _ _ _ _ _ _ _ (ld_s _ _) (ld_s _ _) _ _ _ r l ?hcod1 ?_
      refine cov_at _ 10 (by decide) _ r l _ ?_
      iterate 17 refine cn_skip _ (by decide) _ _ _ _ r l _ (by decide) ?_
      refine cn_hit 10 (by decide) _ _ _ r l _ ?_
      refine hd0_10 _ _ _ _ _ _ _ _ _ _ _ (ld_s _ _) (ld_s _ _) _ _ _ r l ?hcod0 ?_
      exact old_at _ 10 (by decide) _ r l
    · refine (top9 _).trans (Eq.trans ?_ (congrArg (peak (iblk m c 5 t) (iblk m c 6 t) (iblk m c 0 t) (iblk m c 1 t) (iblk m c 11 t) (iblk m c 7 t) (iblk m c 8 t) (iblk m c 9 t) (iblk m c 10 t) (outsAt0 m c (t.val - 1) (Nat.lt_of_le_of_lt (Nat.sub_le _ _) t.isLt)).2.2.2.2.2.2.2.2.2) (show (⟨9, by decide⟩ : Fin 18) = ⟨(y 0).val, by have := (y 0).isLt; change (y 0).val < 14 at this; omega⟩ from Fin.ext (by simp only []; omega))))
      refine iSup_congr fun r => iSup_congr fun l => ?_
      refine cov_at _ 9 (by decide) _ r l _ ?_
      iterate 8 refine cn_skip _ (by decide) _ _ _ _ r l _ (by decide) ?_
      refine cn_hit 9 (by decide) _ _ _ r l _ ?_
      refine hd1_9 _ _ _ _ _ _ _ _ _ _ _ (ld_s _ _) (ld_s _ _) _ _ _ r l ?hcod1 ?_
      refine cov_at _ 9 (by decide) _ r l _ ?_
      iterate 17 refine cn_skip _ (by decide) _ _ _ _ r l _ (by decide) ?_
      refine cn_hit 9 (by decide) _ _ _ r l _ ?_
      refine hd0_9 _ _ _ _ _ _ _ _ _ _ _ (ld_s _ _) (ld_s _ _) _ _ _ r l ?hcod0 ?_
      exact old_at _ 9 (by decide) _ r l
    · refine (top8 _).trans (Eq.trans ?_ (congrArg (peak (iblk m c 5 t) (iblk m c 6 t) (iblk m c 0 t) (iblk m c 1 t) (iblk m c 11 t) (iblk m c 7 t) (iblk m c 8 t) (iblk m c 9 t) (iblk m c 10 t) (outsAt0 m c (t.val - 1) (Nat.lt_of_le_of_lt (Nat.sub_le _ _) t.isLt)).2.2.2.2.2.2.2.2.2) (show (⟨8, by decide⟩ : Fin 18) = ⟨(y 0).val, by have := (y 0).isLt; change (y 0).val < 14 at this; omega⟩ from Fin.ext (by simp only []; omega))))
      refine iSup_congr fun r => iSup_congr fun l => ?_
      refine cov_at _ 8 (by decide) _ r l _ ?_
      iterate 9 refine cn_skip _ (by decide) _ _ _ _ r l _ (by decide) ?_
      refine cn_hit 8 (by decide) _ _ _ r l _ ?_
      refine hd1_8 _ _ _ _ _ _ _ _ _ _ _ (ld_s _ _) (ld_s _ _) _ _ _ r l ?hcod1 ?_
      refine cov_at _ 8 (by decide) _ r l _ ?_
      iterate 17 refine cn_skip _ (by decide) _ _ _ _ r l _ (by decide) ?_
      refine cn_hit 8 (by decide) _ _ _ r l _ ?_
      refine hd0_8 _ _ _ _ _ _ _ _ _ _ _ (ld_s _ _) (ld_s _ _) _ _ _ r l ?hcod0 ?_
      exact old_at _ 8 (by decide) _ r l
    · refine (top7 _).trans (Eq.trans ?_ (congrArg (peak (iblk m c 5 t) (iblk m c 6 t) (iblk m c 0 t) (iblk m c 1 t) (iblk m c 11 t) (iblk m c 7 t) (iblk m c 8 t) (iblk m c 9 t) (iblk m c 10 t) (outsAt0 m c (t.val - 1) (Nat.lt_of_le_of_lt (Nat.sub_le _ _) t.isLt)).2.2.2.2.2.2.2.2.2) (show (⟨7, by decide⟩ : Fin 18) = ⟨(y 0).val, by have := (y 0).isLt; change (y 0).val < 14 at this; omega⟩ from Fin.ext (by simp only []; omega))))
      refine iSup_congr fun r => iSup_congr fun l => ?_
      refine cov_at _ 7 (by decide) _ r l _ ?_
      iterate 10 refine cn_skip _ (by decide) _ _ _ _ r l _ (by decide) ?_
      refine cn_hit 7 (by decide) _ _ _ r l _ ?_
      refine hd1_7 _ _ _ _ _ _ _ _ _ _ _ (ld_s _ _) (ld_s _ _) _ _ _ r l ?hcod1 ?_
      refine cov_at _ 7 (by decide) _ r l _ ?_
      iterate 17 refine cn_skip _ (by decide) _ _ _ _ r l _ (by decide) ?_
      refine cn_hit 7 (by decide) _ _ _ r l _ ?_
      refine hd0_7 _ _ _ _ _ _ _ _ _ _ _ (ld_s _ _) (ld_s _ _) _ _ _ r l ?hcod0 ?_
      exact old_at _ 7 (by decide) _ r l
    · refine (top6 _).trans (Eq.trans ?_ (congrArg (peak (iblk m c 5 t) (iblk m c 6 t) (iblk m c 0 t) (iblk m c 1 t) (iblk m c 11 t) (iblk m c 7 t) (iblk m c 8 t) (iblk m c 9 t) (iblk m c 10 t) (outsAt0 m c (t.val - 1) (Nat.lt_of_le_of_lt (Nat.sub_le _ _) t.isLt)).2.2.2.2.2.2.2.2.2) (show (⟨6, by decide⟩ : Fin 18) = ⟨(y 0).val, by have := (y 0).isLt; change (y 0).val < 14 at this; omega⟩ from Fin.ext (by simp only []; omega))))
      refine iSup_congr fun r => iSup_congr fun l => ?_
      refine cov_at _ 6 (by decide) _ r l _ ?_
      iterate 11 refine cn_skip _ (by decide) _ _ _ _ r l _ (by decide) ?_
      refine cn_hit 6 (by decide) _ _ _ r l _ ?_
      refine hd1_6 _ _ _ _ _ _ _ _ _ _ _ (ld_s _ _) (ld_s _ _) _ _ _ r l ?hcod1 ?_
      refine cov_at _ 6 (by decide) _ r l _ ?_
      iterate 17 refine cn_skip _ (by decide) _ _ _ _ r l _ (by decide) ?_
      refine cn_hit 6 (by decide) _ _ _ r l _ ?_
      refine hd0_6 _ _ _ _ _ _ _ _ _ _ _ (ld_s _ _) (ld_s _ _) _ _ _ r l ?hcod0 ?_
      exact old_at _ 6 (by decide) _ r l
    · refine (top5 _).trans (Eq.trans ?_ (congrArg (peak (iblk m c 5 t) (iblk m c 6 t) (iblk m c 0 t) (iblk m c 1 t) (iblk m c 11 t) (iblk m c 7 t) (iblk m c 8 t) (iblk m c 9 t) (iblk m c 10 t) (outsAt0 m c (t.val - 1) (Nat.lt_of_le_of_lt (Nat.sub_le _ _) t.isLt)).2.2.2.2.2.2.2.2.2) (show (⟨5, by decide⟩ : Fin 18) = ⟨(y 0).val, by have := (y 0).isLt; change (y 0).val < 14 at this; omega⟩ from Fin.ext (by simp only []; omega))))
      refine iSup_congr fun r => iSup_congr fun l => ?_
      refine cov_at _ 5 (by decide) _ r l _ ?_
      iterate 12 refine cn_skip _ (by decide) _ _ _ _ r l _ (by decide) ?_
      refine cn_hit 5 (by decide) _ _ _ r l _ ?_
      refine hd1_5 _ _ _ _ _ _ _ _ _ _ _ (ld_s _ _) (ld_s _ _) _ _ _ r l ?hcod1 ?_
      refine cov_at _ 5 (by decide) _ r l _ ?_
      iterate 17 refine cn_skip _ (by decide) _ _ _ _ r l _ (by decide) ?_
      refine cn_hit 5 (by decide) _ _ _ r l _ ?_
      refine hd0_5 _ _ _ _ _ _ _ _ _ _ _ (ld_s _ _) (ld_s _ _) _ _ _ r l ?hcod0 ?_
      exact old_at _ 5 (by decide) _ r l
    · refine (top4 _).trans (Eq.trans ?_ (congrArg (peak (iblk m c 5 t) (iblk m c 6 t) (iblk m c 0 t) (iblk m c 1 t) (iblk m c 11 t) (iblk m c 7 t) (iblk m c 8 t) (iblk m c 9 t) (iblk m c 10 t) (outsAt0 m c (t.val - 1) (Nat.lt_of_le_of_lt (Nat.sub_le _ _) t.isLt)).2.2.2.2.2.2.2.2.2) (show (⟨4, by decide⟩ : Fin 18) = ⟨(y 0).val, by have := (y 0).isLt; change (y 0).val < 14 at this; omega⟩ from Fin.ext (by simp only []; omega))))
      refine iSup_congr fun r => iSup_congr fun l => ?_
      refine cov_at _ 4 (by decide) _ r l _ ?_
      iterate 13 refine cn_skip _ (by decide) _ _ _ _ r l _ (by decide) ?_
      refine cn_hit 4 (by decide) _ _ _ r l _ ?_
      refine hd1_4 _ _ _ _ _ _ _ _ _ _ _ (ld_s _ _) (ld_s _ _) _ _ _ r l ?hcod1 ?_
      refine cov_at _ 4 (by decide) _ r l _ ?_
      iterate 17 refine cn_skip _ (by decide) _ _ _ _ r l _ (by decide) ?_
      refine cn_hit 4 (by decide) _ _ _ r l _ ?_
      refine hd0_4 _ _ _ _ _ _ _ _ _ _ _ (ld_s _ _) (ld_s _ _) _ _ _ r l ?hcod0 ?_
      exact old_at _ 4 (by decide) _ r l
    · refine (top3 _).trans (Eq.trans ?_ (congrArg (peak (iblk m c 5 t) (iblk m c 6 t) (iblk m c 0 t) (iblk m c 1 t) (iblk m c 11 t) (iblk m c 7 t) (iblk m c 8 t) (iblk m c 9 t) (iblk m c 10 t) (outsAt0 m c (t.val - 1) (Nat.lt_of_le_of_lt (Nat.sub_le _ _) t.isLt)).2.2.2.2.2.2.2.2.2) (show (⟨3, by decide⟩ : Fin 18) = ⟨(y 0).val, by have := (y 0).isLt; change (y 0).val < 14 at this; omega⟩ from Fin.ext (by simp only []; omega))))
      refine iSup_congr fun r => iSup_congr fun l => ?_
      refine cov_at _ 3 (by decide) _ r l _ ?_
      iterate 14 refine cn_skip _ (by decide) _ _ _ _ r l _ (by decide) ?_
      refine cn_hit 3 (by decide) _ _ _ r l _ ?_
      refine hd1_3 _ _ _ _ _ _ _ _ _ _ _ (ld_s _ _) (ld_s _ _) _ _ _ r l ?hcod1 ?_
      refine cov_at _ 3 (by decide) _ r l _ ?_
      iterate 17 refine cn_skip _ (by decide) _ _ _ _ r l _ (by decide) ?_
      refine cn_hit 3 (by decide) _ _ _ r l _ ?_
      refine hd0_3 _ _ _ _ _ _ _ _ _ _ _ (ld_s _ _) (ld_s _ _) _ _ _ r l ?hcod0 ?_
      exact old_at _ 3 (by decide) _ r l
    · refine (top2 _).trans (Eq.trans ?_ (congrArg (peak (iblk m c 5 t) (iblk m c 6 t) (iblk m c 0 t) (iblk m c 1 t) (iblk m c 11 t) (iblk m c 7 t) (iblk m c 8 t) (iblk m c 9 t) (iblk m c 10 t) (outsAt0 m c (t.val - 1) (Nat.lt_of_le_of_lt (Nat.sub_le _ _) t.isLt)).2.2.2.2.2.2.2.2.2) (show (⟨2, by decide⟩ : Fin 18) = ⟨(y 0).val, by have := (y 0).isLt; change (y 0).val < 14 at this; omega⟩ from Fin.ext (by simp only []; omega))))
      refine iSup_congr fun r => iSup_congr fun l => ?_
      refine cov_at _ 2 (by decide) _ r l _ ?_
      iterate 15 refine cn_skip _ (by decide) _ _ _ _ r l _ (by decide) ?_
      refine cn_hit 2 (by decide) _ _ _ r l _ ?_
      refine hd1_2 _ _ _ _ _ _ _ _ _ _ _ (ld_s _ _) (ld_s _ _) _ _ _ r l ?hcod1 ?_
      refine cov_at _ 2 (by decide) _ r l _ ?_
      iterate 17 refine cn_skip _ (by decide) _ _ _ _ r l _ (by decide) ?_
      refine cn_hit 2 (by decide) _ _ _ r l _ ?_
      refine hd0_2 _ _ _ _ _ _ _ _ _ _ _ (ld_s _ _) (ld_s _ _) _ _ _ r l ?hcod0 ?_
      exact old_at _ 2 (by decide) _ r l
    · refine (top1 _).trans (Eq.trans ?_ (congrArg (peak (iblk m c 5 t) (iblk m c 6 t) (iblk m c 0 t) (iblk m c 1 t) (iblk m c 11 t) (iblk m c 7 t) (iblk m c 8 t) (iblk m c 9 t) (iblk m c 10 t) (outsAt0 m c (t.val - 1) (Nat.lt_of_le_of_lt (Nat.sub_le _ _) t.isLt)).2.2.2.2.2.2.2.2.2) (show (⟨1, by decide⟩ : Fin 18) = ⟨(y 0).val, by have := (y 0).isLt; change (y 0).val < 14 at this; omega⟩ from Fin.ext (by simp only []; omega))))
      refine iSup_congr fun r => iSup_congr fun l => ?_
      refine cov_at _ 1 (by decide) _ r l _ ?_
      iterate 16 refine cn_skip _ (by decide) _ _ _ _ r l _ (by decide) ?_
      refine cn_hit 1 (by decide) _ _ _ r l _ ?_
      refine hd1_1 _ _ _ _ _ _ _ _ _ _ _ (ld_s _ _) (ld_s _ _) _ _ _ r l ?hcod1 ?_
      refine cov_at _ 1 (by decide) _ r l _ ?_
      iterate 17 refine cn_skip _ (by decide) _ _ _ _ r l _ (by decide) ?_
      refine cn_hit 1 (by decide) _ _ _ r l _ ?_
      refine hd0_1 _ _ _ _ _ _ _ _ _ _ _ (ld_s _ _) (ld_s _ _) _ _ _ r l ?hcod0 ?_
      exact old_at _ 1 (by decide) _ r l
    · refine (top0 _).trans (Eq.trans ?_ (congrArg (peak (iblk m c 5 t) (iblk m c 6 t) (iblk m c 0 t) (iblk m c 1 t) (iblk m c 11 t) (iblk m c 7 t) (iblk m c 8 t) (iblk m c 9 t) (iblk m c 10 t) (outsAt0 m c (t.val - 1) (Nat.lt_of_le_of_lt (Nat.sub_le _ _) t.isLt)).2.2.2.2.2.2.2.2.2) (show (⟨0, by decide⟩ : Fin 18) = ⟨(y 0).val, by have := (y 0).isLt; change (y 0).val < 14 at this; omega⟩ from Fin.ext (by simp only []; omega))))
      refine iSup_congr fun r => iSup_congr fun l => ?_
      refine cov_at _ 0 (by decide) _ r l _ ?_
      iterate 17 refine cn_skip _ (by decide) _ _ _ _ r l _ (by decide) ?_
      refine cn_hit 0 (by decide) _ _ _ r l _ ?_
      refine hd1_0 _ _ _ _ _ _ _ _ _ _ _ (ld_s _ _) (ld_s _ _) _ _ _ r l ?hcod1 ?_
      refine cov_at _ 0 (by decide) _ r l _ ?_
      iterate 17 refine cn_skip _ (by decide) _ _ _ _ r l _ (by decide) ?_
      refine cn_hit 0 (by decide) _ _ _ r l _ ?_
      refine hd0_0 _ _ _ _ _ _ _ _ _ _ _ (ld_s _ _) (ld_s _ _) _ _ _ r l ?hcod0 ?_
      exact old_at _ 0 (by decide) _ r l
  case hcod1 =>
    generalize (iblk m c 0 t : Vec Ideal S1 .f32) = b0
    generalize (iblk m c 5 t : Vec Ideal S1x512x3584 .bf16) = b5
    generalize (iblk m c 6 t : Vec Ideal S1x3584 .f32) = b6
    intro i k
    rw [View.readCov_eq_canon']
    obtain ⟨y, hy⟩ : ∃ y : S1x512x3584.Idx, y = (Rect.unit ![0, 256, 0] ![1, 256, 3584] inb_S1x512x3584_S1x256x3584_0_256_0).idx (ix3 0 i k) := ⟨_, rfl⟩
    beta_reduce
    rw [← hy]
    have e0 : (y 0).val = 0 := by rw [hy]; rfl
    have e1 : (y 1).val = 256 + i.val := by rw [hy]; show 256 + 1 * i.val = _; omega
    have e2 : (y 2).val = k.val := by rw [hy]; show 0 + 1 * k.val = _; omega
    clear hy
    obtain rfl : y 2 = k := Fin.ext e2
    rw [show (⟨256 + i.val, by omega⟩ : Fin 512) = y 1 from Fin.ext (by simp only []; omega)]
    clear e1
    canon_tiles x h
    all_goals
      open_payloads
      idx_vars x
      pointwise [nrm, Spec.code, Spec.rms]
      obtain rfl : x2 = y 2 := Fin.ext h2.symm
      simp only [← h1]
      rfl
  case hcod0 =>
    generalize (iblk m c 0 t : Vec Ideal S1 .f32) = b0
    generalize (iblk m c 5 t : Vec Ideal S1x512x3584 .bf16) = b5
    generalize (iblk m c 6 t : Vec Ideal S1x3584 .f32) = b6
    intro i k
    rw [View.readCov_eq_canon']
    obtain ⟨y, hy⟩ : ∃ y : S1x512x3584.Idx, y = (Rect.unit ![0, 0, 0] ![1, 256, 3584] inb_S1x512x3584_S1x256x3584_0_0_0).idx (ix3 0 i k) := ⟨_, rfl⟩
    beta_reduce
    rw [← hy]
    have e0 : (y 0).val = 0 := by rw [hy]; rfl
    have e1 : (y 1).val = 0 + i.val := by rw [hy]; show 0 + 1 * i.val = _; omega
    have e2 : (y 2).val = k.val := by rw [hy]; show 0 + 1 * k.val = _; omega
    clear hy
    obtain rfl : y 2 = k := Fin.ext e2
    rw [show (⟨i.val, by omega⟩ : Fin 512) = y 1 from Fin.ext (by simp only []; omega)]
    skip
    canon_tiles x h using (cover8 _ _ _ _ _ _ _ _ y (by omega))
    all_goals
      open_payloads
      idx_vars x
      pointwise [nrm, Spec.code, Spec.rms]
      obtain rfl : x2 = y 2 := Fin.ext h2.symm
      simp only [← h1]
      rfl

set_option maxHeartbeats 4000000 in
/-- The key heads' amaxes the last point stores. -/
theorem lastk (c : Dev nD) (t : Fin cfg0.N) (h0 : ¬t.val % 30 = 0) (h1 : t.val % 30 = 29) (y : S2.Idx) :
    (outsAt0 m c t.val t.isLt).2.2.2.2.2.2.1 y = peak (iblk m c 5 t) (iblk m c 6 t) (iblk m c 0 t) (iblk m c 1 t) (iblk m c 11 t) (iblk m c 7 t) (iblk m c 8 t) (iblk m c 9 t) (iblk m c 10 t) (outsAt0 m c (t.val - 1) (Nat.lt_of_le_of_lt (Nat.sub_le _ _) t.isLt)).2.2.2.2.2.2.2.2.2 ⟨14 + (y 0).val, by have := (y 0).isLt; change (y 0).val < 2 at this; omega⟩ := by
  rw [outsAt0_C m c t h0 h1]
  frame_out
  simp only [up0_0, up0_1, up0_2, up0_3, up0_4, up0_5, up0_6, up0_7, up0_8, up0_9, up0_10, up0_11, up0_12, up0_13, up0_14, up0_15, up0_16, up0_17, up1_0, up1_1, up1_2, up1_3, up1_4, up1_5, up1_6, up1_7, up1_8, up1_9, up1_10, up1_11, up1_12, up1_13, up1_14, up1_15, up1_16, up1_17, (Memref.isWhole_whole _).read_unread]
  apply with_codes (iblk m c 5 t) (iblk m c 6 t) (iblk m c 0 t)
  case hG =>
    canon_tiles x g
    · refine (top15 _).trans (Eq.trans ?_ (congrArg (peak (iblk m c 5 t) (iblk m c 6 t) (iblk m c 0 t) (iblk m c 1 t) (iblk m c 11 t) (iblk m c 7 t) (iblk m c 8 t) (iblk m c 9 t) (iblk m c 10 t) (outsAt0 m c (t.val - 1) (Nat.lt_of_le_of_lt (Nat.sub_le _ _) t.isLt)).2.2.2.2.2.2.2.2.2) (show (⟨15, by decide⟩ : Fin 18) = ⟨14 + (y 0).val, by have := (y 0).isLt; change (y 0).val < 2 at this; omega⟩ from Fin.ext (by simp only []; omega))))
      refine iSup_congr fun r => iSup_congr fun l => ?_
      refine cov_at _ 15 (by decide) _ r l _ ?_
      iterate 2 refine cn_skip _ (by decide) _ _ _ _ r l _ (by decide) ?_
      refine cn_hit 15 (by decide) _ _ _ r l _ ?_
      refine hd1_15 _ _ _ _ _ _ _ _ _ _ _ (ld_s _ _) (ld_s _ _) _ _ _ r l ?hcod1 ?_
      refine cov_at _ 15 (by decide) _ r l _ ?_
      iterate 17 refine cn_skip _ (by decide) _ _ _ _ r l _ (by decide) ?_
      refine cn_hit 15 (by decide) _ _ _ r l _ ?_
      refine hd0_15 _ _ _ _ _ _ _ _ _ _ _ (ld_s _ _) (ld_s _ _) _ _ _ r l ?hcod0 ?_
      exact old_at _ 15 (by decide) _ r l
    · refine (top14 _).trans (Eq.trans ?_ (congrArg (peak (iblk m c 5 t) (iblk m c 6 t) (iblk m c 0 t) (iblk m c 1 t) (iblk m c 11 t) (iblk m c 7 t) (iblk m c 8 t) (iblk m c 9 t) (iblk m c 10 t) (outsAt0 m c (t.val - 1) (Nat.lt_of_le_of_lt (Nat.sub_le _ _) t.isLt)).2.2.2.2.2.2.2.2.2) (show (⟨14, by decide⟩ : Fin 18) = ⟨14 + (y 0).val, by have := (y 0).isLt; change (y 0).val < 2 at this; omega⟩ from Fin.ext (by simp only []; omega))))
      refine iSup_congr fun r => iSup_congr fun l => ?_
      refine cov_at _ 14 (by decide) _ r l _ ?_
      iterate 3 refine cn_skip _ (by decide) _ _ _ _ r l _ (by decide) ?_
      refine cn_hit 14 (by decide) _ _ _ r l _ ?_
      refine hd1_14 _ _ _ _ _ _ _ _ _ _ _ (ld_s _ _) (ld_s _ _) _ _ _ r l ?hcod1 ?_
      refine cov_at _ 14 (by decide) _ r l _ ?_
      iterate 17 refine cn_skip _ (by decide) _ _ _ _ r l _ (by decide) ?_
      refine cn_hit 14 (by decide) _ _ _ r l _ ?_
      refine hd0_14 _ _ _ _ _ _ _ _ _ _ _ (ld_s _ _) (ld_s _ _) _ _ _ r l ?hcod0 ?_
      exact old_at _ 14 (by decide) _ r l
  case hcod1 =>
    generalize (iblk m c 0 t : Vec Ideal S1 .f32) = b0
    generalize (iblk m c 5 t : Vec Ideal S1x512x3584 .bf16) = b5
    generalize (iblk m c 6 t : Vec Ideal S1x3584 .f32) = b6
    intro i k
    rw [View.readCov_eq_canon']
    obtain ⟨y, hy⟩ : ∃ y : S1x512x3584.Idx, y = (Rect.unit ![0, 256, 0] ![1, 256, 3584] inb_S1x512x3584_S1x256x3584_0_256_0).idx (ix3 0 i k) := ⟨_, rfl⟩
    beta_reduce
    rw [← hy]
    have e0 : (y 0).val = 0 := by rw [hy]; rfl
    have e1 : (y 1).val = 256 + i.val := by rw [hy]; show 256 + 1 * i.val = _; omega
    have e2 : (y 2).val = k.val := by rw [hy]; show 0 + 1 * k.val = _; omega
    clear hy
    obtain rfl : y 2 = k := Fin.ext e2
    rw [show (⟨256 + i.val, by omega⟩ : Fin 512) = y 1 from Fin.ext (by simp only []; omega)]
    clear e1
    canon_tiles x h
    all_goals
      open_payloads
      idx_vars x
      pointwise [nrm, Spec.code, Spec.rms]
      obtain rfl : x2 = y 2 := Fin.ext h2.symm
      simp only [← h1]
      rfl
  case hcod0 =>
    generalize (iblk m c 0 t : Vec Ideal S1 .f32) = b0
    generalize (iblk m c 5 t : Vec Ideal S1x512x3584 .bf16) = b5
    generalize (iblk m c 6 t : Vec Ideal S1x3584 .f32) = b6
    intro i k
    rw [View.readCov_eq_canon']
    obtain ⟨y, hy⟩ : ∃ y : S1x512x3584.Idx, y = (Rect.unit ![0, 0, 0] ![1, 256, 3584] inb_S1x512x3584_S1x256x3584_0_0_0).idx (ix3 0 i k) := ⟨_, rfl⟩
    beta_reduce
    rw [← hy]
    have e0 : (y 0).val = 0 := by rw [hy]; rfl
    have e1 : (y 1).val = 0 + i.val := by rw [hy]; show 0 + 1 * i.val = _; omega
    have e2 : (y 2).val = k.val := by rw [hy]; show 0 + 1 * k.val = _; omega
    clear hy
    obtain rfl : y 2 = k := Fin.ext e2
    rw [show (⟨i.val, by omega⟩ : Fin 512) = y 1 from Fin.ext (by simp only []; omega)]
    skip
    canon_tiles x h using (cover8 _ _ _ _ _ _ _ _ y (by omega))
    all_goals
      open_payloads
      idx_vars x
      pointwise [nrm, Spec.code, Spec.rms]
      obtain rfl : x2 = y 2 := Fin.ext h2.symm
      simp only [← h1]
      rfl

set_option maxHeartbeats 4000000 in
/-- The value heads' amaxes the last point stores. -/
theorem lastv (c : Dev nD) (t : Fin cfg0.N) (h0 : ¬t.val % 30 = 0) (h1 : t.val % 30 = 29) (y : S2.Idx) :
    (outsAt0 m c t.val t.isLt).2.2.2.2.2.2.2.1 y = peak (iblk m c 5 t) (iblk m c 6 t) (iblk m c 0 t) (iblk m c 1 t) (iblk m c 11 t) (iblk m c 7 t) (iblk m c 8 t) (iblk m c 9 t) (iblk m c 10 t) (outsAt0 m c (t.val - 1) (Nat.lt_of_le_of_lt (Nat.sub_le _ _) t.isLt)).2.2.2.2.2.2.2.2.2 ⟨16 + (y 0).val, by have := (y 0).isLt; change (y 0).val < 2 at this; omega⟩ := by
  rw [outsAt0_C m c t h0 h1]
  frame_out
  simp only [up0_0, up0_1, up0_2, up0_3, up0_4, up0_5, up0_6, up0_7, up0_8, up0_9, up0_10, up0_11, up0_12, up0_13, up0_14, up0_15, up0_16, up0_17, up1_0, up1_1, up1_2, up1_3, up1_4, up1_5, up1_6, up1_7, up1_8, up1_9, up1_10, up1_11, up1_12, up1_13, up1_14, up1_15, up1_16, up1_17, (Memref.isWhole_whole _).read_unread]
  apply with_codes (iblk m c 5 t) (iblk m c 6 t) (iblk m c 0 t)
  case hG =>
    canon_tiles x g
    · refine (top17 _).trans (Eq.trans ?_ (congrArg (peak (iblk m c 5 t) (iblk m c 6 t) (iblk m c 0 t) (iblk m c 1 t) (iblk m c 11 t) (iblk m c 7 t) (iblk m c 8 t) (iblk m c 9 t) (iblk m c 10 t) (outsAt0 m c (t.val - 1) (Nat.lt_of_le_of_lt (Nat.sub_le _ _) t.isLt)).2.2.2.2.2.2.2.2.2) (show (⟨17, by decide⟩ : Fin 18) = ⟨16 + (y 0).val, by have := (y 0).isLt; change (y 0).val < 2 at this; omega⟩ from Fin.ext (by simp only []; omega))))
      refine iSup_congr fun r => iSup_congr fun l => ?_
      refine cov_at _ 17 (by decide) _ r l _ ?_
      refine cn_hit 17 (by decide) _ _ _ r l _ ?_
      refine hd1_17 _ _ _ _ _ _ _ _ _ _ _ (ld_s _ _) (ld_s _ _) _ _ _ r l ?hcod1 ?_
      refine cov_at _ 17 (by decide) _ r l _ ?_
      iterate 17 refine cn_skip _ (by decide) _ _ _ _ r l _ (by decide) ?_
      refine cn_hit 17 (by decide) _ _ _ r l _ ?_
      refine hd0_17 _ _ _ _ _ _ _ _ _ _ _ (ld_s _ _) (ld_s _ _) _ _ _ r l ?hcod0 ?_
      exact old_at _ 17 (by decide) _ r l
    · refine (top16 _).trans (Eq.trans ?_ (congrArg (peak (iblk m c 5 t) (iblk m c 6 t) (iblk m c 0 t) (iblk m c 1 t) (iblk m c 11 t) (iblk m c 7 t) (iblk m c 8 t) (iblk m c 9 t) (iblk m c 10 t) (outsAt0 m c (t.val - 1) (Nat.lt_of_le_of_lt (Nat.sub_le _ _) t.isLt)).2.2.2.2.2.2.2.2.2) (show (⟨16, by decide⟩ : Fin 18) = ⟨16 + (y 0).val, by have := (y 0).isLt; change (y 0).val < 2 at this; omega⟩ from Fin.ext (by simp only []; omega))))
      refine iSup_congr fun r => iSup_congr fun l => ?_
      refine cov_at _ 16 (by decide) _ r l _ ?_
      iterate 1 refine cn_skip _ (by decide) _ _ _ _ r l _ (by decide) ?_
      refine cn_hit 16 (by decide) _ _ _ r l _ ?_
      refine hd1_16 _ _ _ _ _ _ _ _ _ _ _ (ld_s _ _) (ld_s _ _) _ _ _ r l ?hcod1 ?_
      refine cov_at _ 16 (by decide) _ r l _ ?_
      iterate 17 refine cn_skip _ (by decide) _ _ _ _ r l _ (by decide) ?_
      refine cn_hit 16 (by decide) _ _ _ r l _ ?_
      refine hd0_16 _ _ _ _ _ _ _ _ _ _ _ (ld_s _ _) (ld_s _ _) _ _ _ r l ?hcod0 ?_
      exact old_at _ 16 (by decide) _ r l
  case hcod1 =>
    generalize (iblk m c 0 t : Vec Ideal S1 .f32) = b0
    generalize (iblk m c 5 t : Vec Ideal S1x512x3584 .bf16) = b5
    generalize (iblk m c 6 t : Vec Ideal S1x3584 .f32) = b6
    intro i k
    rw [View.readCov_eq_canon']
    obtain ⟨y, hy⟩ : ∃ y : S1x512x3584.Idx, y = (Rect.unit ![0, 256, 0] ![1, 256, 3584] inb_S1x512x3584_S1x256x3584_0_256_0).idx (ix3 0 i k) := ⟨_, rfl⟩
    beta_reduce
    rw [← hy]
    have e0 : (y 0).val = 0 := by rw [hy]; rfl
    have e1 : (y 1).val = 256 + i.val := by rw [hy]; show 256 + 1 * i.val = _; omega
    have e2 : (y 2).val = k.val := by rw [hy]; show 0 + 1 * k.val = _; omega
    clear hy
    obtain rfl : y 2 = k := Fin.ext e2
    rw [show (⟨256 + i.val, by omega⟩ : Fin 512) = y 1 from Fin.ext (by simp only []; omega)]
    clear e1
    canon_tiles x h
    all_goals
      open_payloads
      idx_vars x
      pointwise [nrm, Spec.code, Spec.rms]
      obtain rfl : x2 = y 2 := Fin.ext h2.symm
      simp only [← h1]
      rfl
  case hcod0 =>
    generalize (iblk m c 0 t : Vec Ideal S1 .f32) = b0
    generalize (iblk m c 5 t : Vec Ideal S1x512x3584 .bf16) = b5
    generalize (iblk m c 6 t : Vec Ideal S1x3584 .f32) = b6
    intro i k
    rw [View.readCov_eq_canon']
    obtain ⟨y, hy⟩ : ∃ y : S1x512x3584.Idx, y = (Rect.unit ![0, 0, 0] ![1, 256, 3584] inb_S1x512x3584_S1x256x3584_0_0_0).idx (ix3 0 i k) := ⟨_, rfl⟩
    beta_reduce
    rw [← hy]
    have e0 : (y 0).val = 0 := by rw [hy]; rfl
    have e1 : (y 1).val = 0 + i.val := by rw [hy]; show 0 + 1 * i.val = _; omega
    have e2 : (y 2).val = k.val := by rw [hy]; show 0 + 1 * k.val = _; omega
    clear hy
    obtain rfl : y 2 = k := Fin.ext e2
    rw [show (⟨i.val, by omega⟩ : Fin 512) = y 1 from Fin.ext (by simp only []; omega)]
    skip
    canon_tiles x h using (cover8 _ _ _ _ _ _ _ _ y (by omega))
    all_goals
      open_payloads
      idx_vars x
      pointwise [nrm, Spec.code, Spec.rms]
      obtain rfl : x2 = y 2 := Fin.ext h2.symm
      simp only [← h1]
      rfl

end Cert.QkvIdeal.Sem

end
-- ==== Proof.QkvHeadAmax.lean ====
/-
  The query, key and value projections, kernel side: the heads' amaxes after the run are the mathematics' of the arguments.
-/
module

public import proofs.«01_k».proof.Proof.QkvLast

@[expose] public section

set_option maxRecDepth 16384

noncomputable section

open Idealize.ShloMosaic Idealize.ShloMosaic.TcCoe Idealize.SL.Sem
open Idealize.ShloMosaic.Pipeline (Dat)

namespace Cert.QkvIdeal.Sem

open Cert.QkvIdeal Cert.QkvIdeal.Gen

variable (m : (ℓ : Loc nD τ sig) → Buf (Elt Ideal) ℓ)

/-- A head's value over the whole arrays: a query head (0 to 13), a key head (14, 15) or a value head (16, 17). -/
def HV (c : Dev nD) (b : Fin 3) (I : Fin 5120) (j : Fin 18) (l : Fin 128) : EReal :=
  if h : j.val < 14 then Q m c b I ⟨j.val, h⟩ l
  else if h' : j.val < 16 then K m c b I ⟨j.val - 14, by omega⟩ l
  else P m c b I ⟨j.val * 128 + l.val, by omega⟩

/-- A query or key head depends on its columns alone. -/
theorem qkB_eq (p : Fin 512 → Fin 2304 → EReal) (g : Vec Ideal S1x128 .f32) (cos sin : Vec Ideal S1x64x512 .f32) (o o' : ℕ)
    (ho : o + 128 ≤ 2304) (ho' : o' + 128 ≤ 2304) (i : Fin 512) (l : Fin 128) (e : o = o') : qkB p g cos sin o ho i l = qkB p g cos sin o' ho' i l := by
  subst e
  rfl

/-- A block's heads are the arguments' at the point's rows. -/
theorem hval_blk (c : Dev nD) (t : Fin cfg0.N) (j : Fin 18) (i : Fin 512) (l : Fin 128) :
    hval (iblk m c 5 t) (iblk m c 6 t) (iblk m c 0 t) (iblk m c 1 t) (iblk m c 11 t) (iblk m c 7 t) (iblk m c 8 t) (iblk m c 9 t) (iblk m c 10 t) j i l
      = HV m c ⟨t.val / 10, by have := t.isLt; change t.val < 30 at this; omega⟩ ⟨t.val % 10 * 512 + i.val, by omega⟩ j l := by
  unfold hval HV
  by_cases h : j.val < 14
  · rw [if_pos h, dif_pos h, ← Q_blk m c t i ⟨j.val, h⟩ l (by simp only []; omega)]
    exact qkB_eq _ _ _ _ _ _ _ _ i l (by simp only []; omega)
  · rw [if_neg h, dif_neg h]
    by_cases h' : j.val < 16
    · rw [if_pos h', dif_pos h', ← K_blk m c t i ⟨j.val - 14, by omega⟩ l (by simp only []; omega)]
      exact qkB_eq _ _ _ _ _ _ _ _ i l (by simp only []; omega)
    · rw [if_neg h', dif_neg h']
      exact pB_blk m c t i _

/-- The bound of a head's running maxima after a block. -/
theorem aft_le (c : Dev nD) (t : Fin cfg0.N) (o : FVec Ideal S18x8x128 .f32) (j : Fin 18) (r : Fin 8) (l : Fin 128) (B : EReal) :
    aft (iblk m c 5 t) (iblk m c 6 t) (iblk m c 0 t) (iblk m c 1 t) (iblk m c 11 t) (iblk m c 7 t) (iblk m c 8 t) (iblk m c 9 t) (iblk m c 10 t) 512 o r l j ≤ B ↔ o (ix3 j r l) ≤ B
      ∧ ∀ (b : Fin 3) (I : Fin 5120), b.val * 10 + I.val / 512 = t.val → I.val % 8 = r.val → Spec.mag (HV m c b I j l) ≤ B := by
  have ht : t.val < 30 := t.isLt
  unfold aft
  rw [mx_le]
  refine and_congr_right fun _ => ⟨fun h b I hI hr => ?_, fun h i _ hr => ?_⟩
  · have hI' := I.isLt
    have := h ⟨I.val % 512, by omega⟩ (by simp only []; omega) (by simp only []; omega)
    rw [hval_blk m c t] at this
    rwa [show (⟨t.val / 10, by omega⟩ : Fin 3) = b from Fin.ext (by simp only []; omega),
      show (⟨t.val % 10 * 512 + I.val % 512, by omega⟩ : Fin 5120) = I from Fin.ext (by simp only []; omega)] at this
  · have hi' := i.isLt
    rw [hval_blk m c t]
    exact h _ _ (by simp only []; omega) (by simp only []; omega)

/-- The heads' running maxima after point `n`: the largest magnitudes of the rows the points up to `n` hold. -/
theorem huptoN (c : Dev nD) (j : Fin 18) (r : Fin 8) (l : Fin 128) (B : EReal) : ∀ (n : ℕ) (hn : n < cfg0.N),
    (outsAt0 m c n hn).2.2.2.2.2.2.2.2.2 (ix3 j r l) ≤ B ↔ 0 ≤ B
      ∧ ∀ (b : Fin 3) (I : Fin 5120), b.val * 10 + I.val / 512 ≤ n → I.val % 8 = r.val → Spec.mag (HV m c b I j l) ≤ B
  | 0, hn => by
    rw [hstepA m c ⟨0, hn⟩ rfl (by show ¬0 % 30 = 29; decide) j r l, aft_le]
    exact and_congr_right fun _ => forall_congr' fun b => forall_congr' fun I => by rw [Nat.le_zero]
  | n + 1, hn => by
    have hn' : n + 1 < 30 := hn
    have key : (outsAt0 m c (n + 1) hn).2.2.2.2.2.2.2.2.2 (ix3 j r l) ≤ B ↔ (outsAt0 m c n (Nat.lt_of_succ_lt hn)).2.2.2.2.2.2.2.2.2 (ix3 j r l) ≤ B
        ∧ ∀ (b : Fin 3) (I : Fin 5120), b.val * 10 + I.val / 512 = n + 1 → I.val % 8 = r.val → Spec.mag (HV m c b I j l) ≤ B := by
      by_cases h : (n + 1) % 30 = 29
      · rw [hstepC m c ⟨n + 1, hn⟩ (by simp only []; omega) h j r l]
        exact aft_le m c ⟨n + 1, hn⟩ _ j r l B
      · rw [hstepB m c ⟨n + 1, hn⟩ (by simp only []; omega) h j r l]
        exact aft_le m c ⟨n + 1, hn⟩ _ j r l B
    rw [key, huptoN c j r l B n, and_assoc]
    refine and_congr_right fun _ => ⟨fun ⟨h1, h2⟩ b I hI => ?_, fun h => ⟨fun b I hI => h b I (by omega), fun b I hI => h b I hI.le⟩⟩
    rcases Nat.lt_or_ge n (b.val * 10 + I.val / 512) with h | h
    · exact h2 b I (by omega)
    · exact h1 b I h

/-- A head's amax at the last point: over all the rows. -/
theorem peak_eq (c : Dev nD) (t : Fin cfg0.N) (h0 : ¬t.val % 30 = 0) (h1 : t.val % 30 = 29) (j : Fin 18) :
    peak (iblk m c 5 t) (iblk m c 6 t) (iblk m c 0 t) (iblk m c 1 t) (iblk m c 11 t) (iblk m c 7 t) (iblk m c 8 t) (iblk m c 9 t) (iblk m c 10 t) (outsAt0 m c (t.val - 1) (Nat.lt_of_le_of_lt (Nat.sub_le _ _) t.isLt)).2.2.2.2.2.2.2.2.2 j
      = ⨆ (b : Fin 3) (I : Fin 5120) (l : Fin 128), Spec.mag (HV m c b I j l) := by
  have ht : t.val < 30 := t.isLt
  unfold peak
  refine eq_of_forall_ge_iff fun B => ?_
  have key : ∀ (r : Fin 8) (l : Fin 128), aft (iblk m c 5 t) (iblk m c 6 t) (iblk m c 0 t) (iblk m c 1 t) (iblk m c 11 t) (iblk m c 7 t) (iblk m c 8 t) (iblk m c 9 t) (iblk m c 10 t) 512 (outsAt0 m c (t.val - 1) (Nat.lt_of_le_of_lt (Nat.sub_le _ _) t.isLt)).2.2.2.2.2.2.2.2.2 r l j ≤ B ↔ 0 ≤ B
      ∧ ∀ (b : Fin 3) (I : Fin 5120), b.val * 10 + I.val / 512 ≤ t.val → I.val % 8 = r.val → Spec.mag (HV m c b I j l) ≤ B := fun r l => by
    rw [← hstepC m c t h0 h1]
    exact huptoN m c j r l B _ _
  simp only [iSup_le_iff, key]
  constructor
  · intro h b I l
    exact (h ⟨I.val % 8, by omega⟩ l).2 b I (by have := I.isLt; have := b.isLt; omega) rfl
  · intro h r l
    exact ⟨(Spec.mag_nonneg _).trans (h 0 0 l), fun b I _ _ => h b I l⟩

/-- The query heads' amaxes after the run. -/
theorem qamax (c : Dev nD) : (dats m 0 c).arrAt 17 (cfgs 0).N = Spec.headAmax (Q m c) := by
  refine (dats m 0 c).arrAt_eq_of_covers 17 _ (by decide +kernel) fun t hf y => ?_
  blk_simp
  have h1 : t.val % 30 = 29 := (flush0_17 t).1 hf
  have h0 : ¬t.val % 30 = 0 := by omega
  rw [after0_17]
  have hy : (y 0).val < 14 := (y 0).isLt
  refine (lastq m c t h0 h1 y).trans ((peak_eq m c t h0 h1 _).trans ?_)
  refine Eq.trans (b := Spec.headAmax (Q m c) y) ?_ ?_
  · unfold Spec.headAmax
    refine iSup_congr fun b => iSup_congr fun I => iSup_congr fun l => ?_
    unfold HV
    rw [dif_pos (by exact hy)]
    rfl
  · generalize hf : Spec.headAmax (Q m c) = f
    clear hf
    blk_point [idx t]

/-- The key heads' amaxes after the run. -/
theorem kamax (c : Dev nD) : (dats m 0 c).arrAt 18 (cfgs 0).N = Spec.headAmax (K m c) := by
  refine (dats m 0 c).arrAt_eq_of_covers 18 _ (by decide +kernel) fun t hf y => ?_
  blk_simp
  have h1 : t.val % 30 = 29 := (flush0_18 t).1 hf
  have h0 : ¬t.val % 30 = 0 := by omega
  rw [after0_18]
  have hy : (y 0).val < 2 := (y 0).isLt
  refine (lastk m c t h0 h1 y).trans ((peak_eq m c t h0 h1 _).trans ?_)
  refine Eq.trans (b := Spec.headAmax (K m c) y) ?_ ?_
  · unfold Spec.headAmax
    refine iSup_congr fun b => iSup_congr fun I => iSup_congr fun l => ?_
    unfold HV
    rw [dif_neg (by simp only []; omega), dif_pos (by simp only []; omega)]
    exact congrArg (fun h => Spec.mag (K m c b I h l)) (Fin.ext (by simp only []; omega))
  · generalize hf : Spec.headAmax (K m c) = f
    clear hf
    blk_point [idx t]

/-- The value heads' amaxes after the run. -/
theorem vamax (c : Dev nD) : (dats m 0 c).arrAt 19 (cfgs 0).N = Spec.headAmax (Spec.vv (P m c)) := by
  refine (dats m 0 c).arrAt_eq_of_covers 19 _ (by decide +kernel) fun t hf y => ?_
  blk_simp
  have h1 : t.val % 30 = 29 := (flush0_19 t).1 hf
  have h0 : ¬t.val % 30 = 0 := by omega
  rw [after0_19]
  have hy : (y 0).val < 2 := (y 0).isLt
  refine (lastv m c t h0 h1 y).trans ((peak_eq m c t h0 h1 _).trans ?_)
  refine Eq.trans (b := Spec.headAmax (Spec.vv (P m c)) y) ?_ ?_
  · unfold Spec.headAmax
    refine iSup_congr fun b => iSup_congr fun I => iSup_congr fun l => ?_
    unfold HV Spec.vv
    rw [dif_neg (by simp only []; omega), dif_neg (by simp only []; omega)]
    exact congrArg (fun h => Spec.mag (P m c b I h)) (Fin.ext (by simp only []; omega))
  · generalize hf : Spec.headAmax (Spec.vv (P m c)) = f
    clear hf
    blk_point [idx t]

end Cert.QkvIdeal.Sem

end
-- ==== Proof.QkvRef.lean ====
/-
  The query, key and value projections, reference side: the payloads the body stores, at an index.
-/
module

public import proofs.«01_k».proof.Proof.SpecQkv
public import proofs.«01_k».proof.Proof.Gen.QkvRefIdeal.Value

@[expose] public section

set_option maxRecDepth 16384

noncomputable section

open Idealize.ShloMosaic Idealize.ShloMosaic.TcCoe Idealize.SL.Sem
open Idealize.ShloMosaic.Pipeline (Dat)

namespace Cert.QkvRefIdeal.Sem

open Cert.QkvRefIdeal Cert.QkvRefIdeal.Gen

variable (m : (ℓ : Loc nD τ sig) → Buf (Elt Ideal) ℓ)

/-- The norm's payload at an index. -/
theorem pay4 (x5 : Vec Ideal S3x5120x3584 .bf16) (x6 : Vec Ideal S1x3584 .f32) (b : Fin 3) (r : Fin 5120) (k : Fin 3584) :
    k0_pay4 (F := Ideal) x5 x6 (ix3 b r k) = Spec.xNorm x5 (fun k => x6 (ix2 0 (k 0))) b r k := by
  pointwise [k0_pay4, Spec.xNorm, Spec.rms]

/-- The codes' payload. -/
theorem pay5 (x5 : Vec Ideal S3x5120x3584 .bf16) (x6 : Vec Ideal S1x3584 .f32) (s : Vec Ideal S1 .f32) :
    k0_pay5 (F := Ideal) x5 x6 (s (ix1 0)) = Spec.xCodes x5 (fun k => x6 (ix2 0 (k 0))) s := by
  funext y
  idx_vars y
  pointwise [k0_pay5, Spec.xCodes, Spec.code]
  rw [pay4]

/-- The projection's payload at an index. -/
theorem pay7 (C : FVec Ideal S3x5120x3584 .fp8e4m3) (w : Vec Ideal S3584x2304 .fp8e4m3) (a b : EReal) (i : Fin 3) (r : Fin 5120) (J : Fin 2304) :
    k0_pay7 (F := Ideal) C w a b (ix2 ⟨i.val * 5120 + r.val, by omega⟩ J) = Spec.proj C w (a * b) i r J := by
  pointwise [k0_pay7, Spec.proj, Spec.lin]

/-- The value heads' payload at an index. -/
theorem pay9 (C : FVec Ideal S3x5120x3584 .fp8e4m3) (w : Vec Ideal S3584x2304 .fp8e4m3) (a b : EReal) (i : Fin 3) (r : Fin 5120) (h : Fin 2) (l : Fin 128) :
    k0_pay9 (F := Ideal) C w a b (ix4 i r h l) = Spec.vv (Spec.proj C w (a * b)) i r h l := by
  pointwise [k0_pay9, Spec.vv]
  rw [pay7]
  exact congrArg _ (Fin.ext (by simp only []; omega))

/-- The key heads' columns at an index. -/
theorem pay8 (C : FVec Ideal S3x5120x3584 .fp8e4m3) (w : Vec Ideal S3584x2304 .fp8e4m3) (a b : EReal) (i : Fin 3) (r : Fin 5120) (h : Fin 2) (l : Fin 128) :
    k0_pay8 (F := Ideal) C w a b (ix4 i r h l) = Spec.proj C w (a * b) i r ⟨1792 + h.val * 128 + l.val, by omega⟩ := by
  pointwise [k0_pay8]
  rw [pay7]
  exact congrArg _ (Fin.ext (by simp only []; omega))

/-- The query heads' norm's payload at an index. -/
theorem pay10 (C : FVec Ideal S3x5120x3584 .fp8e4m3) (w : Vec Ideal S3584x2304 .fp8e4m3) (a b : EReal) (g : Vec Ideal S1x128 .f32) (i : Fin 3) (r : Fin 5120) (h : Fin 14) (l : Fin 128) :
    k0_pay10 (F := Ideal) C w a b g (ix4 i r h l)
      = Spec.headNorm (fun q => g (ix2 0 q)) (fun q => Spec.proj C w (a * b) i r ⟨0 + h.val * 128 + q.val, by omega⟩) l := by
  pointwise [k0_pay10, Spec.headNorm, Spec.rms]
  simp only [pay7]

/-- The angles. -/
theorem pay2 (x : Vec Ideal S3x2560x64 .f32) (i : Fin 3) (r : Fin 5120) (k : Fin 64) :
    k0_pay2 (F := Ideal) x x (ix4 i r 0 k) = Spec.angle x i r k := by
  pointwise [k0_pay2, Spec.angle]
  split
  · exact congrArg (fun q => x (ix3 i q k)) (Fin.ext (by simp only []; omega))
  · exact congrArg (fun q => x (ix3 i q k)) (Fin.ext (by simp only []; omega))

/-- Value 3 of the body's text, in the form its siblings have. -/
theorem pay3 (x : Vec Ideal S3x2560x64 .f32) : k0_pay3 (F := Ideal) x x = k0_pay2 (F := Ideal) x x := rfl

/-- The query heads' payload. -/
theorem pay16 (C : FVec Ideal S3x5120x3584 .fp8e4m3) (w : Vec Ideal S3584x2304 .fp8e4m3) (a b : EReal) (g : Vec Ideal S1x128 .f32) (x y : Vec Ideal S3x2560x64 .f32) (i : Fin 3) (r : Fin 5120) (h : Fin 14) (l : Fin 128) :
    k0_pay16 (F := Ideal) (k0_pay13 (F := Ideal) (k0_pay2 (F := Ideal) x x) (k0_pay3 (F := Ideal) y y) C w a b g)
      (k0_pay14 (F := Ideal) (k0_pay2 (F := Ideal) x x) C w a b g) (k0_pay15 (F := Ideal) (k0_pay3 (F := Ideal) y y) C w a b g) (ix4 i r h l)
      = Spec.qk (Spec.proj C w (a * b)) (fun q => g (ix2 0 (q 0))) x y 14 0 (by decide) i r h l := by
  pointwise [k0_pay16, k0_pay13, k0_pay14, k0_pay15, k0_pay11, k0_pay12]
  unfold Spec.qk Spec.rope
  split
  · rw [show (⟨64 + l.val, by omega⟩ : Fin 128) = ⟨l.val + 64, by omega⟩ from Fin.ext (Nat.add_comm _ _), pay10, pay10, pay3, pay2, pay2]
    rfl
  · rw [show (⟨64 + (l.val - 64), by omega⟩ : Fin 128) = l from Fin.ext (by simp only []; omega), pay10, pay10, pay3, pay2, pay2]
    rfl

/-- The key heads' payload. -/
theorem pay17 (C : FVec Ideal S3x5120x3584 .fp8e4m3) (w : Vec Ideal S3584x2304 .fp8e4m3) (a b : EReal) (g : Vec Ideal S1x128 .f32) (x y : Vec Ideal S3x2560x64 .f32) (i : Fin 3) (r : Fin 5120) (h : Fin 2) (l : Fin 128) :
    k0_pay17 (F := Ideal) (k0_pay2 (F := Ideal) x x) (k0_pay3 (F := Ideal) y y) (k0_pay8 (F := Ideal) C w a b) g (ix4 i r h l)
      = Spec.qk (Spec.proj C w (a * b)) (fun q => g (ix2 0 (q 0))) x y 2 1792 (by decide) i r h l := by
  pointwise [k0_pay17]
  simp only [pay8]
  unfold Spec.qk Spec.rope Spec.headNorm Spec.rms
  split
  · rw [pay3, pay2, pay2]
    simp only [Nat.add_comm 64 l.val]
    rfl
  · rename_i hl
    rw [pay3, pay2, pay2]
    simp only [show 64 + (l.val - 64) = l.val from by omega, Fin.eta]
    rfl

/-- A one-word load of a vector is its word there. -/
theorem first1 (h) : Shape.Idx.first (s := S1) h = ix1 0 := by
  funext a
  refine Fin.ext ?_
  match a with
  | ⟨0, _⟩ =>
    have := (Shape.Idx.first (s := S1) h 0).isLt
    show (Shape.Idx.first (s := S1) h 0).val = 0
    have e : S1.size 0 = 1 := rfl
    omega

/-- An index of rank four is its four coordinates. -/
theorem eq4 {n : ℕ} (y : (⟨4, ![3, n, 5120, 128]⟩ : Shape).Idx) (a : Fin 3) (h : Fin n) (r : Fin 5120) (l : Fin 128)
    (h0 : (y 0).val = a.val) (h1 : (y 1).val = h.val) (h2 : (y 2).val = r.val) (h3 : (y 3).val = l.val) : y = ix4 a h r l := by
  funext q
  refine Fin.ext ?_
  match q with
  | ⟨0, _⟩ => exact h0
  | ⟨1, _⟩ => exact h1
  | ⟨2, _⟩ => exact h2
  | ⟨3, _⟩ => exact h3

/-- An index of rank one is its coordinate. -/
theorem eq1 {n : ℕ} (y : (⟨1, ![n]⟩ : Shape).Idx) (h : Fin n) (h0 : (y 0).val = h.val) : y = ix1 h := by
  funext q
  refine Fin.ext ?_
  match q with
  | ⟨0, _⟩ => exact h0

/-- There is one index of a one-word vector. -/
theorem one (y : S1.Idx) : y = ix1 0 := eq1 y 0 (by have h := (y 0).isLt; change (y 0).val < 1 at h; show (y 0).val = 0; omega)

/-- A largest element over a whole array is bounded by what bounds every element. -/
theorem fold_le {s : Shape} (d : s.Idx → S1.Idx) [DecidablePred fun i => d i = ix1 0] (f : s.Idx → EReal) (B : EReal) :
    Finset.fold max (Ideal.ofBits .f32 0xFF800000#32) f {i | d i = ix1 0} ≤ B ↔ ∀ i, f i ≤ B := by
  rw [Finset.fold_max_le, Spec.negInf]
  exact ⟨fun h i => h.2 i (by simp [one (d i)]), fun h => ⟨bot_le, fun i _ => h i⟩⟩

/-- The projection over the input blocks. -/
def pB (x0 x1 : Vec Ideal S1 .f32) (x5 : Vec Ideal S3x5120x3584 .bf16) (x6 : Vec Ideal S1x3584 .f32) (x11 : Vec Ideal S3584x2304 .fp8e4m3) :
    Fin 3 → Fin 5120 → Fin 2304 → EReal :=
  Spec.proj (Spec.xCodes x5 (fun k => x6 (ix2 0 (k 0))) x0) x11 (x0 (ix1 0) * x1 (ix1 0))

end Cert.QkvRefIdeal.Sem

end
-- ==== Proof.QkvRefQ.lean ====
/-
  The query, key and value projections, reference side: what the body leaves in the codes' buffers.
-/
module

public import proofs.«01_k».proof.Proof.QkvRef

@[expose] public section

set_option maxRecDepth 16384

noncomputable section

open Idealize.ShloMosaic Idealize.ShloMosaic.TcCoe Idealize.SL.Sem
open Idealize.ShloMosaic.Pipeline (Dat)

namespace Cert.QkvRefIdeal.Sem

open Cert.QkvRefIdeal Cert.QkvRefIdeal.Gen

variable (m : (ℓ : Loc nD τ sig) → Buf (Elt Ideal) ℓ)

/-- The query codes. -/
theorem q_codes (c : Dev nD) (t : Fin cfg0.N) (y) : (outsAt0 m c t).2.1 y
    = Spec.headCodes (Spec.qk (pB (iblk m c 0 t) (iblk m c 1 t) (iblk m c 5 t) (iblk m c 6 t) (iblk m c 11 t)) (fun q => iblk m c 7 t (ix2 0 (q 0))) (iblk m c 9 t) (iblk m c 10 t) 14 0 (by decide)) (iblk m c 2 t) y := by
  unfold outsAt0
  dsimp only
  frame_out
  simp only [(Memref.isWhole_whole _).read_unread, first1]
  generalize (iblk m c 0 t : Vec Ideal S1 .f32) = b0
  generalize (iblk m c 1 t : Vec Ideal S1 .f32) = b1
  generalize (iblk m c 2 t : Vec Ideal S14 .f32) = b2
  generalize (iblk m c 3 t : Vec Ideal S2 .f32) = b3
  generalize (iblk m c 4 t : Vec Ideal S2 .f32) = b4
  generalize (iblk m c 5 t : Vec Ideal S3x5120x3584 .bf16) = b5
  generalize (iblk m c 6 t : Vec Ideal S1x3584 .f32) = b6
  generalize (iblk m c 7 t : Vec Ideal S1x128 .f32) = b7
  generalize (iblk m c 8 t : Vec Ideal S1x128 .f32) = b8
  generalize (iblk m c 9 t : Vec Ideal S3x2560x64 .f32) = b9
  generalize (iblk m c 10 t : Vec Ideal S3x2560x64 .f32) = b10
  generalize (iblk m c 11 t : Vec Ideal S3584x2304 .fp8e4m3) = b11
  canon_tiles x h
  case piece0 =>
    idx_vars x
    have hy := eq4 y x0 ⟨13, by decide⟩ x2 x3 (by omega) (by simp only []; omega) (by omega) (by omega)
    clear h0 h1 h2 h3
    subst hy
    pointwise [k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay1, Spec.headCodes, Spec.code]
    rw [pay5, pay16]
    rfl
  case piece1 =>
    idx_vars x
    have hy := eq4 y x0 ⟨12, by decide⟩ x2 x3 (by omega) (by simp only []; omega) (by omega) (by omega)
    clear h0 h1 h2 h3
    subst hy
    pointwise [k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay1, Spec.headCodes, Spec.code]
    rw [pay5, pay16]
    rfl
  case piece2 =>
    idx_vars x
    have hy := eq4 y x0 ⟨11, by decide⟩ x2 x3 (by omega) (by simp only []; omega) (by omega) (by omega)
    clear h0 h1 h2 h3
    subst hy
    pointwise [k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay1, Spec.headCodes, Spec.code]
    rw [pay5, pay16]
    rfl
  case piece3 =>
    idx_vars x
    have hy := eq4 y x0 ⟨10, by decide⟩ x2 x3 (by omega) (by simp only []; omega) (by omega) (by omega)
    clear h0 h1 h2 h3
    subst hy
    pointwise [k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay1, Spec.headCodes, Spec.code]
    rw [pay5, pay16]
    rfl
  case piece4 =>
    idx_vars x
    have hy := eq4 y x0 ⟨9, by decide⟩ x2 x3 (by omega) (by simp only []; omega) (by omega) (by omega)
    clear h0 h1 h2 h3
    subst hy
    pointwise [k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay1, Spec.headCodes, Spec.code]
    rw [pay5, pay16]
    rfl
  case piece5 =>
    idx_vars x
    have hy := eq4 y x0 ⟨8, by decide⟩ x2 x3 (by omega) (by simp only []; omega) (by omega) (by omega)
    clear h0 h1 h2 h3
    subst hy
    pointwise [k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay1, Spec.headCodes, Spec.code]
    rw [pay5, pay16]
    rfl
  case piece6 =>
    idx_vars x
    have hy := eq4 y x0 ⟨7, by decide⟩ x2 x3 (by omega) (by simp only []; omega) (by omega) (by omega)
    clear h0 h1 h2 h3
    subst hy
    pointwise [k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay1, Spec.headCodes, Spec.code]
    rw [pay5, pay16]
    rfl
  case piece7 =>
    idx_vars x
    have hy := eq4 y x0 ⟨6, by decide⟩ x2 x3 (by omega) (by simp only []; omega) (by omega) (by omega)
    clear h0 h1 h2 h3
    subst hy
    pointwise [k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay1, Spec.headCodes, Spec.code]
    rw [pay5, pay16]
    rfl
  case piece8 =>
    idx_vars x
    have hy := eq4 y x0 ⟨5, by decide⟩ x2 x3 (by omega) (by simp only []; omega) (by omega) (by omega)
    clear h0 h1 h2 h3
    subst hy
    pointwise [k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay1, Spec.headCodes, Spec.code]
    rw [pay5, pay16]
    rfl
  case piece9 =>
    idx_vars x
    have hy := eq4 y x0 ⟨4, by decide⟩ x2 x3 (by omega) (by simp only []; omega) (by omega) (by omega)
    clear h0 h1 h2 h3
    subst hy
    pointwise [k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay1, Spec.headCodes, Spec.code]
    rw [pay5, pay16]
    rfl
  case piece10 =>
    idx_vars x
    have hy := eq4 y x0 ⟨3, by decide⟩ x2 x3 (by omega) (by simp only []; omega) (by omega) (by omega)
    clear h0 h1 h2 h3
    subst hy
    pointwise [k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay1, Spec.headCodes, Spec.code]
    rw [pay5, pay16]
    rfl
  case piece11 =>
    idx_vars x
    have hy := eq4 y x0 ⟨2, by decide⟩ x2 x3 (by omega) (by simp only []; omega) (by omega) (by omega)
    clear h0 h1 h2 h3
    subst hy
    pointwise [k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay1, Spec.headCodes, Spec.code]
    rw [pay5, pay16]
    rfl
  case piece12 =>
    idx_vars x
    have hy := eq4 y x0 ⟨1, by decide⟩ x2 x3 (by omega) (by simp only []; omega) (by omega) (by omega)
    clear h0 h1 h2 h3
    subst hy
    pointwise [k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay1, Spec.headCodes, Spec.code]
    rw [pay5, pay16]
    rfl
  case piece13 =>
    idx_vars x
    have hy := eq4 y x0 ⟨0, by decide⟩ x2 x3 (by omega) (by simp only []; omega) (by omega) (by omega)
    clear h0 h1 h2 h3
    subst hy
    pointwise [k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay1, Spec.headCodes, Spec.code]
    rw [pay5, pay16]
    rfl

/-- The largest magnitude of a head. -/
def mx (T : FVec Ideal S3x5120x14x128 .f32) (h : Fin 14) : EReal := ⨆ (b : Fin 3) (r : Fin 5120) (l : Fin 128), Spec.mag (T (ix4 b r h l))

/-- The payload of the first head's largest magnitude. -/
theorem mx0 (a b d : FVec Ideal S3x5120x14x64 .f32) : k0_pay20 (F := Ideal) (k0_pay19 (F := Ideal) a b d) = mx (k0_pay16 (F := Ideal) a b d) ⟨0, by decide⟩ := by
  generalize hT : k0_pay16 (F := Ideal) a b d = T
  pointwise [k0_pay20, k0_pay19, mx]
  rw [hT]
  refine eq_of_forall_ge_iff fun B => (fold_le _ _ B).trans ?_
  simp only [iSup_le_iff]
  exact ⟨fun h i r l => h (ix4 0 i r l), fun h x => h (x 1) (x 2) (x 3)⟩

/-- The payload of a head's largest magnitude. -/
theorem mx1 (T : FVec Ideal S3x5120x14x128 .f32) : k0_pay22 (F := Ideal) T = mx T ⟨1, by decide⟩ := by
  pointwise [k0_pay22, mx]
  refine eq_of_forall_ge_iff fun B => (fold_le _ _ B).trans ?_
  simp only [iSup_le_iff]
  exact ⟨fun h i r l => h (ix4 0 i r l), fun h x => h (x 1) (x 2) (x 3)⟩

/-- The payload of a head's largest magnitude. -/
theorem mx2 (T : FVec Ideal S3x5120x14x128 .f32) : k0_pay24 (F := Ideal) T = mx T ⟨2, by decide⟩ := by
  pointwise [k0_pay24, mx]
  refine eq_of_forall_ge_iff fun B => (fold_le _ _ B).trans ?_
  simp only [iSup_le_iff]
  exact ⟨fun h i r l => h (ix4 0 i r l), fun h x => h (x 1) (x 2) (x 3)⟩

/-- The payload of a head's largest magnitude. -/
theorem mx3 (T : FVec Ideal S3x5120x14x128 .f32) : k0_pay26 (F := Ideal) T = mx T ⟨3, by decide⟩ := by
  pointwise [k0_pay26, mx]
  refine eq_of_forall_ge_iff fun B => (fold_le _ _ B).trans ?_
  simp only [iSup_le_iff]
  exact ⟨fun h i r l => h (ix4 0 i r l), fun h x => h (x 1) (x 2) (x 3)⟩

/-- The payload of a head's largest magnitude. -/
theorem mx4 (T : FVec Ideal S3x5120x14x128 .f32) : k0_pay29 (F := Ideal) T = mx T ⟨4, by decide⟩ := by
  pointwise [k0_pay29, mx]
  refine eq_of_forall_ge_iff fun B => (fold_le _ _ B).trans ?_
  simp only [iSup_le_iff]
  exact ⟨fun h i r l => h (ix4 0 i r l), fun h x => h (x 1) (x 2) (x 3)⟩

/-- The payload of a head's largest magnitude. -/
theorem mx5 (T : FVec Ideal S3x5120x14x128 .f32) : k0_pay31 (F := Ideal) T = mx T ⟨5, by decide⟩ := by
  pointwise [k0_pay31, mx]
  refine eq_of_forall_ge_iff fun B => (fold_le _ _ B).trans ?_
  simp only [iSup_le_iff]
  exact ⟨fun h i r l => h (ix4 0 i r l), fun h x => h (x 1) (x 2) (x 3)⟩

/-- The payload of a head's largest magnitude. -/
theorem mx6 (T : FVec Ideal S3x5120x14x128 .f32) : k0_pay34 (F := Ideal) T = mx T ⟨6, by decide⟩ := by
  pointwise [k0_pay34, mx]
  refine eq_of_forall_ge_iff fun B => (fold_le _ _ B).trans ?_
  simp only [iSup_le_iff]
  exact ⟨fun h i r l => h (ix4 0 i r l), fun h x => h (x 1) (x 2) (x 3)⟩

/-- The payload of a head's largest magnitude. -/
theorem mx7 (T : FVec Ideal S3x5120x14x128 .f32) : k0_pay36 (F := Ideal) T = mx T ⟨7, by decide⟩ := by
  pointwise [k0_pay36, mx]
  refine eq_of_forall_ge_iff fun B => (fold_le _ _ B).trans ?_
  simp only [iSup_le_iff]
  exact ⟨fun h i r l => h (ix4 0 i r l), fun h x => h (x 1) (x 2) (x 3)⟩

/-- The payload of a head's largest magnitude. -/
theorem mx8 (T : FVec Ideal S3x5120x14x128 .f32) : k0_pay40 (F := Ideal) T = mx T ⟨8, by decide⟩ := by
  pointwise [k0_pay40, mx]
  refine eq_of_forall_ge_iff fun B => (fold_le _ _ B).trans ?_
  simp only [iSup_le_iff]
  exact ⟨fun h i r l => h (ix4 0 i r l), fun h x => h (x 1) (x 2) (x 3)⟩

/-- The payload of a head's largest magnitude. -/
theorem mx9 (T : FVec Ideal S3x5120x14x128 .f32) : k0_pay42 (F := Ideal) T = mx T ⟨9, by decide⟩ := by
  pointwise [k0_pay42, mx]
  refine eq_of_forall_ge_iff fun B => (fold_le _ _ B).trans ?_
  simp only [iSup_le_iff]
  exact ⟨fun h i r l => h (ix4 0 i r l), fun h x => h (x 1) (x 2) (x 3)⟩

/-- The payload of a head's largest magnitude. -/
theorem mx10 (T : FVec Ideal S3x5120x14x128 .f32) : k0_pay46 (F := Ideal) T = mx T ⟨10, by decide⟩ := by
  pointwise [k0_pay46, mx]
  refine eq_of_forall_ge_iff fun B => (fold_le _ _ B).trans ?_
  simp only [iSup_le_iff]
  exact ⟨fun h i r l => h (ix4 0 i r l), fun h x => h (x 1) (x 2) (x 3)⟩

/-- The payload of a head's largest magnitude. -/
theorem mx11 (T : FVec Ideal S3x5120x14x128 .f32) : k0_pay48 (F := Ideal) T = mx T ⟨11, by decide⟩ := by
  pointwise [k0_pay48, mx]
  refine eq_of_forall_ge_iff fun B => (fold_le _ _ B).trans ?_
  simp only [iSup_le_iff]
  exact ⟨fun h i r l => h (ix4 0 i r l), fun h x => h (x 1) (x 2) (x 3)⟩

/-- The payload of a head's largest magnitude. -/
theorem mx12 (T : FVec Ideal S3x5120x14x128 .f32) : k0_pay51 (F := Ideal) T = mx T ⟨12, by decide⟩ := by
  pointwise [k0_pay51, mx]
  refine eq_of_forall_ge_iff fun B => (fold_le _ _ B).trans ?_
  simp only [iSup_le_iff]
  exact ⟨fun h i r l => h (ix4 0 i r l), fun h x => h (x 1) (x 2) (x 3)⟩

/-- The payload of a head's largest magnitude. -/
theorem mx13 (T : FVec Ideal S3x5120x14x128 .f32) : k0_pay53 (F := Ideal) T = mx T ⟨13, by decide⟩ := by
  pointwise [k0_pay53, mx]
  refine eq_of_forall_ge_iff fun B => (fold_le _ _ B).trans ?_
  simp only [iSup_le_iff]
  exact ⟨fun h i r l => h (ix4 0 i r l), fun h x => h (x 1) (x 2) (x 3)⟩

/-- The largest magnitudes of the query heads, over the input blocks. -/
theorem mxq (C : FVec Ideal S3x5120x3584 .fp8e4m3) (w : Vec Ideal S3584x2304 .fp8e4m3) (a b : EReal) (g : Vec Ideal S1x128 .f32) (x y : Vec Ideal S3x2560x64 .f32) (h : Fin 14) :
    mx (k0_pay16 (F := Ideal) (k0_pay13 (F := Ideal) (k0_pay2 (F := Ideal) x x) (k0_pay3 (F := Ideal) y y) C w a b g)
      (k0_pay14 (F := Ideal) (k0_pay2 (F := Ideal) x x) C w a b g) (k0_pay15 (F := Ideal) (k0_pay3 (F := Ideal) y y) C w a b g)) h
      = Spec.headAmax (Spec.qk (Spec.proj C w (a * b)) (fun q => g (ix2 0 (q 0))) x y 14 0 (by decide)) (ix1 h) := by
  unfold mx Spec.headAmax
  simp only [pay16]
  rfl

/-- The query heads' largest magnitudes. -/
theorem q_amax (c : Dev nD) (t : Fin cfg0.N) (y) : (outsAt0 m c t).2.2.2.2.2.1 y
    = Spec.headAmax (Spec.qk (pB (iblk m c 0 t) (iblk m c 1 t) (iblk m c 5 t) (iblk m c 6 t) (iblk m c 11 t)) (fun q => iblk m c 7 t (ix2 0 (q 0))) (iblk m c 9 t) (iblk m c 10 t) 14 0 (by decide)) y := by
  unfold outsAt0
  dsimp only
  frame_out
  simp only [(Memref.isWhole_whole _).read_unread, first1]
  generalize (iblk m c 0 t : Vec Ideal S1 .f32) = b0
  generalize (iblk m c 1 t : Vec Ideal S1 .f32) = b1
  generalize (iblk m c 2 t : Vec Ideal S14 .f32) = b2
  generalize (iblk m c 3 t : Vec Ideal S2 .f32) = b3
  generalize (iblk m c 4 t : Vec Ideal S2 .f32) = b4
  generalize (iblk m c 5 t : Vec Ideal S3x5120x3584 .bf16) = b5
  generalize (iblk m c 6 t : Vec Ideal S1x3584 .f32) = b6
  generalize (iblk m c 7 t : Vec Ideal S1x128 .f32) = b7
  generalize (iblk m c 8 t : Vec Ideal S1x128 .f32) = b8
  generalize (iblk m c 9 t : Vec Ideal S3x2560x64 .f32) = b9
  generalize (iblk m c 10 t : Vec Ideal S3x2560x64 .f32) = b10
  generalize (iblk m c 11 t : Vec Ideal S3584x2304 .fp8e4m3) = b11
  simp only [mx0, mx1, mx2, mx3, mx4, mx5, mx6, mx7, mx8, mx9, mx10, mx11, mx12, mx13, mxq, pay5]
  canon_tiles x h
  case piece0 =>
    have hy := eq1 y ⟨13, by decide⟩ (by simp only []; omega)
    subst hy
    rfl
  case piece1 =>
    have hy := eq1 y ⟨12, by decide⟩ (by simp only []; omega)
    subst hy
    rfl
  case piece2 =>
    have hy := eq1 y ⟨11, by decide⟩ (by simp only []; omega)
    subst hy
    rfl
  case piece3 =>
    have hy := eq1 y ⟨10, by decide⟩ (by simp only []; omega)
    subst hy
    rfl
  case piece4 =>
    have hy := eq1 y ⟨9, by decide⟩ (by simp only []; omega)
    subst hy
    rfl
  case piece5 =>
    have hy := eq1 y ⟨8, by decide⟩ (by simp only []; omega)
    subst hy
    rfl
  case piece6 =>
    have hy := eq1 y ⟨7, by decide⟩ (by simp only []; omega)
    subst hy
    rfl
  case piece7 =>
    have hy := eq1 y ⟨6, by decide⟩ (by simp only []; omega)
    subst hy
    rfl
  case piece8 =>
    have hy := eq1 y ⟨5, by decide⟩ (by simp only []; omega)
    subst hy
    rfl
  case piece9 =>
    have hy := eq1 y ⟨4, by decide⟩ (by simp only []; omega)
    subst hy
    rfl
  case piece10 =>
    have hy := eq1 y ⟨3, by decide⟩ (by simp only []; omega)
    subst hy
    rfl
  case piece11 =>
    have hy := eq1 y ⟨2, by decide⟩ (by simp only []; omega)
    subst hy
    rfl
  case piece12 =>
    have hy := eq1 y ⟨1, by decide⟩ (by simp only []; omega)
    subst hy
    rfl
  case piece13 =>
    have hy := eq1 y ⟨0, by decide⟩ (by simp only []; omega)
    subst hy
    rfl

end Cert.QkvRefIdeal.Sem

end
-- ==== Proof.QkvRefV.lean ====
/-
  The query, key and value projections, reference side: what the body leaves in the codes' buffers.
-/
module

public import proofs.«01_k».proof.Proof.QkvRef

@[expose] public section

set_option maxRecDepth 16384

noncomputable section

open Idealize.ShloMosaic Idealize.ShloMosaic.TcCoe Idealize.SL.Sem
open Idealize.ShloMosaic.Pipeline (Dat)

namespace Cert.QkvRefIdeal.Sem

open Cert.QkvRefIdeal Cert.QkvRefIdeal.Gen

variable (m : (ℓ : Loc nD τ sig) → Buf (Elt Ideal) ℓ)

/-- The key codes. -/
theorem k_codes (c : Dev nD) (t : Fin cfg0.N) (y) : (outsAt0 m c t).2.2.1 y
    = Spec.headCodes (Spec.qk (pB (iblk m c 0 t) (iblk m c 1 t) (iblk m c 5 t) (iblk m c 6 t) (iblk m c 11 t)) (fun q => iblk m c 8 t (ix2 0 (q 0))) (iblk m c 9 t) (iblk m c 10 t) 2 1792 (by decide)) (iblk m c 3 t) y := by
  unfold outsAt0
  dsimp only
  frame_out
  simp only [(Memref.isWhole_whole _).read_unread, first1]
  generalize (iblk m c 0 t : Vec Ideal S1 .f32) = b0
  generalize (iblk m c 1 t : Vec Ideal S1 .f32) = b1
  generalize (iblk m c 2 t : Vec Ideal S14 .f32) = b2
  generalize (iblk m c 3 t : Vec Ideal S2 .f32) = b3
  generalize (iblk m c 4 t : Vec Ideal S2 .f32) = b4
  generalize (iblk m c 5 t : Vec Ideal S3x5120x3584 .bf16) = b5
  generalize (iblk m c 6 t : Vec Ideal S1x3584 .f32) = b6
  generalize (iblk m c 7 t : Vec Ideal S1x128 .f32) = b7
  generalize (iblk m c 8 t : Vec Ideal S1x128 .f32) = b8
  generalize (iblk m c 9 t : Vec Ideal S3x2560x64 .f32) = b9
  generalize (iblk m c 10 t : Vec Ideal S3x2560x64 .f32) = b10
  generalize (iblk m c 11 t : Vec Ideal S3584x2304 .fp8e4m3) = b11
  canon_tiles x h
  case piece0 =>
    idx_vars x
    have hy := eq4 y x0 ⟨1, by decide⟩ x2 x3 (by omega) (by simp only []; omega) (by omega) (by omega)
    clear h0 h1 h2 h3
    subst hy
    pointwise [k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay1, Spec.headCodes, Spec.code]
    rw [pay5, pay17]
    rfl
  case piece1 =>
    idx_vars x
    have hy := eq4 y x0 ⟨0, by decide⟩ x2 x3 (by omega) (by simp only []; omega) (by omega) (by omega)
    clear h0 h1 h2 h3
    subst hy
    pointwise [k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay1, Spec.headCodes, Spec.code]
    rw [pay5, pay17]
    rfl

/-- The value codes. -/
theorem v_codes (c : Dev nD) (t : Fin cfg0.N) (y) : (outsAt0 m c t).2.2.2.1 y
    = Spec.headCodes (Spec.vv (pB (iblk m c 0 t) (iblk m c 1 t) (iblk m c 5 t) (iblk m c 6 t) (iblk m c 11 t))) (iblk m c 4 t) y := by
  unfold outsAt0
  dsimp only
  frame_out
  simp only [(Memref.isWhole_whole _).read_unread, first1]
  generalize (iblk m c 0 t : Vec Ideal S1 .f32) = b0
  generalize (iblk m c 1 t : Vec Ideal S1 .f32) = b1
  generalize (iblk m c 2 t : Vec Ideal S14 .f32) = b2
  generalize (iblk m c 3 t : Vec Ideal S2 .f32) = b3
  generalize (iblk m c 4 t : Vec Ideal S2 .f32) = b4
  generalize (iblk m c 5 t : Vec Ideal S3x5120x3584 .bf16) = b5
  generalize (iblk m c 6 t : Vec Ideal S1x3584 .f32) = b6
  generalize (iblk m c 7 t : Vec Ideal S1x128 .f32) = b7
  generalize (iblk m c 8 t : Vec Ideal S1x128 .f32) = b8
  generalize (iblk m c 9 t : Vec Ideal S3x2560x64 .f32) = b9
  generalize (iblk m c 10 t : Vec Ideal S3x2560x64 .f32) = b10
  generalize (iblk m c 11 t : Vec Ideal S3584x2304 .fp8e4m3) = b11
  canon_tiles x h
  case piece0 =>
    idx_vars x
    have hy := eq4 y x0 ⟨1, by decide⟩ x2 x3 (by omega) (by simp only []; omega) (by omega) (by omega)
    clear h0 h1 h2 h3
    subst hy
    pointwise [k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay1, Spec.headCodes, Spec.code]
    rw [pay5, pay9]
    rfl
  case piece1 =>
    idx_vars x
    have hy := eq4 y x0 ⟨0, by decide⟩ x2 x3 (by omega) (by simp only []; omega) (by omega) (by omega)
    clear h0 h1 h2 h3
    subst hy
    pointwise [k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay1, Spec.headCodes, Spec.code]
    rw [pay5, pay9]
    rfl

/-- The codes of the norm. -/
theorem x_codes (c : Dev nD) (t : Fin cfg0.N) (y) : (outsAt0 m c t).1 y
    = Spec.xCodes (iblk m c 5 t) (fun k => iblk m c 6 t (ix2 0 (k 0))) (iblk m c 0 t) y := by
  unfold outsAt0
  dsimp only
  frame_out
  simp only [(Memref.isWhole_whole _).read_unread, first1]
  rw [pay5]

/-- The norm's largest magnitude. -/
theorem x_amax (c : Dev nD) (t : Fin cfg0.N) (y) : (outsAt0 m c t).2.2.2.2.1 y
    = Spec.xAmax (iblk m c 5 t) (fun q => iblk m c 6 t (ix2 0 (q 0))) y := by
  unfold outsAt0
  dsimp only
  frame_out
  simp only [(Memref.isWhole_whole _).read_unread, first1]
  generalize (iblk m c 0 t : Vec Ideal S1 .f32) = b0
  generalize (iblk m c 1 t : Vec Ideal S1 .f32) = b1
  generalize (iblk m c 2 t : Vec Ideal S14 .f32) = b2
  generalize (iblk m c 3 t : Vec Ideal S2 .f32) = b3
  generalize (iblk m c 4 t : Vec Ideal S2 .f32) = b4
  generalize (iblk m c 5 t : Vec Ideal S3x5120x3584 .bf16) = b5
  generalize (iblk m c 6 t : Vec Ideal S1x3584 .f32) = b6
  generalize (iblk m c 7 t : Vec Ideal S1x128 .f32) = b7
  generalize (iblk m c 8 t : Vec Ideal S1x128 .f32) = b8
  generalize (iblk m c 9 t : Vec Ideal S3x2560x64 .f32) = b9
  generalize (iblk m c 10 t : Vec Ideal S3x2560x64 .f32) = b10
  generalize (iblk m c 11 t : Vec Ideal S3584x2304 .fp8e4m3) = b11
  obtain rfl := one y
  pointwise [k0_pay6, Spec.xAmax]
  refine eq_of_forall_ge_iff fun B => (fold_le _ _ B).trans ?_
  simp only [iSup_le_iff]
  exact ⟨fun h i j k => (congrArg Spec.mag (pay4 b5 b6 i j k)).symm.le.trans (h (ix4 0 i j k)),
    fun h x => (congrArg Spec.mag (pay4 b5 b6 (x 1) (x 2) (x 3))).le.trans (h (x 1) (x 2) (x 3))⟩

/-- The value heads' largest magnitudes. -/
theorem v_amax (c : Dev nD) (t : Fin cfg0.N) (y) : (outsAt0 m c t).2.2.2.2.2.2.2 y
    = Spec.headAmax (Spec.vv (pB (iblk m c 0 t) (iblk m c 1 t) (iblk m c 5 t) (iblk m c 6 t) (iblk m c 11 t))) y := by
  unfold outsAt0
  dsimp only
  frame_out
  simp only [(Memref.isWhole_whole _).read_unread, first1]
  generalize (iblk m c 0 t : Vec Ideal S1 .f32) = b0
  generalize (iblk m c 1 t : Vec Ideal S1 .f32) = b1
  generalize (iblk m c 2 t : Vec Ideal S14 .f32) = b2
  generalize (iblk m c 3 t : Vec Ideal S2 .f32) = b3
  generalize (iblk m c 4 t : Vec Ideal S2 .f32) = b4
  generalize (iblk m c 5 t : Vec Ideal S3x5120x3584 .bf16) = b5
  generalize (iblk m c 6 t : Vec Ideal S1x3584 .f32) = b6
  generalize (iblk m c 7 t : Vec Ideal S1x128 .f32) = b7
  generalize (iblk m c 8 t : Vec Ideal S1x128 .f32) = b8
  generalize (iblk m c 9 t : Vec Ideal S3x2560x64 .f32) = b9
  generalize (iblk m c 10 t : Vec Ideal S3x2560x64 .f32) = b10
  generalize (iblk m c 11 t : Vec Ideal S3584x2304 .fp8e4m3) = b11
  canon_tiles x h
  case piece0 =>
    have hy := eq1 y ⟨1, by decide⟩ (by simp only []; omega)
    subst hy
    pointwise [k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay1, Spec.headAmax]
    refine eq_of_forall_ge_iff fun B => (fold_le _ _ B).trans ?_
    simp only [iSup_le_iff, pay5]
    exact ⟨fun h i r l => (congrArg Spec.mag (pay9 _ b11 (b0 (ix1 0)) (b1 (ix1 0)) i r ⟨1, by decide⟩ l)).symm.le.trans (h (ix4 0 i r l)),
      fun h x => (congrArg Spec.mag (pay9 _ b11 (b0 (ix1 0)) (b1 (ix1 0)) (x 1) (x 2) ⟨1, by decide⟩ (x 3))).le.trans (h (x 1) (x 2) (x 3))⟩
  case piece1 =>
    have hy := eq1 y ⟨0, by decide⟩ (by simp only []; omega)
    subst hy
    pointwise [k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay1, Spec.headAmax]
    refine eq_of_forall_ge_iff fun B => (fold_le _ _ B).trans ?_
    simp only [iSup_le_iff, pay5]
    exact ⟨fun h i r l => (congrArg Spec.mag (pay9 _ b11 (b0 (ix1 0)) (b1 (ix1 0)) i r ⟨0, by decide⟩ l)).symm.le.trans (h (ix4 0 i r l)),
      fun h x => (congrArg Spec.mag (pay9 _ b11 (b0 (ix1 0)) (b1 (ix1 0)) (x 1) (x 2) ⟨0, by decide⟩ (x 3))).le.trans (h (x 1) (x 2) (x 3))⟩

/-- The key heads' largest magnitudes. -/
theorem k_amax (c : Dev nD) (t : Fin cfg0.N) (y) : (outsAt0 m c t).2.2.2.2.2.2.1 y
    = Spec.headAmax (Spec.qk (pB (iblk m c 0 t) (iblk m c 1 t) (iblk m c 5 t) (iblk m c 6 t) (iblk m c 11 t)) (fun q => iblk m c 8 t (ix2 0 (q 0))) (iblk m c 9 t) (iblk m c 10 t) 2 1792 (by decide)) y := by
  unfold outsAt0
  dsimp only
  frame_out
  simp only [(Memref.isWhole_whole _).read_unread, first1]
  generalize (iblk m c 0 t : Vec Ideal S1 .f32) = b0
  generalize (iblk m c 1 t : Vec Ideal S1 .f32) = b1
  generalize (iblk m c 2 t : Vec Ideal S14 .f32) = b2
  generalize (iblk m c 3 t : Vec Ideal S2 .f32) = b3
  generalize (iblk m c 4 t : Vec Ideal S2 .f32) = b4
  generalize (iblk m c 5 t : Vec Ideal S3x5120x3584 .bf16) = b5
  generalize (iblk m c 6 t : Vec Ideal S1x3584 .f32) = b6
  generalize (iblk m c 7 t : Vec Ideal S1x128 .f32) = b7
  generalize (iblk m c 8 t : Vec Ideal S1x128 .f32) = b8
  generalize (iblk m c 9 t : Vec Ideal S3x2560x64 .f32) = b9
  generalize (iblk m c 10 t : Vec Ideal S3x2560x64 .f32) = b10
  generalize (iblk m c 11 t : Vec Ideal S3584x2304 .fp8e4m3) = b11
  canon_tiles x h
  case piece0 =>
    have hy := eq1 y ⟨1, by decide⟩ (by simp only []; omega)
    subst hy
    pointwise [k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay1, Spec.headAmax]
    refine eq_of_forall_ge_iff fun B => (fold_le _ _ B).trans ?_
    simp only [iSup_le_iff, pay5]
    exact ⟨fun h i r l => (congrArg Spec.mag (pay17 _ b11 (b0 (ix1 0)) (b1 (ix1 0)) b8 b9 b10 i r ⟨1, by decide⟩ l)).symm.le.trans (h (ix4 0 i r l)),
      fun h x => (congrArg Spec.mag (pay17 _ b11 (b0 (ix1 0)) (b1 (ix1 0)) b8 b9 b10 (x 1) (x 2) ⟨1, by decide⟩ (x 3))).le.trans (h (x 1) (x 2) (x 3))⟩
  case piece1 =>
    have hy := eq1 y ⟨0, by decide⟩ (by simp only []; omega)
    subst hy
    pointwise [k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay1, Spec.headAmax]
    refine eq_of_forall_ge_iff fun B => (fold_le _ _ B).trans ?_
    simp only [iSup_le_iff, pay5]
    exact ⟨fun h i r l => (congrArg Spec.mag (pay17 _ b11 (b0 (ix1 0)) (b1 (ix1 0)) b8 b9 b10 i r ⟨0, by decide⟩ l)).symm.le.trans (h (ix4 0 i r l)),
      fun h x => (congrArg Spec.mag (pay17 _ b11 (b0 (ix1 0)) (b1 (ix1 0)) b8 b9 b10 (x 1) (x 2) ⟨0, by decide⟩ (x 3))).le.trans (h (x 1) (x 2) (x 3))⟩

end Cert.QkvRefIdeal.Sem

end
-- ==== Proof.QkvRefFinal.lean ====
/-
  The query, key and value projections, reference side: its results after the run are the mathematics' of the arguments.
-/
module

public import proofs.«01_k».proof.Proof.Spec
public import proofs.«01_k».proof.Proof.QkvRefQ
public import proofs.«01_k».proof.Proof.QkvRefV
public import proofs.«01_k».proof.Proof.Gen.QkvRefIdeal.Value

@[expose] public section

set_option maxRecDepth 16384

noncomputable section

open Idealize.ShloMosaic Idealize.ShloMosaic.TcCoe Idealize.SL.Sem
open Idealize.ShloMosaic.Pipeline (Dat)

namespace Cert.QkvRefIdeal.Sem

open Cert.QkvRefIdeal Cert.QkvRefIdeal.Gen

variable (m : (ℓ : Loc nD τ sig) → Buf (Elt Ideal) ℓ)

/-- The block index of every window at every grid point. -/
theorem idx : ∀ t : Fin cfg0.N, win0_0.index t = ![0] ∧ win0_1.index t = ![0] ∧ win0_2.index t = ![0] ∧ win0_3.index t = ![0] ∧ win0_4.index t = ![0] ∧ win0_5.index t = ![0, 0, 0] ∧ win0_6.index t = ![0, 0] ∧ win0_7.index t = ![0, 0] ∧ win0_8.index t = ![0, 0] ∧ win0_9.index t = ![0, 0, 0] ∧ win0_10.index t = ![0, 0, 0] ∧ win0_11.index t = ![0, 0] ∧ win0_12.index t = ![0, 0, 0] ∧ win0_13.index t = ![0, 0, 0, 0] ∧ win0_14.index t = ![0, 0, 0, 0] ∧ win0_15.index t = ![0, 0, 0, 0] ∧ win0_16.index t = ![0] ∧ win0_17.index t = ![0] ∧ win0_18.index t = ![0] ∧ win0_19.index t = ![0] :=
  (by decide +kernel : ∀ t : Fin grid0.N, _)

/-- The block of window 0 at a grid point, read off the argument it is cut from. -/
theorem blk0 (c : Dev nD) (t : Fin cfg0.N) : iblk m c 0 t = m ((c : Thread nD τ).loc main_arg4) := by blk_ext! [iblk, V, idx t]
/-- The block of window 1 at a grid point, read off the argument it is cut from. -/
theorem blk1 (c : Dev nD) (t : Fin cfg0.N) : iblk m c 1 t = m ((c : Thread nD τ).loc main_arg5) := by blk_ext! [iblk, V, idx t]
/-- The block of window 2 at a grid point, read off the argument it is cut from. -/
theorem blk2 (c : Dev nD) (t : Fin cfg0.N) : iblk m c 2 t = m ((c : Thread nD τ).loc main_arg6) := by blk_ext! [iblk, V, idx t]
/-- The block of window 3 at a grid point, read off the argument it is cut from. -/
theorem blk3 (c : Dev nD) (t : Fin cfg0.N) : iblk m c 3 t = m ((c : Thread nD τ).loc main_arg7) := by blk_ext! [iblk, V, idx t]
/-- The block of window 4 at a grid point, read off the argument it is cut from. -/
theorem blk4 (c : Dev nD) (t : Fin cfg0.N) : iblk m c 4 t = m ((c : Thread nD τ).loc main_arg8) := by blk_ext! [iblk, V, idx t]
/-- The block of window 5 at a grid point, read off the argument it is cut from. -/
theorem blk5 (c : Dev nD) (t : Fin cfg0.N) : iblk m c 5 t = m ((c : Thread nD τ).loc main_arg0) := by blk_ext! [iblk, V, idx t]
/-- The block of window 9 at a grid point, read off the argument it is cut from. -/
theorem blk9 (c : Dev nD) (t : Fin cfg0.N) : iblk m c 9 t = m ((c : Thread nD τ).loc main_arg9) := by blk_ext! [iblk, V, idx t]
/-- The block of window 10 at a grid point, read off the argument it is cut from. -/
theorem blk10 (c : Dev nD) (t : Fin cfg0.N) : iblk m c 10 t = m ((c : Thread nD τ).loc main_arg10) := by blk_ext! [iblk, V, idx t]
/-- The block of window 11 at a grid point, read off the argument it is cut from. -/
theorem blk11 (c : Dev nD) (t : Fin cfg0.N) : iblk m c 11 t = m ((c : Thread nD τ).loc main_arg11) := by blk_ext! [iblk, V, idx t]

/-- A gain's block is the gain, as a row. -/
theorem blk6 (c : Dev nD) (t : Fin cfg0.N) : (fun k : (⟨1, ![3584]⟩ : Shape).Idx => iblk m c 6 t (ix2 0 (k 0)))
    = m ((c : Thread nD τ).loc main_arg1) := by
  funext k
  idx_vars k
  blk_simp [iblk]
  entry_read
  generalize hf : shapeCast _ (m _) _ = f
  refine Eq.trans (b := f (ix2 0 k0)) (by blk_point [idx t]) ?_
  rw [← hf]
  pointwise

/-- A gain's block is the gain, as a row. -/
theorem blk7 (c : Dev nD) (t : Fin cfg0.N) : (fun k : (⟨1, ![128]⟩ : Shape).Idx => iblk m c 7 t (ix2 0 (k 0)))
    = m ((c : Thread nD τ).loc main_arg2) := by
  funext k
  idx_vars k
  blk_simp [iblk]
  entry_read
  generalize hf : shapeCast _ (m _) _ = f
  refine Eq.trans (b := f (ix2 0 k0)) (by blk_point [idx t]) ?_
  rw [← hf]
  pointwise

/-- A gain's block is the gain, as a row. -/
theorem blk8 (c : Dev nD) (t : Fin cfg0.N) : (fun k : (⟨1, ![128]⟩ : Shape).Idx => iblk m c 8 t (ix2 0 (k 0)))
    = m ((c : Thread nD τ).loc main_arg3) := by
  funext k
  idx_vars k
  blk_simp [iblk]
  entry_read
  generalize hf : shapeCast _ (m _) _ = f
  refine Eq.trans (b := f (ix2 0 k0)) (by blk_point [idx t]) ?_
  rw [← hf]
  pointwise

/-- The norm's codes of the arguments. -/
def XC (c : Dev nD) : FVec Ideal ⟨3, ![3, 5120, 3584]⟩ .fp8e4m3 := Spec.xCodes (m ((c : Thread nD τ).loc main_arg0)) (m ((c : Thread nD τ).loc main_arg1)) (m ((c : Thread nD τ).loc main_arg4))

/-- The projections of the arguments. -/
def P (c : Dev nD) : Fin 3 → Fin 5120 → Fin 2304 → EReal := Spec.proj (XC m c) (m ((c : Thread nD τ).loc main_arg11)) (HMul.hMul (α := EReal) (β := EReal) (γ := EReal) ((m ((c : Thread nD τ).loc main_arg4)) (ix1 0)) ((m ((c : Thread nD τ).loc main_arg5)) (ix1 0)))

/-- The query heads of the arguments. -/
def Q (c : Dev nD) : Fin 3 → Fin 5120 → Fin 14 → Fin 128 → EReal := Spec.qk (P m c) (m ((c : Thread nD τ).loc main_arg2)) (m ((c : Thread nD τ).loc main_arg9)) (m ((c : Thread nD τ).loc main_arg10)) 14 0 (by decide)

/-- The key heads of the arguments. -/
def K (c : Dev nD) : Fin 3 → Fin 5120 → Fin 2 → Fin 128 → EReal := Spec.qk (P m c) (m ((c : Thread nD τ).loc main_arg3)) (m ((c : Thread nD τ).loc main_arg9)) (m ((c : Thread nD τ).loc main_arg10)) 2 1792 (by decide)

/-- The block's projections are the arguments'. -/
theorem pB_blk (c : Dev nD) (t : Fin cfg0.N) : pB (iblk m c 0 t) (iblk m c 1 t) (iblk m c 5 t) (iblk m c 6 t) (iblk m c 11 t) = P m c := by
  unfold pB P XC
  rw [blk0, blk1, blk5, blk6, blk11]

/-- The norm's codes after the run. -/
theorem codes (c : Dev nD) : (dats m 0 c).arrAt 12 (cfgs 0).N = XC m c := by
  refine (dats m 0 c).arrAt_eq_of_covers 12 _ (by decide +kernel) fun t _ y => ?_
  blk_simp
  rw [after0_12]
  refine (x_codes m c t y).trans ?_
  rw [blk5, blk6, blk0]
  generalize hf : (XC m c) = f
  refine Eq.trans (b := f y) (by subst hf; rfl) ?_
  clear hf
  blk_point [idx t]

/-- The query codes after the run. -/
theorem q (c : Dev nD) : (dats m 0 c).arrAt 13 (cfgs 0).N = Spec.headCodes (Q m c) (m ((c : Thread nD τ).loc main_arg6)) := by
  refine (dats m 0 c).arrAt_eq_of_covers 13 _ (by decide +kernel) fun t _ y => ?_
  blk_simp
  rw [after0_13]
  refine (q_codes m c t y).trans ?_
  rw [pB_blk, blk7, blk9, blk10, blk2]
  generalize hf : (Spec.headCodes (Q m c) (m ((c : Thread nD τ).loc main_arg6))) = f
  refine Eq.trans (b := f y) (by subst hf; rfl) ?_
  clear hf
  blk_point [idx t]

/-- The key codes after the run. -/
theorem k (c : Dev nD) : (dats m 0 c).arrAt 14 (cfgs 0).N = Spec.headCodes (K m c) (m ((c : Thread nD τ).loc main_arg7)) := by
  refine (dats m 0 c).arrAt_eq_of_covers 14 _ (by decide +kernel) fun t _ y => ?_
  blk_simp
  rw [after0_14]
  refine (k_codes m c t y).trans ?_
  rw [pB_blk, blk8, blk9, blk10, blk3]
  generalize hf : (Spec.headCodes (K m c) (m ((c : Thread nD τ).loc main_arg7))) = f
  refine Eq.trans (b := f y) (by subst hf; rfl) ?_
  clear hf
  blk_point [idx t]

/-- The value codes after the run. -/
theorem v (c : Dev nD) : (dats m 0 c).arrAt 15 (cfgs 0).N = Spec.headCodes (Spec.vv (P m c)) (m ((c : Thread nD τ).loc main_arg8)) := by
  refine (dats m 0 c).arrAt_eq_of_covers 15 _ (by decide +kernel) fun t _ y => ?_
  blk_simp
  rw [after0_15]
  refine (v_codes m c t y).trans ?_
  rw [pB_blk, blk4]
  generalize hf : (Spec.headCodes (Spec.vv (P m c)) (m ((c : Thread nD τ).loc main_arg8))) = f
  refine Eq.trans (b := f y) (by subst hf; rfl) ?_
  clear hf
  blk_point [idx t]

/-- The norm's amax after the run. -/
theorem amax (c : Dev nD) : (dats m 0 c).arrAt 16 (cfgs 0).N = Spec.xAmax (m ((c : Thread nD τ).loc main_arg0)) (m ((c : Thread nD τ).loc main_arg1)) := by
  refine (dats m 0 c).arrAt_eq_of_covers 16 _ (by decide +kernel) fun t _ y => ?_
  blk_simp
  rw [after0_16]
  refine (x_amax m c t y).trans ?_
  rw [blk5, blk6]
  generalize hf : (Spec.xAmax (m ((c : Thread nD τ).loc main_arg0)) (m ((c : Thread nD τ).loc main_arg1))) = f
  refine Eq.trans (b := f y) (by subst hf; rfl) ?_
  clear hf
  blk_point [idx t]

/-- The queries' amaxes after the run. -/
theorem qamax (c : Dev nD) : (dats m 0 c).arrAt 17 (cfgs 0).N = Spec.headAmax (Q m c) := by
  refine (dats m 0 c).arrAt_eq_of_covers 17 _ (by decide +kernel) fun t _ y => ?_
  blk_simp
  rw [after0_17]
  refine (q_amax m c t y).trans ?_
  rw [pB_blk, blk7, blk9, blk10]
  generalize hf : (Spec.headAmax (Q m c)) = f
  refine Eq.trans (b := f y) (by subst hf; rfl) ?_
  clear hf
  blk_point [idx t]

/-- The keys' amaxes after the run. -/
theorem kamax (c : Dev nD) : (dats m 0 c).arrAt 18 (cfgs 0).N = Spec.headAmax (K m c) := by
  refine (dats m 0 c).arrAt_eq_of_covers 18 _ (by decide +kernel) fun t _ y => ?_
  blk_simp
  rw [after0_18]
  refine (k_amax m c t y).trans ?_
  rw [pB_blk, blk8, blk9, blk10]
  generalize hf : (Spec.headAmax (K m c)) = f
  refine Eq.trans (b := f y) (by subst hf; rfl) ?_
  clear hf
  blk_point [idx t]

/-- The values' amaxes after the run. -/
theorem vamax (c : Dev nD) : (dats m 0 c).arrAt 19 (cfgs 0).N = Spec.headAmax (Spec.vv (P m c)) := by
  refine (dats m 0 c).arrAt_eq_of_covers 19 _ (by decide +kernel) fun t _ y => ?_
  blk_simp
  rw [after0_19]
  refine (v_amax m c t y).trans ?_
  rw [pB_blk]
  generalize hf : (Spec.headAmax (Spec.vv (P m c))) = f
  refine Eq.trans (b := f y) (by subst hf; rfl) ?_
  clear hf
  blk_point [idx t]

end Cert.QkvRefIdeal.Sem

end
-- ==== Proof.lean ====
/-
  The certificate of the calls, one after the other: for each call the frames of its three programs (every argument array
  keeps its contents, every semaphore ends at zero), the passage from the kernel on machine words to the kernel on the
  extended reals, and the equality of the kernel's and the reference's results there. The mathematics of every result is
  in `Proof/Spec.lean`; the modules named after the calls show that the kernel and the reference end at it.
-/
module

public import proofs.«01_k».proof.Defs
public import proofs.«01_k».proof.Proof.Gen.Gu.Frame
public import proofs.«01_k».proof.Proof.Gen.GuIdeal.Frame
public import proofs.«01_k».proof.Proof.Gen.GuRefIdeal.Frame
public import proofs.«01_k».proof.Proof.GuCodes
public import proofs.«01_k».proof.Proof.GuAmax
public import proofs.«01_k».proof.Proof.GuRef
public import proofs.«01_k».proof.Proof.Gen.Down.Frame
public import proofs.«01_k».proof.Proof.Gen.DownIdeal.Frame
public import proofs.«01_k».proof.Proof.Gen.DownRefIdeal.Frame
public import proofs.«01_k».proof.Proof.DownKernel
public import proofs.«01_k».proof.Proof.DownRef
public import proofs.«01_k».proof.Proof.Gen.Oproj.Frame
public import proofs.«01_k».proof.Proof.Gen.OprojIdeal.Frame
public import proofs.«01_k».proof.Proof.Gen.OprojRefIdeal.Frame
public import proofs.«01_k».proof.Proof.OprojKernel
public import proofs.«01_k».proof.Proof.OprojRef
public import proofs.«01_k».proof.Proof.Gen.Qkv.Frame
public import proofs.«01_k».proof.Proof.Gen.QkvIdeal.Frame
public import proofs.«01_k».proof.Proof.Gen.QkvRefIdeal.Frame
public import proofs.«01_k».proof.Proof.QkvFinal
public import proofs.«01_k».proof.Proof.QkvAmax
public import proofs.«01_k».proof.Proof.QkvHeadAmax
public import proofs.«01_k».proof.Proof.QkvRefFinal
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The gated unit: from equal arguments the kernel and the reference end with equal codes and equal amax. -/
theorem algebraic_Gu : Cert.algebraic_GuIdeal_GuRefIdeal := by
  pair_intro
  · run_from Cert.GuIdeal.Gen.run_main m g
  · run_from Cert.GuRefIdeal.Gen.run_main m' g'
    · refine (Cert.GuRefIdeal.Sem.codes m' c).trans (Eq.trans ?_ (Cert.GuIdeal.Sem.codes m c).symm)
      obtain ⟨h0, h1, h2, h3, h4⟩ := hagree c
      rw [h0, h1, h2, h3, h4]
    · refine (Cert.GuRefIdeal.Sem.amax m' c).trans (Eq.trans ?_ (Cert.GuIdeal.Sem.amax m c).symm)
      obtain ⟨h0, h1, h2, _, h4⟩ := hagree c
      rw [h0, h1, h2, h4]

/-- The second projection: from equal arguments the kernel and the reference end with equal results. -/
theorem algebraic_Down : Cert.algebraic_DownIdeal_DownRefIdeal := by
  pair_intro
  · run_from Cert.DownIdeal.Gen.run_main m g
  · run_from Cert.DownRefIdeal.Gen.run_main m' g'
    · refine (Cert.DownRefIdeal.Sem.final m' c).trans (Eq.trans ?_ (Cert.DownIdeal.Sem.final m c).symm)
      obtain ⟨h0, h1, h2, h3, h4⟩ := hagree c
      rw [h0, h1, h2, h3, h4]

set_option maxHeartbeats 4000000 in
/-- The output projection: from equal arguments the kernel and the reference end with equal hidden states, codes and amax. -/
theorem algebraic_Oproj : Cert.algebraic_OprojIdeal_OprojRefIdeal := by
  pair_intro
  · run_from Cert.OprojIdeal.Gen.run_main m g
  · run_from Cert.OprojRefIdeal.Gen.run_main m' g'
    · refine (Cert.OprojRefIdeal.Sem.hid m' c).trans (Eq.trans ?_ (Cert.OprojIdeal.Sem.hid m c).symm)
      obtain ⟨h0, h1, _, h3, h4, _, h6⟩ := hagree c
      unfold Cert.OprojRefIdeal.Sem.H1 Cert.OprojIdeal.Sem.H1
      rw [h0, h1, h3, h4, h6]
    · refine (Cert.OprojRefIdeal.Sem.codes m' c).trans (Eq.trans ?_ (Cert.OprojIdeal.Sem.codes m c).symm)
      obtain ⟨h0, h1, h2, h3, h4, h5, h6⟩ := hagree c
      unfold Cert.OprojRefIdeal.Sem.H1 Cert.OprojIdeal.Sem.H1
      rw [h0, h1, h2, h3, h4, h5, h6]
    · refine (Cert.OprojRefIdeal.Sem.amax m' c).trans (Eq.trans ?_ (Cert.OprojIdeal.Sem.amax m c).symm)
      obtain ⟨h0, h1, h2, h3, h4, _, h6⟩ := hagree c
      unfold Cert.OprojRefIdeal.Sem.H1 Cert.OprojIdeal.Sem.H1
      rw [h0, h1, h2, h3, h4, h6]

set_option maxHeartbeats 4000000 in
/-- The query, key and value projections: from equal arguments the kernel and the reference end with equal codes and equal amaxes. -/
theorem algebraic_Qkv : Cert.algebraic_QkvIdeal_QkvRefIdeal := by
  intro m g m' g' _ hagree
  refine ⟨fun c => (Cert.QkvIdeal.Gen.dats m 0 c).arrAt 12 (Cert.QkvIdeal.cfgs 0).N,
    fun c => (Cert.QkvIdeal.Gen.dats m 0 c).arrAt 13 (Cert.QkvIdeal.cfgs 0).N,
    fun c => (Cert.QkvIdeal.Gen.dats m 0 c).arrAt 14 (Cert.QkvIdeal.cfgs 0).N,
    fun c => (Cert.QkvIdeal.Gen.dats m 0 c).arrAt 15 (Cert.QkvIdeal.cfgs 0).N,
    fun c => (Cert.QkvIdeal.Gen.dats m 0 c).arrAt 16 (Cert.QkvIdeal.cfgs 0).N,
    fun c => (Cert.QkvIdeal.Gen.dats m 0 c).arrAt 17 (Cert.QkvIdeal.cfgs 0).N,
    fun c => (Cert.QkvIdeal.Gen.dats m 0 c).arrAt 18 (Cert.QkvIdeal.cfgs 0).N,
    fun c => (Cert.QkvIdeal.Gen.dats m 0 c).arrAt 19 (Cert.QkvIdeal.cfgs 0).N, ?_, ?_⟩
  · refine θ_run_mono (θ_run_and (Cert.QkvIdeal.Gen.run_main m g) (Cert.QkvIdeal.Gen.unchanged m g)) ?_
    rintro r ⟨h, hu⟩ c
    exact ⟨(h c).1 12, (h c).1 13, (h c).1 14, (h c).1 15, (h c).1 16, (h c).1 17, (h c).1 18, (h c).1 19, hu c⟩
  · refine θ_run_mono (θ_run_and (Cert.QkvRefIdeal.Gen.run_main m' g') (Cert.QkvRefIdeal.Gen.unchanged m' g')) ?_
    rintro r ⟨h, hu⟩ c
    refine ⟨((h c).1 12).trans ?_, ((h c).1 13).trans ?_, ((h c).1 14).trans ?_, ((h c).1 15).trans ?_, ((h c).1 16).trans ?_, ((h c).1 17).trans ?_, ((h c).1 18).trans ?_, ((h c).1 19).trans ?_, hu c⟩
    · refine (Cert.QkvRefIdeal.Sem.codes m' c).trans (Eq.trans ?_ (Cert.QkvIdeal.Sem.codes m c).symm)
      obtain ⟨h0, h1, _, _, h4, _, _, _, _, _, _, _⟩ := hagree c
      unfold Cert.QkvRefIdeal.Sem.XC Cert.QkvIdeal.Sem.XC
      rw [h0, h1, h4]
    · refine (Cert.QkvRefIdeal.Sem.q m' c).trans (Eq.trans ?_ (Cert.QkvIdeal.Sem.q m c).symm)
      obtain ⟨h0, h1, h2, _, h4, h5, h6, _, _, h9, h10, h11⟩ := hagree c
      unfold Cert.QkvRefIdeal.Sem.Q Cert.QkvRefIdeal.Sem.P Cert.QkvRefIdeal.Sem.XC Cert.QkvIdeal.Sem.Q Cert.QkvIdeal.Sem.P Cert.QkvIdeal.Sem.XC
      rw [h0, h1, h2, h4, h5, h6, h9, h10, h11]
    · refine (Cert.QkvRefIdeal.Sem.k m' c).trans (Eq.trans ?_ (Cert.QkvIdeal.Sem.k m c).symm)
      obtain ⟨h0, h1, _, h3, h4, h5, _, h7, _, h9, h10, h11⟩ := hagree c
      unfold Cert.QkvRefIdeal.Sem.K Cert.QkvRefIdeal.Sem.P Cert.QkvRefIdeal.Sem.XC Cert.QkvIdeal.Sem.K Cert.QkvIdeal.Sem.P Cert.QkvIdeal.Sem.XC
      rw [h0, h1, h3, h4, h5, h7, h9, h10, h11]
    · refine (Cert.QkvRefIdeal.Sem.v m' c).trans (Eq.trans ?_ (Cert.QkvIdeal.Sem.v m c).symm)
      obtain ⟨h0, h1, _, _, h4, h5, _, _, h8, _, _, h11⟩ := hagree c
      unfold Cert.QkvRefIdeal.Sem.P Cert.QkvRefIdeal.Sem.XC Cert.QkvIdeal.Sem.P Cert.QkvIdeal.Sem.XC
      rw [h0, h1, h4, h5, h8, h11]
    · refine (Cert.QkvRefIdeal.Sem.amax m' c).trans (Eq.trans ?_ (Cert.QkvIdeal.Sem.amax m c).symm)
      obtain ⟨h0, h1, _, _, _, _, _, _, _, _, _, _⟩ := hagree c
      rw [h0, h1]
    · refine (Cert.QkvRefIdeal.Sem.qamax m' c).trans (Eq.trans ?_ (Cert.QkvIdeal.Sem.qamax m c).symm)
      obtain ⟨h0, h1, h2, _, h4, h5, _, _, _, h9, h10, h11⟩ := hagree c
      unfold Cert.QkvRefIdeal.Sem.Q Cert.QkvRefIdeal.Sem.P Cert.QkvRefIdeal.Sem.XC Cert.QkvIdeal.Sem.Q Cert.QkvIdeal.Sem.P Cert.QkvIdeal.Sem.XC
      rw [h0, h1, h2, h4, h5, h9, h10, h11]
    · refine (Cert.QkvRefIdeal.Sem.kamax m' c).trans (Eq.trans ?_ (Cert.QkvIdeal.Sem.kamax m c).symm)
      obtain ⟨h0, h1, _, h3, h4, h5, _, _, _, h9, h10, h11⟩ := hagree c
      unfold Cert.QkvRefIdeal.Sem.K Cert.QkvRefIdeal.Sem.P Cert.QkvRefIdeal.Sem.XC Cert.QkvIdeal.Sem.K Cert.QkvIdeal.Sem.P Cert.QkvIdeal.Sem.XC
      rw [h0, h1, h3, h4, h5, h9, h10, h11]
    · refine (Cert.QkvRefIdeal.Sem.vamax m' c).trans (Eq.trans ?_ (Cert.QkvIdeal.Sem.vamax m c).symm)
      obtain ⟨h0, h1, _, _, h4, h5, _, _, _, _, _, h11⟩ := hagree c
      unfold Cert.QkvRefIdeal.Sem.P Cert.QkvRefIdeal.Sem.XC Cert.QkvIdeal.Sem.P Cert.QkvIdeal.Sem.XC
      rw [h0, h1, h4, h5, h11]

/-- All the claims. -/
theorem claim : Cert.Claim := ⟨Cert.Gu.Gen.facts, Cert.GuIdeal.Gen.facts, Cert.GuRefIdeal.Gen.facts, Cert.Down.Gen.facts, Cert.DownIdeal.Gen.facts, Cert.DownRefIdeal.Gen.facts, Cert.Oproj.Gen.facts, Cert.OprojIdeal.Gen.facts, Cert.OprojRefIdeal.Gen.facts, Cert.Qkv.Gen.facts, Cert.QkvIdeal.Gen.facts, Cert.QkvRefIdeal.Gen.facts,
  fun m ρ _ => Cert.Gu.Gen.frame m ρ,
  fun m ρ _ => Cert.GuIdeal.Gen.frame m ρ,
  fun m ρ _ => Cert.GuRefIdeal.Gen.frame m ρ,
  fun m ρ _ => Cert.Down.Gen.frame m ρ,
  fun m ρ _ => Cert.DownIdeal.Gen.frame m ρ,
  fun m ρ _ => Cert.DownRefIdeal.Gen.frame m ρ,
  fun m ρ _ => Cert.Oproj.Gen.frame m ρ,
  fun m ρ _ => Cert.OprojIdeal.Gen.frame m ρ,
  fun m ρ _ => Cert.OprojRefIdeal.Gen.frame m ρ,
  fun m ρ _ => Cert.Qkv.Gen.frame m ρ,
  fun m ρ _ => Cert.QkvIdeal.Gen.frame m ρ,
  fun m ρ _ => Cert.QkvRefIdeal.Gen.frame m ρ,
  trivial,
  algebraic_Gu,
  trivial,
  algebraic_Down,
  trivial,
  algebraic_Oproj,
  trivial,
  algebraic_Qkv⟩

end Cert.Proof

end
